-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Stage1 (m : (ℓ : Loc Cert.Stage1.nD Cert.Stage1.τ Cert.Stage1.sig) → Buf (Elt Bits) ℓ) : Prop :=
  True

def Pre_Stage1Ideal (m : (ℓ : Loc Cert.Stage1Ideal.nD Cert.Stage1Ideal.τ Cert.Stage1Ideal.sig) → Buf (Elt Ideal) ℓ) : Prop :=
  True

def Pre_Stage1ReferenceIdeal (m : (ℓ : Loc Cert.Stage1ReferenceIdeal.nD Cert.Stage1ReferenceIdeal.τ Cert.Stage1ReferenceIdeal.sig) → Buf (Elt Ideal) ℓ) : Prop :=
  True

def Pre_Stage2 (m : (ℓ : Loc Cert.Stage2.nD Cert.Stage2.τ Cert.Stage2.sig) → Buf (Elt Bits) ℓ) : Prop :=
  True

def Pre_Stage2Ideal (m : (ℓ : Loc Cert.Stage2Ideal.nD Cert.Stage2Ideal.τ Cert.Stage2Ideal.sig) → Buf (Elt Ideal) ℓ) : Prop :=
  True

def Pre_Stage2Ideal_labels3_in_range [hPre_labels3_in_range : Cert.Pre_labels3_in_range.Facts] (m : (ℓ : Loc Cert.Stage2Ideal.nD Cert.Stage2Ideal.τ Cert.Stage2Ideal.sig) → Buf (Elt Ideal) ℓ) : Prop :=
  ∀ c : Dev Cert.Stage2Ideal.nD,
    (Cert.Pre_labels3_in_range.fn (F := Ideal) (m ((c.tc : Thread Cert.Stage2Ideal.nD Cert.Stage2Ideal.τ).loc Cert.Stage2Ideal.main_arg0)) (m ((c.tc : Thread Cert.Stage2Ideal.nD Cert.Stage2Ideal.τ).loc Cert.Stage2Ideal.main_arg1)) (m ((c.tc : Thread Cert.Stage2Ideal.nD Cert.Stage2Ideal.τ).loc Cert.Stage2Ideal.main_arg2)) (m ((c.tc : Thread Cert.Stage2Ideal.nD Cert.Stage2Ideal.τ).loc Cert.Stage2Ideal.main_arg3)) (m ((c.tc : Thread Cert.Stage2Ideal.nD Cert.Stage2Ideal.τ).loc Cert.Stage2Ideal.main_arg4)) (m ((c.tc : Thread Cert.Stage2Ideal.nD Cert.Stage2Ideal.τ).loc Cert.Stage2Ideal.main_arg5)) (m ((c.tc : Thread Cert.Stage2Ideal.nD Cert.Stage2Ideal.τ).loc Cert.Stage2Ideal.main_arg6)) (m ((c.tc : Thread Cert.Stage2Ideal.nD Cert.Stage2Ideal.τ).loc Cert.Stage2Ideal.main_arg7)) (m ((c.tc : Thread Cert.Stage2Ideal.nD Cert.Stage2Ideal.τ).loc Cert.Stage2Ideal.main_arg8))) = (fun _ => 1#1)

def Pre_Stage2ReferenceIdeal (m : (ℓ : Loc Cert.Stage2ReferenceIdeal.nD Cert.Stage2ReferenceIdeal.τ Cert.Stage2ReferenceIdeal.sig) → Buf (Elt Ideal) ℓ) : Prop :=
  True

def Pre_Stage2ReferenceIdeal_labels3_in_range [hPre_labels3_in_range : Cert.Pre_labels3_in_range.Facts] (m : (ℓ : Loc Cert.Stage2ReferenceIdeal.nD Cert.Stage2ReferenceIdeal.τ Cert.Stage2ReferenceIdeal.sig) → Buf (Elt Ideal) ℓ) : Prop :=
  ∀ c : Dev Cert.Stage2ReferenceIdeal.nD,
    (Cert.Pre_labels3_in_range.fn (F := Ideal) (m ((c.tc : Thread Cert.Stage2ReferenceIdeal.nD Cert.Stage2ReferenceIdeal.τ).loc Cert.Stage2ReferenceIdeal.main_arg0)) (m ((c.tc : Thread Cert.Stage2ReferenceIdeal.nD Cert.Stage2ReferenceIdeal.τ).loc Cert.Stage2ReferenceIdeal.main_arg1)) (m ((c.tc : Thread Cert.Stage2ReferenceIdeal.nD Cert.Stage2ReferenceIdeal.τ).loc Cert.Stage2ReferenceIdeal.main_arg2)) (m ((c.tc : Thread Cert.Stage2ReferenceIdeal.nD Cert.Stage2ReferenceIdeal.τ).loc Cert.Stage2ReferenceIdeal.main_arg3)) (m ((c.tc : Thread Cert.Stage2ReferenceIdeal.nD Cert.Stage2ReferenceIdeal.τ).loc Cert.Stage2ReferenceIdeal.main_arg4)) (m ((c.tc : Thread Cert.Stage2ReferenceIdeal.nD Cert.Stage2ReferenceIdeal.τ).loc Cert.Stage2ReferenceIdeal.main_arg5)) (m ((c.tc : Thread Cert.Stage2ReferenceIdeal.nD Cert.Stage2ReferenceIdeal.τ).loc Cert.Stage2ReferenceIdeal.main_arg6)) (m ((c.tc : Thread Cert.Stage2ReferenceIdeal.nD Cert.Stage2ReferenceIdeal.τ).loc Cert.Stage2ReferenceIdeal.main_arg7)) (m ((c.tc : Thread Cert.Stage2ReferenceIdeal.nD Cert.Stage2ReferenceIdeal.τ).loc Cert.Stage2ReferenceIdeal.main_arg8))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Stage1 [hStage1 : Cert.Stage1.Facts] : Prop :=
  ∀ (m : (ℓ : Loc Cert.Stage1.nD Cert.Stage1.τ Cert.Stage1.sig) → Buf (Elt Bits) ℓ) (g : Dev Cert.Stage1.nD → PrngReg), Pre_Stage1 m →
    θ_run (Cert.Stage1.defs (F := Bits)) (onTc (τ := Cert.Stage1.τ) (Cert.Stage1.main (F := Bits))) ⟨m, fun _ => 0, g⟩ (fun r => (∀ c : Dev Cert.Stage1.nD,
      r.2.mem ((c.tc : Thread Cert.Stage1.nD Cert.Stage1.τ).loc Cert.Stage1.main_arg0) = m ((c.tc : Thread Cert.Stage1.nD Cert.Stage1.τ).loc Cert.Stage1.main_arg0)
      ∧ r.2.mem ((c.tc : Thread Cert.Stage1.nD Cert.Stage1.τ).loc Cert.Stage1.main_arg1) = m ((c.tc : Thread Cert.Stage1.nD Cert.Stage1.τ).loc Cert.Stage1.main_arg1)
      ∧ r.2.mem ((c.tc : Thread Cert.Stage1.nD Cert.Stage1.τ).loc Cert.Stage1.main_arg2) = m ((c.tc : Thread Cert.Stage1.nD Cert.Stage1.τ).loc Cert.Stage1.main_arg2)
      ∧ r.2.mem ((c.tc : Thread Cert.Stage1.nD Cert.Stage1.τ).loc Cert.Stage1.main_arg3) = m ((c.tc : Thread Cert.Stage1.nD Cert.Stage1.τ).loc Cert.Stage1.main_arg3)
      ∧ r.2.mem ((c.tc : Thread Cert.Stage1.nD Cert.Stage1.τ).loc Cert.Stage1.main_arg4) = m ((c.tc : Thread Cert.Stage1.nD Cert.Stage1.τ).loc Cert.Stage1.main_arg4)
      ∧ r.2.mem ((c.tc : Thread Cert.Stage1.nD Cert.Stage1.τ).loc Cert.Stage1.main_arg5) = m ((c.tc : Thread Cert.Stage1.nD Cert.Stage1.τ).loc Cert.Stage1.main_arg5)
      ∧ r.2.mem ((c.tc : Thread Cert.Stage1.nD Cert.Stage1.τ).loc Cert.Stage1.main_arg6) = m ((c.tc : Thread Cert.Stage1.nD Cert.Stage1.τ).loc Cert.Stage1.main_arg6))
      ∧ r.2.sem = fun _ => 0)

def quiescent_Stage1Ideal [hStage1Ideal : Cert.Stage1Ideal.Facts] : Prop :=
  ∀ (m : (ℓ : Loc Cert.Stage1Ideal.nD Cert.Stage1Ideal.τ Cert.Stage1Ideal.sig) → Buf (Elt Ideal) ℓ) (g : Dev Cert.Stage1Ideal.nD → PrngReg), Pre_Stage1Ideal m →
    θ_run (Cert.Stage1Ideal.defs (F := Ideal)) (onTc (τ := Cert.Stage1Ideal.τ) (Cert.Stage1Ideal.main (F := Ideal))) ⟨m, fun _ => 0, g⟩ (fun r => (∀ c : Dev Cert.Stage1Ideal.nD,
      r.2.mem ((c.tc : Thread Cert.Stage1Ideal.nD Cert.Stage1Ideal.τ).loc Cert.Stage1Ideal.main_arg0) = m ((c.tc : Thread Cert.Stage1Ideal.nD Cert.Stage1Ideal.τ).loc Cert.Stage1Ideal.main_arg0)
      ∧ r.2.mem ((c.tc : Thread Cert.Stage1Ideal.nD Cert.Stage1Ideal.τ).loc Cert.Stage1Ideal.main_arg1) = m ((c.tc : Thread Cert.Stage1Ideal.nD Cert.Stage1Ideal.τ).loc Cert.Stage1Ideal.main_arg1)
      ∧ r.2.mem ((c.tc : Thread Cert.Stage1Ideal.nD Cert.Stage1Ideal.τ).loc Cert.Stage1Ideal.main_arg2) = m ((c.tc : Thread Cert.Stage1Ideal.nD Cert.Stage1Ideal.τ).loc Cert.Stage1Ideal.main_arg2)
      ∧ r.2.mem ((c.tc : Thread Cert.Stage1Ideal.nD Cert.Stage1Ideal.τ).loc Cert.Stage1Ideal.main_arg3) = m ((c.tc : Thread Cert.Stage1Ideal.nD Cert.Stage1Ideal.τ).loc Cert.Stage1Ideal.main_arg3)
      ∧ r.2.mem ((c.tc : Thread Cert.Stage1Ideal.nD Cert.Stage1Ideal.τ).loc Cert.Stage1Ideal.main_arg4) = m ((c.tc : Thread Cert.Stage1Ideal.nD Cert.Stage1Ideal.τ).loc Cert.Stage1Ideal.main_arg4)
      ∧ r.2.mem ((c.tc : Thread Cert.Stage1Ideal.nD Cert.Stage1Ideal.τ).loc Cert.Stage1Ideal.main_arg5) = m ((c.tc : Thread Cert.Stage1Ideal.nD Cert.Stage1Ideal.τ).loc Cert.Stage1Ideal.main_arg5)
      ∧ r.2.mem ((c.tc : Thread Cert.Stage1Ideal.nD Cert.Stage1Ideal.τ).loc Cert.Stage1Ideal.main_arg6) = m ((c.tc : Thread Cert.Stage1Ideal.nD Cert.Stage1Ideal.τ).loc Cert.Stage1Ideal.main_arg6))
      ∧ r.2.sem = fun _ => 0)

def quiescent_Stage1ReferenceIdeal [hStage1ReferenceIdeal : Cert.Stage1ReferenceIdeal.Facts] : Prop :=
  ∀ (m : (ℓ : Loc Cert.Stage1ReferenceIdeal.nD Cert.Stage1ReferenceIdeal.τ Cert.Stage1ReferenceIdeal.sig) → Buf (Elt Ideal) ℓ) (g : Dev Cert.Stage1ReferenceIdeal.nD → PrngReg), Pre_Stage1ReferenceIdeal m →
    θ_run (Cert.Stage1ReferenceIdeal.defs (F := Ideal)) (onTc (τ := Cert.Stage1ReferenceIdeal.τ) (Cert.Stage1ReferenceIdeal.main (F := Ideal))) ⟨m, fun _ => 0, g⟩ (fun r => (∀ c : Dev Cert.Stage1ReferenceIdeal.nD,
      r.2.mem ((c.tc : Thread Cert.Stage1ReferenceIdeal.nD Cert.Stage1ReferenceIdeal.τ).loc Cert.Stage1ReferenceIdeal.main_arg0) = m ((c.tc : Thread Cert.Stage1ReferenceIdeal.nD Cert.Stage1ReferenceIdeal.τ).loc Cert.Stage1ReferenceIdeal.main_arg0)
      ∧ r.2.mem ((c.tc : Thread Cert.Stage1ReferenceIdeal.nD Cert.Stage1ReferenceIdeal.τ).loc Cert.Stage1ReferenceIdeal.main_arg1) = m ((c.tc : Thread Cert.Stage1ReferenceIdeal.nD Cert.Stage1ReferenceIdeal.τ).loc Cert.Stage1ReferenceIdeal.main_arg1)
      ∧ r.2.mem ((c.tc : Thread Cert.Stage1ReferenceIdeal.nD Cert.Stage1ReferenceIdeal.τ).loc Cert.Stage1ReferenceIdeal.main_arg2) = m ((c.tc : Thread Cert.Stage1ReferenceIdeal.nD Cert.Stage1ReferenceIdeal.τ).loc Cert.Stage1ReferenceIdeal.main_arg2)
      ∧ r.2.mem ((c.tc : Thread Cert.Stage1ReferenceIdeal.nD Cert.Stage1ReferenceIdeal.τ).loc Cert.Stage1ReferenceIdeal.main_arg3) = m ((c.tc : Thread Cert.Stage1ReferenceIdeal.nD Cert.Stage1ReferenceIdeal.τ).loc Cert.Stage1ReferenceIdeal.main_arg3)
      ∧ r.2.mem ((c.tc : Thread Cert.Stage1ReferenceIdeal.nD Cert.Stage1ReferenceIdeal.τ).loc Cert.Stage1ReferenceIdeal.main_arg4) = m ((c.tc : Thread Cert.Stage1ReferenceIdeal.nD Cert.Stage1ReferenceIdeal.τ).loc Cert.Stage1ReferenceIdeal.main_arg4)
      ∧ r.2.mem ((c.tc : Thread Cert.Stage1ReferenceIdeal.nD Cert.Stage1ReferenceIdeal.τ).loc Cert.Stage1ReferenceIdeal.main_arg5) = m ((c.tc : Thread Cert.Stage1ReferenceIdeal.nD Cert.Stage1ReferenceIdeal.τ).loc Cert.Stage1ReferenceIdeal.main_arg5)
      ∧ r.2.mem ((c.tc : Thread Cert.Stage1ReferenceIdeal.nD Cert.Stage1ReferenceIdeal.τ).loc Cert.Stage1ReferenceIdeal.main_arg6) = m ((c.tc : Thread Cert.Stage1ReferenceIdeal.nD Cert.Stage1ReferenceIdeal.τ).loc Cert.Stage1ReferenceIdeal.main_arg6))
      ∧ r.2.sem = fun _ => 0)

def quiescent_Stage2 [hStage2 : Cert.Stage2.Facts] : Prop :=
  ∀ (m : (ℓ : Loc Cert.Stage2.nD Cert.Stage2.τ Cert.Stage2.sig) → Buf (Elt Bits) ℓ) (g : Dev Cert.Stage2.nD → PrngReg), Pre_Stage2 m →
    θ_run (Cert.Stage2.defs (F := Bits)) (onTc (τ := Cert.Stage2.τ) (Cert.Stage2.main (F := Bits))) ⟨m, fun _ => 0, g⟩ (fun r => (∀ c : Dev Cert.Stage2.nD,
      r.2.mem ((c.tc : Thread Cert.Stage2.nD Cert.Stage2.τ).loc Cert.Stage2.main_arg0) = m ((c.tc : Thread Cert.Stage2.nD Cert.Stage2.τ).loc Cert.Stage2.main_arg0)
      ∧ r.2.mem ((c.tc : Thread Cert.Stage2.nD Cert.Stage2.τ).loc Cert.Stage2.main_arg1) = m ((c.tc : Thread Cert.Stage2.nD Cert.Stage2.τ).loc Cert.Stage2.main_arg1)
      ∧ r.2.mem ((c.tc : Thread Cert.Stage2.nD Cert.Stage2.τ).loc Cert.Stage2.main_arg2) = m ((c.tc : Thread Cert.Stage2.nD Cert.Stage2.τ).loc Cert.Stage2.main_arg2)
      ∧ r.2.mem ((c.tc : Thread Cert.Stage2.nD Cert.Stage2.τ).loc Cert.Stage2.main_arg3) = m ((c.tc : Thread Cert.Stage2.nD Cert.Stage2.τ).loc Cert.Stage2.main_arg3)
      ∧ r.2.mem ((c.tc : Thread Cert.Stage2.nD Cert.Stage2.τ).loc Cert.Stage2.main_arg4) = m ((c.tc : Thread Cert.Stage2.nD Cert.Stage2.τ).loc Cert.Stage2.main_arg4)
      ∧ r.2.mem ((c.tc : Thread Cert.Stage2.nD Cert.Stage2.τ).loc Cert.Stage2.main_arg5) = m ((c.tc : Thread Cert.Stage2.nD Cert.Stage2.τ).loc Cert.Stage2.main_arg5)
      ∧ r.2.mem ((c.tc : Thread Cert.Stage2.nD Cert.Stage2.τ).loc Cert.Stage2.main_arg6) = m ((c.tc : Thread Cert.Stage2.nD Cert.Stage2.τ).loc Cert.Stage2.main_arg6)
      ∧ r.2.mem ((c.tc : Thread Cert.Stage2.nD Cert.Stage2.τ).loc Cert.Stage2.main_arg7) = m ((c.tc : Thread Cert.Stage2.nD Cert.Stage2.τ).loc Cert.Stage2.main_arg7)
      ∧ r.2.mem ((c.tc : Thread Cert.Stage2.nD Cert.Stage2.τ).loc Cert.Stage2.main_arg8) = m ((c.tc : Thread Cert.Stage2.nD Cert.Stage2.τ).loc Cert.Stage2.main_arg8))
      ∧ r.2.sem = fun _ => 0)

def quiescent_Stage2Ideal [hStage2Ideal : Cert.Stage2Ideal.Facts] : Prop :=
  ∀ (m : (ℓ : Loc Cert.Stage2Ideal.nD Cert.Stage2Ideal.τ Cert.Stage2Ideal.sig) → Buf (Elt Ideal) ℓ) (g : Dev Cert.Stage2Ideal.nD → PrngReg), Pre_Stage2Ideal m →
    θ_run (Cert.Stage2Ideal.defs (F := Ideal)) (onTc (τ := Cert.Stage2Ideal.τ) (Cert.Stage2Ideal.main (F := Ideal))) ⟨m, fun _ => 0, g⟩ (fun r => (∀ c : Dev Cert.Stage2Ideal.nD,
      r.2.mem ((c.tc : Thread Cert.Stage2Ideal.nD Cert.Stage2Ideal.τ).loc Cert.Stage2Ideal.main_arg0) = m ((c.tc : Thread Cert.Stage2Ideal.nD Cert.Stage2Ideal.τ).loc Cert.Stage2Ideal.main_arg0)
      ∧ r.2.mem ((c.tc : Thread Cert.Stage2Ideal.nD Cert.Stage2Ideal.τ).loc Cert.Stage2Ideal.main_arg1) = m ((c.tc : Thread Cert.Stage2Ideal.nD Cert.Stage2Ideal.τ).loc Cert.Stage2Ideal.main_arg1)
      ∧ r.2.mem ((c.tc : Thread Cert.Stage2Ideal.nD Cert.Stage2Ideal.τ).loc Cert.Stage2Ideal.main_arg2) = m ((c.tc : Thread Cert.Stage2Ideal.nD Cert.Stage2Ideal.τ).loc Cert.Stage2Ideal.main_arg2)
      ∧ r.2.mem ((c.tc : Thread Cert.Stage2Ideal.nD Cert.Stage2Ideal.τ).loc Cert.Stage2Ideal.main_arg3) = m ((c.tc : Thread Cert.Stage2Ideal.nD Cert.Stage2Ideal.τ).loc Cert.Stage2Ideal.main_arg3)
      ∧ r.2.mem ((c.tc : Thread Cert.Stage2Ideal.nD Cert.Stage2Ideal.τ).loc Cert.Stage2Ideal.main_arg4) = m ((c.tc : Thread Cert.Stage2Ideal.nD Cert.Stage2Ideal.τ).loc Cert.Stage2Ideal.main_arg4)
      ∧ r.2.mem ((c.tc : Thread Cert.Stage2Ideal.nD Cert.Stage2Ideal.τ).loc Cert.Stage2Ideal.main_arg5) = m ((c.tc : Thread Cert.Stage2Ideal.nD Cert.Stage2Ideal.τ).loc Cert.Stage2Ideal.main_arg5)
      ∧ r.2.mem ((c.tc : Thread Cert.Stage2Ideal.nD Cert.Stage2Ideal.τ).loc Cert.Stage2Ideal.main_arg6) = m ((c.tc : Thread Cert.Stage2Ideal.nD Cert.Stage2Ideal.τ).loc Cert.Stage2Ideal.main_arg6)
      ∧ r.2.mem ((c.tc : Thread Cert.Stage2Ideal.nD Cert.Stage2Ideal.τ).loc Cert.Stage2Ideal.main_arg7) = m ((c.tc : Thread Cert.Stage2Ideal.nD Cert.Stage2Ideal.τ).loc Cert.Stage2Ideal.main_arg7)
      ∧ r.2.mem ((c.tc : Thread Cert.Stage2Ideal.nD Cert.Stage2Ideal.τ).loc Cert.Stage2Ideal.main_arg8) = m ((c.tc : Thread Cert.Stage2Ideal.nD Cert.Stage2Ideal.τ).loc Cert.Stage2Ideal.main_arg8))
      ∧ r.2.sem = fun _ => 0)

def quiescent_Stage2Ideal_pre_labels3_in_range [hStage2Ideal : Cert.Stage2Ideal.Facts] [hPre_labels3_in_range : Cert.Pre_labels3_in_range.Facts] : Prop :=
  ∀ (m : (ℓ : Loc Cert.Stage2Ideal.nD Cert.Stage2Ideal.τ Cert.Stage2Ideal.sig) → Buf (Elt Ideal) ℓ) (g : Dev Cert.Stage2Ideal.nD → PrngReg), Pre_Stage2Ideal_labels3_in_range m →
    θ_run (Cert.Stage2Ideal.defs (F := Ideal)) (onTc (τ := Cert.Stage2Ideal.τ) (Cert.Stage2Ideal.main (F := Ideal))) ⟨m, fun _ => 0, g⟩ (fun r => (∀ c : Dev Cert.Stage2Ideal.nD,
      r.2.mem ((c.tc : Thread Cert.Stage2Ideal.nD Cert.Stage2Ideal.τ).loc Cert.Stage2Ideal.main_arg0) = m ((c.tc : Thread Cert.Stage2Ideal.nD Cert.Stage2Ideal.τ).loc Cert.Stage2Ideal.main_arg0)
      ∧ r.2.mem ((c.tc : Thread Cert.Stage2Ideal.nD Cert.Stage2Ideal.τ).loc Cert.Stage2Ideal.main_arg1) = m ((c.tc : Thread Cert.Stage2Ideal.nD Cert.Stage2Ideal.τ).loc Cert.Stage2Ideal.main_arg1)
      ∧ r.2.mem ((c.tc : Thread Cert.Stage2Ideal.nD Cert.Stage2Ideal.τ).loc Cert.Stage2Ideal.main_arg2) = m ((c.tc : Thread Cert.Stage2Ideal.nD Cert.Stage2Ideal.τ).loc Cert.Stage2Ideal.main_arg2)
      ∧ r.2.mem ((c.tc : Thread Cert.Stage2Ideal.nD Cert.Stage2Ideal.τ).loc Cert.Stage2Ideal.main_arg3) = m ((c.tc : Thread Cert.Stage2Ideal.nD Cert.Stage2Ideal.τ).loc Cert.Stage2Ideal.main_arg3)
      ∧ r.2.mem ((c.tc : Thread Cert.Stage2Ideal.nD Cert.Stage2Ideal.τ).loc Cert.Stage2Ideal.main_arg4) = m ((c.tc : Thread Cert.Stage2Ideal.nD Cert.Stage2Ideal.τ).loc Cert.Stage2Ideal.main_arg4)
      ∧ r.2.mem ((c.tc : Thread Cert.Stage2Ideal.nD Cert.Stage2Ideal.τ).loc Cert.Stage2Ideal.main_arg5) = m ((c.tc : Thread Cert.Stage2Ideal.nD Cert.Stage2Ideal.τ).loc Cert.Stage2Ideal.main_arg5)
      ∧ r.2.mem ((c.tc : Thread Cert.Stage2Ideal.nD Cert.Stage2Ideal.τ).loc Cert.Stage2Ideal.main_arg6) = m ((c.tc : Thread Cert.Stage2Ideal.nD Cert.Stage2Ideal.τ).loc Cert.Stage2Ideal.main_arg6)
      ∧ r.2.mem ((c.tc : Thread Cert.Stage2Ideal.nD Cert.Stage2Ideal.τ).loc Cert.Stage2Ideal.main_arg7) = m ((c.tc : Thread Cert.Stage2Ideal.nD Cert.Stage2Ideal.τ).loc Cert.Stage2Ideal.main_arg7)
      ∧ r.2.mem ((c.tc : Thread Cert.Stage2Ideal.nD Cert.Stage2Ideal.τ).loc Cert.Stage2Ideal.main_arg8) = m ((c.tc : Thread Cert.Stage2Ideal.nD Cert.Stage2Ideal.τ).loc Cert.Stage2Ideal.main_arg8))
      ∧ r.2.sem = fun _ => 0)

def quiescent_Stage2ReferenceIdeal [hStage2ReferenceIdeal : Cert.Stage2ReferenceIdeal.Facts] : Prop :=
  ∀ (m : (ℓ : Loc Cert.Stage2ReferenceIdeal.nD Cert.Stage2ReferenceIdeal.τ Cert.Stage2ReferenceIdeal.sig) → Buf (Elt Ideal) ℓ) (g : Dev Cert.Stage2ReferenceIdeal.nD → PrngReg), Pre_Stage2ReferenceIdeal m →
    θ_run (Cert.Stage2ReferenceIdeal.defs (F := Ideal)) (onTc (τ := Cert.Stage2ReferenceIdeal.τ) (Cert.Stage2ReferenceIdeal.main (F := Ideal))) ⟨m, fun _ => 0, g⟩ (fun r => (∀ c : Dev Cert.Stage2ReferenceIdeal.nD,
      r.2.mem ((c.tc : Thread Cert.Stage2ReferenceIdeal.nD Cert.Stage2ReferenceIdeal.τ).loc Cert.Stage2ReferenceIdeal.main_arg0) = m ((c.tc : Thread Cert.Stage2ReferenceIdeal.nD Cert.Stage2ReferenceIdeal.τ).loc Cert.Stage2ReferenceIdeal.main_arg0)
      ∧ r.2.mem ((c.tc : Thread Cert.Stage2ReferenceIdeal.nD Cert.Stage2ReferenceIdeal.τ).loc Cert.Stage2ReferenceIdeal.main_arg1) = m ((c.tc : Thread Cert.Stage2ReferenceIdeal.nD Cert.Stage2ReferenceIdeal.τ).loc Cert.Stage2ReferenceIdeal.main_arg1)
      ∧ r.2.mem ((c.tc : Thread Cert.Stage2ReferenceIdeal.nD Cert.Stage2ReferenceIdeal.τ).loc Cert.Stage2ReferenceIdeal.main_arg2) = m ((c.tc : Thread Cert.Stage2ReferenceIdeal.nD Cert.Stage2ReferenceIdeal.τ).loc Cert.Stage2ReferenceIdeal.main_arg2)
      ∧ r.2.mem ((c.tc : Thread Cert.Stage2ReferenceIdeal.nD Cert.Stage2ReferenceIdeal.τ).loc Cert.Stage2ReferenceIdeal.main_arg3) = m ((c.tc : Thread Cert.Stage2ReferenceIdeal.nD Cert.Stage2ReferenceIdeal.τ).loc Cert.Stage2ReferenceIdeal.main_arg3)
      ∧ r.2.mem ((c.tc : Thread Cert.Stage2ReferenceIdeal.nD Cert.Stage2ReferenceIdeal.τ).loc Cert.Stage2ReferenceIdeal.main_arg4) = m ((c.tc : Thread Cert.Stage2ReferenceIdeal.nD Cert.Stage2ReferenceIdeal.τ).loc Cert.Stage2ReferenceIdeal.main_arg4)
      ∧ r.2.mem ((c.tc : Thread Cert.Stage2ReferenceIdeal.nD Cert.Stage2ReferenceIdeal.τ).loc Cert.Stage2ReferenceIdeal.main_arg5) = m ((c.tc : Thread Cert.Stage2ReferenceIdeal.nD Cert.Stage2ReferenceIdeal.τ).loc Cert.Stage2ReferenceIdeal.main_arg5)
      ∧ r.2.mem ((c.tc : Thread Cert.Stage2ReferenceIdeal.nD Cert.Stage2ReferenceIdeal.τ).loc Cert.Stage2ReferenceIdeal.main_arg6) = m ((c.tc : Thread Cert.Stage2ReferenceIdeal.nD Cert.Stage2ReferenceIdeal.τ).loc Cert.Stage2ReferenceIdeal.main_arg6)
      ∧ r.2.mem ((c.tc : Thread Cert.Stage2ReferenceIdeal.nD Cert.Stage2ReferenceIdeal.τ).loc Cert.Stage2ReferenceIdeal.main_arg7) = m ((c.tc : Thread Cert.Stage2ReferenceIdeal.nD Cert.Stage2ReferenceIdeal.τ).loc Cert.Stage2ReferenceIdeal.main_arg7)
      ∧ r.2.mem ((c.tc : Thread Cert.Stage2ReferenceIdeal.nD Cert.Stage2ReferenceIdeal.τ).loc Cert.Stage2ReferenceIdeal.main_arg8) = m ((c.tc : Thread Cert.Stage2ReferenceIdeal.nD Cert.Stage2ReferenceIdeal.τ).loc Cert.Stage2ReferenceIdeal.main_arg8))
      ∧ r.2.sem = fun _ => 0)

def quiescent_Stage2ReferenceIdeal_pre_labels3_in_range [hStage2ReferenceIdeal : Cert.Stage2ReferenceIdeal.Facts] [hPre_labels3_in_range : Cert.Pre_labels3_in_range.Facts] : Prop :=
  ∀ (m : (ℓ : Loc Cert.Stage2ReferenceIdeal.nD Cert.Stage2ReferenceIdeal.τ Cert.Stage2ReferenceIdeal.sig) → Buf (Elt Ideal) ℓ) (g : Dev Cert.Stage2ReferenceIdeal.nD → PrngReg), Pre_Stage2ReferenceIdeal_labels3_in_range m →
    θ_run (Cert.Stage2ReferenceIdeal.defs (F := Ideal)) (onTc (τ := Cert.Stage2ReferenceIdeal.τ) (Cert.Stage2ReferenceIdeal.main (F := Ideal))) ⟨m, fun _ => 0, g⟩ (fun r => (∀ c : Dev Cert.Stage2ReferenceIdeal.nD,
      r.2.mem ((c.tc : Thread Cert.Stage2ReferenceIdeal.nD Cert.Stage2ReferenceIdeal.τ).loc Cert.Stage2ReferenceIdeal.main_arg0) = m ((c.tc : Thread Cert.Stage2ReferenceIdeal.nD Cert.Stage2ReferenceIdeal.τ).loc Cert.Stage2ReferenceIdeal.main_arg0)
      ∧ r.2.mem ((c.tc : Thread Cert.Stage2ReferenceIdeal.nD Cert.Stage2ReferenceIdeal.τ).loc Cert.Stage2ReferenceIdeal.main_arg1) = m ((c.tc : Thread Cert.Stage2ReferenceIdeal.nD Cert.Stage2ReferenceIdeal.τ).loc Cert.Stage2ReferenceIdeal.main_arg1)
      ∧ r.2.mem ((c.tc : Thread Cert.Stage2ReferenceIdeal.nD Cert.Stage2ReferenceIdeal.τ).loc Cert.Stage2ReferenceIdeal.main_arg2) = m ((c.tc : Thread Cert.Stage2ReferenceIdeal.nD Cert.Stage2ReferenceIdeal.τ).loc Cert.Stage2ReferenceIdeal.main_arg2)
      ∧ r.2.mem ((c.tc : Thread Cert.Stage2ReferenceIdeal.nD Cert.Stage2ReferenceIdeal.τ).loc Cert.Stage2ReferenceIdeal.main_arg3) = m ((c.tc : Thread Cert.Stage2ReferenceIdeal.nD Cert.Stage2ReferenceIdeal.τ).loc Cert.Stage2ReferenceIdeal.main_arg3)
      ∧ r.2.mem ((c.tc : Thread Cert.Stage2ReferenceIdeal.nD Cert.Stage2ReferenceIdeal.τ).loc Cert.Stage2ReferenceIdeal.main_arg4) = m ((c.tc : Thread Cert.Stage2ReferenceIdeal.nD Cert.Stage2ReferenceIdeal.τ).loc Cert.Stage2ReferenceIdeal.main_arg4)
      ∧ r.2.mem ((c.tc : Thread Cert.Stage2ReferenceIdeal.nD Cert.Stage2ReferenceIdeal.τ).loc Cert.Stage2ReferenceIdeal.main_arg5) = m ((c.tc : Thread Cert.Stage2ReferenceIdeal.nD Cert.Stage2ReferenceIdeal.τ).loc Cert.Stage2ReferenceIdeal.main_arg5)
      ∧ r.2.mem ((c.tc : Thread Cert.Stage2ReferenceIdeal.nD Cert.Stage2ReferenceIdeal.τ).loc Cert.Stage2ReferenceIdeal.main_arg6) = m ((c.tc : Thread Cert.Stage2ReferenceIdeal.nD Cert.Stage2ReferenceIdeal.τ).loc Cert.Stage2ReferenceIdeal.main_arg6)
      ∧ r.2.mem ((c.tc : Thread Cert.Stage2ReferenceIdeal.nD Cert.Stage2ReferenceIdeal.τ).loc Cert.Stage2ReferenceIdeal.main_arg7) = m ((c.tc : Thread Cert.Stage2ReferenceIdeal.nD Cert.Stage2ReferenceIdeal.τ).loc Cert.Stage2ReferenceIdeal.main_arg7)
      ∧ r.2.mem ((c.tc : Thread Cert.Stage2ReferenceIdeal.nD Cert.Stage2ReferenceIdeal.τ).loc Cert.Stage2ReferenceIdeal.main_arg8) = m ((c.tc : Thread Cert.Stage2ReferenceIdeal.nD Cert.Stage2ReferenceIdeal.τ).loc Cert.Stage2ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Stage1_Stage1Ideal : Prop :=
  True

def algebraic_Stage1Ideal_Stage1ReferenceIdeal [hStage1Ideal : Cert.Stage1Ideal.Facts] [hStage1ReferenceIdeal : Cert.Stage1ReferenceIdeal.Facts] : Prop :=
  ∀ (m : (ℓ : Loc Cert.Stage1Ideal.nD Cert.Stage1Ideal.τ Cert.Stage1Ideal.sig) → Buf (Elt Ideal) ℓ) (g : Dev Cert.Stage1Ideal.nD → PrngReg)
    (m' : (ℓ : Loc Cert.Stage1ReferenceIdeal.nD Cert.Stage1ReferenceIdeal.τ Cert.Stage1ReferenceIdeal.sig) → Buf (Elt Ideal) ℓ) (g' : Dev Cert.Stage1ReferenceIdeal.nD → PrngReg), Pre_Stage1Ideal m →
    (∀ c : Dev Cert.Stage1Ideal.nD,
      m' ((c.tc : Thread Cert.Stage1ReferenceIdeal.nD Cert.Stage1ReferenceIdeal.τ).loc Cert.Stage1ReferenceIdeal.main_arg0) = m ((c.tc : Thread Cert.Stage1Ideal.nD Cert.Stage1Ideal.τ).loc Cert.Stage1Ideal.main_arg0)
      ∧ m' ((c.tc : Thread Cert.Stage1ReferenceIdeal.nD Cert.Stage1ReferenceIdeal.τ).loc Cert.Stage1ReferenceIdeal.main_arg1) = m ((c.tc : Thread Cert.Stage1Ideal.nD Cert.Stage1Ideal.τ).loc Cert.Stage1Ideal.main_arg1)
      ∧ m' ((c.tc : Thread Cert.Stage1ReferenceIdeal.nD Cert.Stage1ReferenceIdeal.τ).loc Cert.Stage1ReferenceIdeal.main_arg2) = m ((c.tc : Thread Cert.Stage1Ideal.nD Cert.Stage1Ideal.τ).loc Cert.Stage1Ideal.main_arg2)
      ∧ m' ((c.tc : Thread Cert.Stage1ReferenceIdeal.nD Cert.Stage1ReferenceIdeal.τ).loc Cert.Stage1ReferenceIdeal.main_arg3) = m ((c.tc : Thread Cert.Stage1Ideal.nD Cert.Stage1Ideal.τ).loc Cert.Stage1Ideal.main_arg3)
      ∧ m' ((c.tc : Thread Cert.Stage1ReferenceIdeal.nD Cert.Stage1ReferenceIdeal.τ).loc Cert.Stage1ReferenceIdeal.main_arg4) = m ((c.tc : Thread Cert.Stage1Ideal.nD Cert.Stage1Ideal.τ).loc Cert.Stage1Ideal.main_arg4)
      ∧ m' ((c.tc : Thread Cert.Stage1ReferenceIdeal.nD Cert.Stage1ReferenceIdeal.τ).loc Cert.Stage1ReferenceIdeal.main_arg5) = m ((c.tc : Thread Cert.Stage1Ideal.nD Cert.Stage1Ideal.τ).loc Cert.Stage1Ideal.main_arg5)
      ∧ m' ((c.tc : Thread Cert.Stage1ReferenceIdeal.nD Cert.Stage1ReferenceIdeal.τ).loc Cert.Stage1ReferenceIdeal.main_arg6) = m ((c.tc : Thread Cert.Stage1Ideal.nD Cert.Stage1Ideal.τ).loc Cert.Stage1Ideal.main_arg6)) →
    ∃ (v0 : (c : Dev Cert.Stage1Ideal.nD) → Buf (Elt Ideal) ((c.tc : Thread Cert.Stage1Ideal.nD Cert.Stage1Ideal.τ).loc Cert.Stage1Ideal.main_v10_0)) (v1 : (c : Dev Cert.Stage1Ideal.nD) → Buf (Elt Ideal) ((c.tc : Thread Cert.Stage1Ideal.nD Cert.Stage1Ideal.τ).loc Cert.Stage1Ideal.main_v10_1)) (v2 : (c : Dev Cert.Stage1Ideal.nD) → Buf (Elt Ideal) ((c.tc : Thread Cert.Stage1Ideal.nD Cert.Stage1Ideal.τ).loc Cert.Stage1Ideal.main_v10_2)) (v3 : (c : Dev Cert.Stage1Ideal.nD) → Buf (Elt Ideal) ((c.tc : Thread Cert.Stage1Ideal.nD Cert.Stage1Ideal.τ).loc Cert.Stage1Ideal.main_v10_3)),
      θ_run (Cert.Stage1Ideal.defs (F := Ideal)) (onTc (τ := Cert.Stage1Ideal.τ) (Cert.Stage1Ideal.main (F := Ideal))) ⟨m, fun _ => 0, g⟩ (fun r => ∀ c : Dev Cert.Stage1Ideal.nD,
          r.2.mem ((c.tc : Thread Cert.Stage1Ideal.nD Cert.Stage1Ideal.τ).loc Cert.Stage1Ideal.main_v10_0) = v0 c
          ∧ r.2.mem ((c.tc : Thread Cert.Stage1Ideal.nD Cert.Stage1Ideal.τ).loc Cert.Stage1Ideal.main_v10_1) = v1 c
          ∧ r.2.mem ((c.tc : Thread Cert.Stage1Ideal.nD Cert.Stage1Ideal.τ).loc Cert.Stage1Ideal.main_v10_2) = v2 c
          ∧ r.2.mem ((c.tc : Thread Cert.Stage1Ideal.nD Cert.Stage1Ideal.τ).loc Cert.Stage1Ideal.main_v10_3) = v3 c
          ∧ r.2.mem ((c.tc : Thread Cert.Stage1Ideal.nD Cert.Stage1Ideal.τ).loc Cert.Stage1Ideal.main_arg0) = m ((c.tc : Thread Cert.Stage1Ideal.nD Cert.Stage1Ideal.τ).loc Cert.Stage1Ideal.main_arg0)
          ∧ r.2.mem ((c.tc : Thread Cert.Stage1Ideal.nD Cert.Stage1Ideal.τ).loc Cert.Stage1Ideal.main_arg1) = m ((c.tc : Thread Cert.Stage1Ideal.nD Cert.Stage1Ideal.τ).loc Cert.Stage1Ideal.main_arg1)
          ∧ r.2.mem ((c.tc : Thread Cert.Stage1Ideal.nD Cert.Stage1Ideal.τ).loc Cert.Stage1Ideal.main_arg2) = m ((c.tc : Thread Cert.Stage1Ideal.nD Cert.Stage1Ideal.τ).loc Cert.Stage1Ideal.main_arg2)
          ∧ r.2.mem ((c.tc : Thread Cert.Stage1Ideal.nD Cert.Stage1Ideal.τ).loc Cert.Stage1Ideal.main_arg3) = m ((c.tc : Thread Cert.Stage1Ideal.nD Cert.Stage1Ideal.τ).loc Cert.Stage1Ideal.main_arg3)
          ∧ r.2.mem ((c.tc : Thread Cert.Stage1Ideal.nD Cert.Stage1Ideal.τ).loc Cert.Stage1Ideal.main_arg4) = m ((c.tc : Thread Cert.Stage1Ideal.nD Cert.Stage1Ideal.τ).loc Cert.Stage1Ideal.main_arg4)
          ∧ r.2.mem ((c.tc : Thread Cert.Stage1Ideal.nD Cert.Stage1Ideal.τ).loc Cert.Stage1Ideal.main_arg5) = m ((c.tc : Thread Cert.Stage1Ideal.nD Cert.Stage1Ideal.τ).loc Cert.Stage1Ideal.main_arg5)
          ∧ r.2.mem ((c.tc : Thread Cert.Stage1Ideal.nD Cert.Stage1Ideal.τ).loc Cert.Stage1Ideal.main_arg6) = m ((c.tc : Thread Cert.Stage1Ideal.nD Cert.Stage1Ideal.τ).loc Cert.Stage1Ideal.main_arg6))
      ∧ θ_run (Cert.Stage1ReferenceIdeal.defs (F := Ideal)) (onTc (τ := Cert.Stage1ReferenceIdeal.τ) (Cert.Stage1ReferenceIdeal.main (F := Ideal))) ⟨m', fun _ => 0, g'⟩ (fun r => ∀ c : Dev Cert.Stage1ReferenceIdeal.nD,
          r.2.mem ((c.tc : Thread Cert.Stage1ReferenceIdeal.nD Cert.Stage1ReferenceIdeal.τ).loc Cert.Stage1ReferenceIdeal.main_v2_3) = v0 c
          ∧ r.2.mem ((c.tc : Thread Cert.Stage1ReferenceIdeal.nD Cert.Stage1ReferenceIdeal.τ).loc Cert.Stage1ReferenceIdeal.main_v55) = v1 c
          ∧ r.2.mem ((c.tc : Thread Cert.Stage1ReferenceIdeal.nD Cert.Stage1ReferenceIdeal.τ).loc Cert.Stage1ReferenceIdeal.main_v19) = v2 c
          ∧ r.2.mem ((c.tc : Thread Cert.Stage1ReferenceIdeal.nD Cert.Stage1ReferenceIdeal.τ).loc Cert.Stage1ReferenceIdeal.main_v54) = v3 c
          ∧ r.2.mem ((c.tc : Thread Cert.Stage1ReferenceIdeal.nD Cert.Stage1ReferenceIdeal.τ).loc Cert.Stage1ReferenceIdeal.main_arg0) = m' ((c.tc : Thread Cert.Stage1ReferenceIdeal.nD Cert.Stage1ReferenceIdeal.τ).loc Cert.Stage1ReferenceIdeal.main_arg0)
          ∧ r.2.mem ((c.tc : Thread Cert.Stage1ReferenceIdeal.nD Cert.Stage1ReferenceIdeal.τ).loc Cert.Stage1ReferenceIdeal.main_arg1) = m' ((c.tc : Thread Cert.Stage1ReferenceIdeal.nD Cert.Stage1ReferenceIdeal.τ).loc Cert.Stage1ReferenceIdeal.main_arg1)
          ∧ r.2.mem ((c.tc : Thread Cert.Stage1ReferenceIdeal.nD Cert.Stage1ReferenceIdeal.τ).loc Cert.Stage1ReferenceIdeal.main_arg2) = m' ((c.tc : Thread Cert.Stage1ReferenceIdeal.nD Cert.Stage1ReferenceIdeal.τ).loc Cert.Stage1ReferenceIdeal.main_arg2)
          ∧ r.2.mem ((c.tc : Thread Cert.Stage1ReferenceIdeal.nD Cert.Stage1ReferenceIdeal.τ).loc Cert.Stage1ReferenceIdeal.main_arg3) = m' ((c.tc : Thread Cert.Stage1ReferenceIdeal.nD Cert.Stage1ReferenceIdeal.τ).loc Cert.Stage1ReferenceIdeal.main_arg3)
          ∧ r.2.mem ((c.tc : Thread Cert.Stage1ReferenceIdeal.nD Cert.Stage1ReferenceIdeal.τ).loc Cert.Stage1ReferenceIdeal.main_arg4) = m' ((c.tc : Thread Cert.Stage1ReferenceIdeal.nD Cert.Stage1ReferenceIdeal.τ).loc Cert.Stage1ReferenceIdeal.main_arg4)
          ∧ r.2.mem ((c.tc : Thread Cert.Stage1ReferenceIdeal.nD Cert.Stage1ReferenceIdeal.τ).loc Cert.Stage1ReferenceIdeal.main_arg5) = m' ((c.tc : Thread Cert.Stage1ReferenceIdeal.nD Cert.Stage1ReferenceIdeal.τ).loc Cert.Stage1ReferenceIdeal.main_arg5)
          ∧ r.2.mem ((c.tc : Thread Cert.Stage1ReferenceIdeal.nD Cert.Stage1ReferenceIdeal.τ).loc Cert.Stage1ReferenceIdeal.main_arg6) = m' ((c.tc : Thread Cert.Stage1ReferenceIdeal.nD Cert.Stage1ReferenceIdeal.τ).loc Cert.Stage1ReferenceIdeal.main_arg6))

def preserves_Stage2_Stage2Ideal : Prop :=
  True

def algebraic_Stage2Ideal_Stage2ReferenceIdeal_pre_labels3_in_range [hStage2Ideal : Cert.Stage2Ideal.Facts] [hStage2ReferenceIdeal : Cert.Stage2ReferenceIdeal.Facts] [hPre_labels3_in_range : Cert.Pre_labels3_in_range.Facts] : Prop :=
  ∀ (m : (ℓ : Loc Cert.Stage2Ideal.nD Cert.Stage2Ideal.τ Cert.Stage2Ideal.sig) → Buf (Elt Ideal) ℓ) (g : Dev Cert.Stage2Ideal.nD → PrngReg)
    (m' : (ℓ : Loc Cert.Stage2ReferenceIdeal.nD Cert.Stage2ReferenceIdeal.τ Cert.Stage2ReferenceIdeal.sig) → Buf (Elt Ideal) ℓ) (g' : Dev Cert.Stage2ReferenceIdeal.nD → PrngReg), Pre_Stage2Ideal_labels3_in_range m →
    (∀ c : Dev Cert.Stage2Ideal.nD,
      m' ((c.tc : Thread Cert.Stage2ReferenceIdeal.nD Cert.Stage2ReferenceIdeal.τ).loc Cert.Stage2ReferenceIdeal.main_arg0) = m ((c.tc : Thread Cert.Stage2Ideal.nD Cert.Stage2Ideal.τ).loc Cert.Stage2Ideal.main_arg0)
      ∧ m' ((c.tc : Thread Cert.Stage2ReferenceIdeal.nD Cert.Stage2ReferenceIdeal.τ).loc Cert.Stage2ReferenceIdeal.main_arg1) = m ((c.tc : Thread Cert.Stage2Ideal.nD Cert.Stage2Ideal.τ).loc Cert.Stage2Ideal.main_arg1)
      ∧ m' ((c.tc : Thread Cert.Stage2ReferenceIdeal.nD Cert.Stage2ReferenceIdeal.τ).loc Cert.Stage2ReferenceIdeal.main_arg2) = m ((c.tc : Thread Cert.Stage2Ideal.nD Cert.Stage2Ideal.τ).loc Cert.Stage2Ideal.main_arg2)
      ∧ m' ((c.tc : Thread Cert.Stage2ReferenceIdeal.nD Cert.Stage2ReferenceIdeal.τ).loc Cert.Stage2ReferenceIdeal.main_arg3) = m ((c.tc : Thread Cert.Stage2Ideal.nD Cert.Stage2Ideal.τ).loc Cert.Stage2Ideal.main_arg3)
      ∧ m' ((c.tc : Thread Cert.Stage2ReferenceIdeal.nD Cert.Stage2ReferenceIdeal.τ).loc Cert.Stage2ReferenceIdeal.main_arg4) = m ((c.tc : Thread Cert.Stage2Ideal.nD Cert.Stage2Ideal.τ).loc Cert.Stage2Ideal.main_arg4)
      ∧ m' ((c.tc : Thread Cert.Stage2ReferenceIdeal.nD Cert.Stage2ReferenceIdeal.τ).loc Cert.Stage2ReferenceIdeal.main_arg5) = m ((c.tc : Thread Cert.Stage2Ideal.nD Cert.Stage2Ideal.τ).loc Cert.Stage2Ideal.main_arg5)
      ∧ m' ((c.tc : Thread Cert.Stage2ReferenceIdeal.nD Cert.Stage2ReferenceIdeal.τ).loc Cert.Stage2ReferenceIdeal.main_arg6) = m ((c.tc : Thread Cert.Stage2Ideal.nD Cert.Stage2Ideal.τ).loc Cert.Stage2Ideal.main_arg6)
      ∧ m' ((c.tc : Thread Cert.Stage2ReferenceIdeal.nD Cert.Stage2ReferenceIdeal.τ).loc Cert.Stage2ReferenceIdeal.main_arg7) = m ((c.tc : Thread Cert.Stage2Ideal.nD Cert.Stage2Ideal.τ).loc Cert.Stage2Ideal.main_arg7)
      ∧ m' ((c.tc : Thread Cert.Stage2ReferenceIdeal.nD Cert.Stage2ReferenceIdeal.τ).loc Cert.Stage2ReferenceIdeal.main_arg8) = m ((c.tc : Thread Cert.Stage2Ideal.nD Cert.Stage2Ideal.τ).loc Cert.Stage2Ideal.main_arg8)) →
    ∃ (v0 : (c : Dev Cert.Stage2Ideal.nD) → Buf (Elt Ideal) ((c.tc : Thread Cert.Stage2Ideal.nD Cert.Stage2Ideal.τ).loc Cert.Stage2Ideal.main_v6)),
      θ_run (Cert.Stage2Ideal.defs (F := Ideal)) (onTc (τ := Cert.Stage2Ideal.τ) (Cert.Stage2Ideal.main (F := Ideal))) ⟨m, fun _ => 0, g⟩ (fun r => ∀ c : Dev Cert.Stage2Ideal.nD,
          r.2.mem ((c.tc : Thread Cert.Stage2Ideal.nD Cert.Stage2Ideal.τ).loc Cert.Stage2Ideal.main_v6) = v0 c
          ∧ r.2.mem ((c.tc : Thread Cert.Stage2Ideal.nD Cert.Stage2Ideal.τ).loc Cert.Stage2Ideal.main_arg0) = m ((c.tc : Thread Cert.Stage2Ideal.nD Cert.Stage2Ideal.τ).loc Cert.Stage2Ideal.main_arg0)
          ∧ r.2.mem ((c.tc : Thread Cert.Stage2Ideal.nD Cert.Stage2Ideal.τ).loc Cert.Stage2Ideal.main_arg1) = m ((c.tc : Thread Cert.Stage2Ideal.nD Cert.Stage2Ideal.τ).loc Cert.Stage2Ideal.main_arg1)
          ∧ r.2.mem ((c.tc : Thread Cert.Stage2Ideal.nD Cert.Stage2Ideal.τ).loc Cert.Stage2Ideal.main_arg2) = m ((c.tc : Thread Cert.Stage2Ideal.nD Cert.Stage2Ideal.τ).loc Cert.Stage2Ideal.main_arg2)
          ∧ r.2.mem ((c.tc : Thread Cert.Stage2Ideal.nD Cert.Stage2Ideal.τ).loc Cert.Stage2Ideal.main_arg3) = m ((c.tc : Thread Cert.Stage2Ideal.nD Cert.Stage2Ideal.τ).loc Cert.Stage2Ideal.main_arg3)
          ∧ r.2.mem ((c.tc : Thread Cert.Stage2Ideal.nD Cert.Stage2Ideal.τ).loc Cert.Stage2Ideal.main_arg4) = m ((c.tc : Thread Cert.Stage2Ideal.nD Cert.Stage2Ideal.τ).loc Cert.Stage2Ideal.main_arg4)
          ∧ r.2.mem ((c.tc : Thread Cert.Stage2Ideal.nD Cert.Stage2Ideal.τ).loc Cert.Stage2Ideal.main_arg5) = m ((c.tc : Thread Cert.Stage2Ideal.nD Cert.Stage2Ideal.τ).loc Cert.Stage2Ideal.main_arg5)
          ∧ r.2.mem ((c.tc : Thread Cert.Stage2Ideal.nD Cert.Stage2Ideal.τ).loc Cert.Stage2Ideal.main_arg6) = m ((c.tc : Thread Cert.Stage2Ideal.nD Cert.Stage2Ideal.τ).loc Cert.Stage2Ideal.main_arg6)
          ∧ r.2.mem ((c.tc : Thread Cert.Stage2Ideal.nD Cert.Stage2Ideal.τ).loc Cert.Stage2Ideal.main_arg7) = m ((c.tc : Thread Cert.Stage2Ideal.nD Cert.Stage2Ideal.τ).loc Cert.Stage2Ideal.main_arg7)
          ∧ r.2.mem ((c.tc : Thread Cert.Stage2Ideal.nD Cert.Stage2Ideal.τ).loc Cert.Stage2Ideal.main_arg8) = m ((c.tc : Thread Cert.Stage2Ideal.nD Cert.Stage2Ideal.τ).loc Cert.Stage2Ideal.main_arg8))
      ∧ θ_run (Cert.Stage2ReferenceIdeal.defs (F := Ideal)) (onTc (τ := Cert.Stage2ReferenceIdeal.τ) (Cert.Stage2ReferenceIdeal.main (F := Ideal))) ⟨m', fun _ => 0, g'⟩ (fun r => ∀ c : Dev Cert.Stage2ReferenceIdeal.nD,
          r.2.mem ((c.tc : Thread Cert.Stage2ReferenceIdeal.nD Cert.Stage2ReferenceIdeal.τ).loc Cert.Stage2ReferenceIdeal.main_v52) = v0 c
          ∧ r.2.mem ((c.tc : Thread Cert.Stage2ReferenceIdeal.nD Cert.Stage2ReferenceIdeal.τ).loc Cert.Stage2ReferenceIdeal.main_arg0) = m' ((c.tc : Thread Cert.Stage2ReferenceIdeal.nD Cert.Stage2ReferenceIdeal.τ).loc Cert.Stage2ReferenceIdeal.main_arg0)
          ∧ r.2.mem ((c.tc : Thread Cert.Stage2ReferenceIdeal.nD Cert.Stage2ReferenceIdeal.τ).loc Cert.Stage2ReferenceIdeal.main_arg1) = m' ((c.tc : Thread Cert.Stage2ReferenceIdeal.nD Cert.Stage2ReferenceIdeal.τ).loc Cert.Stage2ReferenceIdeal.main_arg1)
          ∧ r.2.mem ((c.tc : Thread Cert.Stage2ReferenceIdeal.nD Cert.Stage2ReferenceIdeal.τ).loc Cert.Stage2ReferenceIdeal.main_arg2) = m' ((c.tc : Thread Cert.Stage2ReferenceIdeal.nD Cert.Stage2ReferenceIdeal.τ).loc Cert.Stage2ReferenceIdeal.main_arg2)
          ∧ r.2.mem ((c.tc : Thread Cert.Stage2ReferenceIdeal.nD Cert.Stage2ReferenceIdeal.τ).loc Cert.Stage2ReferenceIdeal.main_arg3) = m' ((c.tc : Thread Cert.Stage2ReferenceIdeal.nD Cert.Stage2ReferenceIdeal.τ).loc Cert.Stage2ReferenceIdeal.main_arg3)
          ∧ r.2.mem ((c.tc : Thread Cert.Stage2ReferenceIdeal.nD Cert.Stage2ReferenceIdeal.τ).loc Cert.Stage2ReferenceIdeal.main_arg4) = m' ((c.tc : Thread Cert.Stage2ReferenceIdeal.nD Cert.Stage2ReferenceIdeal.τ).loc Cert.Stage2ReferenceIdeal.main_arg4)
          ∧ r.2.mem ((c.tc : Thread Cert.Stage2ReferenceIdeal.nD Cert.Stage2ReferenceIdeal.τ).loc Cert.Stage2ReferenceIdeal.main_arg5) = m' ((c.tc : Thread Cert.Stage2ReferenceIdeal.nD Cert.Stage2ReferenceIdeal.τ).loc Cert.Stage2ReferenceIdeal.main_arg5)
          ∧ r.2.mem ((c.tc : Thread Cert.Stage2ReferenceIdeal.nD Cert.Stage2ReferenceIdeal.τ).loc Cert.Stage2ReferenceIdeal.main_arg6) = m' ((c.tc : Thread Cert.Stage2ReferenceIdeal.nD Cert.Stage2ReferenceIdeal.τ).loc Cert.Stage2ReferenceIdeal.main_arg6)
          ∧ r.2.mem ((c.tc : Thread Cert.Stage2ReferenceIdeal.nD Cert.Stage2ReferenceIdeal.τ).loc Cert.Stage2ReferenceIdeal.main_arg7) = m' ((c.tc : Thread Cert.Stage2ReferenceIdeal.nD Cert.Stage2ReferenceIdeal.τ).loc Cert.Stage2ReferenceIdeal.main_arg7)
          ∧ r.2.mem ((c.tc : Thread Cert.Stage2ReferenceIdeal.nD Cert.Stage2ReferenceIdeal.τ).loc Cert.Stage2ReferenceIdeal.main_arg8) = m' ((c.tc : Thread Cert.Stage2ReferenceIdeal.nD Cert.Stage2ReferenceIdeal.τ).loc Cert.Stage2ReferenceIdeal.main_arg8))

def Claim : Prop :=
  ∃ (hKernel : Cert.Kernel.Facts) (hKernelIdeal : Cert.KernelIdeal.Facts) (hReferenceIdeal : Cert.ReferenceIdeal.Facts) (hStage1 : Cert.Stage1.Facts) (hStage1Ideal : Cert.Stage1Ideal.Facts) (hStage1ReferenceIdeal : Cert.Stage1ReferenceIdeal.Facts) (hStage2 : Cert.Stage2.Facts) (hStage2Ideal : Cert.Stage2Ideal.Facts) (hStage2ReferenceIdeal : Cert.Stage2ReferenceIdeal.Facts) (hPre_labels_in_range : Cert.Pre_labels_in_range.Facts) (hPre_labels3_in_range : Cert.Pre_labels3_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal) (hPre_labels_in_range := hPre_labels_in_range)
    ∧ quiescent_Stage1 (hStage1 := hStage1)
    ∧ quiescent_Stage1Ideal (hStage1Ideal := hStage1Ideal)
    ∧ quiescent_Stage1ReferenceIdeal (hStage1ReferenceIdeal := hStage1ReferenceIdeal)
    ∧ quiescent_Stage2 (hStage2 := hStage2)
    ∧ quiescent_Stage2Ideal (hStage2Ideal := hStage2Ideal)
    ∧ quiescent_Stage2Ideal_pre_labels3_in_range (hStage2Ideal := hStage2Ideal) (hPre_labels3_in_range := hPre_labels3_in_range)
    ∧ quiescent_Stage2ReferenceIdeal (hStage2ReferenceIdeal := hStage2ReferenceIdeal)
    ∧ quiescent_Stage2ReferenceIdeal_pre_labels3_in_range (hStage2ReferenceIdeal := hStage2ReferenceIdeal) (hPre_labels3_in_range := hPre_labels3_in_range)
    ∧ preserves_Kernel_KernelIdeal
    ∧ algebraic_KernelIdeal_ReferenceIdeal (hKernelIdeal := hKernelIdeal) (hReferenceIdeal := hReferenceIdeal) (hPre_labels_in_range := hPre_labels_in_range)
    ∧ preserves_Stage1_Stage1Ideal
    ∧ algebraic_Stage1Ideal_Stage1ReferenceIdeal (hStage1Ideal := hStage1Ideal) (hStage1ReferenceIdeal := hStage1ReferenceIdeal)
    ∧ preserves_Stage2_Stage2Ideal
    ∧ algebraic_Stage2Ideal_Stage2ReferenceIdeal_pre_labels3_in_range (hStage2Ideal := hStage2Ideal) (hStage2ReferenceIdeal := hStage2ReferenceIdeal) (hPre_labels3_in_range := hPre_labels3_in_range)
-- ==== Pre_labels3_in_range.lean ====
abbrev S16x4096x256 : Shape := ⟨3, ![16, 4096, 256]⟩
abbrev S16x1x4096 : Shape := ⟨3, ![16, 1, 4096]⟩
abbrev S16x256x256 : Shape := ⟨3, ![16, 256, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S16x1x4096 : S_.BroadcastsInDim S16x1x4096 (![] : Fin 0 → Fin S16x1x4096.rank)
  reducesTo_S16x1x4096_S_d0_1_2 : S16x1x4096.ReducesTo [0, 1, 2] S_
  h_S_ : 0 < S_.numel

variable [Facts]

def fn {F : FTy → Type} [FloatOps F] (main_arg0 : FVec F S16x4096x256 .f32) (main_arg1 : IVec S16x1x4096 32) (main_arg2 : FVec F S16x256x256 .f32) (main_arg3 : FVec F S512x512 .f32) (main_arg4 : FVec F S512 .f32) (main_arg5 : FVec F S512 .f32) (main_arg6 : FVec F S512 .f32) (main_arg7 : FVec F S512x256 .f32) (main_arg8 : FVec F S256 .f32) : IVec S_ 1 :=
  let main_c : IVec S_ 32 := constantI S_ 32 0#32
  let main_v0 : IVec S16x1x4096 32 := broadcastInDim S16x1x4096 ![] bcast_S_S16x1x4096 main_c
  let main_v1 : IVec S16x1x4096 1 := cmpi .sge main_arg1 main_v0
  let main_c_0 : IVec S_ 32 := constantI S_ 32 256#32
  let main_v2 : IVec S16x1x4096 32 := broadcastInDim S16x1x4096 ![] bcast_S_S16x1x4096 main_c_0
  let main_v3 : IVec S16x1x4096 1 := cmpi .slt main_arg1 main_v2
  let main_v4 : IVec S16x1x4096 1 := andi main_v1 main_v3
  let main_c_1 : IVec S_ 1 := constantI S_ 1 1#1
  let main_v5 : IVec S_ 1 := (fun x v => Host.reduce IntOp.andi x v reducesTo_S16x1x4096_S_d0_1_2 h_S_) main_v4 main_c_1
  main_v5
-- ==== Pre_labels_in_range.lean ====
abbrev S16x4096x256 : Shape := ⟨3, ![16, 4096, 256]⟩
abbrev S16x4096 : Shape := ⟨2, ![16, 4096]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel

variable [Facts]

def fn {F : FTy → Type} [FloatOps F] (main_arg0 : FVec F S16x4096x256 .f32) (main_arg1 : IVec S16x4096 32) : IVec S_ 1 :=
  let main_c : IVec S_ 32 := constantI S_ 32 0#32
  let main_v0 : IVec S16x4096 32 := broadcastInDim S16x4096 ![] bcast_S_S16x4096 main_c
  let main_v1 : IVec S16x4096 1 := cmpi .sge main_arg1 main_v0
  let main_c_0 : IVec S_ 32 := constantI S_ 32 256#32
  let main_v2 : IVec S16x4096 32 := broadcastInDim S16x4096 ![] bcast_S_S16x4096 main_c_0
  let main_v3 : IVec S16x4096 1 := cmpi .slt main_arg1 main_v2
  let main_v4 : IVec S16x4096 1 := andi main_v1 main_v3
  let main_c_1 : IVec S_ 1 := constantI S_ 1 1#1
  let main_v5 : IVec S_ 1 := (fun x v => Host.reduce IntOp.andi x v reducesTo_S16x4096_S_d0_1 h_S_) main_v4 main_c_1
  main_v5
-- ==== Kernel.lean ====
abbrev S16x4096x256 : Shape := ⟨3, ![16, 4096, 256]⟩
abbrev S16x4096 : Shape := ⟨2, ![16, 4096]⟩
abbrev S16x256x256 : Shape := ⟨3, ![16, 256, 256]⟩
abbrev S4096 : Shape := ⟨1, ![4096]⟩
abbrev S256x128 : Shape := ⟨2, ![256, 128]⟩
abbrev S_ : Shape := ⟨0, ![]⟩
abbrev S1x4096 : Shape := ⟨2, ![1, 4096]⟩
abbrev S16 : Shape := ⟨1, ![16]⟩
abbrev S1x16 : Shape := ⟨2, ![1, 16]⟩
abbrev S1x256x128 : Shape := ⟨3, ![1, 256, 128]⟩
abbrev S1 : Shape := ⟨1, ![1]⟩

abbrev nBuf : Table → Nat
  | .hbm => 3
  | .local .scVector .vmem => 4
  | _ => 0

abbrev bufTy : (tb : Table) → Fin (nBuf tb) → BufTy
  | .hbm, ⟨0, _⟩ => ⟨S16x4096x256, .f32⟩
  | .hbm, ⟨1, _⟩ => ⟨S16x4096, .i32⟩
  | .hbm, ⟨2, _⟩ => ⟨S16x256x256, .f32⟩
  | .local .scVector .vmem, ⟨0, _⟩ => ⟨S4096, .i32⟩
  | .local .scVector .vmem, ⟨1, _⟩ => ⟨S256x128, .f32⟩
  | .local .scVector .vmem, ⟨2, _⟩ => ⟨S256x128, .f32⟩
  | .local .scVector .vmem, ⟨3, _⟩ => ⟨S256x128, .f32⟩
  | _, _ => ⟨S16x4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c0_i32_13_r0 : BitVec 32 := 0#32
  ![arg1.toNat, 0]
@[reducible] def k0_t1_loop : Scf.Loop 32 :=
  let c0_i32_0 : BitVec 32 := 0#32
  let c256_i32 : BitVec 32 := 256#32
  let v2 : BitVec 32 := Scalar.addi c0_i32_0 c256_i32
  let c1_i32 : BitVec 32 := 1#32
  ⟨c0_i32_0, v2, c1_i32⟩
def k0_off2 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v9 : Index := Scalar.indexCast arg11
  let c0 : Index := 0#32
  ![v9.toNat, 0]
def k0_off3 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v13 : Index := Scalar.indexCast arg11
  let c16 : Index := 16#32
  ![v13.toNat, 16]
def k0_off4 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v17 : Index := Scalar.indexCast arg11
  let c32 : Index := 32#32
  ![v17.toNat, 32]
def k0_off5 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v21 : Index := Scalar.indexCast arg11
  let c48 : Index := 48#32
  ![v21.toNat, 48]
def k0_off6 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v25 : Index := Scalar.indexCast arg11
  let c64 : Index := 64#32
  ![v25.toNat, 64]
def k0_off7 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v29 : Index := Scalar.indexCast arg11
  let c80 : Index := 80#32
  ![v29.toNat, 80]
def k0_off8 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v33 : Index := Scalar.indexCast arg11
  let c96 : Index := 96#32
  ![v33.toNat, 96]
def k0_off9 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let v37 : Index := Scalar.indexCast arg11
  let c112 : Index := 112#32
  ![v37.toNat, 112]
def k0_off10 (i : grid0.Coords) : Fin 3 → Nat :=
  let arg1 : BitVec 32 := BitVec.ofNat 32 (i 1).val
  let c0_i32_2 : BitVec 32 := 0#32
  let arg0 : BitVec 32 := BitVec.ofNat 32 (i 0).val
  let c128_i32 : BitVec 32 := 128#32
  let v0 : BitVec 32 := Scalar.muli arg0 c128_i32
  ![arg1.toNat, 0, v0.toNat]
@[reducible] def k0_t2_loop : Scf.Loop 32 :=
  let c0_i32_5 : BitVec 32 := 0#32
  let c8_i32 : BitVec 32 := 8#32
  let v7 : BitVec 32 := Scalar.addi c0_i32_5 c8_i32
  let c1_i32_6 : BitVec 32 := 1#32
  ⟨c0_i32_5, v7, c1_i32_6⟩
def k0_off11 (i : grid0.Coords) (k0_t2 : Fin k0_t2_loop.trips) : Fin 3 → Nat :=
  let arg1 : BitVec 32 := BitVec.ofNat 32 (i 1).val
  let c2_i32 : BitVec 32 := 2#32
  let c0_i32_5 : BitVec 32 := 0#32
  let c1_i32_6 : BitVec 32 := 1#32
  let arg11 : BitVec 32 := Scf.iv c0_i32_5 c1_i32_6 k0_t2
  let v9 : BitVec 32 := Scalar.muli c2_i32 arg11
  let c256_i32_13 : BitVec 32 := 256#32
  let v10 : BitVec 32 := Scalar.muli v9 c256_i32_13
  let arg0 : BitVec 32 := BitVec.ofNat 32 (i 0).val
  let c128_i32 : BitVec 32 := 128#32
  let v0 : BitVec 32 := Scalar.muli arg0 c128_i32
  ![arg1.toNat, v10.toNat, v0.toNat]
def k0_off12 (i : grid0.Coords) (k0_t2 : Fin k0_t2_loop.trips) : Fin 3 → Nat :=
  let arg1 : BitVec 32 := BitVec.ofNat 32 (i 1).val
  let c2_i32 : BitVec 32 := 2#32
  let c0_i32_5 : BitVec 32 := 0#32
  let c1_i32_6 : BitVec 32 := 1#32
  let arg11 : BitVec 32 := Scf.iv c0_i32_5 c1_i32_6 k0_t2
  let v9 : BitVec 32 := Scalar.muli c2_i32 arg11
  let c1_i32_14 : BitVec 32 := 1#32
  let v15 : BitVec 32 := Scalar.addi v9 c1_i32_14
  let c256_i32_15 : BitVec 32 := 256#32
  let v16 : BitVec 32 := Scalar.muli v15 c256_i32_15
  let arg0 : BitVec 32 := BitVec.ofNat 32 (i 0).val
  let c128_i32 : BitVec 32 := 128#32
  let v0 : BitVec 32 := Scalar.muli arg0 c128_i32
  ![arg1.toNat, v16.toNat, v0.toNat]
@[reducible] def k0_t3_loop : Scf.Loop 32 :=
  let c0_i32_18 : BitVec 32 := 0#32
  let c16_i32 : BitVec 32 := 16#32
  let v22 : BitVec 32 := Scalar.addi c0_i32_18 c16_i32
  let c1_i32_19 : BitVec 32 := 1#32
  ⟨c0_i32_18, v22, c1_i32_19⟩
def k0_off13 (k0_t2 : Fin k0_t2_loop.trips) (k0_t3 : Fin k0_t3_loop.trips) : Fin 1 → Nat :=
  let c2_i32 : BitVec 32 := 2#32
  let c0_i32_5 : BitVec 32 := 0#32
  let c1_i32_6 : BitVec 32 := 1#32
  let arg11 : BitVec 32 := Scf.iv c0_i32_5 c1_i32_6 k0_t2
  let v9 : BitVec 32 := Scalar.muli c2_i32 arg11
  let c256_i32_16 : BitVec 32 := 256#32
  let v21 : BitVec 32 := Scalar.muli v9 c256_i32_16
  let c0_i32_18 : BitVec 32 := 0#32
  let c1_i32_19 : BitVec 32 := 1#32
  let arg12 : BitVec 32 := Scf.iv c0_i32_18 c1_i32_19 k0_t3
  let c16_i32_31 : BitVec 32 := 16#32
  let v35 : BitVec 32 := Scalar.muli arg12 c16_i32_31
  let v36 : BitVec 32 := Scalar.addi v21 v35
  let v37 : Index := Scalar.indexCast v36
  ![v37.toNat]
def k0_off14 (v41 : BitVec 32) : Fin 2 → Nat :=
  let v44 : Index := Scalar.indexCast v41
  let c0 : Index := 0#32
  ![v44.toNat, 0]

def k0_off15 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_32 : BitVec 32 := 16#32
  let v42 : BitVec 32 := Scalar.muli arg12 c16_i32_32
  let c0_i32_33 : BitVec 32 := 0#32
  let v43 : BitVec 32 := Scalar.addi v42 c0_i32_33
  let v47 : Index := Scalar.indexCast v43
  let c0_34 : Index := 0#32
  ![v47.toNat, 0]
def k0_off16 (v41 : BitVec 32) : Fin 2 → Nat :=
  let v55 : Index := Scalar.indexCast v41
  let c16 : Index := 16#32
  ![v55.toNat, 16]
def k0_off17 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_32 : BitVec 32 := 16#32
  let v42 : BitVec 32 := Scalar.muli arg12 c16_i32_32
  let c0_i32_33 : BitVec 32 := 0#32
  let v43 : BitVec 32 := Scalar.addi v42 c0_i32_33
  let v58 : Index := Scalar.indexCast v43
  let c16_36 : Index := 16#32
  ![v58.toNat, 16]
def k0_off18 (v41 : BitVec 32) : Fin 2 → Nat :=
  let v66 : Index := Scalar.indexCast v41
  let c32 : Index := 32#32
  ![v66.toNat, 32]
def k0_off19 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_32 : BitVec 32 := 16#32
  let v42 : BitVec 32 := Scalar.muli arg12 c16_i32_32
  let c0_i32_33 : BitVec 32 := 0#32
  let v43 : BitVec 32 := Scalar.addi v42 c0_i32_33
  let v69 : Index := Scalar.indexCast v43
  let c32_38 : Index := 32#32
  ![v69.toNat, 32]
def k0_off20 (v41 : BitVec 32) : Fin 2 → Nat :=
  let v77 : Index := Scalar.indexCast v41
  let c48 : Index := 48#32
  ![v77.toNat, 48]
def k0_off21 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_32 : BitVec 32 := 16#32
  let v42 : BitVec 32 := Scalar.muli arg12 c16_i32_32
  let c0_i32_33 : BitVec 32 := 0#32
  let v43 : BitVec 32 := Scalar.addi v42 c0_i32_33
  let v80 : Index := Scalar.indexCast v43
  let c48_40 : Index := 48#32
  ![v80.toNat, 48]
def k0_off22 (v41 : BitVec 32) : Fin 2 → Nat :=
  let v88 : Index := Scalar.indexCast v41
  let c64 : Index := 64#32
  ![v88.toNat, 64]
def k0_off23 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_32 : BitVec 32 := 16#32
  let v42 : BitVec 32 := Scalar.muli arg12 c16_i32_32
  let c0_i32_33 : BitVec 32 := 0#32
  let v43 : BitVec 32 := Scalar.addi v42 c0_i32_33
  let v91 : Index := Scalar.indexCast v43
  let c64_42 : Index := 64#32
  ![v91.toNat, 64]
def k0_off24 (v41 : BitVec 32) : Fin 2 → Nat :=
  let v99 : Index := Scalar.indexCast v41
  let c80 : Index := 80#32
  ![v99.toNat, 80]
def k0_off25 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_32 : BitVec 32 := 16#32
  let v42 : BitVec 32 := Scalar.muli arg12 c16_i32_32
  let c0_i32_33 : BitVec 32 := 0#32
  let v43 : BitVec 32 := Scalar.addi v42 c0_i32_33
  let v102 : Index := Scalar.indexCast v43
  let c80_44 : Index := 80#32
  ![v102.toNat, 80]
def k0_off26 (v41 : BitVec 32) : Fin 2 → Nat :=
  let v110 : Index := Scalar.indexCast v41
  let c96 : Index := 96#32
  ![v110.toNat, 96]
def k0_off27 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_32 : BitVec 32 := 16#32
  let v42 : BitVec 32 := Scalar.muli arg12 c16_i32_32
  let c0_i32_33 : BitVec 32 := 0#32
  let v43 : BitVec 32 := Scalar.addi v42 c0_i32_33
  let v113 : Index := Scalar.indexCast v43
  let c96_46 : Index := 96#32
  ![v113.toNat, 96]
def k0_off28 (v41 : BitVec 32) : Fin 2 → Nat :=
  let v121 : Index := Scalar.indexCast v41
  let c112 : Index := 112#32
  ![v121.toNat, 112]

def k0_chk1 (v41 : BitVec 32) : Prop :=
  (∀ a, (k0_off14 v41) a + S1x16.size a ≤ S256x128.size a) ∧
  (∀ a, (k0_off16 v41) a + S1x16.size a ≤ S256x128.size a) ∧
  (∀ a, (k0_off18 v41) a + S1x16.size a ≤ S256x128.size a) ∧
  (∀ a, (k0_off20 v41) a + S1x16.size a ≤ S256x128.size a) ∧
  (∀ a, (k0_off22 v41) a + S1x16.size a ≤ S256x128.size a) ∧
  (∀ a, (k0_off24 v41) a + S1x16.size a ≤ S256x128.size a) ∧
  (∀ a, (k0_off26 v41) a + S1x16.size a ≤ S256x128.size a) ∧
  (∀ a, (k0_off28 v41) a + S1x16.size a ≤ S256x128.size a)
theorem k0_off14_inb : ∀ (v41 : BitVec 32) (k0_hw1 : k0_chk1 v41), ∀ a, (k0_off14 v41) a + S1x16.size a ≤ S256x128.size a := fun v41 k0_hw1 => k0_hw1.1
theorem k0_off16_inb : ∀ (v41 : BitVec 32) (k0_hw1 : k0_chk1 v41), ∀ a, (k0_off16 v41) a + S1x16.size a ≤ S256x128.size a := fun v41 k0_hw1 => k0_hw1.2.1
theorem k0_off18_inb : ∀ (v41 : BitVec 32) (k0_hw1 : k0_chk1 v41), ∀ a, (k0_off18 v41) a + S1x16.size a ≤ S256x128.size a := fun v41 k0_hw1 => k0_hw1.2.2.1
theorem k0_off20_inb : ∀ (v41 : BitVec 32) (k0_hw1 : k0_chk1 v41), ∀ a, (k0_off20 v41) a + S1x16.size a ≤ S256x128.size a := fun v41 k0_hw1 => k0_hw1.2.2.2.1
theorem k0_off22_inb : ∀ (v41 : BitVec 32) (k0_hw1 : k0_chk1 v41), ∀ a, (k0_off22 v41) a + S1x16.size a ≤ S256x128.size a := fun v41 k0_hw1 => k0_hw1.2.2.2.2.1
theorem k0_off24_inb : ∀ (v41 : BitVec 32) (k0_hw1 : k0_chk1 v41), ∀ a, (k0_off24 v41) a + S1x16.size a ≤ S256x128.size a := fun v41 k0_hw1 => k0_hw1.2.2.2.2.2.1
theorem k0_off26_inb : ∀ (v41 : BitVec 32) (k0_hw1 : k0_chk1 v41), ∀ a, (k0_off26 v41) a + S1x16.size a ≤ S256x128.size a := fun v41 k0_hw1 => k0_hw1.2.2.2.2.2.2.1
theorem k0_off28_inb : ∀ (v41 : BitVec 32) (k0_hw1 : k0_chk1 v41), ∀ a, (k0_off28 v41) a + S1x16.size a ≤ S256x128.size a := fun v41 k0_hw1 => k0_hw1.2.2.2.2.2.2.2

def k0_off29 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_32 : BitVec 32 := 16#32
  let v42 : BitVec 32 := Scalar.muli arg12 c16_i32_32
  let c0_i32_33 : BitVec 32 := 0#32
  let v43 : BitVec 32 := Scalar.addi v42 c0_i32_33
  let v124 : Index := Scalar.indexCast v43
  let c112_48 : Index := 112#32
  ![v124.toNat, 112]
def k0_off30 (v133 : BitVec 32) : Fin 2 → Nat :=
  let v136 : Index := Scalar.indexCast v133
  let c0_52 : Index := 0#32
  ![v136.toNat, 0]

def k0_off31 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_50 : BitVec 32 := 16#32
  let v134 : BitVec 32 := Scalar.muli arg12 c16_i32_50
  let c1_i32_51 : BitVec 32 := 1#32
  let v135 : BitVec 32 := Scalar.addi v134 c1_i32_51
  let v139 : Index := Scalar.indexCast v135
  let c0_53 : Index := 0#32
  ![v139.toNat, 0]
def k0_off32 (v133 : BitVec 32) : Fin 2 → Nat :=
  let v147 : Index := Scalar.indexCast v133
  let c16_55 : Index := 16#32
  ![v147.toNat, 16]
def k0_off33 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_50 : BitVec 32 := 16#32
  let v134 : BitVec 32 := Scalar.muli arg12 c16_i32_50
  let c1_i32_51 : BitVec 32 := 1#32
  let v135 : BitVec 32 := Scalar.addi v134 c1_i32_51
  let v150 : Index := Scalar.indexCast v135
  let c16_56 : Index := 16#32
  ![v150.toNat, 16]
def k0_off34 (v133 : BitVec 32) : Fin 2 → Nat :=
  let v158 : Index := Scalar.indexCast v133
  let c32_58 : Index := 32#32
  ![v158.toNat, 32]
def k0_off35 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_50 : BitVec 32 := 16#32
  let v134 : BitVec 32 := Scalar.muli arg12 c16_i32_50
  let c1_i32_51 : BitVec 32 := 1#32
  let v135 : BitVec 32 := Scalar.addi v134 c1_i32_51
  let v161 : Index := Scalar.indexCast v135
  let c32_59 : Index := 32#32
  ![v161.toNat, 32]
def k0_off36 (v133 : BitVec 32) : Fin 2 → Nat :=
  let v169 : Index := Scalar.indexCast v133
  let c48_61 : Index := 48#32
  ![v169.toNat, 48]
def k0_off37 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_50 : BitVec 32 := 16#32
  let v134 : BitVec 32 := Scalar.muli arg12 c16_i32_50
  let c1_i32_51 : BitVec 32 := 1#32
  let v135 : BitVec 32 := Scalar.addi v134 c1_i32_51
  let v172 : Index := Scalar.indexCast v135
  let c48_62 : Index := 48#32
  ![v172.toNat, 48]
def k0_off38 (v133 : BitVec 32) : Fin 2 → Nat :=
  let v180 : Index := Scalar.indexCast v133
  let c64_64 : Index := 64#32
  ![v180.toNat, 64]
def k0_off39 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_50 : BitVec 32 := 16#32
  let v134 : BitVec 32 := Scalar.muli arg12 c16_i32_50
  let c1_i32_51 : BitVec 32 := 1#32
  let v135 : BitVec 32 := Scalar.addi v134 c1_i32_51
  let v183 : Index := Scalar.indexCast v135
  let c64_65 : Index := 64#32
  ![v183.toNat, 64]
def k0_off40 (v133 : BitVec 32) : Fin 2 → Nat :=
  let v191 : Index := Scalar.indexCast v133
  let c80_67 : Index := 80#32
  ![v191.toNat, 80]
def k0_off41 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_50 : BitVec 32 := 16#32
  let v134 : BitVec 32 := Scalar.muli arg12 c16_i32_50
  let c1_i32_51 : BitVec 32 := 1#32
  let v135 : BitVec 32 := Scalar.addi v134 c1_i32_51
  let v194 : Index := Scalar.indexCast v135
  let c80_68 : Index := 80#32
  ![v194.toNat, 80]
def k0_off42 (v133 : BitVec 32) : Fin 2 → Nat :=
  let v202 : Index := Scalar.indexCast v133
  let c96_70 : Index := 96#32
  ![v202.toNat, 96]
def k0_off43 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_50 : BitVec 32 := 16#32
  let v134 : BitVec 32 := Scalar.muli arg12 c16_i32_50
  let c1_i32_51 : BitVec 32 := 1#32
  let v135 : BitVec 32 := Scalar.addi v134 c1_i32_51
  let v205 : Index := Scalar.indexCast v135
  let c96_71 : Index := 96#32
  ![v205.toNat, 96]
def k0_off44 (v133 : BitVec 32) : Fin 2 → Nat :=
  let v213 : Index := Scalar.indexCast v133
  let c112_73 : Index := 112#32
  ![v213.toNat, 112]

def k0_chk2 (v133 : BitVec 32) : Prop :=
  (∀ a, (k0_off30 v133) a + S1x16.size a ≤ S256x128.size a) ∧
  (∀ a, (k0_off32 v133) a + S1x16.size a ≤ S256x128.size a) ∧
  (∀ a, (k0_off34 v133) a + S1x16.size a ≤ S256x128.size a) ∧
  (∀ a, (k0_off36 v133) a + S1x16.size a ≤ S256x128.size a) ∧
  (∀ a, (k0_off38 v133) a + S1x16.size a ≤ S256x128.size a) ∧
  (∀ a, (k0_off40 v133) a + S1x16.size a ≤ S256x128.size a) ∧
  (∀ a, (k0_off42 v133) a + S1x16.size a ≤ S256x128.size a) ∧
  (∀ a, (k0_off44 v133) a + S1x16.size a ≤ S256x128.size a)
theorem k0_off30_inb : ∀ (v133 : BitVec 32) (k0_hw2 : k0_chk2 v133), ∀ a, (k0_off30 v133) a + S1x16.size a ≤ S256x128.size a := fun v133 k0_hw2 => k0_hw2.1
theorem k0_off32_inb : ∀ (v133 : BitVec 32) (k0_hw2 : k0_chk2 v133), ∀ a, (k0_off32 v133) a + S1x16.size a ≤ S256x128.size a := fun v133 k0_hw2 => k0_hw2.2.1
theorem k0_off34_inb : ∀ (v133 : BitVec 32) (k0_hw2 : k0_chk2 v133), ∀ a, (k0_off34 v133) a + S1x16.size a ≤ S256x128.size a := fun v133 k0_hw2 => k0_hw2.2.2.1
theorem k0_off36_inb : ∀ (v133 : BitVec 32) (k0_hw2 : k0_chk2 v133), ∀ a, (k0_off36 v133) a + S1x16.size a ≤ S256x128.size a := fun v133 k0_hw2 => k0_hw2.2.2.2.1
theorem k0_off38_inb : ∀ (v133 : BitVec 32) (k0_hw2 : k0_chk2 v133), ∀ a, (k0_off38 v133) a + S1x16.size a ≤ S256x128.size a := fun v133 k0_hw2 => k0_hw2.2.2.2.2.1
theorem k0_off40_inb : ∀ (v133 : BitVec 32) (k0_hw2 : k0_chk2 v133), ∀ a, (k0_off40 v133) a + S1x16.size a ≤ S256x128.size a := fun v133 k0_hw2 => k0_hw2.2.2.2.2.2.1
theorem k0_off42_inb : ∀ (v133 : BitVec 32) (k0_hw2 : k0_chk2 v133), ∀ a, (k0_off42 v133) a + S1x16.size a ≤ S256x128.size a := fun v133 k0_hw2 => k0_hw2.2.2.2.2.2.2.1
theorem k0_off44_inb : ∀ (v133 : BitVec 32) (k0_hw2 : k0_chk2 v133), ∀ a, (k0_off44 v133) a + S1x16.size a ≤ S256x128.size a := fun v133 k0_hw2 => k0_hw2.2.2.2.2.2.2.2

def k0_off45 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_50 : BitVec 32 := 16#32
  let v134 : BitVec 32 := Scalar.muli arg12 c16_i32_50
  let c1_i32_51 : BitVec 32 := 1#32
  let v135 : BitVec 32 := Scalar.addi v134 c1_i32_51
  let v216 : Index := Scalar.indexCast v135
  let c112_74 : Index := 112#32
  ![v216.toNat, 112]
def k0_off46 (v225 : BitVec 32) : Fin 2 → Nat :=
  let v228 : Index := Scalar.indexCast v225
  let c0_78 : Index := 0#32
  ![v228.toNat, 0]

def k0_off47 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_76 : BitVec 32 := 16#32
  let v226 : BitVec 32 := Scalar.muli arg12 c16_i32_76
  let c2_i32_77 : BitVec 32 := 2#32
  let v227 : BitVec 32 := Scalar.addi v226 c2_i32_77
  let v231 : Index := Scalar.indexCast v227
  let c0_79 : Index := 0#32
  ![v231.toNat, 0]
def k0_off48 (v225 : BitVec 32) : Fin 2 → Nat :=
  let v239 : Index := Scalar.indexCast v225
  let c16_81 : Index := 16#32
  ![v239.toNat, 16]
def k0_off49 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_76 : BitVec 32 := 16#32
  let v226 : BitVec 32 := Scalar.muli arg12 c16_i32_76
  let c2_i32_77 : BitVec 32 := 2#32
  let v227 : BitVec 32 := Scalar.addi v226 c2_i32_77
  let v242 : Index := Scalar.indexCast v227
  let c16_82 : Index := 16#32
  ![v242.toNat, 16]
def k0_off50 (v225 : BitVec 32) : Fin 2 → Nat :=
  let v250 : Index := Scalar.indexCast v225
  let c32_84 : Index := 32#32
  ![v250.toNat, 32]
def k0_off51 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_76 : BitVec 32 := 16#32
  let v226 : BitVec 32 := Scalar.muli arg12 c16_i32_76
  let c2_i32_77 : BitVec 32 := 2#32
  let v227 : BitVec 32 := Scalar.addi v226 c2_i32_77
  let v253 : Index := Scalar.indexCast v227
  let c32_85 : Index := 32#32
  ![v253.toNat, 32]
def k0_off52 (v225 : BitVec 32) : Fin 2 → Nat :=
  let v261 : Index := Scalar.indexCast v225
  let c48_87 : Index := 48#32
  ![v261.toNat, 48]
def k0_off53 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_76 : BitVec 32 := 16#32
  let v226 : BitVec 32 := Scalar.muli arg12 c16_i32_76
  let c2_i32_77 : BitVec 32 := 2#32
  let v227 : BitVec 32 := Scalar.addi v226 c2_i32_77
  let v264 : Index := Scalar.indexCast v227
  let c48_88 : Index := 48#32
  ![v264.toNat, 48]
def k0_off54 (v225 : BitVec 32) : Fin 2 → Nat :=
  let v272 : Index := Scalar.indexCast v225
  let c64_90 : Index := 64#32
  ![v272.toNat, 64]
def k0_off55 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_76 : BitVec 32 := 16#32
  let v226 : BitVec 32 := Scalar.muli arg12 c16_i32_76
  let c2_i32_77 : BitVec 32 := 2#32
  let v227 : BitVec 32 := Scalar.addi v226 c2_i32_77
  let v275 : Index := Scalar.indexCast v227
  let c64_91 : Index := 64#32
  ![v275.toNat, 64]
def k0_off56 (v225 : BitVec 32) : Fin 2 → Nat :=
  let v283 : Index := Scalar.indexCast v225
  let c80_93 : Index := 80#32
  ![v283.toNat, 80]
def k0_off57 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_76 : BitVec 32 := 16#32
  let v226 : BitVec 32 := Scalar.muli arg12 c16_i32_76
  let c2_i32_77 : BitVec 32 := 2#32
  let v227 : BitVec 32 := Scalar.addi v226 c2_i32_77
  let v286 : Index := Scalar.indexCast v227
  let c80_94 : Index := 80#32
  ![v286.toNat, 80]
def k0_off58 (v225 : BitVec 32) : Fin 2 → Nat :=
  let v294 : Index := Scalar.indexCast v225
  let c96_96 : Index := 96#32
  ![v294.toNat, 96]
def k0_off59 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_76 : BitVec 32 := 16#32
  let v226 : BitVec 32 := Scalar.muli arg12 c16_i32_76
  let c2_i32_77 : BitVec 32 := 2#32
  let v227 : BitVec 32 := Scalar.addi v226 c2_i32_77
  let v297 : Index := Scalar.indexCast v227
  let c96_97 : Index := 96#32
  ![v297.toNat, 96]
def k0_off60 (v225 : BitVec 32) : Fin 2 → Nat :=
  let v305 : Index := Scalar.indexCast v225
  let c112_99 : Index := 112#32
  ![v305.toNat, 112]

def k0_chk3 (v225 : BitVec 32) : Prop :=
  (∀ a, (k0_off46 v225) a + S1x16.size a ≤ S256x128.size a) ∧
  (∀ a, (k0_off48 v225) a + S1x16.size a ≤ S256x128.size a) ∧
  (∀ a, (k0_off50 v225) a + S1x16.size a ≤ S256x128.size a) ∧
  (∀ a, (k0_off52 v225) a + S1x16.size a ≤ S256x128.size a) ∧
  (∀ a, (k0_off54 v225) a + S1x16.size a ≤ S256x128.size a) ∧
  (∀ a, (k0_off56 v225) a + S1x16.size a ≤ S256x128.size a) ∧
  (∀ a, (k0_off58 v225) a + S1x16.size a ≤ S256x128.size a) ∧
  (∀ a, (k0_off60 v225) a + S1x16.size a ≤ S256x128.size a)
theorem k0_off46_inb : ∀ (v225 : BitVec 32) (k0_hw3 : k0_chk3 v225), ∀ a, (k0_off46 v225) a + S1x16.size a ≤ S256x128.size a := fun v225 k0_hw3 => k0_hw3.1
theorem k0_off48_inb : ∀ (v225 : BitVec 32) (k0_hw3 : k0_chk3 v225), ∀ a, (k0_off48 v225) a + S1x16.size a ≤ S256x128.size a := fun v225 k0_hw3 => k0_hw3.2.1
theorem k0_off50_inb : ∀ (v225 : BitVec 32) (k0_hw3 : k0_chk3 v225), ∀ a, (k0_off50 v225) a + S1x16.size a ≤ S256x128.size a := fun v225 k0_hw3 => k0_hw3.2.2.1
theorem k0_off52_inb : ∀ (v225 : BitVec 32) (k0_hw3 : k0_chk3 v225), ∀ a, (k0_off52 v225) a + S1x16.size a ≤ S256x128.size a := fun v225 k0_hw3 => k0_hw3.2.2.2.1
theorem k0_off54_inb : ∀ (v225 : BitVec 32) (k0_hw3 : k0_chk3 v225), ∀ a, (k0_off54 v225) a + S1x16.size a ≤ S256x128.size a := fun v225 k0_hw3 => k0_hw3.2.2.2.2.1
theorem k0_off56_inb : ∀ (v225 : BitVec 32) (k0_hw3 : k0_chk3 v225), ∀ a, (k0_off56 v225) a + S1x16.size a ≤ S256x128.size a := fun v225 k0_hw3 => k0_hw3.2.2.2.2.2.1
theorem k0_off58_inb : ∀ (v225 : BitVec 32) (k0_hw3 : k0_chk3 v225), ∀ a, (k0_off58 v225) a + S1x16.size a ≤ S256x128.size a := fun v225 k0_hw3 => k0_hw3.2.2.2.2.2.2.1
theorem k0_off60_inb : ∀ (v225 : BitVec 32) (k0_hw3 : k0_chk3 v225), ∀ a, (k0_off60 v225) a + S1x16.size a ≤ S256x128.size a := fun v225 k0_hw3 => k0_hw3.2.2.2.2.2.2.2

def k0_off61 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_76 : BitVec 32 := 16#32
  let v226 : BitVec 32 := Scalar.muli arg12 c16_i32_76
  let c2_i32_77 : BitVec 32 := 2#32
  let v227 : BitVec 32 := Scalar.addi v226 c2_i32_77
  let v308 : Index := Scalar.indexCast v227
  let c112_100 : Index := 112#32
  ![v308.toNat, 112]
def k0_off62 (v317 : BitVec 32) : Fin 2 → Nat :=
  let v320 : Index := Scalar.indexCast v317
  let c0_103 : Index := 0#32
  ![v320.toNat, 0]

def k0_off63 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_102 : BitVec 32 := 16#32
  let v318 : BitVec 32 := Scalar.muli arg12 c16_i32_102
  let c3_i32 : BitVec 32 := 3#32
  let v319 : BitVec 32 := Scalar.addi v318 c3_i32
  let v323 : Index := Scalar.indexCast v319
  let c0_104 : Index := 0#32
  ![v323.toNat, 0]
def k0_off64 (v317 : BitVec 32) : Fin 2 → Nat :=
  let v331 : Index := Scalar.indexCast v317
  let c16_106 : Index := 16#32
  ![v331.toNat, 16]
def k0_off65 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_102 : BitVec 32 := 16#32
  let v318 : BitVec 32 := Scalar.muli arg12 c16_i32_102
  let c3_i32 : BitVec 32 := 3#32
  let v319 : BitVec 32 := Scalar.addi v318 c3_i32
  let v334 : Index := Scalar.indexCast v319
  let c16_107 : Index := 16#32
  ![v334.toNat, 16]
def k0_off66 (v317 : BitVec 32) : Fin 2 → Nat :=
  let v342 : Index := Scalar.indexCast v317
  let c32_109 : Index := 32#32
  ![v342.toNat, 32]
def k0_off67 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_102 : BitVec 32 := 16#32
  let v318 : BitVec 32 := Scalar.muli arg12 c16_i32_102
  let c3_i32 : BitVec 32 := 3#32
  let v319 : BitVec 32 := Scalar.addi v318 c3_i32
  let v345 : Index := Scalar.indexCast v319
  let c32_110 : Index := 32#32
  ![v345.toNat, 32]
def k0_off68 (v317 : BitVec 32) : Fin 2 → Nat :=
  let v353 : Index := Scalar.indexCast v317
  let c48_112 : Index := 48#32
  ![v353.toNat, 48]
def k0_off69 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_102 : BitVec 32 := 16#32
  let v318 : BitVec 32 := Scalar.muli arg12 c16_i32_102
  let c3_i32 : BitVec 32 := 3#32
  let v319 : BitVec 32 := Scalar.addi v318 c3_i32
  let v356 : Index := Scalar.indexCast v319
  let c48_113 : Index := 48#32
  ![v356.toNat, 48]
def k0_off70 (v317 : BitVec 32) : Fin 2 → Nat :=
  let v364 : Index := Scalar.indexCast v317
  let c64_115 : Index := 64#32
  ![v364.toNat, 64]
def k0_off71 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_102 : BitVec 32 := 16#32
  let v318 : BitVec 32 := Scalar.muli arg12 c16_i32_102
  let c3_i32 : BitVec 32 := 3#32
  let v319 : BitVec 32 := Scalar.addi v318 c3_i32
  let v367 : Index := Scalar.indexCast v319
  let c64_116 : Index := 64#32
  ![v367.toNat, 64]
def k0_off72 (v317 : BitVec 32) : Fin 2 → Nat :=
  let v375 : Index := Scalar.indexCast v317
  let c80_118 : Index := 80#32
  ![v375.toNat, 80]
def k0_off73 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_102 : BitVec 32 := 16#32
  let v318 : BitVec 32 := Scalar.muli arg12 c16_i32_102
  let c3_i32 : BitVec 32 := 3#32
  let v319 : BitVec 32 := Scalar.addi v318 c3_i32
  let v378 : Index := Scalar.indexCast v319
  let c80_119 : Index := 80#32
  ![v378.toNat, 80]
def k0_off74 (v317 : BitVec 32) : Fin 2 → Nat :=
  let v386 : Index := Scalar.indexCast v317
  let c96_121 : Index := 96#32
  ![v386.toNat, 96]
def k0_off75 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_102 : BitVec 32 := 16#32
  let v318 : BitVec 32 := Scalar.muli arg12 c16_i32_102
  let c3_i32 : BitVec 32 := 3#32
  let v319 : BitVec 32 := Scalar.addi v318 c3_i32
  let v389 : Index := Scalar.indexCast v319
  let c96_122 : Index := 96#32
  ![v389.toNat, 96]
def k0_off76 (v317 : BitVec 32) : Fin 2 → Nat :=
  let v397 : Index := Scalar.indexCast v317
  let c112_124 : Index := 112#32
  ![v397.toNat, 112]

def k0_chk4 (v317 : BitVec 32) : Prop :=
  (∀ a, (k0_off62 v317) a + S1x16.size a ≤ S256x128.size a) ∧
  (∀ a, (k0_off64 v317) a + S1x16.size a ≤ S256x128.size a) ∧
  (∀ a, (k0_off66 v317) a + S1x16.size a ≤ S256x128.size a) ∧
  (∀ a, (k0_off68 v317) a + S1x16.size a ≤ S256x128.size a) ∧
  (∀ a, (k0_off70 v317) a + S1x16.size a ≤ S256x128.size a) ∧
  (∀ a, (k0_off72 v317) a + S1x16.size a ≤ S256x128.size a) ∧
  (∀ a, (k0_off74 v317) a + S1x16.size a ≤ S256x128.size a) ∧
  (∀ a, (k0_off76 v317) a + S1x16.size a ≤ S256x128.size a)
theorem k0_off62_inb : ∀ (v317 : BitVec 32) (k0_hw4 : k0_chk4 v317), ∀ a, (k0_off62 v317) a + S1x16.size a ≤ S256x128.size a := fun v317 k0_hw4 => k0_hw4.1
theorem k0_off64_inb : ∀ (v317 : BitVec 32) (k0_hw4 : k0_chk4 v317), ∀ a, (k0_off64 v317) a + S1x16.size a ≤ S256x128.size a := fun v317 k0_hw4 => k0_hw4.2.1
theorem k0_off66_inb : ∀ (v317 : BitVec 32) (k0_hw4 : k0_chk4 v317), ∀ a, (k0_off66 v317) a + S1x16.size a ≤ S256x128.size a := fun v317 k0_hw4 => k0_hw4.2.2.1
theorem k0_off68_inb : ∀ (v317 : BitVec 32) (k0_hw4 : k0_chk4 v317), ∀ a, (k0_off68 v317) a + S1x16.size a ≤ S256x128.size a := fun v317 k0_hw4 => k0_hw4.2.2.2.1
theorem k0_off70_inb : ∀ (v317 : BitVec 32) (k0_hw4 : k0_chk4 v317), ∀ a, (k0_off70 v317) a + S1x16.size a ≤ S256x128.size a := fun v317 k0_hw4 => k0_hw4.2.2.2.2.1
theorem k0_off72_inb : ∀ (v317 : BitVec 32) (k0_hw4 : k0_chk4 v317), ∀ a, (k0_off72 v317) a + S1x16.size a ≤ S256x128.size a := fun v317 k0_hw4 => k0_hw4.2.2.2.2.2.1
theorem k0_off74_inb : ∀ (v317 : BitVec 32) (k0_hw4 : k0_chk4 v317), ∀ a, (k0_off74 v317) a + S1x16.size a ≤ S256x128.size a := fun v317 k0_hw4 => k0_hw4.2.2.2.2.2.2.1
theorem k0_off76_inb : ∀ (v317 : BitVec 32) (k0_hw4 : k0_chk4 v317), ∀ a, (k0_off76 v317) a + S1x16.size a ≤ S256x128.size a := fun v317 k0_hw4 => k0_hw4.2.2.2.2.2.2.2

def k0_off77 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_102 : BitVec 32 := 16#32
  let v318 : BitVec 32 := Scalar.muli arg12 c16_i32_102
  let c3_i32 : BitVec 32 := 3#32
  let v319 : BitVec 32 := Scalar.addi v318 c3_i32
  let v400 : Index := Scalar.indexCast v319
  let c112_125 : Index := 112#32
  ![v400.toNat, 112]
def k0_off78 (v409 : BitVec 32) : Fin 2 → Nat :=
  let v412 : Index := Scalar.indexCast v409
  let c0_128 : Index := 0#32
  ![v412.toNat, 0]

def k0_off79 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_127 : BitVec 32 := 16#32
  let v410 : BitVec 32 := Scalar.muli arg12 c16_i32_127
  let c4_i32 : BitVec 32 := 4#32
  let v411 : BitVec 32 := Scalar.addi v410 c4_i32
  let v415 : Index := Scalar.indexCast v411
  let c0_129 : Index := 0#32
  ![v415.toNat, 0]
def k0_off80 (v409 : BitVec 32) : Fin 2 → Nat :=
  let v423 : Index := Scalar.indexCast v409
  let c16_131 : Index := 16#32
  ![v423.toNat, 16]
def k0_off81 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_127 : BitVec 32 := 16#32
  let v410 : BitVec 32 := Scalar.muli arg12 c16_i32_127
  let c4_i32 : BitVec 32 := 4#32
  let v411 : BitVec 32 := Scalar.addi v410 c4_i32
  let v426 : Index := Scalar.indexCast v411
  let c16_132 : Index := 16#32
  ![v426.toNat, 16]
def k0_off82 (v409 : BitVec 32) : Fin 2 → Nat :=
  let v434 : Index := Scalar.indexCast v409
  let c32_134 : Index := 32#32
  ![v434.toNat, 32]
def k0_off83 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_127 : BitVec 32 := 16#32
  let v410 : BitVec 32 := Scalar.muli arg12 c16_i32_127
  let c4_i32 : BitVec 32 := 4#32
  let v411 : BitVec 32 := Scalar.addi v410 c4_i32
  let v437 : Index := Scalar.indexCast v411
  let c32_135 : Index := 32#32
  ![v437.toNat, 32]
def k0_off84 (v409 : BitVec 32) : Fin 2 → Nat :=
  let v445 : Index := Scalar.indexCast v409
  let c48_137 : Index := 48#32
  ![v445.toNat, 48]
def k0_off85 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_127 : BitVec 32 := 16#32
  let v410 : BitVec 32 := Scalar.muli arg12 c16_i32_127
  let c4_i32 : BitVec 32 := 4#32
  let v411 : BitVec 32 := Scalar.addi v410 c4_i32
  let v448 : Index := Scalar.indexCast v411
  let c48_138 : Index := 48#32
  ![v448.toNat, 48]
def k0_off86 (v409 : BitVec 32) : Fin 2 → Nat :=
  let v456 : Index := Scalar.indexCast v409
  let c64_140 : Index := 64#32
  ![v456.toNat, 64]
def k0_off87 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_127 : BitVec 32 := 16#32
  let v410 : BitVec 32 := Scalar.muli arg12 c16_i32_127
  let c4_i32 : BitVec 32 := 4#32
  let v411 : BitVec 32 := Scalar.addi v410 c4_i32
  let v459 : Index := Scalar.indexCast v411
  let c64_141 : Index := 64#32
  ![v459.toNat, 64]
def k0_off88 (v409 : BitVec 32) : Fin 2 → Nat :=
  let v467 : Index := Scalar.indexCast v409
  let c80_143 : Index := 80#32
  ![v467.toNat, 80]
def k0_off89 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_127 : BitVec 32 := 16#32
  let v410 : BitVec 32 := Scalar.muli arg12 c16_i32_127
  let c4_i32 : BitVec 32 := 4#32
  let v411 : BitVec 32 := Scalar.addi v410 c4_i32
  let v470 : Index := Scalar.indexCast v411
  let c80_144 : Index := 80#32
  ![v470.toNat, 80]
def k0_off90 (v409 : BitVec 32) : Fin 2 → Nat :=
  let v478 : Index := Scalar.indexCast v409
  let c96_146 : Index := 96#32
  ![v478.toNat, 96]
def k0_off91 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_127 : BitVec 32 := 16#32
  let v410 : BitVec 32 := Scalar.muli arg12 c16_i32_127
  let c4_i32 : BitVec 32 := 4#32
  let v411 : BitVec 32 := Scalar.addi v410 c4_i32
  let v481 : Index := Scalar.indexCast v411
  let c96_147 : Index := 96#32
  ![v481.toNat, 96]
def k0_off92 (v409 : BitVec 32) : Fin 2 → Nat :=
  let v489 : Index := Scalar.indexCast v409
  let c112_149 : Index := 112#32
  ![v489.toNat, 112]

def k0_chk5 (v409 : BitVec 32) : Prop :=
  (∀ a, (k0_off78 v409) a + S1x16.size a ≤ S256x128.size a) ∧
  (∀ a, (k0_off80 v409) a + S1x16.size a ≤ S256x128.size a) ∧
  (∀ a, (k0_off82 v409) a + S1x16.size a ≤ S256x128.size a) ∧
  (∀ a, (k0_off84 v409) a + S1x16.size a ≤ S256x128.size a) ∧
  (∀ a, (k0_off86 v409) a + S1x16.size a ≤ S256x128.size a) ∧
  (∀ a, (k0_off88 v409) a + S1x16.size a ≤ S256x128.size a) ∧
  (∀ a, (k0_off90 v409) a + S1x16.size a ≤ S256x128.size a) ∧
  (∀ a, (k0_off92 v409) a + S1x16.size a ≤ S256x128.size a)
theorem k0_off78_inb : ∀ (v409 : BitVec 32) (k0_hw5 : k0_chk5 v409), ∀ a, (k0_off78 v409) a + S1x16.size a ≤ S256x128.size a := fun v409 k0_hw5 => k0_hw5.1
theorem k0_off80_inb : ∀ (v409 : BitVec 32) (k0_hw5 : k0_chk5 v409), ∀ a, (k0_off80 v409) a + S1x16.size a ≤ S256x128.size a := fun v409 k0_hw5 => k0_hw5.2.1
theorem k0_off82_inb : ∀ (v409 : BitVec 32) (k0_hw5 : k0_chk5 v409), ∀ a, (k0_off82 v409) a + S1x16.size a ≤ S256x128.size a := fun v409 k0_hw5 => k0_hw5.2.2.1
theorem k0_off84_inb : ∀ (v409 : BitVec 32) (k0_hw5 : k0_chk5 v409), ∀ a, (k0_off84 v409) a + S1x16.size a ≤ S256x128.size a := fun v409 k0_hw5 => k0_hw5.2.2.2.1
theorem k0_off86_inb : ∀ (v409 : BitVec 32) (k0_hw5 : k0_chk5 v409), ∀ a, (k0_off86 v409) a + S1x16.size a ≤ S256x128.size a := fun v409 k0_hw5 => k0_hw5.2.2.2.2.1
theorem k0_off88_inb : ∀ (v409 : BitVec 32) (k0_hw5 : k0_chk5 v409), ∀ a, (k0_off88 v409) a + S1x16.size a ≤ S256x128.size a := fun v409 k0_hw5 => k0_hw5.2.2.2.2.2.1
theorem k0_off90_inb : ∀ (v409 : BitVec 32) (k0_hw5 : k0_chk5 v409), ∀ a, (k0_off90 v409) a + S1x16.size a ≤ S256x128.size a := fun v409 k0_hw5 => k0_hw5.2.2.2.2.2.2.1
theorem k0_off92_inb : ∀ (v409 : BitVec 32) (k0_hw5 : k0_chk5 v409), ∀ a, (k0_off92 v409) a + S1x16.size a ≤ S256x128.size a := fun v409 k0_hw5 => k0_hw5.2.2.2.2.2.2.2

def k0_off93 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_127 : BitVec 32 := 16#32
  let v410 : BitVec 32 := Scalar.muli arg12 c16_i32_127
  let c4_i32 : BitVec 32 := 4#32
  let v411 : BitVec 32 := Scalar.addi v410 c4_i32
  let v492 : Index := Scalar.indexCast v411
  let c112_150 : Index := 112#32
  ![v492.toNat, 112]
def k0_off94 (v501 : BitVec 32) : Fin 2 → Nat :=
  let v504 : Index := Scalar.indexCast v501
  let c0_153 : Index := 0#32
  ![v504.toNat, 0]

def k0_off95 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_152 : BitVec 32 := 16#32
  let v502 : BitVec 32 := Scalar.muli arg12 c16_i32_152
  let c5_i32 : BitVec 32 := 5#32
  let v503 : BitVec 32 := Scalar.addi v502 c5_i32
  let v507 : Index := Scalar.indexCast v503
  let c0_154 : Index := 0#32
  ![v507.toNat, 0]
def k0_off96 (v501 : BitVec 32) : Fin 2 → Nat :=
  let v515 : Index := Scalar.indexCast v501
  let c16_156 : Index := 16#32
  ![v515.toNat, 16]
def k0_off97 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_152 : BitVec 32 := 16#32
  let v502 : BitVec 32 := Scalar.muli arg12 c16_i32_152
  let c5_i32 : BitVec 32 := 5#32
  let v503 : BitVec 32 := Scalar.addi v502 c5_i32
  let v518 : Index := Scalar.indexCast v503
  let c16_157 : Index := 16#32
  ![v518.toNat, 16]
def k0_off98 (v501 : BitVec 32) : Fin 2 → Nat :=
  let v526 : Index := Scalar.indexCast v501
  let c32_159 : Index := 32#32
  ![v526.toNat, 32]
def k0_off99 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_152 : BitVec 32 := 16#32
  let v502 : BitVec 32 := Scalar.muli arg12 c16_i32_152
  let c5_i32 : BitVec 32 := 5#32
  let v503 : BitVec 32 := Scalar.addi v502 c5_i32
  let v529 : Index := Scalar.indexCast v503
  let c32_160 : Index := 32#32
  ![v529.toNat, 32]
def k0_off100 (v501 : BitVec 32) : Fin 2 → Nat :=
  let v537 : Index := Scalar.indexCast v501
  let c48_162 : Index := 48#32
  ![v537.toNat, 48]
def k0_off101 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_152 : BitVec 32 := 16#32
  let v502 : BitVec 32 := Scalar.muli arg12 c16_i32_152
  let c5_i32 : BitVec 32 := 5#32
  let v503 : BitVec 32 := Scalar.addi v502 c5_i32
  let v540 : Index := Scalar.indexCast v503
  let c48_163 : Index := 48#32
  ![v540.toNat, 48]
def k0_off102 (v501 : BitVec 32) : Fin 2 → Nat :=
  let v548 : Index := Scalar.indexCast v501
  let c64_165 : Index := 64#32
  ![v548.toNat, 64]
def k0_off103 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_152 : BitVec 32 := 16#32
  let v502 : BitVec 32 := Scalar.muli arg12 c16_i32_152
  let c5_i32 : BitVec 32 := 5#32
  let v503 : BitVec 32 := Scalar.addi v502 c5_i32
  let v551 : Index := Scalar.indexCast v503
  let c64_166 : Index := 64#32
  ![v551.toNat, 64]
def k0_off104 (v501 : BitVec 32) : Fin 2 → Nat :=
  let v559 : Index := Scalar.indexCast v501
  let c80_168 : Index := 80#32
  ![v559.toNat, 80]
def k0_off105 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_152 : BitVec 32 := 16#32
  let v502 : BitVec 32 := Scalar.muli arg12 c16_i32_152
  let c5_i32 : BitVec 32 := 5#32
  let v503 : BitVec 32 := Scalar.addi v502 c5_i32
  let v562 : Index := Scalar.indexCast v503
  let c80_169 : Index := 80#32
  ![v562.toNat, 80]
def k0_off106 (v501 : BitVec 32) : Fin 2 → Nat :=
  let v570 : Index := Scalar.indexCast v501
  let c96_171 : Index := 96#32
  ![v570.toNat, 96]
def k0_off107 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_152 : BitVec 32 := 16#32
  let v502 : BitVec 32 := Scalar.muli arg12 c16_i32_152
  let c5_i32 : BitVec 32 := 5#32
  let v503 : BitVec 32 := Scalar.addi v502 c5_i32
  let v573 : Index := Scalar.indexCast v503
  let c96_172 : Index := 96#32
  ![v573.toNat, 96]
def k0_off108 (v501 : BitVec 32) : Fin 2 → Nat :=
  let v581 : Index := Scalar.indexCast v501
  let c112_174 : Index := 112#32
  ![v581.toNat, 112]

def k0_chk6 (v501 : BitVec 32) : Prop :=
  (∀ a, (k0_off94 v501) a + S1x16.size a ≤ S256x128.size a) ∧
  (∀ a, (k0_off96 v501) a + S1x16.size a ≤ S256x128.size a) ∧
  (∀ a, (k0_off98 v501) a + S1x16.size a ≤ S256x128.size a) ∧
  (∀ a, (k0_off100 v501) a + S1x16.size a ≤ S256x128.size a) ∧
  (∀ a, (k0_off102 v501) a + S1x16.size a ≤ S256x128.size a) ∧
  (∀ a, (k0_off104 v501) a + S1x16.size a ≤ S256x128.size a) ∧
  (∀ a, (k0_off106 v501) a + S1x16.size a ≤ S256x128.size a) ∧
  (∀ a, (k0_off108 v501) a + S1x16.size a ≤ S256x128.size a)
theorem k0_off94_inb : ∀ (v501 : BitVec 32) (k0_hw6 : k0_chk6 v501), ∀ a, (k0_off94 v501) a + S1x16.size a ≤ S256x128.size a := fun v501 k0_hw6 => k0_hw6.1
theorem k0_off96_inb : ∀ (v501 : BitVec 32) (k0_hw6 : k0_chk6 v501), ∀ a, (k0_off96 v501) a + S1x16.size a ≤ S256x128.size a := fun v501 k0_hw6 => k0_hw6.2.1
theorem k0_off98_inb : ∀ (v501 : BitVec 32) (k0_hw6 : k0_chk6 v501), ∀ a, (k0_off98 v501) a + S1x16.size a ≤ S256x128.size a := fun v501 k0_hw6 => k0_hw6.2.2.1
theorem k0_off100_inb : ∀ (v501 : BitVec 32) (k0_hw6 : k0_chk6 v501), ∀ a, (k0_off100 v501) a + S1x16.size a ≤ S256x128.size a := fun v501 k0_hw6 => k0_hw6.2.2.2.1
theorem k0_off102_inb : ∀ (v501 : BitVec 32) (k0_hw6 : k0_chk6 v501), ∀ a, (k0_off102 v501) a + S1x16.size a ≤ S256x128.size a := fun v501 k0_hw6 => k0_hw6.2.2.2.2.1
theorem k0_off104_inb : ∀ (v501 : BitVec 32) (k0_hw6 : k0_chk6 v501), ∀ a, (k0_off104 v501) a + S1x16.size a ≤ S256x128.size a := fun v501 k0_hw6 => k0_hw6.2.2.2.2.2.1
theorem k0_off106_inb : ∀ (v501 : BitVec 32) (k0_hw6 : k0_chk6 v501), ∀ a, (k0_off106 v501) a + S1x16.size a ≤ S256x128.size a := fun v501 k0_hw6 => k0_hw6.2.2.2.2.2.2.1
theorem k0_off108_inb : ∀ (v501 : BitVec 32) (k0_hw6 : k0_chk6 v501), ∀ a, (k0_off108 v501) a + S1x16.size a ≤ S256x128.size a := fun v501 k0_hw6 => k0_hw6.2.2.2.2.2.2.2

def k0_off109 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_152 : BitVec 32 := 16#32
  let v502 : BitVec 32 := Scalar.muli arg12 c16_i32_152
  let c5_i32 : BitVec 32 := 5#32
  let v503 : BitVec 32 := Scalar.addi v502 c5_i32
  let v584 : Index := Scalar.indexCast v503
  let c112_175 : Index := 112#32
  ![v584.toNat, 112]
def k0_off110 (v593 : BitVec 32) : Fin 2 → Nat :=
  let v596 : Index := Scalar.indexCast v593
  let c0_178 : Index := 0#32
  ![v596.toNat, 0]

def k0_off111 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_177 : BitVec 32 := 16#32
  let v594 : BitVec 32 := Scalar.muli arg12 c16_i32_177
  let c6_i32 : BitVec 32 := 6#32
  let v595 : BitVec 32 := Scalar.addi v594 c6_i32
  let v599 : Index := Scalar.indexCast v595
  let c0_179 : Index := 0#32
  ![v599.toNat, 0]
def k0_off112 (v593 : BitVec 32) : Fin 2 → Nat :=
  let v607 : Index := Scalar.indexCast v593
  let c16_181 : Index := 16#32
  ![v607.toNat, 16]
def k0_off113 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_177 : BitVec 32 := 16#32
  let v594 : BitVec 32 := Scalar.muli arg12 c16_i32_177
  let c6_i32 : BitVec 32 := 6#32
  let v595 : BitVec 32 := Scalar.addi v594 c6_i32
  let v610 : Index := Scalar.indexCast v595
  let c16_182 : Index := 16#32
  ![v610.toNat, 16]
def k0_off114 (v593 : BitVec 32) : Fin 2 → Nat :=
  let v618 : Index := Scalar.indexCast v593
  let c32_184 : Index := 32#32
  ![v618.toNat, 32]
def k0_off115 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_177 : BitVec 32 := 16#32
  let v594 : BitVec 32 := Scalar.muli arg12 c16_i32_177
  let c6_i32 : BitVec 32 := 6#32
  let v595 : BitVec 32 := Scalar.addi v594 c6_i32
  let v621 : Index := Scalar.indexCast v595
  let c32_185 : Index := 32#32
  ![v621.toNat, 32]
def k0_off116 (v593 : BitVec 32) : Fin 2 → Nat :=
  let v629 : Index := Scalar.indexCast v593
  let c48_187 : Index := 48#32
  ![v629.toNat, 48]
def k0_off117 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_177 : BitVec 32 := 16#32
  let v594 : BitVec 32 := Scalar.muli arg12 c16_i32_177
  let c6_i32 : BitVec 32 := 6#32
  let v595 : BitVec 32 := Scalar.addi v594 c6_i32
  let v632 : Index := Scalar.indexCast v595
  let c48_188 : Index := 48#32
  ![v632.toNat, 48]
def k0_off118 (v593 : BitVec 32) : Fin 2 → Nat :=
  let v640 : Index := Scalar.indexCast v593
  let c64_190 : Index := 64#32
  ![v640.toNat, 64]
def k0_off119 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_177 : BitVec 32 := 16#32
  let v594 : BitVec 32 := Scalar.muli arg12 c16_i32_177
  let c6_i32 : BitVec 32 := 6#32
  let v595 : BitVec 32 := Scalar.addi v594 c6_i32
  let v643 : Index := Scalar.indexCast v595
  let c64_191 : Index := 64#32
  ![v643.toNat, 64]
def k0_off120 (v593 : BitVec 32) : Fin 2 → Nat :=
  let v651 : Index := Scalar.indexCast v593
  let c80_193 : Index := 80#32
  ![v651.toNat, 80]
def k0_off121 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_177 : BitVec 32 := 16#32
  let v594 : BitVec 32 := Scalar.muli arg12 c16_i32_177
  let c6_i32 : BitVec 32 := 6#32
  let v595 : BitVec 32 := Scalar.addi v594 c6_i32
  let v654 : Index := Scalar.indexCast v595
  let c80_194 : Index := 80#32
  ![v654.toNat, 80]
def k0_off122 (v593 : BitVec 32) : Fin 2 → Nat :=
  let v662 : Index := Scalar.indexCast v593
  let c96_196 : Index := 96#32
  ![v662.toNat, 96]
def k0_off123 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_177 : BitVec 32 := 16#32
  let v594 : BitVec 32 := Scalar.muli arg12 c16_i32_177
  let c6_i32 : BitVec 32 := 6#32
  let v595 : BitVec 32 := Scalar.addi v594 c6_i32
  let v665 : Index := Scalar.indexCast v595
  let c96_197 : Index := 96#32
  ![v665.toNat, 96]
def k0_off124 (v593 : BitVec 32) : Fin 2 → Nat :=
  let v673 : Index := Scalar.indexCast v593
  let c112_199 : Index := 112#32
  ![v673.toNat, 112]

def k0_chk7 (v593 : BitVec 32) : Prop :=
  (∀ a, (k0_off110 v593) a + S1x16.size a ≤ S256x128.size a) ∧
  (∀ a, (k0_off112 v593) a + S1x16.size a ≤ S256x128.size a) ∧
  (∀ a, (k0_off114 v593) a + S1x16.size a ≤ S256x128.size a) ∧
  (∀ a, (k0_off116 v593) a + S1x16.size a ≤ S256x128.size a) ∧
  (∀ a, (k0_off118 v593) a + S1x16.size a ≤ S256x128.size a) ∧
  (∀ a, (k0_off120 v593) a + S1x16.size a ≤ S256x128.size a) ∧
  (∀ a, (k0_off122 v593) a + S1x16.size a ≤ S256x128.size a) ∧
  (∀ a, (k0_off124 v593) a + S1x16.size a ≤ S256x128.size a)
theorem k0_off110_inb : ∀ (v593 : BitVec 32) (k0_hw7 : k0_chk7 v593), ∀ a, (k0_off110 v593) a + S1x16.size a ≤ S256x128.size a := fun v593 k0_hw7 => k0_hw7.1
theorem k0_off112_inb : ∀ (v593 : BitVec 32) (k0_hw7 : k0_chk7 v593), ∀ a, (k0_off112 v593) a + S1x16.size a ≤ S256x128.size a := fun v593 k0_hw7 => k0_hw7.2.1
theorem k0_off114_inb : ∀ (v593 : BitVec 32) (k0_hw7 : k0_chk7 v593), ∀ a, (k0_off114 v593) a + S1x16.size a ≤ S256x128.size a := fun v593 k0_hw7 => k0_hw7.2.2.1
theorem k0_off116_inb : ∀ (v593 : BitVec 32) (k0_hw7 : k0_chk7 v593), ∀ a, (k0_off116 v593) a + S1x16.size a ≤ S256x128.size a := fun v593 k0_hw7 => k0_hw7.2.2.2.1
theorem k0_off118_inb : ∀ (v593 : BitVec 32) (k0_hw7 : k0_chk7 v593), ∀ a, (k0_off118 v593) a + S1x16.size a ≤ S256x128.size a := fun v593 k0_hw7 => k0_hw7.2.2.2.2.1
theorem k0_off120_inb : ∀ (v593 : BitVec 32) (k0_hw7 : k0_chk7 v593), ∀ a, (k0_off120 v593) a + S1x16.size a ≤ S256x128.size a := fun v593 k0_hw7 => k0_hw7.2.2.2.2.2.1
theorem k0_off122_inb : ∀ (v593 : BitVec 32) (k0_hw7 : k0_chk7 v593), ∀ a, (k0_off122 v593) a + S1x16.size a ≤ S256x128.size a := fun v593 k0_hw7 => k0_hw7.2.2.2.2.2.2.1
theorem k0_off124_inb : ∀ (v593 : BitVec 32) (k0_hw7 : k0_chk7 v593), ∀ a, (k0_off124 v593) a + S1x16.size a ≤ S256x128.size a := fun v593 k0_hw7 => k0_hw7.2.2.2.2.2.2.2

def k0_off125 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_177 : BitVec 32 := 16#32
  let v594 : BitVec 32 := Scalar.muli arg12 c16_i32_177
  let c6_i32 : BitVec 32 := 6#32
  let v595 : BitVec 32 := Scalar.addi v594 c6_i32
  let v676 : Index := Scalar.indexCast v595
  let c112_200 : Index := 112#32
  ![v676.toNat, 112]
def k0_off126 (v685 : BitVec 32) : Fin 2 → Nat :=
  let v688 : Index := Scalar.indexCast v685
  let c0_204 : Index := 0#32
  ![v688.toNat, 0]

def k0_off127 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_202 : BitVec 32 := 16#32
  let v686 : BitVec 32 := Scalar.muli arg12 c16_i32_202
  let c7_i32_203 : BitVec 32 := 7#32
  let v687 : BitVec 32 := Scalar.addi v686 c7_i32_203
  let v691 : Index := Scalar.indexCast v687
  let c0_205 : Index := 0#32
  ![v691.toNat, 0]
def k0_off128 (v685 : BitVec 32) : Fin 2 → Nat :=
  let v699 : Index := Scalar.indexCast v685
  let c16_207 : Index := 16#32
  ![v699.toNat, 16]
def k0_off129 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_202 : BitVec 32 := 16#32
  let v686 : BitVec 32 := Scalar.muli arg12 c16_i32_202
  let c7_i32_203 : BitVec 32 := 7#32
  let v687 : BitVec 32 := Scalar.addi v686 c7_i32_203
  let v702 : Index := Scalar.indexCast v687
  let c16_208 : Index := 16#32
  ![v702.toNat, 16]
def k0_off130 (v685 : BitVec 32) : Fin 2 → Nat :=
  let v710 : Index := Scalar.indexCast v685
  let c32_210 : Index := 32#32
  ![v710.toNat, 32]
def k0_off131 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_202 : BitVec 32 := 16#32
  let v686 : BitVec 32 := Scalar.muli arg12 c16_i32_202
  let c7_i32_203 : BitVec 32 := 7#32
  let v687 : BitVec 32 := Scalar.addi v686 c7_i32_203
  let v713 : Index := Scalar.indexCast v687
  let c32_211 : Index := 32#32
  ![v713.toNat, 32]
def k0_off132 (v685 : BitVec 32) : Fin 2 → Nat :=
  let v721 : Index := Scalar.indexCast v685
  let c48_213 : Index := 48#32
  ![v721.toNat, 48]
def k0_off133 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_202 : BitVec 32 := 16#32
  let v686 : BitVec 32 := Scalar.muli arg12 c16_i32_202
  let c7_i32_203 : BitVec 32 := 7#32
  let v687 : BitVec 32 := Scalar.addi v686 c7_i32_203
  let v724 : Index := Scalar.indexCast v687
  let c48_214 : Index := 48#32
  ![v724.toNat, 48]
def k0_off134 (v685 : BitVec 32) : Fin 2 → Nat :=
  let v732 : Index := Scalar.indexCast v685
  let c64_216 : Index := 64#32
  ![v732.toNat, 64]
def k0_off135 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_202 : BitVec 32 := 16#32
  let v686 : BitVec 32 := Scalar.muli arg12 c16_i32_202
  let c7_i32_203 : BitVec 32 := 7#32
  let v687 : BitVec 32 := Scalar.addi v686 c7_i32_203
  let v735 : Index := Scalar.indexCast v687
  let c64_217 : Index := 64#32
  ![v735.toNat, 64]
def k0_off136 (v685 : BitVec 32) : Fin 2 → Nat :=
  let v743 : Index := Scalar.indexCast v685
  let c80_219 : Index := 80#32
  ![v743.toNat, 80]
def k0_off137 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_202 : BitVec 32 := 16#32
  let v686 : BitVec 32 := Scalar.muli arg12 c16_i32_202
  let c7_i32_203 : BitVec 32 := 7#32
  let v687 : BitVec 32 := Scalar.addi v686 c7_i32_203
  let v746 : Index := Scalar.indexCast v687
  let c80_220 : Index := 80#32
  ![v746.toNat, 80]
def k0_off138 (v685 : BitVec 32) : Fin 2 → Nat :=
  let v754 : Index := Scalar.indexCast v685
  let c96_222 : Index := 96#32
  ![v754.toNat, 96]
def k0_off139 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_202 : BitVec 32 := 16#32
  let v686 : BitVec 32 := Scalar.muli arg12 c16_i32_202
  let c7_i32_203 : BitVec 32 := 7#32
  let v687 : BitVec 32 := Scalar.addi v686 c7_i32_203
  let v757 : Index := Scalar.indexCast v687
  let c96_223 : Index := 96#32
  ![v757.toNat, 96]
def k0_off140 (v685 : BitVec 32) : Fin 2 → Nat :=
  let v765 : Index := Scalar.indexCast v685
  let c112_225 : Index := 112#32
  ![v765.toNat, 112]

def k0_chk8 (v685 : BitVec 32) : Prop :=
  (∀ a, (k0_off126 v685) a + S1x16.size a ≤ S256x128.size a) ∧
  (∀ a, (k0_off128 v685) a + S1x16.size a ≤ S256x128.size a) ∧
  (∀ a, (k0_off130 v685) a + S1x16.size a ≤ S256x128.size a) ∧
  (∀ a, (k0_off132 v685) a + S1x16.size a ≤ S256x128.size a) ∧
  (∀ a, (k0_off134 v685) a + S1x16.size a ≤ S256x128.size a) ∧
  (∀ a, (k0_off136 v685) a + S1x16.size a ≤ S256x128.size a) ∧
  (∀ a, (k0_off138 v685) a + S1x16.size a ≤ S256x128.size a) ∧
  (∀ a, (k0_off140 v685) a + S1x16.size a ≤ S256x128.size a)
theorem k0_off126_inb : ∀ (v685 : BitVec 32) (k0_hw8 : k0_chk8 v685), ∀ a, (k0_off126 v685) a + S1x16.size a ≤ S256x128.size a := fun v685 k0_hw8 => k0_hw8.1
theorem k0_off128_inb : ∀ (v685 : BitVec 32) (k0_hw8 : k0_chk8 v685), ∀ a, (k0_off128 v685) a + S1x16.size a ≤ S256x128.size a := fun v685 k0_hw8 => k0_hw8.2.1
theorem k0_off130_inb : ∀ (v685 : BitVec 32) (k0_hw8 : k0_chk8 v685), ∀ a, (k0_off130 v685) a + S1x16.size a ≤ S256x128.size a := fun v685 k0_hw8 => k0_hw8.2.2.1
theorem k0_off132_inb : ∀ (v685 : BitVec 32) (k0_hw8 : k0_chk8 v685), ∀ a, (k0_off132 v685) a + S1x16.size a ≤ S256x128.size a := fun v685 k0_hw8 => k0_hw8.2.2.2.1
theorem k0_off134_inb : ∀ (v685 : BitVec 32) (k0_hw8 : k0_chk8 v685), ∀ a, (k0_off134 v685) a + S1x16.size a ≤ S256x128.size a := fun v685 k0_hw8 => k0_hw8.2.2.2.2.1
theorem k0_off136_inb : ∀ (v685 : BitVec 32) (k0_hw8 : k0_chk8 v685), ∀ a, (k0_off136 v685) a + S1x16.size a ≤ S256x128.size a := fun v685 k0_hw8 => k0_hw8.2.2.2.2.2.1
theorem k0_off138_inb : ∀ (v685 : BitVec 32) (k0_hw8 : k0_chk8 v685), ∀ a, (k0_off138 v685) a + S1x16.size a ≤ S256x128.size a := fun v685 k0_hw8 => k0_hw8.2.2.2.2.2.2.1
theorem k0_off140_inb : ∀ (v685 : BitVec 32) (k0_hw8 : k0_chk8 v685), ∀ a, (k0_off140 v685) a + S1x16.size a ≤ S256x128.size a := fun v685 k0_hw8 => k0_hw8.2.2.2.2.2.2.2

def k0_off141 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_202 : BitVec 32 := 16#32
  let v686 : BitVec 32 := Scalar.muli arg12 c16_i32_202
  let c7_i32_203 : BitVec 32 := 7#32
  let v687 : BitVec 32 := Scalar.addi v686 c7_i32_203
  let v768 : Index := Scalar.indexCast v687
  let c112_226 : Index := 112#32
  ![v768.toNat, 112]
def k0_off142 (v777 : BitVec 32) : Fin 2 → Nat :=
  let v780 : Index := Scalar.indexCast v777
  let c0_230 : Index := 0#32
  ![v780.toNat, 0]

def k0_off143 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_228 : BitVec 32 := 16#32
  let v778 : BitVec 32 := Scalar.muli arg12 c16_i32_228
  let c8_i32_229 : BitVec 32 := 8#32
  let v779 : BitVec 32 := Scalar.addi v778 c8_i32_229
  let v783 : Index := Scalar.indexCast v779
  let c0_231 : Index := 0#32
  ![v783.toNat, 0]
def k0_off144 (v777 : BitVec 32) : Fin 2 → Nat :=
  let v791 : Index := Scalar.indexCast v777
  let c16_233 : Index := 16#32
  ![v791.toNat, 16]
def k0_off145 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_228 : BitVec 32 := 16#32
  let v778 : BitVec 32 := Scalar.muli arg12 c16_i32_228
  let c8_i32_229 : BitVec 32 := 8#32
  let v779 : BitVec 32 := Scalar.addi v778 c8_i32_229
  let v794 : Index := Scalar.indexCast v779
  let c16_234 : Index := 16#32
  ![v794.toNat, 16]
def k0_off146 (v777 : BitVec 32) : Fin 2 → Nat :=
  let v802 : Index := Scalar.indexCast v777
  let c32_236 : Index := 32#32
  ![v802.toNat, 32]
def k0_off147 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_228 : BitVec 32 := 16#32
  let v778 : BitVec 32 := Scalar.muli arg12 c16_i32_228
  let c8_i32_229 : BitVec 32 := 8#32
  let v779 : BitVec 32 := Scalar.addi v778 c8_i32_229
  let v805 : Index := Scalar.indexCast v779
  let c32_237 : Index := 32#32
  ![v805.toNat, 32]
def k0_off148 (v777 : BitVec 32) : Fin 2 → Nat :=
  let v813 : Index := Scalar.indexCast v777
  let c48_239 : Index := 48#32
  ![v813.toNat, 48]
def k0_off149 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_228 : BitVec 32 := 16#32
  let v778 : BitVec 32 := Scalar.muli arg12 c16_i32_228
  let c8_i32_229 : BitVec 32 := 8#32
  let v779 : BitVec 32 := Scalar.addi v778 c8_i32_229
  let v816 : Index := Scalar.indexCast v779
  let c48_240 : Index := 48#32
  ![v816.toNat, 48]
def k0_off150 (v777 : BitVec 32) : Fin 2 → Nat :=
  let v824 : Index := Scalar.indexCast v777
  let c64_242 : Index := 64#32
  ![v824.toNat, 64]
def k0_off151 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_228 : BitVec 32 := 16#32
  let v778 : BitVec 32 := Scalar.muli arg12 c16_i32_228
  let c8_i32_229 : BitVec 32 := 8#32
  let v779 : BitVec 32 := Scalar.addi v778 c8_i32_229
  let v827 : Index := Scalar.indexCast v779
  let c64_243 : Index := 64#32
  ![v827.toNat, 64]
def k0_off152 (v777 : BitVec 32) : Fin 2 → Nat :=
  let v835 : Index := Scalar.indexCast v777
  let c80_245 : Index := 80#32
  ![v835.toNat, 80]
def k0_off153 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_228 : BitVec 32 := 16#32
  let v778 : BitVec 32 := Scalar.muli arg12 c16_i32_228
  let c8_i32_229 : BitVec 32 := 8#32
  let v779 : BitVec 32 := Scalar.addi v778 c8_i32_229
  let v838 : Index := Scalar.indexCast v779
  let c80_246 : Index := 80#32
  ![v838.toNat, 80]
def k0_off154 (v777 : BitVec 32) : Fin 2 → Nat :=
  let v846 : Index := Scalar.indexCast v777
  let c96_248 : Index := 96#32
  ![v846.toNat, 96]
def k0_off155 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_228 : BitVec 32 := 16#32
  let v778 : BitVec 32 := Scalar.muli arg12 c16_i32_228
  let c8_i32_229 : BitVec 32 := 8#32
  let v779 : BitVec 32 := Scalar.addi v778 c8_i32_229
  let v849 : Index := Scalar.indexCast v779
  let c96_249 : Index := 96#32
  ![v849.toNat, 96]
def k0_off156 (v777 : BitVec 32) : Fin 2 → Nat :=
  let v857 : Index := Scalar.indexCast v777
  let c112_251 : Index := 112#32
  ![v857.toNat, 112]

def k0_chk9 (v777 : BitVec 32) : Prop :=
  (∀ a, (k0_off142 v777) a + S1x16.size a ≤ S256x128.size a) ∧
  (∀ a, (k0_off144 v777) a + S1x16.size a ≤ S256x128.size a) ∧
  (∀ a, (k0_off146 v777) a + S1x16.size a ≤ S256x128.size a) ∧
  (∀ a, (k0_off148 v777) a + S1x16.size a ≤ S256x128.size a) ∧
  (∀ a, (k0_off150 v777) a + S1x16.size a ≤ S256x128.size a) ∧
  (∀ a, (k0_off152 v777) a + S1x16.size a ≤ S256x128.size a) ∧
  (∀ a, (k0_off154 v777) a + S1x16.size a ≤ S256x128.size a) ∧
  (∀ a, (k0_off156 v777) a + S1x16.size a ≤ S256x128.size a)
theorem k0_off142_inb : ∀ (v777 : BitVec 32) (k0_hw9 : k0_chk9 v777), ∀ a, (k0_off142 v777) a + S1x16.size a ≤ S256x128.size a := fun v777 k0_hw9 => k0_hw9.1
theorem k0_off144_inb : ∀ (v777 : BitVec 32) (k0_hw9 : k0_chk9 v777), ∀ a, (k0_off144 v777) a + S1x16.size a ≤ S256x128.size a := fun v777 k0_hw9 => k0_hw9.2.1
theorem k0_off146_inb : ∀ (v777 : BitVec 32) (k0_hw9 : k0_chk9 v777), ∀ a, (k0_off146 v777) a + S1x16.size a ≤ S256x128.size a := fun v777 k0_hw9 => k0_hw9.2.2.1
theorem k0_off148_inb : ∀ (v777 : BitVec 32) (k0_hw9 : k0_chk9 v777), ∀ a, (k0_off148 v777) a + S1x16.size a ≤ S256x128.size a := fun v777 k0_hw9 => k0_hw9.2.2.2.1
theorem k0_off150_inb : ∀ (v777 : BitVec 32) (k0_hw9 : k0_chk9 v777), ∀ a, (k0_off150 v777) a + S1x16.size a ≤ S256x128.size a := fun v777 k0_hw9 => k0_hw9.2.2.2.2.1
theorem k0_off152_inb : ∀ (v777 : BitVec 32) (k0_hw9 : k0_chk9 v777), ∀ a, (k0_off152 v777) a + S1x16.size a ≤ S256x128.size a := fun v777 k0_hw9 => k0_hw9.2.2.2.2.2.1
theorem k0_off154_inb : ∀ (v777 : BitVec 32) (k0_hw9 : k0_chk9 v777), ∀ a, (k0_off154 v777) a + S1x16.size a ≤ S256x128.size a := fun v777 k0_hw9 => k0_hw9.2.2.2.2.2.2.1
theorem k0_off156_inb : ∀ (v777 : BitVec 32) (k0_hw9 : k0_chk9 v777), ∀ a, (k0_off156 v777) a + S1x16.size a ≤ S256x128.size a := fun v777 k0_hw9 => k0_hw9.2.2.2.2.2.2.2

def k0_off157 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_228 : BitVec 32 := 16#32
  let v778 : BitVec 32 := Scalar.muli arg12 c16_i32_228
  let c8_i32_229 : BitVec 32 := 8#32
  let v779 : BitVec 32 := Scalar.addi v778 c8_i32_229
  let v860 : Index := Scalar.indexCast v779
  let c112_252 : Index := 112#32
  ![v860.toNat, 112]
def k0_off158 (v869 : BitVec 32) : Fin 2 → Nat :=
  let v872 : Index := Scalar.indexCast v869
  let c0_255 : Index := 0#32
  ![v872.toNat, 0]

def k0_off159 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_254 : BitVec 32 := 16#32
  let v870 : BitVec 32 := Scalar.muli arg12 c16_i32_254
  let c9_i32 : BitVec 32 := 9#32
  let v871 : BitVec 32 := Scalar.addi v870 c9_i32
  let v875 : Index := Scalar.indexCast v871
  let c0_256 : Index := 0#32
  ![v875.toNat, 0]
def k0_off160 (v869 : BitVec 32) : Fin 2 → Nat :=
  let v883 : Index := Scalar.indexCast v869
  let c16_258 : Index := 16#32
  ![v883.toNat, 16]
def k0_off161 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_254 : BitVec 32 := 16#32
  let v870 : BitVec 32 := Scalar.muli arg12 c16_i32_254
  let c9_i32 : BitVec 32 := 9#32
  let v871 : BitVec 32 := Scalar.addi v870 c9_i32
  let v886 : Index := Scalar.indexCast v871
  let c16_259 : Index := 16#32
  ![v886.toNat, 16]
def k0_off162 (v869 : BitVec 32) : Fin 2 → Nat :=
  let v894 : Index := Scalar.indexCast v869
  let c32_261 : Index := 32#32
  ![v894.toNat, 32]
def k0_off163 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_254 : BitVec 32 := 16#32
  let v870 : BitVec 32 := Scalar.muli arg12 c16_i32_254
  let c9_i32 : BitVec 32 := 9#32
  let v871 : BitVec 32 := Scalar.addi v870 c9_i32
  let v897 : Index := Scalar.indexCast v871
  let c32_262 : Index := 32#32
  ![v897.toNat, 32]
def k0_off164 (v869 : BitVec 32) : Fin 2 → Nat :=
  let v905 : Index := Scalar.indexCast v869
  let c48_264 : Index := 48#32
  ![v905.toNat, 48]
def k0_off165 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_254 : BitVec 32 := 16#32
  let v870 : BitVec 32 := Scalar.muli arg12 c16_i32_254
  let c9_i32 : BitVec 32 := 9#32
  let v871 : BitVec 32 := Scalar.addi v870 c9_i32
  let v908 : Index := Scalar.indexCast v871
  let c48_265 : Index := 48#32
  ![v908.toNat, 48]
def k0_off166 (v869 : BitVec 32) : Fin 2 → Nat :=
  let v916 : Index := Scalar.indexCast v869
  let c64_267 : Index := 64#32
  ![v916.toNat, 64]
def k0_off167 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_254 : BitVec 32 := 16#32
  let v870 : BitVec 32 := Scalar.muli arg12 c16_i32_254
  let c9_i32 : BitVec 32 := 9#32
  let v871 : BitVec 32 := Scalar.addi v870 c9_i32
  let v919 : Index := Scalar.indexCast v871
  let c64_268 : Index := 64#32
  ![v919.toNat, 64]
def k0_off168 (v869 : BitVec 32) : Fin 2 → Nat :=
  let v927 : Index := Scalar.indexCast v869
  let c80_270 : Index := 80#32
  ![v927.toNat, 80]
def k0_off169 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_254 : BitVec 32 := 16#32
  let v870 : BitVec 32 := Scalar.muli arg12 c16_i32_254
  let c9_i32 : BitVec 32 := 9#32
  let v871 : BitVec 32 := Scalar.addi v870 c9_i32
  let v930 : Index := Scalar.indexCast v871
  let c80_271 : Index := 80#32
  ![v930.toNat, 80]
def k0_off170 (v869 : BitVec 32) : Fin 2 → Nat :=
  let v938 : Index := Scalar.indexCast v869
  let c96_273 : Index := 96#32
  ![v938.toNat, 96]
def k0_off171 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_254 : BitVec 32 := 16#32
  let v870 : BitVec 32 := Scalar.muli arg12 c16_i32_254
  let c9_i32 : BitVec 32 := 9#32
  let v871 : BitVec 32 := Scalar.addi v870 c9_i32
  let v941 : Index := Scalar.indexCast v871
  let c96_274 : Index := 96#32
  ![v941.toNat, 96]
def k0_off172 (v869 : BitVec 32) : Fin 2 → Nat :=
  let v949 : Index := Scalar.indexCast v869
  let c112_276 : Index := 112#32
  ![v949.toNat, 112]

def k0_chk10 (v869 : BitVec 32) : Prop :=
  (∀ a, (k0_off158 v869) a + S1x16.size a ≤ S256x128.size a) ∧
  (∀ a, (k0_off160 v869) a + S1x16.size a ≤ S256x128.size a) ∧
  (∀ a, (k0_off162 v869) a + S1x16.size a ≤ S256x128.size a) ∧
  (∀ a, (k0_off164 v869) a + S1x16.size a ≤ S256x128.size a) ∧
  (∀ a, (k0_off166 v869) a + S1x16.size a ≤ S256x128.size a) ∧
  (∀ a, (k0_off168 v869) a + S1x16.size a ≤ S256x128.size a) ∧
  (∀ a, (k0_off170 v869) a + S1x16.size a ≤ S256x128.size a) ∧
  (∀ a, (k0_off172 v869) a + S1x16.size a ≤ S256x128.size a)
theorem k0_off158_inb : ∀ (v869 : BitVec 32) (k0_hw10 : k0_chk10 v869), ∀ a, (k0_off158 v869) a + S1x16.size a ≤ S256x128.size a := fun v869 k0_hw10 => k0_hw10.1
theorem k0_off160_inb : ∀ (v869 : BitVec 32) (k0_hw10 : k0_chk10 v869), ∀ a, (k0_off160 v869) a + S1x16.size a ≤ S256x128.size a := fun v869 k0_hw10 => k0_hw10.2.1
theorem k0_off162_inb : ∀ (v869 : BitVec 32) (k0_hw10 : k0_chk10 v869), ∀ a, (k0_off162 v869) a + S1x16.size a ≤ S256x128.size a := fun v869 k0_hw10 => k0_hw10.2.2.1
theorem k0_off164_inb : ∀ (v869 : BitVec 32) (k0_hw10 : k0_chk10 v869), ∀ a, (k0_off164 v869) a + S1x16.size a ≤ S256x128.size a := fun v869 k0_hw10 => k0_hw10.2.2.2.1
theorem k0_off166_inb : ∀ (v869 : BitVec 32) (k0_hw10 : k0_chk10 v869), ∀ a, (k0_off166 v869) a + S1x16.size a ≤ S256x128.size a := fun v869 k0_hw10 => k0_hw10.2.2.2.2.1
theorem k0_off168_inb : ∀ (v869 : BitVec 32) (k0_hw10 : k0_chk10 v869), ∀ a, (k0_off168 v869) a + S1x16.size a ≤ S256x128.size a := fun v869 k0_hw10 => k0_hw10.2.2.2.2.2.1
theorem k0_off170_inb : ∀ (v869 : BitVec 32) (k0_hw10 : k0_chk10 v869), ∀ a, (k0_off170 v869) a + S1x16.size a ≤ S256x128.size a := fun v869 k0_hw10 => k0_hw10.2.2.2.2.2.2.1
theorem k0_off172_inb : ∀ (v869 : BitVec 32) (k0_hw10 : k0_chk10 v869), ∀ a, (k0_off172 v869) a + S1x16.size a ≤ S256x128.size a := fun v869 k0_hw10 => k0_hw10.2.2.2.2.2.2.2

def k0_off173 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_254 : BitVec 32 := 16#32
  let v870 : BitVec 32 := Scalar.muli arg12 c16_i32_254
  let c9_i32 : BitVec 32 := 9#32
  let v871 : BitVec 32 := Scalar.addi v870 c9_i32
  let v952 : Index := Scalar.indexCast v871
  let c112_277 : Index := 112#32
  ![v952.toNat, 112]
def k0_off174 (v961 : BitVec 32) : Fin 2 → Nat :=
  let v964 : Index := Scalar.indexCast v961
  let c0_280 : Index := 0#32
  ![v964.toNat, 0]

def k0_off175 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_279 : BitVec 32 := 16#32
  let v962 : BitVec 32 := Scalar.muli arg12 c16_i32_279
  let c10_i32 : BitVec 32 := 10#32
  let v963 : BitVec 32 := Scalar.addi v962 c10_i32
  let v967 : Index := Scalar.indexCast v963
  let c0_281 : Index := 0#32
  ![v967.toNat, 0]
def k0_off176 (v961 : BitVec 32) : Fin 2 → Nat :=
  let v975 : Index := Scalar.indexCast v961
  let c16_283 : Index := 16#32
  ![v975.toNat, 16]
def k0_off177 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_279 : BitVec 32 := 16#32
  let v962 : BitVec 32 := Scalar.muli arg12 c16_i32_279
  let c10_i32 : BitVec 32 := 10#32
  let v963 : BitVec 32 := Scalar.addi v962 c10_i32
  let v978 : Index := Scalar.indexCast v963
  let c16_284 : Index := 16#32
  ![v978.toNat, 16]
def k0_off178 (v961 : BitVec 32) : Fin 2 → Nat :=
  let v986 : Index := Scalar.indexCast v961
  let c32_286 : Index := 32#32
  ![v986.toNat, 32]
def k0_off179 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_279 : BitVec 32 := 16#32
  let v962 : BitVec 32 := Scalar.muli arg12 c16_i32_279
  let c10_i32 : BitVec 32 := 10#32
  let v963 : BitVec 32 := Scalar.addi v962 c10_i32
  let v989 : Index := Scalar.indexCast v963
  let c32_287 : Index := 32#32
  ![v989.toNat, 32]
def k0_off180 (v961 : BitVec 32) : Fin 2 → Nat :=
  let v997 : Index := Scalar.indexCast v961
  let c48_289 : Index := 48#32
  ![v997.toNat, 48]
def k0_off181 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_279 : BitVec 32 := 16#32
  let v962 : BitVec 32 := Scalar.muli arg12 c16_i32_279
  let c10_i32 : BitVec 32 := 10#32
  let v963 : BitVec 32 := Scalar.addi v962 c10_i32
  let v1000 : Index := Scalar.indexCast v963
  let c48_290 : Index := 48#32
  ![v1000.toNat, 48]
def k0_off182 (v961 : BitVec 32) : Fin 2 → Nat :=
  let v1008 : Index := Scalar.indexCast v961
  let c64_292 : Index := 64#32
  ![v1008.toNat, 64]
def k0_off183 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_279 : BitVec 32 := 16#32
  let v962 : BitVec 32 := Scalar.muli arg12 c16_i32_279
  let c10_i32 : BitVec 32 := 10#32
  let v963 : BitVec 32 := Scalar.addi v962 c10_i32
  let v1011 : Index := Scalar.indexCast v963
  let c64_293 : Index := 64#32
  ![v1011.toNat, 64]
def k0_off184 (v961 : BitVec 32) : Fin 2 → Nat :=
  let v1019 : Index := Scalar.indexCast v961
  let c80_295 : Index := 80#32
  ![v1019.toNat, 80]
def k0_off185 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_279 : BitVec 32 := 16#32
  let v962 : BitVec 32 := Scalar.muli arg12 c16_i32_279
  let c10_i32 : BitVec 32 := 10#32
  let v963 : BitVec 32 := Scalar.addi v962 c10_i32
  let v1022 : Index := Scalar.indexCast v963
  let c80_296 : Index := 80#32
  ![v1022.toNat, 80]
def k0_off186 (v961 : BitVec 32) : Fin 2 → Nat :=
  let v1030 : Index := Scalar.indexCast v961
  let c96_298 : Index := 96#32
  ![v1030.toNat, 96]
def k0_off187 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_279 : BitVec 32 := 16#32
  let v962 : BitVec 32 := Scalar.muli arg12 c16_i32_279
  let c10_i32 : BitVec 32 := 10#32
  let v963 : BitVec 32 := Scalar.addi v962 c10_i32
  let v1033 : Index := Scalar.indexCast v963
  let c96_299 : Index := 96#32
  ![v1033.toNat, 96]
def k0_off188 (v961 : BitVec 32) : Fin 2 → Nat :=
  let v1041 : Index := Scalar.indexCast v961
  let c112_301 : Index := 112#32
  ![v1041.toNat, 112]

def k0_chk11 (v961 : BitVec 32) : Prop :=
  (∀ a, (k0_off174 v961) a + S1x16.size a ≤ S256x128.size a) ∧
  (∀ a, (k0_off176 v961) a + S1x16.size a ≤ S256x128.size a) ∧
  (∀ a, (k0_off178 v961) a + S1x16.size a ≤ S256x128.size a) ∧
  (∀ a, (k0_off180 v961) a + S1x16.size a ≤ S256x128.size a) ∧
  (∀ a, (k0_off182 v961) a + S1x16.size a ≤ S256x128.size a) ∧
  (∀ a, (k0_off184 v961) a + S1x16.size a ≤ S256x128.size a) ∧
  (∀ a, (k0_off186 v961) a + S1x16.size a ≤ S256x128.size a) ∧
  (∀ a, (k0_off188 v961) a + S1x16.size a ≤ S256x128.size a)
theorem k0_off174_inb : ∀ (v961 : BitVec 32) (k0_hw11 : k0_chk11 v961), ∀ a, (k0_off174 v961) a + S1x16.size a ≤ S256x128.size a := fun v961 k0_hw11 => k0_hw11.1
theorem k0_off176_inb : ∀ (v961 : BitVec 32) (k0_hw11 : k0_chk11 v961), ∀ a, (k0_off176 v961) a + S1x16.size a ≤ S256x128.size a := fun v961 k0_hw11 => k0_hw11.2.1
theorem k0_off178_inb : ∀ (v961 : BitVec 32) (k0_hw11 : k0_chk11 v961), ∀ a, (k0_off178 v961) a + S1x16.size a ≤ S256x128.size a := fun v961 k0_hw11 => k0_hw11.2.2.1
theorem k0_off180_inb : ∀ (v961 : BitVec 32) (k0_hw11 : k0_chk11 v961), ∀ a, (k0_off180 v961) a + S1x16.size a ≤ S256x128.size a := fun v961 k0_hw11 => k0_hw11.2.2.2.1
theorem k0_off182_inb : ∀ (v961 : BitVec 32) (k0_hw11 : k0_chk11 v961), ∀ a, (k0_off182 v961) a + S1x16.size a ≤ S256x128.size a := fun v961 k0_hw11 => k0_hw11.2.2.2.2.1
theorem k0_off184_inb : ∀ (v961 : BitVec 32) (k0_hw11 : k0_chk11 v961), ∀ a, (k0_off184 v961) a + S1x16.size a ≤ S256x128.size a := fun v961 k0_hw11 => k0_hw11.2.2.2.2.2.1
theorem k0_off186_inb : ∀ (v961 : BitVec 32) (k0_hw11 : k0_chk11 v961), ∀ a, (k0_off186 v961) a + S1x16.size a ≤ S256x128.size a := fun v961 k0_hw11 => k0_hw11.2.2.2.2.2.2.1
theorem k0_off188_inb : ∀ (v961 : BitVec 32) (k0_hw11 : k0_chk11 v961), ∀ a, (k0_off188 v961) a + S1x16.size a ≤ S256x128.size a := fun v961 k0_hw11 => k0_hw11.2.2.2.2.2.2.2

def k0_off189 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_279 : BitVec 32 := 16#32
  let v962 : BitVec 32 := Scalar.muli arg12 c16_i32_279
  let c10_i32 : BitVec 32 := 10#32
  let v963 : BitVec 32 := Scalar.addi v962 c10_i32
  let v1044 : Index := Scalar.indexCast v963
  let c112_302 : Index := 112#32
  ![v1044.toNat, 112]
def k0_off190 (v1053 : BitVec 32) : Fin 2 → Nat :=
  let v1056 : Index := Scalar.indexCast v1053
  let c0_305 : Index := 0#32
  ![v1056.toNat, 0]

def k0_off191 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_304 : BitVec 32 := 16#32
  let v1054 : BitVec 32 := Scalar.muli arg12 c16_i32_304
  let c11_i32 : BitVec 32 := 11#32
  let v1055 : BitVec 32 := Scalar.addi v1054 c11_i32
  let v1059 : Index := Scalar.indexCast v1055
  let c0_306 : Index := 0#32
  ![v1059.toNat, 0]
def k0_off192 (v1053 : BitVec 32) : Fin 2 → Nat :=
  let v1067 : Index := Scalar.indexCast v1053
  let c16_308 : Index := 16#32
  ![v1067.toNat, 16]
def k0_off193 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_304 : BitVec 32 := 16#32
  let v1054 : BitVec 32 := Scalar.muli arg12 c16_i32_304
  let c11_i32 : BitVec 32 := 11#32
  let v1055 : BitVec 32 := Scalar.addi v1054 c11_i32
  let v1070 : Index := Scalar.indexCast v1055
  let c16_309 : Index := 16#32
  ![v1070.toNat, 16]
def k0_off194 (v1053 : BitVec 32) : Fin 2 → Nat :=
  let v1078 : Index := Scalar.indexCast v1053
  let c32_311 : Index := 32#32
  ![v1078.toNat, 32]
def k0_off195 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_304 : BitVec 32 := 16#32
  let v1054 : BitVec 32 := Scalar.muli arg12 c16_i32_304
  let c11_i32 : BitVec 32 := 11#32
  let v1055 : BitVec 32 := Scalar.addi v1054 c11_i32
  let v1081 : Index := Scalar.indexCast v1055
  let c32_312 : Index := 32#32
  ![v1081.toNat, 32]
def k0_off196 (v1053 : BitVec 32) : Fin 2 → Nat :=
  let v1089 : Index := Scalar.indexCast v1053
  let c48_314 : Index := 48#32
  ![v1089.toNat, 48]
def k0_off197 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_304 : BitVec 32 := 16#32
  let v1054 : BitVec 32 := Scalar.muli arg12 c16_i32_304
  let c11_i32 : BitVec 32 := 11#32
  let v1055 : BitVec 32 := Scalar.addi v1054 c11_i32
  let v1092 : Index := Scalar.indexCast v1055
  let c48_315 : Index := 48#32
  ![v1092.toNat, 48]
def k0_off198 (v1053 : BitVec 32) : Fin 2 → Nat :=
  let v1100 : Index := Scalar.indexCast v1053
  let c64_317 : Index := 64#32
  ![v1100.toNat, 64]
def k0_off199 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_304 : BitVec 32 := 16#32
  let v1054 : BitVec 32 := Scalar.muli arg12 c16_i32_304
  let c11_i32 : BitVec 32 := 11#32
  let v1055 : BitVec 32 := Scalar.addi v1054 c11_i32
  let v1103 : Index := Scalar.indexCast v1055
  let c64_318 : Index := 64#32
  ![v1103.toNat, 64]
def k0_off200 (v1053 : BitVec 32) : Fin 2 → Nat :=
  let v1111 : Index := Scalar.indexCast v1053
  let c80_320 : Index := 80#32
  ![v1111.toNat, 80]
def k0_off201 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_304 : BitVec 32 := 16#32
  let v1054 : BitVec 32 := Scalar.muli arg12 c16_i32_304
  let c11_i32 : BitVec 32 := 11#32
  let v1055 : BitVec 32 := Scalar.addi v1054 c11_i32
  let v1114 : Index := Scalar.indexCast v1055
  let c80_321 : Index := 80#32
  ![v1114.toNat, 80]
def k0_off202 (v1053 : BitVec 32) : Fin 2 → Nat :=
  let v1122 : Index := Scalar.indexCast v1053
  let c96_323 : Index := 96#32
  ![v1122.toNat, 96]
def k0_off203 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_304 : BitVec 32 := 16#32
  let v1054 : BitVec 32 := Scalar.muli arg12 c16_i32_304
  let c11_i32 : BitVec 32 := 11#32
  let v1055 : BitVec 32 := Scalar.addi v1054 c11_i32
  let v1125 : Index := Scalar.indexCast v1055
  let c96_324 : Index := 96#32
  ![v1125.toNat, 96]
def k0_off204 (v1053 : BitVec 32) : Fin 2 → Nat :=
  let v1133 : Index := Scalar.indexCast v1053
  let c112_326 : Index := 112#32
  ![v1133.toNat, 112]

def k0_chk12 (v1053 : BitVec 32) : Prop :=
  (∀ a, (k0_off190 v1053) a + S1x16.size a ≤ S256x128.size a) ∧
  (∀ a, (k0_off192 v1053) a + S1x16.size a ≤ S256x128.size a) ∧
  (∀ a, (k0_off194 v1053) a + S1x16.size a ≤ S256x128.size a) ∧
  (∀ a, (k0_off196 v1053) a + S1x16.size a ≤ S256x128.size a) ∧
  (∀ a, (k0_off198 v1053) a + S1x16.size a ≤ S256x128.size a) ∧
  (∀ a, (k0_off200 v1053) a + S1x16.size a ≤ S256x128.size a) ∧
  (∀ a, (k0_off202 v1053) a + S1x16.size a ≤ S256x128.size a) ∧
  (∀ a, (k0_off204 v1053) a + S1x16.size a ≤ S256x128.size a)
theorem k0_off190_inb : ∀ (v1053 : BitVec 32) (k0_hw12 : k0_chk12 v1053), ∀ a, (k0_off190 v1053) a + S1x16.size a ≤ S256x128.size a := fun v1053 k0_hw12 => k0_hw12.1
theorem k0_off192_inb : ∀ (v1053 : BitVec 32) (k0_hw12 : k0_chk12 v1053), ∀ a, (k0_off192 v1053) a + S1x16.size a ≤ S256x128.size a := fun v1053 k0_hw12 => k0_hw12.2.1
theorem k0_off194_inb : ∀ (v1053 : BitVec 32) (k0_hw12 : k0_chk12 v1053), ∀ a, (k0_off194 v1053) a + S1x16.size a ≤ S256x128.size a := fun v1053 k0_hw12 => k0_hw12.2.2.1
theorem k0_off196_inb : ∀ (v1053 : BitVec 32) (k0_hw12 : k0_chk12 v1053), ∀ a, (k0_off196 v1053) a + S1x16.size a ≤ S256x128.size a := fun v1053 k0_hw12 => k0_hw12.2.2.2.1
theorem k0_off198_inb : ∀ (v1053 : BitVec 32) (k0_hw12 : k0_chk12 v1053), ∀ a, (k0_off198 v1053) a + S1x16.size a ≤ S256x128.size a := fun v1053 k0_hw12 => k0_hw12.2.2.2.2.1
theorem k0_off200_inb : ∀ (v1053 : BitVec 32) (k0_hw12 : k0_chk12 v1053), ∀ a, (k0_off200 v1053) a + S1x16.size a ≤ S256x128.size a := fun v1053 k0_hw12 => k0_hw12.2.2.2.2.2.1
theorem k0_off202_inb : ∀ (v1053 : BitVec 32) (k0_hw12 : k0_chk12 v1053), ∀ a, (k0_off202 v1053) a + S1x16.size a ≤ S256x128.size a := fun v1053 k0_hw12 => k0_hw12.2.2.2.2.2.2.1
theorem k0_off204_inb : ∀ (v1053 : BitVec 32) (k0_hw12 : k0_chk12 v1053), ∀ a, (k0_off204 v1053) a + S1x16.size a ≤ S256x128.size a := fun v1053 k0_hw12 => k0_hw12.2.2.2.2.2.2.2

def k0_off205 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_304 : BitVec 32 := 16#32
  let v1054 : BitVec 32 := Scalar.muli arg12 c16_i32_304
  let c11_i32 : BitVec 32 := 11#32
  let v1055 : BitVec 32 := Scalar.addi v1054 c11_i32
  let v1136 : Index := Scalar.indexCast v1055
  let c112_327 : Index := 112#32
  ![v1136.toNat, 112]
def k0_off206 (v1145 : BitVec 32) : Fin 2 → Nat :=
  let v1148 : Index := Scalar.indexCast v1145
  let c0_330 : Index := 0#32
  ![v1148.toNat, 0]

def k0_off207 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_329 : BitVec 32 := 16#32
  let v1146 : BitVec 32 := Scalar.muli arg12 c16_i32_329
  let c12_i32 : BitVec 32 := 12#32
  let v1147 : BitVec 32 := Scalar.addi v1146 c12_i32
  let v1151 : Index := Scalar.indexCast v1147
  let c0_331 : Index := 0#32
  ![v1151.toNat, 0]
def k0_off208 (v1145 : BitVec 32) : Fin 2 → Nat :=
  let v1159 : Index := Scalar.indexCast v1145
  let c16_333 : Index := 16#32
  ![v1159.toNat, 16]
def k0_off209 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_329 : BitVec 32 := 16#32
  let v1146 : BitVec 32 := Scalar.muli arg12 c16_i32_329
  let c12_i32 : BitVec 32 := 12#32
  let v1147 : BitVec 32 := Scalar.addi v1146 c12_i32
  let v1162 : Index := Scalar.indexCast v1147
  let c16_334 : Index := 16#32
  ![v1162.toNat, 16]
def k0_off210 (v1145 : BitVec 32) : Fin 2 → Nat :=
  let v1170 : Index := Scalar.indexCast v1145
  let c32_336 : Index := 32#32
  ![v1170.toNat, 32]
def k0_off211 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_329 : BitVec 32 := 16#32
  let v1146 : BitVec 32 := Scalar.muli arg12 c16_i32_329
  let c12_i32 : BitVec 32 := 12#32
  let v1147 : BitVec 32 := Scalar.addi v1146 c12_i32
  let v1173 : Index := Scalar.indexCast v1147
  let c32_337 : Index := 32#32
  ![v1173.toNat, 32]
def k0_off212 (v1145 : BitVec 32) : Fin 2 → Nat :=
  let v1181 : Index := Scalar.indexCast v1145
  let c48_339 : Index := 48#32
  ![v1181.toNat, 48]
def k0_off213 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_329 : BitVec 32 := 16#32
  let v1146 : BitVec 32 := Scalar.muli arg12 c16_i32_329
  let c12_i32 : BitVec 32 := 12#32
  let v1147 : BitVec 32 := Scalar.addi v1146 c12_i32
  let v1184 : Index := Scalar.indexCast v1147
  let c48_340 : Index := 48#32
  ![v1184.toNat, 48]
def k0_off214 (v1145 : BitVec 32) : Fin 2 → Nat :=
  let v1192 : Index := Scalar.indexCast v1145
  let c64_342 : Index := 64#32
  ![v1192.toNat, 64]
def k0_off215 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_329 : BitVec 32 := 16#32
  let v1146 : BitVec 32 := Scalar.muli arg12 c16_i32_329
  let c12_i32 : BitVec 32 := 12#32
  let v1147 : BitVec 32 := Scalar.addi v1146 c12_i32
  let v1195 : Index := Scalar.indexCast v1147
  let c64_343 : Index := 64#32
  ![v1195.toNat, 64]
def k0_off216 (v1145 : BitVec 32) : Fin 2 → Nat :=
  let v1203 : Index := Scalar.indexCast v1145
  let c80_345 : Index := 80#32
  ![v1203.toNat, 80]
def k0_off217 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_329 : BitVec 32 := 16#32
  let v1146 : BitVec 32 := Scalar.muli arg12 c16_i32_329
  let c12_i32 : BitVec 32 := 12#32
  let v1147 : BitVec 32 := Scalar.addi v1146 c12_i32
  let v1206 : Index := Scalar.indexCast v1147
  let c80_346 : Index := 80#32
  ![v1206.toNat, 80]
def k0_off218 (v1145 : BitVec 32) : Fin 2 → Nat :=
  let v1214 : Index := Scalar.indexCast v1145
  let c96_348 : Index := 96#32
  ![v1214.toNat, 96]
def k0_off219 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_329 : BitVec 32 := 16#32
  let v1146 : BitVec 32 := Scalar.muli arg12 c16_i32_329
  let c12_i32 : BitVec 32 := 12#32
  let v1147 : BitVec 32 := Scalar.addi v1146 c12_i32
  let v1217 : Index := Scalar.indexCast v1147
  let c96_349 : Index := 96#32
  ![v1217.toNat, 96]
def k0_off220 (v1145 : BitVec 32) : Fin 2 → Nat :=
  let v1225 : Index := Scalar.indexCast v1145
  let c112_351 : Index := 112#32
  ![v1225.toNat, 112]

def k0_chk13 (v1145 : BitVec 32) : Prop :=
  (∀ a, (k0_off206 v1145) a + S1x16.size a ≤ S256x128.size a) ∧
  (∀ a, (k0_off208 v1145) a + S1x16.size a ≤ S256x128.size a) ∧
  (∀ a, (k0_off210 v1145) a + S1x16.size a ≤ S256x128.size a) ∧
  (∀ a, (k0_off212 v1145) a + S1x16.size a ≤ S256x128.size a) ∧
  (∀ a, (k0_off214 v1145) a + S1x16.size a ≤ S256x128.size a) ∧
  (∀ a, (k0_off216 v1145) a + S1x16.size a ≤ S256x128.size a) ∧
  (∀ a, (k0_off218 v1145) a + S1x16.size a ≤ S256x128.size a) ∧
  (∀ a, (k0_off220 v1145) a + S1x16.size a ≤ S256x128.size a)
theorem k0_off206_inb : ∀ (v1145 : BitVec 32) (k0_hw13 : k0_chk13 v1145), ∀ a, (k0_off206 v1145) a + S1x16.size a ≤ S256x128.size a := fun v1145 k0_hw13 => k0_hw13.1
theorem k0_off208_inb : ∀ (v1145 : BitVec 32) (k0_hw13 : k0_chk13 v1145), ∀ a, (k0_off208 v1145) a + S1x16.size a ≤ S256x128.size a := fun v1145 k0_hw13 => k0_hw13.2.1
theorem k0_off210_inb : ∀ (v1145 : BitVec 32) (k0_hw13 : k0_chk13 v1145), ∀ a, (k0_off210 v1145) a + S1x16.size a ≤ S256x128.size a := fun v1145 k0_hw13 => k0_hw13.2.2.1
theorem k0_off212_inb : ∀ (v1145 : BitVec 32) (k0_hw13 : k0_chk13 v1145), ∀ a, (k0_off212 v1145) a + S1x16.size a ≤ S256x128.size a := fun v1145 k0_hw13 => k0_hw13.2.2.2.1
theorem k0_off214_inb : ∀ (v1145 : BitVec 32) (k0_hw13 : k0_chk13 v1145), ∀ a, (k0_off214 v1145) a + S1x16.size a ≤ S256x128.size a := fun v1145 k0_hw13 => k0_hw13.2.2.2.2.1
theorem k0_off216_inb : ∀ (v1145 : BitVec 32) (k0_hw13 : k0_chk13 v1145), ∀ a, (k0_off216 v1145) a + S1x16.size a ≤ S256x128.size a := fun v1145 k0_hw13 => k0_hw13.2.2.2.2.2.1
theorem k0_off218_inb : ∀ (v1145 : BitVec 32) (k0_hw13 : k0_chk13 v1145), ∀ a, (k0_off218 v1145) a + S1x16.size a ≤ S256x128.size a := fun v1145 k0_hw13 => k0_hw13.2.2.2.2.2.2.1
theorem k0_off220_inb : ∀ (v1145 : BitVec 32) (k0_hw13 : k0_chk13 v1145), ∀ a, (k0_off220 v1145) a + S1x16.size a ≤ S256x128.size a := fun v1145 k0_hw13 => k0_hw13.2.2.2.2.2.2.2

def k0_off221 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_329 : BitVec 32 := 16#32
  let v1146 : BitVec 32 := Scalar.muli arg12 c16_i32_329
  let c12_i32 : BitVec 32 := 12#32
  let v1147 : BitVec 32 := Scalar.addi v1146 c12_i32
  let v1228 : Index := Scalar.indexCast v1147
  let c112_352 : Index := 112#32
  ![v1228.toNat, 112]
def k0_off222 (v1237 : BitVec 32) : Fin 2 → Nat :=
  let v1240 : Index := Scalar.indexCast v1237
  let c0_355 : Index := 0#32
  ![v1240.toNat, 0]

def k0_off223 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_354 : BitVec 32 := 16#32
  let v1238 : BitVec 32 := Scalar.muli arg12 c16_i32_354
  let c13_i32 : BitVec 32 := 13#32
  let v1239 : BitVec 32 := Scalar.addi v1238 c13_i32
  let v1243 : Index := Scalar.indexCast v1239
  let c0_356 : Index := 0#32
  ![v1243.toNat, 0]
def k0_off224 (v1237 : BitVec 32) : Fin 2 → Nat :=
  let v1251 : Index := Scalar.indexCast v1237
  let c16_358 : Index := 16#32
  ![v1251.toNat, 16]
def k0_off225 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_354 : BitVec 32 := 16#32
  let v1238 : BitVec 32 := Scalar.muli arg12 c16_i32_354
  let c13_i32 : BitVec 32 := 13#32
  let v1239 : BitVec 32 := Scalar.addi v1238 c13_i32
  let v1254 : Index := Scalar.indexCast v1239
  let c16_359 : Index := 16#32
  ![v1254.toNat, 16]
def k0_off226 (v1237 : BitVec 32) : Fin 2 → Nat :=
  let v1262 : Index := Scalar.indexCast v1237
  let c32_361 : Index := 32#32
  ![v1262.toNat, 32]
def k0_off227 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_354 : BitVec 32 := 16#32
  let v1238 : BitVec 32 := Scalar.muli arg12 c16_i32_354
  let c13_i32 : BitVec 32 := 13#32
  let v1239 : BitVec 32 := Scalar.addi v1238 c13_i32
  let v1265 : Index := Scalar.indexCast v1239
  let c32_362 : Index := 32#32
  ![v1265.toNat, 32]
def k0_off228 (v1237 : BitVec 32) : Fin 2 → Nat :=
  let v1273 : Index := Scalar.indexCast v1237
  let c48_364 : Index := 48#32
  ![v1273.toNat, 48]
def k0_off229 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_354 : BitVec 32 := 16#32
  let v1238 : BitVec 32 := Scalar.muli arg12 c16_i32_354
  let c13_i32 : BitVec 32 := 13#32
  let v1239 : BitVec 32 := Scalar.addi v1238 c13_i32
  let v1276 : Index := Scalar.indexCast v1239
  let c48_365 : Index := 48#32
  ![v1276.toNat, 48]
def k0_off230 (v1237 : BitVec 32) : Fin 2 → Nat :=
  let v1284 : Index := Scalar.indexCast v1237
  let c64_367 : Index := 64#32
  ![v1284.toNat, 64]
def k0_off231 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_354 : BitVec 32 := 16#32
  let v1238 : BitVec 32 := Scalar.muli arg12 c16_i32_354
  let c13_i32 : BitVec 32 := 13#32
  let v1239 : BitVec 32 := Scalar.addi v1238 c13_i32
  let v1287 : Index := Scalar.indexCast v1239
  let c64_368 : Index := 64#32
  ![v1287.toNat, 64]
def k0_off232 (v1237 : BitVec 32) : Fin 2 → Nat :=
  let v1295 : Index := Scalar.indexCast v1237
  let c80_370 : Index := 80#32
  ![v1295.toNat, 80]
def k0_off233 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_354 : BitVec 32 := 16#32
  let v1238 : BitVec 32 := Scalar.muli arg12 c16_i32_354
  let c13_i32 : BitVec 32 := 13#32
  let v1239 : BitVec 32 := Scalar.addi v1238 c13_i32
  let v1298 : Index := Scalar.indexCast v1239
  let c80_371 : Index := 80#32
  ![v1298.toNat, 80]
def k0_off234 (v1237 : BitVec 32) : Fin 2 → Nat :=
  let v1306 : Index := Scalar.indexCast v1237
  let c96_373 : Index := 96#32
  ![v1306.toNat, 96]
def k0_off235 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_354 : BitVec 32 := 16#32
  let v1238 : BitVec 32 := Scalar.muli arg12 c16_i32_354
  let c13_i32 : BitVec 32 := 13#32
  let v1239 : BitVec 32 := Scalar.addi v1238 c13_i32
  let v1309 : Index := Scalar.indexCast v1239
  let c96_374 : Index := 96#32
  ![v1309.toNat, 96]
def k0_off236 (v1237 : BitVec 32) : Fin 2 → Nat :=
  let v1317 : Index := Scalar.indexCast v1237
  let c112_376 : Index := 112#32
  ![v1317.toNat, 112]

def k0_chk14 (v1237 : BitVec 32) : Prop :=
  (∀ a, (k0_off222 v1237) a + S1x16.size a ≤ S256x128.size a) ∧
  (∀ a, (k0_off224 v1237) a + S1x16.size a ≤ S256x128.size a) ∧
  (∀ a, (k0_off226 v1237) a + S1x16.size a ≤ S256x128.size a) ∧
  (∀ a, (k0_off228 v1237) a + S1x16.size a ≤ S256x128.size a) ∧
  (∀ a, (k0_off230 v1237) a + S1x16.size a ≤ S256x128.size a) ∧
  (∀ a, (k0_off232 v1237) a + S1x16.size a ≤ S256x128.size a) ∧
  (∀ a, (k0_off234 v1237) a + S1x16.size a ≤ S256x128.size a) ∧
  (∀ a, (k0_off236 v1237) a + S1x16.size a ≤ S256x128.size a)
theorem k0_off222_inb : ∀ (v1237 : BitVec 32) (k0_hw14 : k0_chk14 v1237), ∀ a, (k0_off222 v1237) a + S1x16.size a ≤ S256x128.size a := fun v1237 k0_hw14 => k0_hw14.1
theorem k0_off224_inb : ∀ (v1237 : BitVec 32) (k0_hw14 : k0_chk14 v1237), ∀ a, (k0_off224 v1237) a + S1x16.size a ≤ S256x128.size a := fun v1237 k0_hw14 => k0_hw14.2.1
theorem k0_off226_inb : ∀ (v1237 : BitVec 32) (k0_hw14 : k0_chk14 v1237), ∀ a, (k0_off226 v1237) a + S1x16.size a ≤ S256x128.size a := fun v1237 k0_hw14 => k0_hw14.2.2.1
theorem k0_off228_inb : ∀ (v1237 : BitVec 32) (k0_hw14 : k0_chk14 v1237), ∀ a, (k0_off228 v1237) a + S1x16.size a ≤ S256x128.size a := fun v1237 k0_hw14 => k0_hw14.2.2.2.1
theorem k0_off230_inb : ∀ (v1237 : BitVec 32) (k0_hw14 : k0_chk14 v1237), ∀ a, (k0_off230 v1237) a + S1x16.size a ≤ S256x128.size a := fun v1237 k0_hw14 => k0_hw14.2.2.2.2.1
theorem k0_off232_inb : ∀ (v1237 : BitVec 32) (k0_hw14 : k0_chk14 v1237), ∀ a, (k0_off232 v1237) a + S1x16.size a ≤ S256x128.size a := fun v1237 k0_hw14 => k0_hw14.2.2.2.2.2.1
theorem k0_off234_inb : ∀ (v1237 : BitVec 32) (k0_hw14 : k0_chk14 v1237), ∀ a, (k0_off234 v1237) a + S1x16.size a ≤ S256x128.size a := fun v1237 k0_hw14 => k0_hw14.2.2.2.2.2.2.1
theorem k0_off236_inb : ∀ (v1237 : BitVec 32) (k0_hw14 : k0_chk14 v1237), ∀ a, (k0_off236 v1237) a + S1x16.size a ≤ S256x128.size a := fun v1237 k0_hw14 => k0_hw14.2.2.2.2.2.2.2

def k0_off237 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_354 : BitVec 32 := 16#32
  let v1238 : BitVec 32 := Scalar.muli arg12 c16_i32_354
  let c13_i32 : BitVec 32 := 13#32
  let v1239 : BitVec 32 := Scalar.addi v1238 c13_i32
  let v1320 : Index := Scalar.indexCast v1239
  let c112_377 : Index := 112#32
  ![v1320.toNat, 112]
def k0_off238 (v1329 : BitVec 32) : Fin 2 → Nat :=
  let v1332 : Index := Scalar.indexCast v1329
  let c0_380 : Index := 0#32
  ![v1332.toNat, 0]

def k0_off239 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_379 : BitVec 32 := 16#32
  let v1330 : BitVec 32 := Scalar.muli arg12 c16_i32_379
  let c14_i32 : BitVec 32 := 14#32
  let v1331 : BitVec 32 := Scalar.addi v1330 c14_i32
  let v1335 : Index := Scalar.indexCast v1331
  let c0_381 : Index := 0#32
  ![v1335.toNat, 0]
def k0_off240 (v1329 : BitVec 32) : Fin 2 → Nat :=
  let v1343 : Index := Scalar.indexCast v1329
  let c16_383 : Index := 16#32
  ![v1343.toNat, 16]
def k0_off241 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_379 : BitVec 32 := 16#32
  let v1330 : BitVec 32 := Scalar.muli arg12 c16_i32_379
  let c14_i32 : BitVec 32 := 14#32
  let v1331 : BitVec 32 := Scalar.addi v1330 c14_i32
  let v1346 : Index := Scalar.indexCast v1331
  let c16_384 : Index := 16#32
  ![v1346.toNat, 16]
def k0_off242 (v1329 : BitVec 32) : Fin 2 → Nat :=
  let v1354 : Index := Scalar.indexCast v1329
  let c32_386 : Index := 32#32
  ![v1354.toNat, 32]
def k0_off243 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_379 : BitVec 32 := 16#32
  let v1330 : BitVec 32 := Scalar.muli arg12 c16_i32_379
  let c14_i32 : BitVec 32 := 14#32
  let v1331 : BitVec 32 := Scalar.addi v1330 c14_i32
  let v1357 : Index := Scalar.indexCast v1331
  let c32_387 : Index := 32#32
  ![v1357.toNat, 32]
def k0_off244 (v1329 : BitVec 32) : Fin 2 → Nat :=
  let v1365 : Index := Scalar.indexCast v1329
  let c48_389 : Index := 48#32
  ![v1365.toNat, 48]
def k0_off245 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_379 : BitVec 32 := 16#32
  let v1330 : BitVec 32 := Scalar.muli arg12 c16_i32_379
  let c14_i32 : BitVec 32 := 14#32
  let v1331 : BitVec 32 := Scalar.addi v1330 c14_i32
  let v1368 : Index := Scalar.indexCast v1331
  let c48_390 : Index := 48#32
  ![v1368.toNat, 48]
def k0_off246 (v1329 : BitVec 32) : Fin 2 → Nat :=
  let v1376 : Index := Scalar.indexCast v1329
  let c64_392 : Index := 64#32
  ![v1376.toNat, 64]
def k0_off247 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_379 : BitVec 32 := 16#32
  let v1330 : BitVec 32 := Scalar.muli arg12 c16_i32_379
  let c14_i32 : BitVec 32 := 14#32
  let v1331 : BitVec 32 := Scalar.addi v1330 c14_i32
  let v1379 : Index := Scalar.indexCast v1331
  let c64_393 : Index := 64#32
  ![v1379.toNat, 64]
def k0_off248 (v1329 : BitVec 32) : Fin 2 → Nat :=
  let v1387 : Index := Scalar.indexCast v1329
  let c80_395 : Index := 80#32
  ![v1387.toNat, 80]
def k0_off249 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_379 : BitVec 32 := 16#32
  let v1330 : BitVec 32 := Scalar.muli arg12 c16_i32_379
  let c14_i32 : BitVec 32 := 14#32
  let v1331 : BitVec 32 := Scalar.addi v1330 c14_i32
  let v1390 : Index := Scalar.indexCast v1331
  let c80_396 : Index := 80#32
  ![v1390.toNat, 80]
def k0_off250 (v1329 : BitVec 32) : Fin 2 → Nat :=
  let v1398 : Index := Scalar.indexCast v1329
  let c96_398 : Index := 96#32
  ![v1398.toNat, 96]
def k0_off251 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_379 : BitVec 32 := 16#32
  let v1330 : BitVec 32 := Scalar.muli arg12 c16_i32_379
  let c14_i32 : BitVec 32 := 14#32
  let v1331 : BitVec 32 := Scalar.addi v1330 c14_i32
  let v1401 : Index := Scalar.indexCast v1331
  let c96_399 : Index := 96#32
  ![v1401.toNat, 96]
def k0_off252 (v1329 : BitVec 32) : Fin 2 → Nat :=
  let v1409 : Index := Scalar.indexCast v1329
  let c112_401 : Index := 112#32
  ![v1409.toNat, 112]

def k0_chk15 (v1329 : BitVec 32) : Prop :=
  (∀ a, (k0_off238 v1329) a + S1x16.size a ≤ S256x128.size a) ∧
  (∀ a, (k0_off240 v1329) a + S1x16.size a ≤ S256x128.size a) ∧
  (∀ a, (k0_off242 v1329) a + S1x16.size a ≤ S256x128.size a) ∧
  (∀ a, (k0_off244 v1329) a + S1x16.size a ≤ S256x128.size a) ∧
  (∀ a, (k0_off246 v1329) a + S1x16.size a ≤ S256x128.size a) ∧
  (∀ a, (k0_off248 v1329) a + S1x16.size a ≤ S256x128.size a) ∧
  (∀ a, (k0_off250 v1329) a + S1x16.size a ≤ S256x128.size a) ∧
  (∀ a, (k0_off252 v1329) a + S1x16.size a ≤ S256x128.size a)
theorem k0_off238_inb : ∀ (v1329 : BitVec 32) (k0_hw15 : k0_chk15 v1329), ∀ a, (k0_off238 v1329) a + S1x16.size a ≤ S256x128.size a := fun v1329 k0_hw15 => k0_hw15.1
theorem k0_off240_inb : ∀ (v1329 : BitVec 32) (k0_hw15 : k0_chk15 v1329), ∀ a, (k0_off240 v1329) a + S1x16.size a ≤ S256x128.size a := fun v1329 k0_hw15 => k0_hw15.2.1
theorem k0_off242_inb : ∀ (v1329 : BitVec 32) (k0_hw15 : k0_chk15 v1329), ∀ a, (k0_off242 v1329) a + S1x16.size a ≤ S256x128.size a := fun v1329 k0_hw15 => k0_hw15.2.2.1
theorem k0_off244_inb : ∀ (v1329 : BitVec 32) (k0_hw15 : k0_chk15 v1329), ∀ a, (k0_off244 v1329) a + S1x16.size a ≤ S256x128.size a := fun v1329 k0_hw15 => k0_hw15.2.2.2.1
theorem k0_off246_inb : ∀ (v1329 : BitVec 32) (k0_hw15 : k0_chk15 v1329), ∀ a, (k0_off246 v1329) a + S1x16.size a ≤ S256x128.size a := fun v1329 k0_hw15 => k0_hw15.2.2.2.2.1
theorem k0_off248_inb : ∀ (v1329 : BitVec 32) (k0_hw15 : k0_chk15 v1329), ∀ a, (k0_off248 v1329) a + S1x16.size a ≤ S256x128.size a := fun v1329 k0_hw15 => k0_hw15.2.2.2.2.2.1
theorem k0_off250_inb : ∀ (v1329 : BitVec 32) (k0_hw15 : k0_chk15 v1329), ∀ a, (k0_off250 v1329) a + S1x16.size a ≤ S256x128.size a := fun v1329 k0_hw15 => k0_hw15.2.2.2.2.2.2.1
theorem k0_off252_inb : ∀ (v1329 : BitVec 32) (k0_hw15 : k0_chk15 v1329), ∀ a, (k0_off252 v1329) a + S1x16.size a ≤ S256x128.size a := fun v1329 k0_hw15 => k0_hw15.2.2.2.2.2.2.2

def k0_off253 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_379 : BitVec 32 := 16#32
  let v1330 : BitVec 32 := Scalar.muli arg12 c16_i32_379
  let c14_i32 : BitVec 32 := 14#32
  let v1331 : BitVec 32 := Scalar.addi v1330 c14_i32
  let v1412 : Index := Scalar.indexCast v1331
  let c112_402 : Index := 112#32
  ![v1412.toNat, 112]
def k0_off254 (v1421 : BitVec 32) : Fin 2 → Nat :=
  let v1424 : Index := Scalar.indexCast v1421
  let c0_405 : Index := 0#32
  ![v1424.toNat, 0]

def k0_off255 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_404 : BitVec 32 := 16#32
  let v1422 : BitVec 32 := Scalar.muli arg12 c16_i32_404
  let c15_i32 : BitVec 32 := 15#32
  let v1423 : BitVec 32 := Scalar.addi v1422 c15_i32
  let v1427 : Index := Scalar.indexCast v1423
  let c0_406 : Index := 0#32
  ![v1427.toNat, 0]
def k0_off256 (v1421 : BitVec 32) : Fin 2 → Nat :=
  let v1435 : Index := Scalar.indexCast v1421
  let c16_408 : Index := 16#32
  ![v1435.toNat, 16]
def k0_off257 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_404 : BitVec 32 := 16#32
  let v1422 : BitVec 32 := Scalar.muli arg12 c16_i32_404
  let c15_i32 : BitVec 32 := 15#32
  let v1423 : BitVec 32 := Scalar.addi v1422 c15_i32
  let v1438 : Index := Scalar.indexCast v1423
  let c16_409 : Index := 16#32
  ![v1438.toNat, 16]
def k0_off258 (v1421 : BitVec 32) : Fin 2 → Nat :=
  let v1446 : Index := Scalar.indexCast v1421
  let c32_411 : Index := 32#32
  ![v1446.toNat, 32]
def k0_off259 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_404 : BitVec 32 := 16#32
  let v1422 : BitVec 32 := Scalar.muli arg12 c16_i32_404
  let c15_i32 : BitVec 32 := 15#32
  let v1423 : BitVec 32 := Scalar.addi v1422 c15_i32
  let v1449 : Index := Scalar.indexCast v1423
  let c32_412 : Index := 32#32
  ![v1449.toNat, 32]
def k0_off260 (v1421 : BitVec 32) : Fin 2 → Nat :=
  let v1457 : Index := Scalar.indexCast v1421
  let c48_414 : Index := 48#32
  ![v1457.toNat, 48]
def k0_off261 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_404 : BitVec 32 := 16#32
  let v1422 : BitVec 32 := Scalar.muli arg12 c16_i32_404
  let c15_i32 : BitVec 32 := 15#32
  let v1423 : BitVec 32 := Scalar.addi v1422 c15_i32
  let v1460 : Index := Scalar.indexCast v1423
  let c48_415 : Index := 48#32
  ![v1460.toNat, 48]
def k0_off262 (v1421 : BitVec 32) : Fin 2 → Nat :=
  let v1468 : Index := Scalar.indexCast v1421
  let c64_417 : Index := 64#32
  ![v1468.toNat, 64]
def k0_off263 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_404 : BitVec 32 := 16#32
  let v1422 : BitVec 32 := Scalar.muli arg12 c16_i32_404
  let c15_i32 : BitVec 32 := 15#32
  let v1423 : BitVec 32 := Scalar.addi v1422 c15_i32
  let v1471 : Index := Scalar.indexCast v1423
  let c64_418 : Index := 64#32
  ![v1471.toNat, 64]
def k0_off264 (v1421 : BitVec 32) : Fin 2 → Nat :=
  let v1479 : Index := Scalar.indexCast v1421
  let c80_420 : Index := 80#32
  ![v1479.toNat, 80]
def k0_off265 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_404 : BitVec 32 := 16#32
  let v1422 : BitVec 32 := Scalar.muli arg12 c16_i32_404
  let c15_i32 : BitVec 32 := 15#32
  let v1423 : BitVec 32 := Scalar.addi v1422 c15_i32
  let v1482 : Index := Scalar.indexCast v1423
  let c80_421 : Index := 80#32
  ![v1482.toNat, 80]
def k0_off266 (v1421 : BitVec 32) : Fin 2 → Nat :=
  let v1490 : Index := Scalar.indexCast v1421
  let c96_423 : Index := 96#32
  ![v1490.toNat, 96]
def k0_off267 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_404 : BitVec 32 := 16#32
  let v1422 : BitVec 32 := Scalar.muli arg12 c16_i32_404
  let c15_i32 : BitVec 32 := 15#32
  let v1423 : BitVec 32 := Scalar.addi v1422 c15_i32
  let v1493 : Index := Scalar.indexCast v1423
  let c96_424 : Index := 96#32
  ![v1493.toNat, 96]
def k0_off268 (v1421 : BitVec 32) : Fin 2 → Nat :=
  let v1501 : Index := Scalar.indexCast v1421
  let c112_426 : Index := 112#32
  ![v1501.toNat, 112]

def k0_chk16 (v1421 : BitVec 32) : Prop :=
  (∀ a, (k0_off254 v1421) a + S1x16.size a ≤ S256x128.size a) ∧
  (∀ a, (k0_off256 v1421) a + S1x16.size a ≤ S256x128.size a) ∧
  (∀ a, (k0_off258 v1421) a + S1x16.size a ≤ S256x128.size a) ∧
  (∀ a, (k0_off260 v1421) a + S1x16.size a ≤ S256x128.size a) ∧
  (∀ a, (k0_off262 v1421) a + S1x16.size a ≤ S256x128.size a) ∧
  (∀ a, (k0_off264 v1421) a + S1x16.size a ≤ S256x128.size a) ∧
  (∀ a, (k0_off266 v1421) a + S1x16.size a ≤ S256x128.size a) ∧
  (∀ a, (k0_off268 v1421) a + S1x16.size a ≤ S256x128.size a)
theorem k0_off254_inb : ∀ (v1421 : BitVec 32) (k0_hw16 : k0_chk16 v1421), ∀ a, (k0_off254 v1421) a + S1x16.size a ≤ S256x128.size a := fun v1421 k0_hw16 => k0_hw16.1
theorem k0_off256_inb : ∀ (v1421 : BitVec 32) (k0_hw16 : k0_chk16 v1421), ∀ a, (k0_off256 v1421) a + S1x16.size a ≤ S256x128.size a := fun v1421 k0_hw16 => k0_hw16.2.1
theorem k0_off258_inb : ∀ (v1421 : BitVec 32) (k0_hw16 : k0_chk16 v1421), ∀ a, (k0_off258 v1421) a + S1x16.size a ≤ S256x128.size a := fun v1421 k0_hw16 => k0_hw16.2.2.1
theorem k0_off260_inb : ∀ (v1421 : BitVec 32) (k0_hw16 : k0_chk16 v1421), ∀ a, (k0_off260 v1421) a + S1x16.size a ≤ S256x128.size a := fun v1421 k0_hw16 => k0_hw16.2.2.2.1
theorem k0_off262_inb : ∀ (v1421 : BitVec 32) (k0_hw16 : k0_chk16 v1421), ∀ a, (k0_off262 v1421) a + S1x16.size a ≤ S256x128.size a := fun v1421 k0_hw16 => k0_hw16.2.2.2.2.1
theorem k0_off264_inb : ∀ (v1421 : BitVec 32) (k0_hw16 : k0_chk16 v1421), ∀ a, (k0_off264 v1421) a + S1x16.size a ≤ S256x128.size a := fun v1421 k0_hw16 => k0_hw16.2.2.2.2.2.1
theorem k0_off266_inb : ∀ (v1421 : BitVec 32) (k0_hw16 : k0_chk16 v1421), ∀ a, (k0_off266 v1421) a + S1x16.size a ≤ S256x128.size a := fun v1421 k0_hw16 => k0_hw16.2.2.2.2.2.2.1
theorem k0_off268_inb : ∀ (v1421 : BitVec 32) (k0_hw16 : k0_chk16 v1421), ∀ a, (k0_off268 v1421) a + S1x16.size a ≤ S256x128.size a := fun v1421 k0_hw16 => k0_hw16.2.2.2.2.2.2.2

def k0_off269 (k0_t3 : Fin k0_t3_loop.trips) : Fin 2 → Nat :=
  let c0_i32_18 : BitVec 32 := 0#32
  let c1_i32_19 : BitVec 32 := 1#32
  let arg12 : BitVec 32 := Scf.iv c0_i32_18 c1_i32_19 k0_t3
  let c16_i32_404 : BitVec 32 := 16#32
  let v1422 : BitVec 32 := Scalar.muli arg12 c16_i32_404
  let c15_i32 : BitVec 32 := 15#32
  let v1423 : BitVec 32 := Scalar.addi v1422 c15_i32
  let v1504 : Index := Scalar.indexCast v1423
  let c112_427 : Index := 112#32
  ![v1504.toNat, 112]
def k0_cond1 (k0_t2 : Fin k0_t2_loop.trips) : BitVec 1 :=
  let c0_i32_5 : BitVec 32 := 0#32
  let c1_i32_6 : BitVec 32 := 1#32
  let arg11 : BitVec 32 := Scf.iv c0_i32_5 c1_i32_6 k0_t2
  let c7_i32 : BitVec 32 := 7#32
  let v29 : BitVec 1 := Scalar.cmpi .slt arg11 c7_i32
  let v30 : BitVec 32 := Scalar.extui v29
  let c0_i32_23 : BitVec 32 := 0#32
  let v31 : BitVec 1 := Scalar.cmpi .ne v30 c0_i32_23
  v31

def k0_off270 (i : grid0.Coords) (k0_t2 : Fin k0_t2_loop.trips) : Fin 3 → Nat :=
  let arg1 : BitVec 32 := BitVec.ofNat 32 (i 1).val
  let c2_i32 : BitVec 32 := 2#32
  let c0_i32_5 : BitVec 32 := 0#32
  let c1_i32_6 : BitVec 32 := 1#32
  let arg11 : BitVec 32 := Scf.iv c0_i32_5 c1_i32_6 k0_t2
  let v9 : BitVec 32 := Scalar.muli c2_i32 arg11
  let c2_i32_31 : BitVec 32 := 2#32
  let v35 : BitVec 32 := Scalar.addi v9 c2_i32_31
  let c256_i32_32 : BitVec 32 := 256#32
  let v36 : BitVec 32 := Scalar.muli v35 c256_i32_32
  let arg0 : BitVec 32 := BitVec.ofNat 32 (i 0).val
  let c128_i32 : BitVec 32 := 128#32
  let v0 : BitVec 32 := Scalar.muli arg0 c128_i32
  ![arg1.toNat, v36.toNat, v0.toNat]
@[reducible] def k0_t4_loop : Scf.Loop 32 :=
  let c0_i32_27 : BitVec 32 := 0#32
  let c16_i32_28 : BitVec 32 := 16#32
  let v34 : BitVec 32 := Scalar.addi c0_i32_27 c16_i32_28
  let c1_i32_29 : BitVec 32 := 1#32
  ⟨c0_i32_27, v34, c1_i32_29⟩
def k0_off271 (k0_t2 : Fin k0_t2_loop.trips) (k0_t4 : Fin k0_t4_loop.trips) : Fin 1 → Nat :=
  let c2_i32 : BitVec 32 := 2#32
  let c0_i32_5 : BitVec 32 := 0#32
  let c1_i32_6 : BitVec 32 := 1#32
  let arg11 : BitVec 32 := Scf.iv c0_i32_5 c1_i32_6 k0_t2
  let v9 : BitVec 32 := Scalar.muli c2_i32 arg11
  let c1_i32_24 : BitVec 32 := 1#32
  let v32 : BitVec 32 := Scalar.addi v9 c1_i32_24
  let c256_i32_25 : BitVec 32 := 256#32
  let v33 : BitVec 32 := Scalar.muli v32 c256_i32_25
  let c0_i32_27 : BitVec 32 := 0#32
  let c1_i32_29 : BitVec 32 := 1#32
  let arg12 : BitVec 32 := Scf.iv c0_i32_27 c1_i32_29 k0_t4
  let c16_i32_31 : BitVec 32 := 16#32
  let v35 : BitVec 32 := Scalar.muli arg12 c16_i32_31
  let v36 : BitVec 32 := Scalar.addi v33 v35
  let v37 : Index := Scalar.indexCast v36
  ![v37.toNat]
def k0_off272 (v41 : BitVec 32) : Fin 2 → Nat :=
  let v44 : Index := Scalar.indexCast v41
  let c0 : Index := 0#32
  ![v44.toNat, 0]

def k0_off273 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_32 : BitVec 32 := 16#32
  let v42 : BitVec 32 := Scalar.muli arg12 c16_i32_32
  let c0_i32_33 : BitVec 32 := 0#32
  let v43 : BitVec 32 := Scalar.addi v42 c0_i32_33
  let v47 : Index := Scalar.indexCast v43
  let c0_34 : Index := 0#32
  ![v47.toNat, 0]
def k0_off274 (v41 : BitVec 32) : Fin 2 → Nat :=
  let v55 : Index := Scalar.indexCast v41
  let c16 : Index := 16#32
  ![v55.toNat, 16]
def k0_off275 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_32 : BitVec 32 := 16#32
  let v42 : BitVec 32 := Scalar.muli arg12 c16_i32_32
  let c0_i32_33 : BitVec 32 := 0#32
  let v43 : BitVec 32 := Scalar.addi v42 c0_i32_33
  let v58 : Index := Scalar.indexCast v43
  let c16_36 : Index := 16#32
  ![v58.toNat, 16]
def k0_off276 (v41 : BitVec 32) : Fin 2 → Nat :=
  let v66 : Index := Scalar.indexCast v41
  let c32 : Index := 32#32
  ![v66.toNat, 32]
def k0_off277 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_32 : BitVec 32 := 16#32
  let v42 : BitVec 32 := Scalar.muli arg12 c16_i32_32
  let c0_i32_33 : BitVec 32 := 0#32
  let v43 : BitVec 32 := Scalar.addi v42 c0_i32_33
  let v69 : Index := Scalar.indexCast v43
  let c32_38 : Index := 32#32
  ![v69.toNat, 32]
def k0_off278 (v41 : BitVec 32) : Fin 2 → Nat :=
  let v77 : Index := Scalar.indexCast v41
  let c48 : Index := 48#32
  ![v77.toNat, 48]
def k0_off279 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_32 : BitVec 32 := 16#32
  let v42 : BitVec 32 := Scalar.muli arg12 c16_i32_32
  let c0_i32_33 : BitVec 32 := 0#32
  let v43 : BitVec 32 := Scalar.addi v42 c0_i32_33
  let v80 : Index := Scalar.indexCast v43
  let c48_40 : Index := 48#32
  ![v80.toNat, 48]
def k0_off280 (v41 : BitVec 32) : Fin 2 → Nat :=
  let v88 : Index := Scalar.indexCast v41
  let c64 : Index := 64#32
  ![v88.toNat, 64]
def k0_off281 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_32 : BitVec 32 := 16#32
  let v42 : BitVec 32 := Scalar.muli arg12 c16_i32_32
  let c0_i32_33 : BitVec 32 := 0#32
  let v43 : BitVec 32 := Scalar.addi v42 c0_i32_33
  let v91 : Index := Scalar.indexCast v43
  let c64_42 : Index := 64#32
  ![v91.toNat, 64]
def k0_off282 (v41 : BitVec 32) : Fin 2 → Nat :=
  let v99 : Index := Scalar.indexCast v41
  let c80 : Index := 80#32
  ![v99.toNat, 80]
def k0_off283 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_32 : BitVec 32 := 16#32
  let v42 : BitVec 32 := Scalar.muli arg12 c16_i32_32
  let c0_i32_33 : BitVec 32 := 0#32
  let v43 : BitVec 32 := Scalar.addi v42 c0_i32_33
  let v102 : Index := Scalar.indexCast v43
  let c80_44 : Index := 80#32
  ![v102.toNat, 80]
def k0_off284 (v41 : BitVec 32) : Fin 2 → Nat :=
  let v110 : Index := Scalar.indexCast v41
  let c96 : Index := 96#32
  ![v110.toNat, 96]
def k0_off285 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_32 : BitVec 32 := 16#32
  let v42 : BitVec 32 := Scalar.muli arg12 c16_i32_32
  let c0_i32_33 : BitVec 32 := 0#32
  let v43 : BitVec 32 := Scalar.addi v42 c0_i32_33
  let v113 : Index := Scalar.indexCast v43
  let c96_46 : Index := 96#32
  ![v113.toNat, 96]
def k0_off286 (v41 : BitVec 32) : Fin 2 → Nat :=
  let v121 : Index := Scalar.indexCast v41
  let c112 : Index := 112#32
  ![v121.toNat, 112]

def k0_chk17 (v41 : BitVec 32) : Prop :=
  (∀ a, (k0_off272 v41) a + S1x16.size a ≤ S256x128.size a) ∧
  (∀ a, (k0_off274 v41) a + S1x16.size a ≤ S256x128.size a) ∧
  (∀ a, (k0_off276 v41) a + S1x16.size a ≤ S256x128.size a) ∧
  (∀ a, (k0_off278 v41) a + S1x16.size a ≤ S256x128.size a) ∧
  (∀ a, (k0_off280 v41) a + S1x16.size a ≤ S256x128.size a) ∧
  (∀ a, (k0_off282 v41) a + S1x16.size a ≤ S256x128.size a) ∧
  (∀ a, (k0_off284 v41) a + S1x16.size a ≤ S256x128.size a) ∧
  (∀ a, (k0_off286 v41) a + S1x16.size a ≤ S256x128.size a)
theorem k0_off272_inb : ∀ (v41 : BitVec 32) (k0_hw17 : k0_chk17 v41), ∀ a, (k0_off272 v41) a + S1x16.size a ≤ S256x128.size a := fun v41 k0_hw17 => k0_hw17.1
theorem k0_off274_inb : ∀ (v41 : BitVec 32) (k0_hw17 : k0_chk17 v41), ∀ a, (k0_off274 v41) a + S1x16.size a ≤ S256x128.size a := fun v41 k0_hw17 => k0_hw17.2.1
theorem k0_off276_inb : ∀ (v41 : BitVec 32) (k0_hw17 : k0_chk17 v41), ∀ a, (k0_off276 v41) a + S1x16.size a ≤ S256x128.size a := fun v41 k0_hw17 => k0_hw17.2.2.1
theorem k0_off278_inb : ∀ (v41 : BitVec 32) (k0_hw17 : k0_chk17 v41), ∀ a, (k0_off278 v41) a + S1x16.size a ≤ S256x128.size a := fun v41 k0_hw17 => k0_hw17.2.2.2.1
theorem k0_off280_inb : ∀ (v41 : BitVec 32) (k0_hw17 : k0_chk17 v41), ∀ a, (k0_off280 v41) a + S1x16.size a ≤ S256x128.size a := fun v41 k0_hw17 => k0_hw17.2.2.2.2.1
theorem k0_off282_inb : ∀ (v41 : BitVec 32) (k0_hw17 : k0_chk17 v41), ∀ a, (k0_off282 v41) a + S1x16.size a ≤ S256x128.size a := fun v41 k0_hw17 => k0_hw17.2.2.2.2.2.1
theorem k0_off284_inb : ∀ (v41 : BitVec 32) (k0_hw17 : k0_chk17 v41), ∀ a, (k0_off284 v41) a + S1x16.size a ≤ S256x128.size a := fun v41 k0_hw17 => k0_hw17.2.2.2.2.2.2.1
theorem k0_off286_inb : ∀ (v41 : BitVec 32) (k0_hw17 : k0_chk17 v41), ∀ a, (k0_off286 v41) a + S1x16.size a ≤ S256x128.size a := fun v41 k0_hw17 => k0_hw17.2.2.2.2.2.2.2

def k0_off287 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_32 : BitVec 32 := 16#32
  let v42 : BitVec 32 := Scalar.muli arg12 c16_i32_32
  let c0_i32_33 : BitVec 32 := 0#32
  let v43 : BitVec 32 := Scalar.addi v42 c0_i32_33
  let v124 : Index := Scalar.indexCast v43
  let c112_48 : Index := 112#32
  ![v124.toNat, 112]
def k0_off288 (v133 : BitVec 32) : Fin 2 → Nat :=
  let v136 : Index := Scalar.indexCast v133
  let c0_52 : Index := 0#32
  ![v136.toNat, 0]

def k0_off289 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_50 : BitVec 32 := 16#32
  let v134 : BitVec 32 := Scalar.muli arg12 c16_i32_50
  let c1_i32_51 : BitVec 32 := 1#32
  let v135 : BitVec 32 := Scalar.addi v134 c1_i32_51
  let v139 : Index := Scalar.indexCast v135
  let c0_53 : Index := 0#32
  ![v139.toNat, 0]
def k0_off290 (v133 : BitVec 32) : Fin 2 → Nat :=
  let v147 : Index := Scalar.indexCast v133
  let c16_55 : Index := 16#32
  ![v147.toNat, 16]
def k0_off291 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_50 : BitVec 32 := 16#32
  let v134 : BitVec 32 := Scalar.muli arg12 c16_i32_50
  let c1_i32_51 : BitVec 32 := 1#32
  let v135 : BitVec 32 := Scalar.addi v134 c1_i32_51
  let v150 : Index := Scalar.indexCast v135
  let c16_56 : Index := 16#32
  ![v150.toNat, 16]
def k0_off292 (v133 : BitVec 32) : Fin 2 → Nat :=
  let v158 : Index := Scalar.indexCast v133
  let c32_58 : Index := 32#32
  ![v158.toNat, 32]
def k0_off293 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_50 : BitVec 32 := 16#32
  let v134 : BitVec 32 := Scalar.muli arg12 c16_i32_50
  let c1_i32_51 : BitVec 32 := 1#32
  let v135 : BitVec 32 := Scalar.addi v134 c1_i32_51
  let v161 : Index := Scalar.indexCast v135
  let c32_59 : Index := 32#32
  ![v161.toNat, 32]
def k0_off294 (v133 : BitVec 32) : Fin 2 → Nat :=
  let v169 : Index := Scalar.indexCast v133
  let c48_61 : Index := 48#32
  ![v169.toNat, 48]
def k0_off295 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_50 : BitVec 32 := 16#32
  let v134 : BitVec 32 := Scalar.muli arg12 c16_i32_50
  let c1_i32_51 : BitVec 32 := 1#32
  let v135 : BitVec 32 := Scalar.addi v134 c1_i32_51
  let v172 : Index := Scalar.indexCast v135
  let c48_62 : Index := 48#32
  ![v172.toNat, 48]
def k0_off296 (v133 : BitVec 32) : Fin 2 → Nat :=
  let v180 : Index := Scalar.indexCast v133
  let c64_64 : Index := 64#32
  ![v180.toNat, 64]
def k0_off297 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_50 : BitVec 32 := 16#32
  let v134 : BitVec 32 := Scalar.muli arg12 c16_i32_50
  let c1_i32_51 : BitVec 32 := 1#32
  let v135 : BitVec 32 := Scalar.addi v134 c1_i32_51
  let v183 : Index := Scalar.indexCast v135
  let c64_65 : Index := 64#32
  ![v183.toNat, 64]
def k0_off298 (v133 : BitVec 32) : Fin 2 → Nat :=
  let v191 : Index := Scalar.indexCast v133
  let c80_67 : Index := 80#32
  ![v191.toNat, 80]
def k0_off299 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_50 : BitVec 32 := 16#32
  let v134 : BitVec 32 := Scalar.muli arg12 c16_i32_50
  let c1_i32_51 : BitVec 32 := 1#32
  let v135 : BitVec 32 := Scalar.addi v134 c1_i32_51
  let v194 : Index := Scalar.indexCast v135
  let c80_68 : Index := 80#32
  ![v194.toNat, 80]
def k0_off300 (v133 : BitVec 32) : Fin 2 → Nat :=
  let v202 : Index := Scalar.indexCast v133
  let c96_70 : Index := 96#32
  ![v202.toNat, 96]
def k0_off301 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_50 : BitVec 32 := 16#32
  let v134 : BitVec 32 := Scalar.muli arg12 c16_i32_50
  let c1_i32_51 : BitVec 32 := 1#32
  let v135 : BitVec 32 := Scalar.addi v134 c1_i32_51
  let v205 : Index := Scalar.indexCast v135
  let c96_71 : Index := 96#32
  ![v205.toNat, 96]
def k0_off302 (v133 : BitVec 32) : Fin 2 → Nat :=
  let v213 : Index := Scalar.indexCast v133
  let c112_73 : Index := 112#32
  ![v213.toNat, 112]

def k0_chk18 (v133 : BitVec 32) : Prop :=
  (∀ a, (k0_off288 v133) a + S1x16.size a ≤ S256x128.size a) ∧
  (∀ a, (k0_off290 v133) a + S1x16.size a ≤ S256x128.size a) ∧
  (∀ a, (k0_off292 v133) a + S1x16.size a ≤ S256x128.size a) ∧
  (∀ a, (k0_off294 v133) a + S1x16.size a ≤ S256x128.size a) ∧
  (∀ a, (k0_off296 v133) a + S1x16.size a ≤ S256x128.size a) ∧
  (∀ a, (k0_off298 v133) a + S1x16.size a ≤ S256x128.size a) ∧
  (∀ a, (k0_off300 v133) a + S1x16.size a ≤ S256x128.size a) ∧
  (∀ a, (k0_off302 v133) a + S1x16.size a ≤ S256x128.size a)
theorem k0_off288_inb : ∀ (v133 : BitVec 32) (k0_hw18 : k0_chk18 v133), ∀ a, (k0_off288 v133) a + S1x16.size a ≤ S256x128.size a := fun v133 k0_hw18 => k0_hw18.1
theorem k0_off290_inb : ∀ (v133 : BitVec 32) (k0_hw18 : k0_chk18 v133), ∀ a, (k0_off290 v133) a + S1x16.size a ≤ S256x128.size a := fun v133 k0_hw18 => k0_hw18.2.1
theorem k0_off292_inb : ∀ (v133 : BitVec 32) (k0_hw18 : k0_chk18 v133), ∀ a, (k0_off292 v133) a + S1x16.size a ≤ S256x128.size a := fun v133 k0_hw18 => k0_hw18.2.2.1
theorem k0_off294_inb : ∀ (v133 : BitVec 32) (k0_hw18 : k0_chk18 v133), ∀ a, (k0_off294 v133) a + S1x16.size a ≤ S256x128.size a := fun v133 k0_hw18 => k0_hw18.2.2.2.1
theorem k0_off296_inb : ∀ (v133 : BitVec 32) (k0_hw18 : k0_chk18 v133), ∀ a, (k0_off296 v133) a + S1x16.size a ≤ S256x128.size a := fun v133 k0_hw18 => k0_hw18.2.2.2.2.1
theorem k0_off298_inb : ∀ (v133 : BitVec 32) (k0_hw18 : k0_chk18 v133), ∀ a, (k0_off298 v133) a + S1x16.size a ≤ S256x128.size a := fun v133 k0_hw18 => k0_hw18.2.2.2.2.2.1
theorem k0_off300_inb : ∀ (v133 : BitVec 32) (k0_hw18 : k0_chk18 v133), ∀ a, (k0_off300 v133) a + S1x16.size a ≤ S256x128.size a := fun v133 k0_hw18 => k0_hw18.2.2.2.2.2.2.1
theorem k0_off302_inb : ∀ (v133 : BitVec 32) (k0_hw18 : k0_chk18 v133), ∀ a, (k0_off302 v133) a + S1x16.size a ≤ S256x128.size a := fun v133 k0_hw18 => k0_hw18.2.2.2.2.2.2.2

def k0_off303 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_50 : BitVec 32 := 16#32
  let v134 : BitVec 32 := Scalar.muli arg12 c16_i32_50
  let c1_i32_51 : BitVec 32 := 1#32
  let v135 : BitVec 32 := Scalar.addi v134 c1_i32_51
  let v216 : Index := Scalar.indexCast v135
  let c112_74 : Index := 112#32
  ![v216.toNat, 112]
def k0_off304 (v225 : BitVec 32) : Fin 2 → Nat :=
  let v228 : Index := Scalar.indexCast v225
  let c0_78 : Index := 0#32
  ![v228.toNat, 0]

def k0_off305 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_76 : BitVec 32 := 16#32
  let v226 : BitVec 32 := Scalar.muli arg12 c16_i32_76
  let c2_i32_77 : BitVec 32 := 2#32
  let v227 : BitVec 32 := Scalar.addi v226 c2_i32_77
  let v231 : Index := Scalar.indexCast v227
  let c0_79 : Index := 0#32
  ![v231.toNat, 0]
def k0_off306 (v225 : BitVec 32) : Fin 2 → Nat :=
  let v239 : Index := Scalar.indexCast v225
  let c16_81 : Index := 16#32
  ![v239.toNat, 16]
def k0_off307 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_76 : BitVec 32 := 16#32
  let v226 : BitVec 32 := Scalar.muli arg12 c16_i32_76
  let c2_i32_77 : BitVec 32 := 2#32
  let v227 : BitVec 32 := Scalar.addi v226 c2_i32_77
  let v242 : Index := Scalar.indexCast v227
  let c16_82 : Index := 16#32
  ![v242.toNat, 16]
def k0_off308 (v225 : BitVec 32) : Fin 2 → Nat :=
  let v250 : Index := Scalar.indexCast v225
  let c32_84 : Index := 32#32
  ![v250.toNat, 32]
def k0_off309 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_76 : BitVec 32 := 16#32
  let v226 : BitVec 32 := Scalar.muli arg12 c16_i32_76
  let c2_i32_77 : BitVec 32 := 2#32
  let v227 : BitVec 32 := Scalar.addi v226 c2_i32_77
  let v253 : Index := Scalar.indexCast v227
  let c32_85 : Index := 32#32
  ![v253.toNat, 32]
def k0_off310 (v225 : BitVec 32) : Fin 2 → Nat :=
  let v261 : Index := Scalar.indexCast v225
  let c48_87 : Index := 48#32
  ![v261.toNat, 48]
def k0_off311 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_76 : BitVec 32 := 16#32
  let v226 : BitVec 32 := Scalar.muli arg12 c16_i32_76
  let c2_i32_77 : BitVec 32 := 2#32
  let v227 : BitVec 32 := Scalar.addi v226 c2_i32_77
  let v264 : Index := Scalar.indexCast v227
  let c48_88 : Index := 48#32
  ![v264.toNat, 48]
def k0_off312 (v225 : BitVec 32) : Fin 2 → Nat :=
  let v272 : Index := Scalar.indexCast v225
  let c64_90 : Index := 64#32
  ![v272.toNat, 64]
def k0_off313 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_76 : BitVec 32 := 16#32
  let v226 : BitVec 32 := Scalar.muli arg12 c16_i32_76
  let c2_i32_77 : BitVec 32 := 2#32
  let v227 : BitVec 32 := Scalar.addi v226 c2_i32_77
  let v275 : Index := Scalar.indexCast v227
  let c64_91 : Index := 64#32
  ![v275.toNat, 64]
def k0_off314 (v225 : BitVec 32) : Fin 2 → Nat :=
  let v283 : Index := Scalar.indexCast v225
  let c80_93 : Index := 80#32
  ![v283.toNat, 80]
def k0_off315 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_76 : BitVec 32 := 16#32
  let v226 : BitVec 32 := Scalar.muli arg12 c16_i32_76
  let c2_i32_77 : BitVec 32 := 2#32
  let v227 : BitVec 32 := Scalar.addi v226 c2_i32_77
  let v286 : Index := Scalar.indexCast v227
  let c80_94 : Index := 80#32
  ![v286.toNat, 80]
def k0_off316 (v225 : BitVec 32) : Fin 2 → Nat :=
  let v294 : Index := Scalar.indexCast v225
  let c96_96 : Index := 96#32
  ![v294.toNat, 96]
def k0_off317 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_76 : BitVec 32 := 16#32
  let v226 : BitVec 32 := Scalar.muli arg12 c16_i32_76
  let c2_i32_77 : BitVec 32 := 2#32
  let v227 : BitVec 32 := Scalar.addi v226 c2_i32_77
  let v297 : Index := Scalar.indexCast v227
  let c96_97 : Index := 96#32
  ![v297.toNat, 96]
def k0_off318 (v225 : BitVec 32) : Fin 2 → Nat :=
  let v305 : Index := Scalar.indexCast v225
  let c112_99 : Index := 112#32
  ![v305.toNat, 112]

def k0_chk19 (v225 : BitVec 32) : Prop :=
  (∀ a, (k0_off304 v225) a + S1x16.size a ≤ S256x128.size a) ∧
  (∀ a, (k0_off306 v225) a + S1x16.size a ≤ S256x128.size a) ∧
  (∀ a, (k0_off308 v225) a + S1x16.size a ≤ S256x128.size a) ∧
  (∀ a, (k0_off310 v225) a + S1x16.size a ≤ S256x128.size a) ∧
  (∀ a, (k0_off312 v225) a + S1x16.size a ≤ S256x128.size a) ∧
  (∀ a, (k0_off314 v225) a + S1x16.size a ≤ S256x128.size a) ∧
  (∀ a, (k0_off316 v225) a + S1x16.size a ≤ S256x128.size a) ∧
  (∀ a, (k0_off318 v225) a + S1x16.size a ≤ S256x128.size a)
theorem k0_off304_inb : ∀ (v225 : BitVec 32) (k0_hw19 : k0_chk19 v225), ∀ a, (k0_off304 v225) a + S1x16.size a ≤ S256x128.size a := fun v225 k0_hw19 => k0_hw19.1
theorem k0_off306_inb : ∀ (v225 : BitVec 32) (k0_hw19 : k0_chk19 v225), ∀ a, (k0_off306 v225) a + S1x16.size a ≤ S256x128.size a := fun v225 k0_hw19 => k0_hw19.2.1
theorem k0_off308_inb : ∀ (v225 : BitVec 32) (k0_hw19 : k0_chk19 v225), ∀ a, (k0_off308 v225) a + S1x16.size a ≤ S256x128.size a := fun v225 k0_hw19 => k0_hw19.2.2.1
theorem k0_off310_inb : ∀ (v225 : BitVec 32) (k0_hw19 : k0_chk19 v225), ∀ a, (k0_off310 v225) a + S1x16.size a ≤ S256x128.size a := fun v225 k0_hw19 => k0_hw19.2.2.2.1
theorem k0_off312_inb : ∀ (v225 : BitVec 32) (k0_hw19 : k0_chk19 v225), ∀ a, (k0_off312 v225) a + S1x16.size a ≤ S256x128.size a := fun v225 k0_hw19 => k0_hw19.2.2.2.2.1
theorem k0_off314_inb : ∀ (v225 : BitVec 32) (k0_hw19 : k0_chk19 v225), ∀ a, (k0_off314 v225) a + S1x16.size a ≤ S256x128.size a := fun v225 k0_hw19 => k0_hw19.2.2.2.2.2.1
theorem k0_off316_inb : ∀ (v225 : BitVec 32) (k0_hw19 : k0_chk19 v225), ∀ a, (k0_off316 v225) a + S1x16.size a ≤ S256x128.size a := fun v225 k0_hw19 => k0_hw19.2.2.2.2.2.2.1
theorem k0_off318_inb : ∀ (v225 : BitVec 32) (k0_hw19 : k0_chk19 v225), ∀ a, (k0_off318 v225) a + S1x16.size a ≤ S256x128.size a := fun v225 k0_hw19 => k0_hw19.2.2.2.2.2.2.2

def k0_off319 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_76 : BitVec 32 := 16#32
  let v226 : BitVec 32 := Scalar.muli arg12 c16_i32_76
  let c2_i32_77 : BitVec 32 := 2#32
  let v227 : BitVec 32 := Scalar.addi v226 c2_i32_77
  let v308 : Index := Scalar.indexCast v227
  let c112_100 : Index := 112#32
  ![v308.toNat, 112]
def k0_off320 (v317 : BitVec 32) : Fin 2 → Nat :=
  let v320 : Index := Scalar.indexCast v317
  let c0_103 : Index := 0#32
  ![v320.toNat, 0]

def k0_off321 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_102 : BitVec 32 := 16#32
  let v318 : BitVec 32 := Scalar.muli arg12 c16_i32_102
  let c3_i32 : BitVec 32 := 3#32
  let v319 : BitVec 32 := Scalar.addi v318 c3_i32
  let v323 : Index := Scalar.indexCast v319
  let c0_104 : Index := 0#32
  ![v323.toNat, 0]
def k0_off322 (v317 : BitVec 32) : Fin 2 → Nat :=
  let v331 : Index := Scalar.indexCast v317
  let c16_106 : Index := 16#32
  ![v331.toNat, 16]
def k0_off323 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_102 : BitVec 32 := 16#32
  let v318 : BitVec 32 := Scalar.muli arg12 c16_i32_102
  let c3_i32 : BitVec 32 := 3#32
  let v319 : BitVec 32 := Scalar.addi v318 c3_i32
  let v334 : Index := Scalar.indexCast v319
  let c16_107 : Index := 16#32
  ![v334.toNat, 16]
def k0_off324 (v317 : BitVec 32) : Fin 2 → Nat :=
  let v342 : Index := Scalar.indexCast v317
  let c32_109 : Index := 32#32
  ![v342.toNat, 32]
def k0_off325 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_102 : BitVec 32 := 16#32
  let v318 : BitVec 32 := Scalar.muli arg12 c16_i32_102
  let c3_i32 : BitVec 32 := 3#32
  let v319 : BitVec 32 := Scalar.addi v318 c3_i32
  let v345 : Index := Scalar.indexCast v319
  let c32_110 : Index := 32#32
  ![v345.toNat, 32]
def k0_off326 (v317 : BitVec 32) : Fin 2 → Nat :=
  let v353 : Index := Scalar.indexCast v317
  let c48_112 : Index := 48#32
  ![v353.toNat, 48]
def k0_off327 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_102 : BitVec 32 := 16#32
  let v318 : BitVec 32 := Scalar.muli arg12 c16_i32_102
  let c3_i32 : BitVec 32 := 3#32
  let v319 : BitVec 32 := Scalar.addi v318 c3_i32
  let v356 : Index := Scalar.indexCast v319
  let c48_113 : Index := 48#32
  ![v356.toNat, 48]
def k0_off328 (v317 : BitVec 32) : Fin 2 → Nat :=
  let v364 : Index := Scalar.indexCast v317
  let c64_115 : Index := 64#32
  ![v364.toNat, 64]
def k0_off329 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_102 : BitVec 32 := 16#32
  let v318 : BitVec 32 := Scalar.muli arg12 c16_i32_102
  let c3_i32 : BitVec 32 := 3#32
  let v319 : BitVec 32 := Scalar.addi v318 c3_i32
  let v367 : Index := Scalar.indexCast v319
  let c64_116 : Index := 64#32
  ![v367.toNat, 64]
def k0_off330 (v317 : BitVec 32) : Fin 2 → Nat :=
  let v375 : Index := Scalar.indexCast v317
  let c80_118 : Index := 80#32
  ![v375.toNat, 80]
def k0_off331 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_102 : BitVec 32 := 16#32
  let v318 : BitVec 32 := Scalar.muli arg12 c16_i32_102
  let c3_i32 : BitVec 32 := 3#32
  let v319 : BitVec 32 := Scalar.addi v318 c3_i32
  let v378 : Index := Scalar.indexCast v319
  let c80_119 : Index := 80#32
  ![v378.toNat, 80]
def k0_off332 (v317 : BitVec 32) : Fin 2 → Nat :=
  let v386 : Index := Scalar.indexCast v317
  let c96_121 : Index := 96#32
  ![v386.toNat, 96]
def k0_off333 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_102 : BitVec 32 := 16#32
  let v318 : BitVec 32 := Scalar.muli arg12 c16_i32_102
  let c3_i32 : BitVec 32 := 3#32
  let v319 : BitVec 32 := Scalar.addi v318 c3_i32
  let v389 : Index := Scalar.indexCast v319
  let c96_122 : Index := 96#32
  ![v389.toNat, 96]
def k0_off334 (v317 : BitVec 32) : Fin 2 → Nat :=
  let v397 : Index := Scalar.indexCast v317
  let c112_124 : Index := 112#32
  ![v397.toNat, 112]

def k0_chk20 (v317 : BitVec 32) : Prop :=
  (∀ a, (k0_off320 v317) a + S1x16.size a ≤ S256x128.size a) ∧
  (∀ a, (k0_off322 v317) a + S1x16.size a ≤ S256x128.size a) ∧
  (∀ a, (k0_off324 v317) a + S1x16.size a ≤ S256x128.size a) ∧
  (∀ a, (k0_off326 v317) a + S1x16.size a ≤ S256x128.size a) ∧
  (∀ a, (k0_off328 v317) a + S1x16.size a ≤ S256x128.size a) ∧
  (∀ a, (k0_off330 v317) a + S1x16.size a ≤ S256x128.size a) ∧
  (∀ a, (k0_off332 v317) a + S1x16.size a ≤ S256x128.size a) ∧
  (∀ a, (k0_off334 v317) a + S1x16.size a ≤ S256x128.size a)
theorem k0_off320_inb : ∀ (v317 : BitVec 32) (k0_hw20 : k0_chk20 v317), ∀ a, (k0_off320 v317) a + S1x16.size a ≤ S256x128.size a := fun v317 k0_hw20 => k0_hw20.1
theorem k0_off322_inb : ∀ (v317 : BitVec 32) (k0_hw20 : k0_chk20 v317), ∀ a, (k0_off322 v317) a + S1x16.size a ≤ S256x128.size a := fun v317 k0_hw20 => k0_hw20.2.1
theorem k0_off324_inb : ∀ (v317 : BitVec 32) (k0_hw20 : k0_chk20 v317), ∀ a, (k0_off324 v317) a + S1x16.size a ≤ S256x128.size a := fun v317 k0_hw20 => k0_hw20.2.2.1
theorem k0_off326_inb : ∀ (v317 : BitVec 32) (k0_hw20 : k0_chk20 v317), ∀ a, (k0_off326 v317) a + S1x16.size a ≤ S256x128.size a := fun v317 k0_hw20 => k0_hw20.2.2.2.1
theorem k0_off328_inb : ∀ (v317 : BitVec 32) (k0_hw20 : k0_chk20 v317), ∀ a, (k0_off328 v317) a + S1x16.size a ≤ S256x128.size a := fun v317 k0_hw20 => k0_hw20.2.2.2.2.1
theorem k0_off330_inb : ∀ (v317 : BitVec 32) (k0_hw20 : k0_chk20 v317), ∀ a, (k0_off330 v317) a + S1x16.size a ≤ S256x128.size a := fun v317 k0_hw20 => k0_hw20.2.2.2.2.2.1
theorem k0_off332_inb : ∀ (v317 : BitVec 32) (k0_hw20 : k0_chk20 v317), ∀ a, (k0_off332 v317) a + S1x16.size a ≤ S256x128.size a := fun v317 k0_hw20 => k0_hw20.2.2.2.2.2.2.1
theorem k0_off334_inb : ∀ (v317 : BitVec 32) (k0_hw20 : k0_chk20 v317), ∀ a, (k0_off334 v317) a + S1x16.size a ≤ S256x128.size a := fun v317 k0_hw20 => k0_hw20.2.2.2.2.2.2.2

def k0_off335 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_102 : BitVec 32 := 16#32
  let v318 : BitVec 32 := Scalar.muli arg12 c16_i32_102
  let c3_i32 : BitVec 32 := 3#32
  let v319 : BitVec 32 := Scalar.addi v318 c3_i32
  let v400 : Index := Scalar.indexCast v319
  let c112_125 : Index := 112#32
  ![v400.toNat, 112]
def k0_off336 (v409 : BitVec 32) : Fin 2 → Nat :=
  let v412 : Index := Scalar.indexCast v409
  let c0_128 : Index := 0#32
  ![v412.toNat, 0]

def k0_off337 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_127 : BitVec 32 := 16#32
  let v410 : BitVec 32 := Scalar.muli arg12 c16_i32_127
  let c4_i32 : BitVec 32 := 4#32
  let v411 : BitVec 32 := Scalar.addi v410 c4_i32
  let v415 : Index := Scalar.indexCast v411
  let c0_129 : Index := 0#32
  ![v415.toNat, 0]
def k0_off338 (v409 : BitVec 32) : Fin 2 → Nat :=
  let v423 : Index := Scalar.indexCast v409
  let c16_131 : Index := 16#32
  ![v423.toNat, 16]
def k0_off339 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_127 : BitVec 32 := 16#32
  let v410 : BitVec 32 := Scalar.muli arg12 c16_i32_127
  let c4_i32 : BitVec 32 := 4#32
  let v411 : BitVec 32 := Scalar.addi v410 c4_i32
  let v426 : Index := Scalar.indexCast v411
  let c16_132 : Index := 16#32
  ![v426.toNat, 16]
def k0_off340 (v409 : BitVec 32) : Fin 2 → Nat :=
  let v434 : Index := Scalar.indexCast v409
  let c32_134 : Index := 32#32
  ![v434.toNat, 32]
def k0_off341 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_127 : BitVec 32 := 16#32
  let v410 : BitVec 32 := Scalar.muli arg12 c16_i32_127
  let c4_i32 : BitVec 32 := 4#32
  let v411 : BitVec 32 := Scalar.addi v410 c4_i32
  let v437 : Index := Scalar.indexCast v411
  let c32_135 : Index := 32#32
  ![v437.toNat, 32]
def k0_off342 (v409 : BitVec 32) : Fin 2 → Nat :=
  let v445 : Index := Scalar.indexCast v409
  let c48_137 : Index := 48#32
  ![v445.toNat, 48]
def k0_off343 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_127 : BitVec 32 := 16#32
  let v410 : BitVec 32 := Scalar.muli arg12 c16_i32_127
  let c4_i32 : BitVec 32 := 4#32
  let v411 : BitVec 32 := Scalar.addi v410 c4_i32
  let v448 : Index := Scalar.indexCast v411
  let c48_138 : Index := 48#32
  ![v448.toNat, 48]
def k0_off344 (v409 : BitVec 32) : Fin 2 → Nat :=
  let v456 : Index := Scalar.indexCast v409
  let c64_140 : Index := 64#32
  ![v456.toNat, 64]
def k0_off345 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_127 : BitVec 32 := 16#32
  let v410 : BitVec 32 := Scalar.muli arg12 c16_i32_127
  let c4_i32 : BitVec 32 := 4#32
  let v411 : BitVec 32 := Scalar.addi v410 c4_i32
  let v459 : Index := Scalar.indexCast v411
  let c64_141 : Index := 64#32
  ![v459.toNat, 64]
def k0_off346 (v409 : BitVec 32) : Fin 2 → Nat :=
  let v467 : Index := Scalar.indexCast v409
  let c80_143 : Index := 80#32
  ![v467.toNat, 80]
def k0_off347 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_127 : BitVec 32 := 16#32
  let v410 : BitVec 32 := Scalar.muli arg12 c16_i32_127
  let c4_i32 : BitVec 32 := 4#32
  let v411 : BitVec 32 := Scalar.addi v410 c4_i32
  let v470 : Index := Scalar.indexCast v411
  let c80_144 : Index := 80#32
  ![v470.toNat, 80]
def k0_off348 (v409 : BitVec 32) : Fin 2 → Nat :=
  let v478 : Index := Scalar.indexCast v409
  let c96_146 : Index := 96#32
  ![v478.toNat, 96]
def k0_off349 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_127 : BitVec 32 := 16#32
  let v410 : BitVec 32 := Scalar.muli arg12 c16_i32_127
  let c4_i32 : BitVec 32 := 4#32
  let v411 : BitVec 32 := Scalar.addi v410 c4_i32
  let v481 : Index := Scalar.indexCast v411
  let c96_147 : Index := 96#32
  ![v481.toNat, 96]
def k0_off350 (v409 : BitVec 32) : Fin 2 → Nat :=
  let v489 : Index := Scalar.indexCast v409
  let c112_149 : Index := 112#32
  ![v489.toNat, 112]

def k0_chk21 (v409 : BitVec 32) : Prop :=
  (∀ a, (k0_off336 v409) a + S1x16.size a ≤ S256x128.size a) ∧
  (∀ a, (k0_off338 v409) a + S1x16.size a ≤ S256x128.size a) ∧
  (∀ a, (k0_off340 v409) a + S1x16.size a ≤ S256x128.size a) ∧
  (∀ a, (k0_off342 v409) a + S1x16.size a ≤ S256x128.size a) ∧
  (∀ a, (k0_off344 v409) a + S1x16.size a ≤ S256x128.size a) ∧
  (∀ a, (k0_off346 v409) a + S1x16.size a ≤ S256x128.size a) ∧
  (∀ a, (k0_off348 v409) a + S1x16.size a ≤ S256x128.size a) ∧
  (∀ a, (k0_off350 v409) a + S1x16.size a ≤ S256x128.size a)
theorem k0_off336_inb : ∀ (v409 : BitVec 32) (k0_hw21 : k0_chk21 v409), ∀ a, (k0_off336 v409) a + S1x16.size a ≤ S256x128.size a := fun v409 k0_hw21 => k0_hw21.1
theorem k0_off338_inb : ∀ (v409 : BitVec 32) (k0_hw21 : k0_chk21 v409), ∀ a, (k0_off338 v409) a + S1x16.size a ≤ S256x128.size a := fun v409 k0_hw21 => k0_hw21.2.1
theorem k0_off340_inb : ∀ (v409 : BitVec 32) (k0_hw21 : k0_chk21 v409), ∀ a, (k0_off340 v409) a + S1x16.size a ≤ S256x128.size a := fun v409 k0_hw21 => k0_hw21.2.2.1
theorem k0_off342_inb : ∀ (v409 : BitVec 32) (k0_hw21 : k0_chk21 v409), ∀ a, (k0_off342 v409) a + S1x16.size a ≤ S256x128.size a := fun v409 k0_hw21 => k0_hw21.2.2.2.1
theorem k0_off344_inb : ∀ (v409 : BitVec 32) (k0_hw21 : k0_chk21 v409), ∀ a, (k0_off344 v409) a + S1x16.size a ≤ S256x128.size a := fun v409 k0_hw21 => k0_hw21.2.2.2.2.1
theorem k0_off346_inb : ∀ (v409 : BitVec 32) (k0_hw21 : k0_chk21 v409), ∀ a, (k0_off346 v409) a + S1x16.size a ≤ S256x128.size a := fun v409 k0_hw21 => k0_hw21.2.2.2.2.2.1
theorem k0_off348_inb : ∀ (v409 : BitVec 32) (k0_hw21 : k0_chk21 v409), ∀ a, (k0_off348 v409) a + S1x16.size a ≤ S256x128.size a := fun v409 k0_hw21 => k0_hw21.2.2.2.2.2.2.1
theorem k0_off350_inb : ∀ (v409 : BitVec 32) (k0_hw21 : k0_chk21 v409), ∀ a, (k0_off350 v409) a + S1x16.size a ≤ S256x128.size a := fun v409 k0_hw21 => k0_hw21.2.2.2.2.2.2.2

def k0_off351 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_127 : BitVec 32 := 16#32
  let v410 : BitVec 32 := Scalar.muli arg12 c16_i32_127
  let c4_i32 : BitVec 32 := 4#32
  let v411 : BitVec 32 := Scalar.addi v410 c4_i32
  let v492 : Index := Scalar.indexCast v411
  let c112_150 : Index := 112#32
  ![v492.toNat, 112]
def k0_off352 (v501 : BitVec 32) : Fin 2 → Nat :=
  let v504 : Index := Scalar.indexCast v501
  let c0_153 : Index := 0#32
  ![v504.toNat, 0]

def k0_off353 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_152 : BitVec 32 := 16#32
  let v502 : BitVec 32 := Scalar.muli arg12 c16_i32_152
  let c5_i32 : BitVec 32 := 5#32
  let v503 : BitVec 32 := Scalar.addi v502 c5_i32
  let v507 : Index := Scalar.indexCast v503
  let c0_154 : Index := 0#32
  ![v507.toNat, 0]
def k0_off354 (v501 : BitVec 32) : Fin 2 → Nat :=
  let v515 : Index := Scalar.indexCast v501
  let c16_156 : Index := 16#32
  ![v515.toNat, 16]
def k0_off355 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_152 : BitVec 32 := 16#32
  let v502 : BitVec 32 := Scalar.muli arg12 c16_i32_152
  let c5_i32 : BitVec 32 := 5#32
  let v503 : BitVec 32 := Scalar.addi v502 c5_i32
  let v518 : Index := Scalar.indexCast v503
  let c16_157 : Index := 16#32
  ![v518.toNat, 16]
def k0_off356 (v501 : BitVec 32) : Fin 2 → Nat :=
  let v526 : Index := Scalar.indexCast v501
  let c32_159 : Index := 32#32
  ![v526.toNat, 32]
def k0_off357 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_152 : BitVec 32 := 16#32
  let v502 : BitVec 32 := Scalar.muli arg12 c16_i32_152
  let c5_i32 : BitVec 32 := 5#32
  let v503 : BitVec 32 := Scalar.addi v502 c5_i32
  let v529 : Index := Scalar.indexCast v503
  let c32_160 : Index := 32#32
  ![v529.toNat, 32]
def k0_off358 (v501 : BitVec 32) : Fin 2 → Nat :=
  let v537 : Index := Scalar.indexCast v501
  let c48_162 : Index := 48#32
  ![v537.toNat, 48]
def k0_off359 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_152 : BitVec 32 := 16#32
  let v502 : BitVec 32 := Scalar.muli arg12 c16_i32_152
  let c5_i32 : BitVec 32 := 5#32
  let v503 : BitVec 32 := Scalar.addi v502 c5_i32
  let v540 : Index := Scalar.indexCast v503
  let c48_163 : Index := 48#32
  ![v540.toNat, 48]
def k0_off360 (v501 : BitVec 32) : Fin 2 → Nat :=
  let v548 : Index := Scalar.indexCast v501
  let c64_165 : Index := 64#32
  ![v548.toNat, 64]
def k0_off361 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_152 : BitVec 32 := 16#32
  let v502 : BitVec 32 := Scalar.muli arg12 c16_i32_152
  let c5_i32 : BitVec 32 := 5#32
  let v503 : BitVec 32 := Scalar.addi v502 c5_i32
  let v551 : Index := Scalar.indexCast v503
  let c64_166 : Index := 64#32
  ![v551.toNat, 64]
def k0_off362 (v501 : BitVec 32) : Fin 2 → Nat :=
  let v559 : Index := Scalar.indexCast v501
  let c80_168 : Index := 80#32
  ![v559.toNat, 80]
def k0_off363 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_152 : BitVec 32 := 16#32
  let v502 : BitVec 32 := Scalar.muli arg12 c16_i32_152
  let c5_i32 : BitVec 32 := 5#32
  let v503 : BitVec 32 := Scalar.addi v502 c5_i32
  let v562 : Index := Scalar.indexCast v503
  let c80_169 : Index := 80#32
  ![v562.toNat, 80]
def k0_off364 (v501 : BitVec 32) : Fin 2 → Nat :=
  let v570 : Index := Scalar.indexCast v501
  let c96_171 : Index := 96#32
  ![v570.toNat, 96]
def k0_off365 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_152 : BitVec 32 := 16#32
  let v502 : BitVec 32 := Scalar.muli arg12 c16_i32_152
  let c5_i32 : BitVec 32 := 5#32
  let v503 : BitVec 32 := Scalar.addi v502 c5_i32
  let v573 : Index := Scalar.indexCast v503
  let c96_172 : Index := 96#32
  ![v573.toNat, 96]
def k0_off366 (v501 : BitVec 32) : Fin 2 → Nat :=
  let v581 : Index := Scalar.indexCast v501
  let c112_174 : Index := 112#32
  ![v581.toNat, 112]

def k0_chk22 (v501 : BitVec 32) : Prop :=
  (∀ a, (k0_off352 v501) a + S1x16.size a ≤ S256x128.size a) ∧
  (∀ a, (k0_off354 v501) a + S1x16.size a ≤ S256x128.size a) ∧
  (∀ a, (k0_off356 v501) a + S1x16.size a ≤ S256x128.size a) ∧
  (∀ a, (k0_off358 v501) a + S1x16.size a ≤ S256x128.size a) ∧
  (∀ a, (k0_off360 v501) a + S1x16.size a ≤ S256x128.size a) ∧
  (∀ a, (k0_off362 v501) a + S1x16.size a ≤ S256x128.size a) ∧
  (∀ a, (k0_off364 v501) a + S1x16.size a ≤ S256x128.size a) ∧
  (∀ a, (k0_off366 v501) a + S1x16.size a ≤ S256x128.size a)
theorem k0_off352_inb : ∀ (v501 : BitVec 32) (k0_hw22 : k0_chk22 v501), ∀ a, (k0_off352 v501) a + S1x16.size a ≤ S256x128.size a := fun v501 k0_hw22 => k0_hw22.1
theorem k0_off354_inb : ∀ (v501 : BitVec 32) (k0_hw22 : k0_chk22 v501), ∀ a, (k0_off354 v501) a + S1x16.size a ≤ S256x128.size a := fun v501 k0_hw22 => k0_hw22.2.1
theorem k0_off356_inb : ∀ (v501 : BitVec 32) (k0_hw22 : k0_chk22 v501), ∀ a, (k0_off356 v501) a + S1x16.size a ≤ S256x128.size a := fun v501 k0_hw22 => k0_hw22.2.2.1
theorem k0_off358_inb : ∀ (v501 : BitVec 32) (k0_hw22 : k0_chk22 v501), ∀ a, (k0_off358 v501) a + S1x16.size a ≤ S256x128.size a := fun v501 k0_hw22 => k0_hw22.2.2.2.1
theorem k0_off360_inb : ∀ (v501 : BitVec 32) (k0_hw22 : k0_chk22 v501), ∀ a, (k0_off360 v501) a + S1x16.size a ≤ S256x128.size a := fun v501 k0_hw22 => k0_hw22.2.2.2.2.1
theorem k0_off362_inb : ∀ (v501 : BitVec 32) (k0_hw22 : k0_chk22 v501), ∀ a, (k0_off362 v501) a + S1x16.size a ≤ S256x128.size a := fun v501 k0_hw22 => k0_hw22.2.2.2.2.2.1
theorem k0_off364_inb : ∀ (v501 : BitVec 32) (k0_hw22 : k0_chk22 v501), ∀ a, (k0_off364 v501) a + S1x16.size a ≤ S256x128.size a := fun v501 k0_hw22 => k0_hw22.2.2.2.2.2.2.1
theorem k0_off366_inb : ∀ (v501 : BitVec 32) (k0_hw22 : k0_chk22 v501), ∀ a, (k0_off366 v501) a + S1x16.size a ≤ S256x128.size a := fun v501 k0_hw22 => k0_hw22.2.2.2.2.2.2.2

def k0_off367 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_152 : BitVec 32 := 16#32
  let v502 : BitVec 32 := Scalar.muli arg12 c16_i32_152
  let c5_i32 : BitVec 32 := 5#32
  let v503 : BitVec 32 := Scalar.addi v502 c5_i32
  let v584 : Index := Scalar.indexCast v503
  let c112_175 : Index := 112#32
  ![v584.toNat, 112]
def k0_off368 (v593 : BitVec 32) : Fin 2 → Nat :=
  let v596 : Index := Scalar.indexCast v593
  let c0_178 : Index := 0#32
  ![v596.toNat, 0]

def k0_off369 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_177 : BitVec 32 := 16#32
  let v594 : BitVec 32 := Scalar.muli arg12 c16_i32_177
  let c6_i32 : BitVec 32 := 6#32
  let v595 : BitVec 32 := Scalar.addi v594 c6_i32
  let v599 : Index := Scalar.indexCast v595
  let c0_179 : Index := 0#32
  ![v599.toNat, 0]
def k0_off370 (v593 : BitVec 32) : Fin 2 → Nat :=
  let v607 : Index := Scalar.indexCast v593
  let c16_181 : Index := 16#32
  ![v607.toNat, 16]
def k0_off371 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_177 : BitVec 32 := 16#32
  let v594 : BitVec 32 := Scalar.muli arg12 c16_i32_177
  let c6_i32 : BitVec 32 := 6#32
  let v595 : BitVec 32 := Scalar.addi v594 c6_i32
  let v610 : Index := Scalar.indexCast v595
  let c16_182 : Index := 16#32
  ![v610.toNat, 16]
def k0_off372 (v593 : BitVec 32) : Fin 2 → Nat :=
  let v618 : Index := Scalar.indexCast v593
  let c32_184 : Index := 32#32
  ![v618.toNat, 32]
def k0_off373 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_177 : BitVec 32 := 16#32
  let v594 : BitVec 32 := Scalar.muli arg12 c16_i32_177
  let c6_i32 : BitVec 32 := 6#32
  let v595 : BitVec 32 := Scalar.addi v594 c6_i32
  let v621 : Index := Scalar.indexCast v595
  let c32_185 : Index := 32#32
  ![v621.toNat, 32]
def k0_off374 (v593 : BitVec 32) : Fin 2 → Nat :=
  let v629 : Index := Scalar.indexCast v593
  let c48_187 : Index := 48#32
  ![v629.toNat, 48]
def k0_off375 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_177 : BitVec 32 := 16#32
  let v594 : BitVec 32 := Scalar.muli arg12 c16_i32_177
  let c6_i32 : BitVec 32 := 6#32
  let v595 : BitVec 32 := Scalar.addi v594 c6_i32
  let v632 : Index := Scalar.indexCast v595
  let c48_188 : Index := 48#32
  ![v632.toNat, 48]
def k0_off376 (v593 : BitVec 32) : Fin 2 → Nat :=
  let v640 : Index := Scalar.indexCast v593
  let c64_190 : Index := 64#32
  ![v640.toNat, 64]
def k0_off377 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_177 : BitVec 32 := 16#32
  let v594 : BitVec 32 := Scalar.muli arg12 c16_i32_177
  let c6_i32 : BitVec 32 := 6#32
  let v595 : BitVec 32 := Scalar.addi v594 c6_i32
  let v643 : Index := Scalar.indexCast v595
  let c64_191 : Index := 64#32
  ![v643.toNat, 64]
def k0_off378 (v593 : BitVec 32) : Fin 2 → Nat :=
  let v651 : Index := Scalar.indexCast v593
  let c80_193 : Index := 80#32
  ![v651.toNat, 80]
def k0_off379 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_177 : BitVec 32 := 16#32
  let v594 : BitVec 32 := Scalar.muli arg12 c16_i32_177
  let c6_i32 : BitVec 32 := 6#32
  let v595 : BitVec 32 := Scalar.addi v594 c6_i32
  let v654 : Index := Scalar.indexCast v595
  let c80_194 : Index := 80#32
  ![v654.toNat, 80]
def k0_off380 (v593 : BitVec 32) : Fin 2 → Nat :=
  let v662 : Index := Scalar.indexCast v593
  let c96_196 : Index := 96#32
  ![v662.toNat, 96]
def k0_off381 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_177 : BitVec 32 := 16#32
  let v594 : BitVec 32 := Scalar.muli arg12 c16_i32_177
  let c6_i32 : BitVec 32 := 6#32
  let v595 : BitVec 32 := Scalar.addi v594 c6_i32
  let v665 : Index := Scalar.indexCast v595
  let c96_197 : Index := 96#32
  ![v665.toNat, 96]
def k0_off382 (v593 : BitVec 32) : Fin 2 → Nat :=
  let v673 : Index := Scalar.indexCast v593
  let c112_199 : Index := 112#32
  ![v673.toNat, 112]

def k0_chk23 (v593 : BitVec 32) : Prop :=
  (∀ a, (k0_off368 v593) a + S1x16.size a ≤ S256x128.size a) ∧
  (∀ a, (k0_off370 v593) a + S1x16.size a ≤ S256x128.size a) ∧
  (∀ a, (k0_off372 v593) a + S1x16.size a ≤ S256x128.size a) ∧
  (∀ a, (k0_off374 v593) a + S1x16.size a ≤ S256x128.size a) ∧
  (∀ a, (k0_off376 v593) a + S1x16.size a ≤ S256x128.size a) ∧
  (∀ a, (k0_off378 v593) a + S1x16.size a ≤ S256x128.size a) ∧
  (∀ a, (k0_off380 v593) a + S1x16.size a ≤ S256x128.size a) ∧
  (∀ a, (k0_off382 v593) a + S1x16.size a ≤ S256x128.size a)
theorem k0_off368_inb : ∀ (v593 : BitVec 32) (k0_hw23 : k0_chk23 v593), ∀ a, (k0_off368 v593) a + S1x16.size a ≤ S256x128.size a := fun v593 k0_hw23 => k0_hw23.1
theorem k0_off370_inb : ∀ (v593 : BitVec 32) (k0_hw23 : k0_chk23 v593), ∀ a, (k0_off370 v593) a + S1x16.size a ≤ S256x128.size a := fun v593 k0_hw23 => k0_hw23.2.1
theorem k0_off372_inb : ∀ (v593 : BitVec 32) (k0_hw23 : k0_chk23 v593), ∀ a, (k0_off372 v593) a + S1x16.size a ≤ S256x128.size a := fun v593 k0_hw23 => k0_hw23.2.2.1
theorem k0_off374_inb : ∀ (v593 : BitVec 32) (k0_hw23 : k0_chk23 v593), ∀ a, (k0_off374 v593) a + S1x16.size a ≤ S256x128.size a := fun v593 k0_hw23 => k0_hw23.2.2.2.1
theorem k0_off376_inb : ∀ (v593 : BitVec 32) (k0_hw23 : k0_chk23 v593), ∀ a, (k0_off376 v593) a + S1x16.size a ≤ S256x128.size a := fun v593 k0_hw23 => k0_hw23.2.2.2.2.1
theorem k0_off378_inb : ∀ (v593 : BitVec 32) (k0_hw23 : k0_chk23 v593), ∀ a, (k0_off378 v593) a + S1x16.size a ≤ S256x128.size a := fun v593 k0_hw23 => k0_hw23.2.2.2.2.2.1
theorem k0_off380_inb : ∀ (v593 : BitVec 32) (k0_hw23 : k0_chk23 v593), ∀ a, (k0_off380 v593) a + S1x16.size a ≤ S256x128.size a := fun v593 k0_hw23 => k0_hw23.2.2.2.2.2.2.1
theorem k0_off382_inb : ∀ (v593 : BitVec 32) (k0_hw23 : k0_chk23 v593), ∀ a, (k0_off382 v593) a + S1x16.size a ≤ S256x128.size a := fun v593 k0_hw23 => k0_hw23.2.2.2.2.2.2.2

def k0_off383 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_177 : BitVec 32 := 16#32
  let v594 : BitVec 32 := Scalar.muli arg12 c16_i32_177
  let c6_i32 : BitVec 32 := 6#32
  let v595 : BitVec 32 := Scalar.addi v594 c6_i32
  let v676 : Index := Scalar.indexCast v595
  let c112_200 : Index := 112#32
  ![v676.toNat, 112]
def k0_off384 (v685 : BitVec 32) : Fin 2 → Nat :=
  let v688 : Index := Scalar.indexCast v685
  let c0_204 : Index := 0#32
  ![v688.toNat, 0]

def k0_off385 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_202 : BitVec 32 := 16#32
  let v686 : BitVec 32 := Scalar.muli arg12 c16_i32_202
  let c7_i32_203 : BitVec 32 := 7#32
  let v687 : BitVec 32 := Scalar.addi v686 c7_i32_203
  let v691 : Index := Scalar.indexCast v687
  let c0_205 : Index := 0#32
  ![v691.toNat, 0]
def k0_off386 (v685 : BitVec 32) : Fin 2 → Nat :=
  let v699 : Index := Scalar.indexCast v685
  let c16_207 : Index := 16#32
  ![v699.toNat, 16]
def k0_off387 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_202 : BitVec 32 := 16#32
  let v686 : BitVec 32 := Scalar.muli arg12 c16_i32_202
  let c7_i32_203 : BitVec 32 := 7#32
  let v687 : BitVec 32 := Scalar.addi v686 c7_i32_203
  let v702 : Index := Scalar.indexCast v687
  let c16_208 : Index := 16#32
  ![v702.toNat, 16]
def k0_off388 (v685 : BitVec 32) : Fin 2 → Nat :=
  let v710 : Index := Scalar.indexCast v685
  let c32_210 : Index := 32#32
  ![v710.toNat, 32]
def k0_off389 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_202 : BitVec 32 := 16#32
  let v686 : BitVec 32 := Scalar.muli arg12 c16_i32_202
  let c7_i32_203 : BitVec 32 := 7#32
  let v687 : BitVec 32 := Scalar.addi v686 c7_i32_203
  let v713 : Index := Scalar.indexCast v687
  let c32_211 : Index := 32#32
  ![v713.toNat, 32]
def k0_off390 (v685 : BitVec 32) : Fin 2 → Nat :=
  let v721 : Index := Scalar.indexCast v685
  let c48_213 : Index := 48#32
  ![v721.toNat, 48]
def k0_off391 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_202 : BitVec 32 := 16#32
  let v686 : BitVec 32 := Scalar.muli arg12 c16_i32_202
  let c7_i32_203 : BitVec 32 := 7#32
  let v687 : BitVec 32 := Scalar.addi v686 c7_i32_203
  let v724 : Index := Scalar.indexCast v687
  let c48_214 : Index := 48#32
  ![v724.toNat, 48]
def k0_off392 (v685 : BitVec 32) : Fin 2 → Nat :=
  let v732 : Index := Scalar.indexCast v685
  let c64_216 : Index := 64#32
  ![v732.toNat, 64]
def k0_off393 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_202 : BitVec 32 := 16#32
  let v686 : BitVec 32 := Scalar.muli arg12 c16_i32_202
  let c7_i32_203 : BitVec 32 := 7#32
  let v687 : BitVec 32 := Scalar.addi v686 c7_i32_203
  let v735 : Index := Scalar.indexCast v687
  let c64_217 : Index := 64#32
  ![v735.toNat, 64]
def k0_off394 (v685 : BitVec 32) : Fin 2 → Nat :=
  let v743 : Index := Scalar.indexCast v685
  let c80_219 : Index := 80#32
  ![v743.toNat, 80]
def k0_off395 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_202 : BitVec 32 := 16#32
  let v686 : BitVec 32 := Scalar.muli arg12 c16_i32_202
  let c7_i32_203 : BitVec 32 := 7#32
  let v687 : BitVec 32 := Scalar.addi v686 c7_i32_203
  let v746 : Index := Scalar.indexCast v687
  let c80_220 : Index := 80#32
  ![v746.toNat, 80]
def k0_off396 (v685 : BitVec 32) : Fin 2 → Nat :=
  let v754 : Index := Scalar.indexCast v685
  let c96_222 : Index := 96#32
  ![v754.toNat, 96]
def k0_off397 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_202 : BitVec 32 := 16#32
  let v686 : BitVec 32 := Scalar.muli arg12 c16_i32_202
  let c7_i32_203 : BitVec 32 := 7#32
  let v687 : BitVec 32 := Scalar.addi v686 c7_i32_203
  let v757 : Index := Scalar.indexCast v687
  let c96_223 : Index := 96#32
  ![v757.toNat, 96]
def k0_off398 (v685 : BitVec 32) : Fin 2 → Nat :=
  let v765 : Index := Scalar.indexCast v685
  let c112_225 : Index := 112#32
  ![v765.toNat, 112]

def k0_chk24 (v685 : BitVec 32) : Prop :=
  (∀ a, (k0_off384 v685) a + S1x16.size a ≤ S256x128.size a) ∧
  (∀ a, (k0_off386 v685) a + S1x16.size a ≤ S256x128.size a) ∧
  (∀ a, (k0_off388 v685) a + S1x16.size a ≤ S256x128.size a) ∧
  (∀ a, (k0_off390 v685) a + S1x16.size a ≤ S256x128.size a) ∧
  (∀ a, (k0_off392 v685) a + S1x16.size a ≤ S256x128.size a) ∧
  (∀ a, (k0_off394 v685) a + S1x16.size a ≤ S256x128.size a) ∧
  (∀ a, (k0_off396 v685) a + S1x16.size a ≤ S256x128.size a) ∧
  (∀ a, (k0_off398 v685) a + S1x16.size a ≤ S256x128.size a)
theorem k0_off384_inb : ∀ (v685 : BitVec 32) (k0_hw24 : k0_chk24 v685), ∀ a, (k0_off384 v685) a + S1x16.size a ≤ S256x128.size a := fun v685 k0_hw24 => k0_hw24.1
theorem k0_off386_inb : ∀ (v685 : BitVec 32) (k0_hw24 : k0_chk24 v685), ∀ a, (k0_off386 v685) a + S1x16.size a ≤ S256x128.size a := fun v685 k0_hw24 => k0_hw24.2.1
theorem k0_off388_inb : ∀ (v685 : BitVec 32) (k0_hw24 : k0_chk24 v685), ∀ a, (k0_off388 v685) a + S1x16.size a ≤ S256x128.size a := fun v685 k0_hw24 => k0_hw24.2.2.1
theorem k0_off390_inb : ∀ (v685 : BitVec 32) (k0_hw24 : k0_chk24 v685), ∀ a, (k0_off390 v685) a + S1x16.size a ≤ S256x128.size a := fun v685 k0_hw24 => k0_hw24.2.2.2.1
theorem k0_off392_inb : ∀ (v685 : BitVec 32) (k0_hw24 : k0_chk24 v685), ∀ a, (k0_off392 v685) a + S1x16.size a ≤ S256x128.size a := fun v685 k0_hw24 => k0_hw24.2.2.2.2.1
theorem k0_off394_inb : ∀ (v685 : BitVec 32) (k0_hw24 : k0_chk24 v685), ∀ a, (k0_off394 v685) a + S1x16.size a ≤ S256x128.size a := fun v685 k0_hw24 => k0_hw24.2.2.2.2.2.1
theorem k0_off396_inb : ∀ (v685 : BitVec 32) (k0_hw24 : k0_chk24 v685), ∀ a, (k0_off396 v685) a + S1x16.size a ≤ S256x128.size a := fun v685 k0_hw24 => k0_hw24.2.2.2.2.2.2.1
theorem k0_off398_inb : ∀ (v685 : BitVec 32) (k0_hw24 : k0_chk24 v685), ∀ a, (k0_off398 v685) a + S1x16.size a ≤ S256x128.size a := fun v685 k0_hw24 => k0_hw24.2.2.2.2.2.2.2

def k0_off399 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_202 : BitVec 32 := 16#32
  let v686 : BitVec 32 := Scalar.muli arg12 c16_i32_202
  let c7_i32_203 : BitVec 32 := 7#32
  let v687 : BitVec 32 := Scalar.addi v686 c7_i32_203
  let v768 : Index := Scalar.indexCast v687
  let c112_226 : Index := 112#32
  ![v768.toNat, 112]
def k0_off400 (v777 : BitVec 32) : Fin 2 → Nat :=
  let v780 : Index := Scalar.indexCast v777
  let c0_230 : Index := 0#32
  ![v780.toNat, 0]

def k0_off401 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_228 : BitVec 32 := 16#32
  let v778 : BitVec 32 := Scalar.muli arg12 c16_i32_228
  let c8_i32_229 : BitVec 32 := 8#32
  let v779 : BitVec 32 := Scalar.addi v778 c8_i32_229
  let v783 : Index := Scalar.indexCast v779
  let c0_231 : Index := 0#32
  ![v783.toNat, 0]
def k0_off402 (v777 : BitVec 32) : Fin 2 → Nat :=
  let v791 : Index := Scalar.indexCast v777
  let c16_233 : Index := 16#32
  ![v791.toNat, 16]
def k0_off403 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_228 : BitVec 32 := 16#32
  let v778 : BitVec 32 := Scalar.muli arg12 c16_i32_228
  let c8_i32_229 : BitVec 32 := 8#32
  let v779 : BitVec 32 := Scalar.addi v778 c8_i32_229
  let v794 : Index := Scalar.indexCast v779
  let c16_234 : Index := 16#32
  ![v794.toNat, 16]
def k0_off404 (v777 : BitVec 32) : Fin 2 → Nat :=
  let v802 : Index := Scalar.indexCast v777
  let c32_236 : Index := 32#32
  ![v802.toNat, 32]
def k0_off405 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_228 : BitVec 32 := 16#32
  let v778 : BitVec 32 := Scalar.muli arg12 c16_i32_228
  let c8_i32_229 : BitVec 32 := 8#32
  let v779 : BitVec 32 := Scalar.addi v778 c8_i32_229
  let v805 : Index := Scalar.indexCast v779
  let c32_237 : Index := 32#32
  ![v805.toNat, 32]
def k0_off406 (v777 : BitVec 32) : Fin 2 → Nat :=
  let v813 : Index := Scalar.indexCast v777
  let c48_239 : Index := 48#32
  ![v813.toNat, 48]
def k0_off407 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_228 : BitVec 32 := 16#32
  let v778 : BitVec 32 := Scalar.muli arg12 c16_i32_228
  let c8_i32_229 : BitVec 32 := 8#32
  let v779 : BitVec 32 := Scalar.addi v778 c8_i32_229
  let v816 : Index := Scalar.indexCast v779
  let c48_240 : Index := 48#32
  ![v816.toNat, 48]
def k0_off408 (v777 : BitVec 32) : Fin 2 → Nat :=
  let v824 : Index := Scalar.indexCast v777
  let c64_242 : Index := 64#32
  ![v824.toNat, 64]
def k0_off409 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_228 : BitVec 32 := 16#32
  let v778 : BitVec 32 := Scalar.muli arg12 c16_i32_228
  let c8_i32_229 : BitVec 32 := 8#32
  let v779 : BitVec 32 := Scalar.addi v778 c8_i32_229
  let v827 : Index := Scalar.indexCast v779
  let c64_243 : Index := 64#32
  ![v827.toNat, 64]
def k0_off410 (v777 : BitVec 32) : Fin 2 → Nat :=
  let v835 : Index := Scalar.indexCast v777
  let c80_245 : Index := 80#32
  ![v835.toNat, 80]
def k0_off411 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_228 : BitVec 32 := 16#32
  let v778 : BitVec 32 := Scalar.muli arg12 c16_i32_228
  let c8_i32_229 : BitVec 32 := 8#32
  let v779 : BitVec 32 := Scalar.addi v778 c8_i32_229
  let v838 : Index := Scalar.indexCast v779
  let c80_246 : Index := 80#32
  ![v838.toNat, 80]
def k0_off412 (v777 : BitVec 32) : Fin 2 → Nat :=
  let v846 : Index := Scalar.indexCast v777
  let c96_248 : Index := 96#32
  ![v846.toNat, 96]
def k0_off413 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_228 : BitVec 32 := 16#32
  let v778 : BitVec 32 := Scalar.muli arg12 c16_i32_228
  let c8_i32_229 : BitVec 32 := 8#32
  let v779 : BitVec 32 := Scalar.addi v778 c8_i32_229
  let v849 : Index := Scalar.indexCast v779
  let c96_249 : Index := 96#32
  ![v849.toNat, 96]
def k0_off414 (v777 : BitVec 32) : Fin 2 → Nat :=
  let v857 : Index := Scalar.indexCast v777
  let c112_251 : Index := 112#32
  ![v857.toNat, 112]

def k0_chk25 (v777 : BitVec 32) : Prop :=
  (∀ a, (k0_off400 v777) a + S1x16.size a ≤ S256x128.size a) ∧
  (∀ a, (k0_off402 v777) a + S1x16.size a ≤ S256x128.size a) ∧
  (∀ a, (k0_off404 v777) a + S1x16.size a ≤ S256x128.size a) ∧
  (∀ a, (k0_off406 v777) a + S1x16.size a ≤ S256x128.size a) ∧
  (∀ a, (k0_off408 v777) a + S1x16.size a ≤ S256x128.size a) ∧
  (∀ a, (k0_off410 v777) a + S1x16.size a ≤ S256x128.size a) ∧
  (∀ a, (k0_off412 v777) a + S1x16.size a ≤ S256x128.size a) ∧
  (∀ a, (k0_off414 v777) a + S1x16.size a ≤ S256x128.size a)
theorem k0_off400_inb : ∀ (v777 : BitVec 32) (k0_hw25 : k0_chk25 v777), ∀ a, (k0_off400 v777) a + S1x16.size a ≤ S256x128.size a := fun v777 k0_hw25 => k0_hw25.1
theorem k0_off402_inb : ∀ (v777 : BitVec 32) (k0_hw25 : k0_chk25 v777), ∀ a, (k0_off402 v777) a + S1x16.size a ≤ S256x128.size a := fun v777 k0_hw25 => k0_hw25.2.1
theorem k0_off404_inb : ∀ (v777 : BitVec 32) (k0_hw25 : k0_chk25 v777), ∀ a, (k0_off404 v777) a + S1x16.size a ≤ S256x128.size a := fun v777 k0_hw25 => k0_hw25.2.2.1
theorem k0_off406_inb : ∀ (v777 : BitVec 32) (k0_hw25 : k0_chk25 v777), ∀ a, (k0_off406 v777) a + S1x16.size a ≤ S256x128.size a := fun v777 k0_hw25 => k0_hw25.2.2.2.1
theorem k0_off408_inb : ∀ (v777 : BitVec 32) (k0_hw25 : k0_chk25 v777), ∀ a, (k0_off408 v777) a + S1x16.size a ≤ S256x128.size a := fun v777 k0_hw25 => k0_hw25.2.2.2.2.1
theorem k0_off410_inb : ∀ (v777 : BitVec 32) (k0_hw25 : k0_chk25 v777), ∀ a, (k0_off410 v777) a + S1x16.size a ≤ S256x128.size a := fun v777 k0_hw25 => k0_hw25.2.2.2.2.2.1
theorem k0_off412_inb : ∀ (v777 : BitVec 32) (k0_hw25 : k0_chk25 v777), ∀ a, (k0_off412 v777) a + S1x16.size a ≤ S256x128.size a := fun v777 k0_hw25 => k0_hw25.2.2.2.2.2.2.1
theorem k0_off414_inb : ∀ (v777 : BitVec 32) (k0_hw25 : k0_chk25 v777), ∀ a, (k0_off414 v777) a + S1x16.size a ≤ S256x128.size a := fun v777 k0_hw25 => k0_hw25.2.2.2.2.2.2.2

def k0_off415 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_228 : BitVec 32 := 16#32
  let v778 : BitVec 32 := Scalar.muli arg12 c16_i32_228
  let c8_i32_229 : BitVec 32 := 8#32
  let v779 : BitVec 32 := Scalar.addi v778 c8_i32_229
  let v860 : Index := Scalar.indexCast v779
  let c112_252 : Index := 112#32
  ![v860.toNat, 112]
def k0_off416 (v869 : BitVec 32) : Fin 2 → Nat :=
  let v872 : Index := Scalar.indexCast v869
  let c0_255 : Index := 0#32
  ![v872.toNat, 0]

def k0_off417 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_254 : BitVec 32 := 16#32
  let v870 : BitVec 32 := Scalar.muli arg12 c16_i32_254
  let c9_i32 : BitVec 32 := 9#32
  let v871 : BitVec 32 := Scalar.addi v870 c9_i32
  let v875 : Index := Scalar.indexCast v871
  let c0_256 : Index := 0#32
  ![v875.toNat, 0]
def k0_off418 (v869 : BitVec 32) : Fin 2 → Nat :=
  let v883 : Index := Scalar.indexCast v869
  let c16_258 : Index := 16#32
  ![v883.toNat, 16]
def k0_off419 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_254 : BitVec 32 := 16#32
  let v870 : BitVec 32 := Scalar.muli arg12 c16_i32_254
  let c9_i32 : BitVec 32 := 9#32
  let v871 : BitVec 32 := Scalar.addi v870 c9_i32
  let v886 : Index := Scalar.indexCast v871
  let c16_259 : Index := 16#32
  ![v886.toNat, 16]
def k0_off420 (v869 : BitVec 32) : Fin 2 → Nat :=
  let v894 : Index := Scalar.indexCast v869
  let c32_261 : Index := 32#32
  ![v894.toNat, 32]
def k0_off421 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_254 : BitVec 32 := 16#32
  let v870 : BitVec 32 := Scalar.muli arg12 c16_i32_254
  let c9_i32 : BitVec 32 := 9#32
  let v871 : BitVec 32 := Scalar.addi v870 c9_i32
  let v897 : Index := Scalar.indexCast v871
  let c32_262 : Index := 32#32
  ![v897.toNat, 32]
def k0_off422 (v869 : BitVec 32) : Fin 2 → Nat :=
  let v905 : Index := Scalar.indexCast v869
  let c48_264 : Index := 48#32
  ![v905.toNat, 48]
def k0_off423 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_254 : BitVec 32 := 16#32
  let v870 : BitVec 32 := Scalar.muli arg12 c16_i32_254
  let c9_i32 : BitVec 32 := 9#32
  let v871 : BitVec 32 := Scalar.addi v870 c9_i32
  let v908 : Index := Scalar.indexCast v871
  let c48_265 : Index := 48#32
  ![v908.toNat, 48]
def k0_off424 (v869 : BitVec 32) : Fin 2 → Nat :=
  let v916 : Index := Scalar.indexCast v869
  let c64_267 : Index := 64#32
  ![v916.toNat, 64]
def k0_off425 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_254 : BitVec 32 := 16#32
  let v870 : BitVec 32 := Scalar.muli arg12 c16_i32_254
  let c9_i32 : BitVec 32 := 9#32
  let v871 : BitVec 32 := Scalar.addi v870 c9_i32
  let v919 : Index := Scalar.indexCast v871
  let c64_268 : Index := 64#32
  ![v919.toNat, 64]
def k0_off426 (v869 : BitVec 32) : Fin 2 → Nat :=
  let v927 : Index := Scalar.indexCast v869
  let c80_270 : Index := 80#32
  ![v927.toNat, 80]
def k0_off427 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_254 : BitVec 32 := 16#32
  let v870 : BitVec 32 := Scalar.muli arg12 c16_i32_254
  let c9_i32 : BitVec 32 := 9#32
  let v871 : BitVec 32 := Scalar.addi v870 c9_i32
  let v930 : Index := Scalar.indexCast v871
  let c80_271 : Index := 80#32
  ![v930.toNat, 80]
def k0_off428 (v869 : BitVec 32) : Fin 2 → Nat :=
  let v938 : Index := Scalar.indexCast v869
  let c96_273 : Index := 96#32
  ![v938.toNat, 96]
def k0_off429 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_254 : BitVec 32 := 16#32
  let v870 : BitVec 32 := Scalar.muli arg12 c16_i32_254
  let c9_i32 : BitVec 32 := 9#32
  let v871 : BitVec 32 := Scalar.addi v870 c9_i32
  let v941 : Index := Scalar.indexCast v871
  let c96_274 : Index := 96#32
  ![v941.toNat, 96]
def k0_off430 (v869 : BitVec 32) : Fin 2 → Nat :=
  let v949 : Index := Scalar.indexCast v869
  let c112_276 : Index := 112#32
  ![v949.toNat, 112]

def k0_chk26 (v869 : BitVec 32) : Prop :=
  (∀ a, (k0_off416 v869) a + S1x16.size a ≤ S256x128.size a) ∧
  (∀ a, (k0_off418 v869) a + S1x16.size a ≤ S256x128.size a) ∧
  (∀ a, (k0_off420 v869) a + S1x16.size a ≤ S256x128.size a) ∧
  (∀ a, (k0_off422 v869) a + S1x16.size a ≤ S256x128.size a) ∧
  (∀ a, (k0_off424 v869) a + S1x16.size a ≤ S256x128.size a) ∧
  (∀ a, (k0_off426 v869) a + S1x16.size a ≤ S256x128.size a) ∧
  (∀ a, (k0_off428 v869) a + S1x16.size a ≤ S256x128.size a) ∧
  (∀ a, (k0_off430 v869) a + S1x16.size a ≤ S256x128.size a)
theorem k0_off416_inb : ∀ (v869 : BitVec 32) (k0_hw26 : k0_chk26 v869), ∀ a, (k0_off416 v869) a + S1x16.size a ≤ S256x128.size a := fun v869 k0_hw26 => k0_hw26.1
theorem k0_off418_inb : ∀ (v869 : BitVec 32) (k0_hw26 : k0_chk26 v869), ∀ a, (k0_off418 v869) a + S1x16.size a ≤ S256x128.size a := fun v869 k0_hw26 => k0_hw26.2.1
theorem k0_off420_inb : ∀ (v869 : BitVec 32) (k0_hw26 : k0_chk26 v869), ∀ a, (k0_off420 v869) a + S1x16.size a ≤ S256x128.size a := fun v869 k0_hw26 => k0_hw26.2.2.1
theorem k0_off422_inb : ∀ (v869 : BitVec 32) (k0_hw26 : k0_chk26 v869), ∀ a, (k0_off422 v869) a + S1x16.size a ≤ S256x128.size a := fun v869 k0_hw26 => k0_hw26.2.2.2.1
theorem k0_off424_inb : ∀ (v869 : BitVec 32) (k0_hw26 : k0_chk26 v869), ∀ a, (k0_off424 v869) a + S1x16.size a ≤ S256x128.size a := fun v869 k0_hw26 => k0_hw26.2.2.2.2.1
theorem k0_off426_inb : ∀ (v869 : BitVec 32) (k0_hw26 : k0_chk26 v869), ∀ a, (k0_off426 v869) a + S1x16.size a ≤ S256x128.size a := fun v869 k0_hw26 => k0_hw26.2.2.2.2.2.1
theorem k0_off428_inb : ∀ (v869 : BitVec 32) (k0_hw26 : k0_chk26 v869), ∀ a, (k0_off428 v869) a + S1x16.size a ≤ S256x128.size a := fun v869 k0_hw26 => k0_hw26.2.2.2.2.2.2.1
theorem k0_off430_inb : ∀ (v869 : BitVec 32) (k0_hw26 : k0_chk26 v869), ∀ a, (k0_off430 v869) a + S1x16.size a ≤ S256x128.size a := fun v869 k0_hw26 => k0_hw26.2.2.2.2.2.2.2

def k0_off431 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_254 : BitVec 32 := 16#32
  let v870 : BitVec 32 := Scalar.muli arg12 c16_i32_254
  let c9_i32 : BitVec 32 := 9#32
  let v871 : BitVec 32 := Scalar.addi v870 c9_i32
  let v952 : Index := Scalar.indexCast v871
  let c112_277 : Index := 112#32
  ![v952.toNat, 112]
def k0_off432 (v961 : BitVec 32) : Fin 2 → Nat :=
  let v964 : Index := Scalar.indexCast v961
  let c0_280 : Index := 0#32
  ![v964.toNat, 0]

def k0_off433 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_279 : BitVec 32 := 16#32
  let v962 : BitVec 32 := Scalar.muli arg12 c16_i32_279
  let c10_i32 : BitVec 32 := 10#32
  let v963 : BitVec 32 := Scalar.addi v962 c10_i32
  let v967 : Index := Scalar.indexCast v963
  let c0_281 : Index := 0#32
  ![v967.toNat, 0]
def k0_off434 (v961 : BitVec 32) : Fin 2 → Nat :=
  let v975 : Index := Scalar.indexCast v961
  let c16_283 : Index := 16#32
  ![v975.toNat, 16]
def k0_off435 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_279 : BitVec 32 := 16#32
  let v962 : BitVec 32 := Scalar.muli arg12 c16_i32_279
  let c10_i32 : BitVec 32 := 10#32
  let v963 : BitVec 32 := Scalar.addi v962 c10_i32
  let v978 : Index := Scalar.indexCast v963
  let c16_284 : Index := 16#32
  ![v978.toNat, 16]
def k0_off436 (v961 : BitVec 32) : Fin 2 → Nat :=
  let v986 : Index := Scalar.indexCast v961
  let c32_286 : Index := 32#32
  ![v986.toNat, 32]
def k0_off437 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_279 : BitVec 32 := 16#32
  let v962 : BitVec 32 := Scalar.muli arg12 c16_i32_279
  let c10_i32 : BitVec 32 := 10#32
  let v963 : BitVec 32 := Scalar.addi v962 c10_i32
  let v989 : Index := Scalar.indexCast v963
  let c32_287 : Index := 32#32
  ![v989.toNat, 32]
def k0_off438 (v961 : BitVec 32) : Fin 2 → Nat :=
  let v997 : Index := Scalar.indexCast v961
  let c48_289 : Index := 48#32
  ![v997.toNat, 48]
def k0_off439 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_279 : BitVec 32 := 16#32
  let v962 : BitVec 32 := Scalar.muli arg12 c16_i32_279
  let c10_i32 : BitVec 32 := 10#32
  let v963 : BitVec 32 := Scalar.addi v962 c10_i32
  let v1000 : Index := Scalar.indexCast v963
  let c48_290 : Index := 48#32
  ![v1000.toNat, 48]
def k0_off440 (v961 : BitVec 32) : Fin 2 → Nat :=
  let v1008 : Index := Scalar.indexCast v961
  let c64_292 : Index := 64#32
  ![v1008.toNat, 64]
def k0_off441 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_279 : BitVec 32 := 16#32
  let v962 : BitVec 32 := Scalar.muli arg12 c16_i32_279
  let c10_i32 : BitVec 32 := 10#32
  let v963 : BitVec 32 := Scalar.addi v962 c10_i32
  let v1011 : Index := Scalar.indexCast v963
  let c64_293 : Index := 64#32
  ![v1011.toNat, 64]
def k0_off442 (v961 : BitVec 32) : Fin 2 → Nat :=
  let v1019 : Index := Scalar.indexCast v961
  let c80_295 : Index := 80#32
  ![v1019.toNat, 80]
def k0_off443 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_279 : BitVec 32 := 16#32
  let v962 : BitVec 32 := Scalar.muli arg12 c16_i32_279
  let c10_i32 : BitVec 32 := 10#32
  let v963 : BitVec 32 := Scalar.addi v962 c10_i32
  let v1022 : Index := Scalar.indexCast v963
  let c80_296 : Index := 80#32
  ![v1022.toNat, 80]
def k0_off444 (v961 : BitVec 32) : Fin 2 → Nat :=
  let v1030 : Index := Scalar.indexCast v961
  let c96_298 : Index := 96#32
  ![v1030.toNat, 96]
def k0_off445 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_279 : BitVec 32 := 16#32
  let v962 : BitVec 32 := Scalar.muli arg12 c16_i32_279
  let c10_i32 : BitVec 32 := 10#32
  let v963 : BitVec 32 := Scalar.addi v962 c10_i32
  let v1033 : Index := Scalar.indexCast v963
  let c96_299 : Index := 96#32
  ![v1033.toNat, 96]
def k0_off446 (v961 : BitVec 32) : Fin 2 → Nat :=
  let v1041 : Index := Scalar.indexCast v961
  let c112_301 : Index := 112#32
  ![v1041.toNat, 112]

def k0_chk27 (v961 : BitVec 32) : Prop :=
  (∀ a, (k0_off432 v961) a + S1x16.size a ≤ S256x128.size a) ∧
  (∀ a, (k0_off434 v961) a + S1x16.size a ≤ S256x128.size a) ∧
  (∀ a, (k0_off436 v961) a + S1x16.size a ≤ S256x128.size a) ∧
  (∀ a, (k0_off438 v961) a + S1x16.size a ≤ S256x128.size a) ∧
  (∀ a, (k0_off440 v961) a + S1x16.size a ≤ S256x128.size a) ∧
  (∀ a, (k0_off442 v961) a + S1x16.size a ≤ S256x128.size a) ∧
  (∀ a, (k0_off444 v961) a + S1x16.size a ≤ S256x128.size a) ∧
  (∀ a, (k0_off446 v961) a + S1x16.size a ≤ S256x128.size a)
theorem k0_off432_inb : ∀ (v961 : BitVec 32) (k0_hw27 : k0_chk27 v961), ∀ a, (k0_off432 v961) a + S1x16.size a ≤ S256x128.size a := fun v961 k0_hw27 => k0_hw27.1
theorem k0_off434_inb : ∀ (v961 : BitVec 32) (k0_hw27 : k0_chk27 v961), ∀ a, (k0_off434 v961) a + S1x16.size a ≤ S256x128.size a := fun v961 k0_hw27 => k0_hw27.2.1
theorem k0_off436_inb : ∀ (v961 : BitVec 32) (k0_hw27 : k0_chk27 v961), ∀ a, (k0_off436 v961) a + S1x16.size a ≤ S256x128.size a := fun v961 k0_hw27 => k0_hw27.2.2.1
theorem k0_off438_inb : ∀ (v961 : BitVec 32) (k0_hw27 : k0_chk27 v961), ∀ a, (k0_off438 v961) a + S1x16.size a ≤ S256x128.size a := fun v961 k0_hw27 => k0_hw27.2.2.2.1
theorem k0_off440_inb : ∀ (v961 : BitVec 32) (k0_hw27 : k0_chk27 v961), ∀ a, (k0_off440 v961) a + S1x16.size a ≤ S256x128.size a := fun v961 k0_hw27 => k0_hw27.2.2.2.2.1
theorem k0_off442_inb : ∀ (v961 : BitVec 32) (k0_hw27 : k0_chk27 v961), ∀ a, (k0_off442 v961) a + S1x16.size a ≤ S256x128.size a := fun v961 k0_hw27 => k0_hw27.2.2.2.2.2.1
theorem k0_off444_inb : ∀ (v961 : BitVec 32) (k0_hw27 : k0_chk27 v961), ∀ a, (k0_off444 v961) a + S1x16.size a ≤ S256x128.size a := fun v961 k0_hw27 => k0_hw27.2.2.2.2.2.2.1
theorem k0_off446_inb : ∀ (v961 : BitVec 32) (k0_hw27 : k0_chk27 v961), ∀ a, (k0_off446 v961) a + S1x16.size a ≤ S256x128.size a := fun v961 k0_hw27 => k0_hw27.2.2.2.2.2.2.2

def k0_off447 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_279 : BitVec 32 := 16#32
  let v962 : BitVec 32 := Scalar.muli arg12 c16_i32_279
  let c10_i32 : BitVec 32 := 10#32
  let v963 : BitVec 32 := Scalar.addi v962 c10_i32
  let v1044 : Index := Scalar.indexCast v963
  let c112_302 : Index := 112#32
  ![v1044.toNat, 112]
def k0_off448 (v1053 : BitVec 32) : Fin 2 → Nat :=
  let v1056 : Index := Scalar.indexCast v1053
  let c0_305 : Index := 0#32
  ![v1056.toNat, 0]

def k0_off449 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_304 : BitVec 32 := 16#32
  let v1054 : BitVec 32 := Scalar.muli arg12 c16_i32_304
  let c11_i32 : BitVec 32 := 11#32
  let v1055 : BitVec 32 := Scalar.addi v1054 c11_i32
  let v1059 : Index := Scalar.indexCast v1055
  let c0_306 : Index := 0#32
  ![v1059.toNat, 0]
def k0_off450 (v1053 : BitVec 32) : Fin 2 → Nat :=
  let v1067 : Index := Scalar.indexCast v1053
  let c16_308 : Index := 16#32
  ![v1067.toNat, 16]
def k0_off451 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_304 : BitVec 32 := 16#32
  let v1054 : BitVec 32 := Scalar.muli arg12 c16_i32_304
  let c11_i32 : BitVec 32 := 11#32
  let v1055 : BitVec 32 := Scalar.addi v1054 c11_i32
  let v1070 : Index := Scalar.indexCast v1055
  let c16_309 : Index := 16#32
  ![v1070.toNat, 16]
def k0_off452 (v1053 : BitVec 32) : Fin 2 → Nat :=
  let v1078 : Index := Scalar.indexCast v1053
  let c32_311 : Index := 32#32
  ![v1078.toNat, 32]
def k0_off453 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_304 : BitVec 32 := 16#32
  let v1054 : BitVec 32 := Scalar.muli arg12 c16_i32_304
  let c11_i32 : BitVec 32 := 11#32
  let v1055 : BitVec 32 := Scalar.addi v1054 c11_i32
  let v1081 : Index := Scalar.indexCast v1055
  let c32_312 : Index := 32#32
  ![v1081.toNat, 32]
def k0_off454 (v1053 : BitVec 32) : Fin 2 → Nat :=
  let v1089 : Index := Scalar.indexCast v1053
  let c48_314 : Index := 48#32
  ![v1089.toNat, 48]
def k0_off455 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_304 : BitVec 32 := 16#32
  let v1054 : BitVec 32 := Scalar.muli arg12 c16_i32_304
  let c11_i32 : BitVec 32 := 11#32
  let v1055 : BitVec 32 := Scalar.addi v1054 c11_i32
  let v1092 : Index := Scalar.indexCast v1055
  let c48_315 : Index := 48#32
  ![v1092.toNat, 48]
def k0_off456 (v1053 : BitVec 32) : Fin 2 → Nat :=
  let v1100 : Index := Scalar.indexCast v1053
  let c64_317 : Index := 64#32
  ![v1100.toNat, 64]
def k0_off457 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_304 : BitVec 32 := 16#32
  let v1054 : BitVec 32 := Scalar.muli arg12 c16_i32_304
  let c11_i32 : BitVec 32 := 11#32
  let v1055 : BitVec 32 := Scalar.addi v1054 c11_i32
  let v1103 : Index := Scalar.indexCast v1055
  let c64_318 : Index := 64#32
  ![v1103.toNat, 64]
def k0_off458 (v1053 : BitVec 32) : Fin 2 → Nat :=
  let v1111 : Index := Scalar.indexCast v1053
  let c80_320 : Index := 80#32
  ![v1111.toNat, 80]
def k0_off459 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_304 : BitVec 32 := 16#32
  let v1054 : BitVec 32 := Scalar.muli arg12 c16_i32_304
  let c11_i32 : BitVec 32 := 11#32
  let v1055 : BitVec 32 := Scalar.addi v1054 c11_i32
  let v1114 : Index := Scalar.indexCast v1055
  let c80_321 : Index := 80#32
  ![v1114.toNat, 80]
def k0_off460 (v1053 : BitVec 32) : Fin 2 → Nat :=
  let v1122 : Index := Scalar.indexCast v1053
  let c96_323 : Index := 96#32
  ![v1122.toNat, 96]
def k0_off461 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_304 : BitVec 32 := 16#32
  let v1054 : BitVec 32 := Scalar.muli arg12 c16_i32_304
  let c11_i32 : BitVec 32 := 11#32
  let v1055 : BitVec 32 := Scalar.addi v1054 c11_i32
  let v1125 : Index := Scalar.indexCast v1055
  let c96_324 : Index := 96#32
  ![v1125.toNat, 96]
def k0_off462 (v1053 : BitVec 32) : Fin 2 → Nat :=
  let v1133 : Index := Scalar.indexCast v1053
  let c112_326 : Index := 112#32
  ![v1133.toNat, 112]

def k0_chk28 (v1053 : BitVec 32) : Prop :=
  (∀ a, (k0_off448 v1053) a + S1x16.size a ≤ S256x128.size a) ∧
  (∀ a, (k0_off450 v1053) a + S1x16.size a ≤ S256x128.size a) ∧
  (∀ a, (k0_off452 v1053) a + S1x16.size a ≤ S256x128.size a) ∧
  (∀ a, (k0_off454 v1053) a + S1x16.size a ≤ S256x128.size a) ∧
  (∀ a, (k0_off456 v1053) a + S1x16.size a ≤ S256x128.size a) ∧
  (∀ a, (k0_off458 v1053) a + S1x16.size a ≤ S256x128.size a) ∧
  (∀ a, (k0_off460 v1053) a + S1x16.size a ≤ S256x128.size a) ∧
  (∀ a, (k0_off462 v1053) a + S1x16.size a ≤ S256x128.size a)
theorem k0_off448_inb : ∀ (v1053 : BitVec 32) (k0_hw28 : k0_chk28 v1053), ∀ a, (k0_off448 v1053) a + S1x16.size a ≤ S256x128.size a := fun v1053 k0_hw28 => k0_hw28.1
theorem k0_off450_inb : ∀ (v1053 : BitVec 32) (k0_hw28 : k0_chk28 v1053), ∀ a, (k0_off450 v1053) a + S1x16.size a ≤ S256x128.size a := fun v1053 k0_hw28 => k0_hw28.2.1
theorem k0_off452_inb : ∀ (v1053 : BitVec 32) (k0_hw28 : k0_chk28 v1053), ∀ a, (k0_off452 v1053) a + S1x16.size a ≤ S256x128.size a := fun v1053 k0_hw28 => k0_hw28.2.2.1
theorem k0_off454_inb : ∀ (v1053 : BitVec 32) (k0_hw28 : k0_chk28 v1053), ∀ a, (k0_off454 v1053) a + S1x16.size a ≤ S256x128.size a := fun v1053 k0_hw28 => k0_hw28.2.2.2.1
theorem k0_off456_inb : ∀ (v1053 : BitVec 32) (k0_hw28 : k0_chk28 v1053), ∀ a, (k0_off456 v1053) a + S1x16.size a ≤ S256x128.size a := fun v1053 k0_hw28 => k0_hw28.2.2.2.2.1
theorem k0_off458_inb : ∀ (v1053 : BitVec 32) (k0_hw28 : k0_chk28 v1053), ∀ a, (k0_off458 v1053) a + S1x16.size a ≤ S256x128.size a := fun v1053 k0_hw28 => k0_hw28.2.2.2.2.2.1
theorem k0_off460_inb : ∀ (v1053 : BitVec 32) (k0_hw28 : k0_chk28 v1053), ∀ a, (k0_off460 v1053) a + S1x16.size a ≤ S256x128.size a := fun v1053 k0_hw28 => k0_hw28.2.2.2.2.2.2.1
theorem k0_off462_inb : ∀ (v1053 : BitVec 32) (k0_hw28 : k0_chk28 v1053), ∀ a, (k0_off462 v1053) a + S1x16.size a ≤ S256x128.size a := fun v1053 k0_hw28 => k0_hw28.2.2.2.2.2.2.2

def k0_off463 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_304 : BitVec 32 := 16#32
  let v1054 : BitVec 32 := Scalar.muli arg12 c16_i32_304
  let c11_i32 : BitVec 32 := 11#32
  let v1055 : BitVec 32 := Scalar.addi v1054 c11_i32
  let v1136 : Index := Scalar.indexCast v1055
  let c112_327 : Index := 112#32
  ![v1136.toNat, 112]
def k0_off464 (v1145 : BitVec 32) : Fin 2 → Nat :=
  let v1148 : Index := Scalar.indexCast v1145
  let c0_330 : Index := 0#32
  ![v1148.toNat, 0]

def k0_off465 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_329 : BitVec 32 := 16#32
  let v1146 : BitVec 32 := Scalar.muli arg12 c16_i32_329
  let c12_i32 : BitVec 32 := 12#32
  let v1147 : BitVec 32 := Scalar.addi v1146 c12_i32
  let v1151 : Index := Scalar.indexCast v1147
  let c0_331 : Index := 0#32
  ![v1151.toNat, 0]
def k0_off466 (v1145 : BitVec 32) : Fin 2 → Nat :=
  let v1159 : Index := Scalar.indexCast v1145
  let c16_333 : Index := 16#32
  ![v1159.toNat, 16]
def k0_off467 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_329 : BitVec 32 := 16#32
  let v1146 : BitVec 32 := Scalar.muli arg12 c16_i32_329
  let c12_i32 : BitVec 32 := 12#32
  let v1147 : BitVec 32 := Scalar.addi v1146 c12_i32
  let v1162 : Index := Scalar.indexCast v1147
  let c16_334 : Index := 16#32
  ![v1162.toNat, 16]
def k0_off468 (v1145 : BitVec 32) : Fin 2 → Nat :=
  let v1170 : Index := Scalar.indexCast v1145
  let c32_336 : Index := 32#32
  ![v1170.toNat, 32]
def k0_off469 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_329 : BitVec 32 := 16#32
  let v1146 : BitVec 32 := Scalar.muli arg12 c16_i32_329
  let c12_i32 : BitVec 32 := 12#32
  let v1147 : BitVec 32 := Scalar.addi v1146 c12_i32
  let v1173 : Index := Scalar.indexCast v1147
  let c32_337 : Index := 32#32
  ![v1173.toNat, 32]
def k0_off470 (v1145 : BitVec 32) : Fin 2 → Nat :=
  let v1181 : Index := Scalar.indexCast v1145
  let c48_339 : Index := 48#32
  ![v1181.toNat, 48]
def k0_off471 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_329 : BitVec 32 := 16#32
  let v1146 : BitVec 32 := Scalar.muli arg12 c16_i32_329
  let c12_i32 : BitVec 32 := 12#32
  let v1147 : BitVec 32 := Scalar.addi v1146 c12_i32
  let v1184 : Index := Scalar.indexCast v1147
  let c48_340 : Index := 48#32
  ![v1184.toNat, 48]
def k0_off472 (v1145 : BitVec 32) : Fin 2 → Nat :=
  let v1192 : Index := Scalar.indexCast v1145
  let c64_342 : Index := 64#32
  ![v1192.toNat, 64]
def k0_off473 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_329 : BitVec 32 := 16#32
  let v1146 : BitVec 32 := Scalar.muli arg12 c16_i32_329
  let c12_i32 : BitVec 32 := 12#32
  let v1147 : BitVec 32 := Scalar.addi v1146 c12_i32
  let v1195 : Index := Scalar.indexCast v1147
  let c64_343 : Index := 64#32
  ![v1195.toNat, 64]
def k0_off474 (v1145 : BitVec 32) : Fin 2 → Nat :=
  let v1203 : Index := Scalar.indexCast v1145
  let c80_345 : Index := 80#32
  ![v1203.toNat, 80]
def k0_off475 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_329 : BitVec 32 := 16#32
  let v1146 : BitVec 32 := Scalar.muli arg12 c16_i32_329
  let c12_i32 : BitVec 32 := 12#32
  let v1147 : BitVec 32 := Scalar.addi v1146 c12_i32
  let v1206 : Index := Scalar.indexCast v1147
  let c80_346 : Index := 80#32
  ![v1206.toNat, 80]
def k0_off476 (v1145 : BitVec 32) : Fin 2 → Nat :=
  let v1214 : Index := Scalar.indexCast v1145
  let c96_348 : Index := 96#32
  ![v1214.toNat, 96]
def k0_off477 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_329 : BitVec 32 := 16#32
  let v1146 : BitVec 32 := Scalar.muli arg12 c16_i32_329
  let c12_i32 : BitVec 32 := 12#32
  let v1147 : BitVec 32 := Scalar.addi v1146 c12_i32
  let v1217 : Index := Scalar.indexCast v1147
  let c96_349 : Index := 96#32
  ![v1217.toNat, 96]
def k0_off478 (v1145 : BitVec 32) : Fin 2 → Nat :=
  let v1225 : Index := Scalar.indexCast v1145
  let c112_351 : Index := 112#32
  ![v1225.toNat, 112]

def k0_chk29 (v1145 : BitVec 32) : Prop :=
  (∀ a, (k0_off464 v1145) a + S1x16.size a ≤ S256x128.size a) ∧
  (∀ a, (k0_off466 v1145) a + S1x16.size a ≤ S256x128.size a) ∧
  (∀ a, (k0_off468 v1145) a + S1x16.size a ≤ S256x128.size a) ∧
  (∀ a, (k0_off470 v1145) a + S1x16.size a ≤ S256x128.size a) ∧
  (∀ a, (k0_off472 v1145) a + S1x16.size a ≤ S256x128.size a) ∧
  (∀ a, (k0_off474 v1145) a + S1x16.size a ≤ S256x128.size a) ∧
  (∀ a, (k0_off476 v1145) a + S1x16.size a ≤ S256x128.size a) ∧
  (∀ a, (k0_off478 v1145) a + S1x16.size a ≤ S256x128.size a)
theorem k0_off464_inb : ∀ (v1145 : BitVec 32) (k0_hw29 : k0_chk29 v1145), ∀ a, (k0_off464 v1145) a + S1x16.size a ≤ S256x128.size a := fun v1145 k0_hw29 => k0_hw29.1
theorem k0_off466_inb : ∀ (v1145 : BitVec 32) (k0_hw29 : k0_chk29 v1145), ∀ a, (k0_off466 v1145) a + S1x16.size a ≤ S256x128.size a := fun v1145 k0_hw29 => k0_hw29.2.1
theorem k0_off468_inb : ∀ (v1145 : BitVec 32) (k0_hw29 : k0_chk29 v1145), ∀ a, (k0_off468 v1145) a + S1x16.size a ≤ S256x128.size a := fun v1145 k0_hw29 => k0_hw29.2.2.1
theorem k0_off470_inb : ∀ (v1145 : BitVec 32) (k0_hw29 : k0_chk29 v1145), ∀ a, (k0_off470 v1145) a + S1x16.size a ≤ S256x128.size a := fun v1145 k0_hw29 => k0_hw29.2.2.2.1
theorem k0_off472_inb : ∀ (v1145 : BitVec 32) (k0_hw29 : k0_chk29 v1145), ∀ a, (k0_off472 v1145) a + S1x16.size a ≤ S256x128.size a := fun v1145 k0_hw29 => k0_hw29.2.2.2.2.1
theorem k0_off474_inb : ∀ (v1145 : BitVec 32) (k0_hw29 : k0_chk29 v1145), ∀ a, (k0_off474 v1145) a + S1x16.size a ≤ S256x128.size a := fun v1145 k0_hw29 => k0_hw29.2.2.2.2.2.1
theorem k0_off476_inb : ∀ (v1145 : BitVec 32) (k0_hw29 : k0_chk29 v1145), ∀ a, (k0_off476 v1145) a + S1x16.size a ≤ S256x128.size a := fun v1145 k0_hw29 => k0_hw29.2.2.2.2.2.2.1
theorem k0_off478_inb : ∀ (v1145 : BitVec 32) (k0_hw29 : k0_chk29 v1145), ∀ a, (k0_off478 v1145) a + S1x16.size a ≤ S256x128.size a := fun v1145 k0_hw29 => k0_hw29.2.2.2.2.2.2.2

def k0_off479 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_329 : BitVec 32 := 16#32
  let v1146 : BitVec 32 := Scalar.muli arg12 c16_i32_329
  let c12_i32 : BitVec 32 := 12#32
  let v1147 : BitVec 32 := Scalar.addi v1146 c12_i32
  let v1228 : Index := Scalar.indexCast v1147
  let c112_352 : Index := 112#32
  ![v1228.toNat, 112]
def k0_off480 (v1237 : BitVec 32) : Fin 2 → Nat :=
  let v1240 : Index := Scalar.indexCast v1237
  let c0_355 : Index := 0#32
  ![v1240.toNat, 0]

def k0_off481 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_354 : BitVec 32 := 16#32
  let v1238 : BitVec 32 := Scalar.muli arg12 c16_i32_354
  let c13_i32 : BitVec 32 := 13#32
  let v1239 : BitVec 32 := Scalar.addi v1238 c13_i32
  let v1243 : Index := Scalar.indexCast v1239
  let c0_356 : Index := 0#32
  ![v1243.toNat, 0]
def k0_off482 (v1237 : BitVec 32) : Fin 2 → Nat :=
  let v1251 : Index := Scalar.indexCast v1237
  let c16_358 : Index := 16#32
  ![v1251.toNat, 16]
def k0_off483 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_354 : BitVec 32 := 16#32
  let v1238 : BitVec 32 := Scalar.muli arg12 c16_i32_354
  let c13_i32 : BitVec 32 := 13#32
  let v1239 : BitVec 32 := Scalar.addi v1238 c13_i32
  let v1254 : Index := Scalar.indexCast v1239
  let c16_359 : Index := 16#32
  ![v1254.toNat, 16]
def k0_off484 (v1237 : BitVec 32) : Fin 2 → Nat :=
  let v1262 : Index := Scalar.indexCast v1237
  let c32_361 : Index := 32#32
  ![v1262.toNat, 32]
def k0_off485 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_354 : BitVec 32 := 16#32
  let v1238 : BitVec 32 := Scalar.muli arg12 c16_i32_354
  let c13_i32 : BitVec 32 := 13#32
  let v1239 : BitVec 32 := Scalar.addi v1238 c13_i32
  let v1265 : Index := Scalar.indexCast v1239
  let c32_362 : Index := 32#32
  ![v1265.toNat, 32]
def k0_off486 (v1237 : BitVec 32) : Fin 2 → Nat :=
  let v1273 : Index := Scalar.indexCast v1237
  let c48_364 : Index := 48#32
  ![v1273.toNat, 48]
def k0_off487 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_354 : BitVec 32 := 16#32
  let v1238 : BitVec 32 := Scalar.muli arg12 c16_i32_354
  let c13_i32 : BitVec 32 := 13#32
  let v1239 : BitVec 32 := Scalar.addi v1238 c13_i32
  let v1276 : Index := Scalar.indexCast v1239
  let c48_365 : Index := 48#32
  ![v1276.toNat, 48]
def k0_off488 (v1237 : BitVec 32) : Fin 2 → Nat :=
  let v1284 : Index := Scalar.indexCast v1237
  let c64_367 : Index := 64#32
  ![v1284.toNat, 64]
def k0_off489 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_354 : BitVec 32 := 16#32
  let v1238 : BitVec 32 := Scalar.muli arg12 c16_i32_354
  let c13_i32 : BitVec 32 := 13#32
  let v1239 : BitVec 32 := Scalar.addi v1238 c13_i32
  let v1287 : Index := Scalar.indexCast v1239
  let c64_368 : Index := 64#32
  ![v1287.toNat, 64]
def k0_off490 (v1237 : BitVec 32) : Fin 2 → Nat :=
  let v1295 : Index := Scalar.indexCast v1237
  let c80_370 : Index := 80#32
  ![v1295.toNat, 80]
def k0_off491 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_354 : BitVec 32 := 16#32
  let v1238 : BitVec 32 := Scalar.muli arg12 c16_i32_354
  let c13_i32 : BitVec 32 := 13#32
  let v1239 : BitVec 32 := Scalar.addi v1238 c13_i32
  let v1298 : Index := Scalar.indexCast v1239
  let c80_371 : Index := 80#32
  ![v1298.toNat, 80]
def k0_off492 (v1237 : BitVec 32) : Fin 2 → Nat :=
  let v1306 : Index := Scalar.indexCast v1237
  let c96_373 : Index := 96#32
  ![v1306.toNat, 96]
def k0_off493 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_354 : BitVec 32 := 16#32
  let v1238 : BitVec 32 := Scalar.muli arg12 c16_i32_354
  let c13_i32 : BitVec 32 := 13#32
  let v1239 : BitVec 32 := Scalar.addi v1238 c13_i32
  let v1309 : Index := Scalar.indexCast v1239
  let c96_374 : Index := 96#32
  ![v1309.toNat, 96]
def k0_off494 (v1237 : BitVec 32) : Fin 2 → Nat :=
  let v1317 : Index := Scalar.indexCast v1237
  let c112_376 : Index := 112#32
  ![v1317.toNat, 112]

def k0_chk30 (v1237 : BitVec 32) : Prop :=
  (∀ a, (k0_off480 v1237) a + S1x16.size a ≤ S256x128.size a) ∧
  (∀ a, (k0_off482 v1237) a + S1x16.size a ≤ S256x128.size a) ∧
  (∀ a, (k0_off484 v1237) a + S1x16.size a ≤ S256x128.size a) ∧
  (∀ a, (k0_off486 v1237) a + S1x16.size a ≤ S256x128.size a) ∧
  (∀ a, (k0_off488 v1237) a + S1x16.size a ≤ S256x128.size a) ∧
  (∀ a, (k0_off490 v1237) a + S1x16.size a ≤ S256x128.size a) ∧
  (∀ a, (k0_off492 v1237) a + S1x16.size a ≤ S256x128.size a) ∧
  (∀ a, (k0_off494 v1237) a + S1x16.size a ≤ S256x128.size a)
theorem k0_off480_inb : ∀ (v1237 : BitVec 32) (k0_hw30 : k0_chk30 v1237), ∀ a, (k0_off480 v1237) a + S1x16.size a ≤ S256x128.size a := fun v1237 k0_hw30 => k0_hw30.1
theorem k0_off482_inb : ∀ (v1237 : BitVec 32) (k0_hw30 : k0_chk30 v1237), ∀ a, (k0_off482 v1237) a + S1x16.size a ≤ S256x128.size a := fun v1237 k0_hw30 => k0_hw30.2.1
theorem k0_off484_inb : ∀ (v1237 : BitVec 32) (k0_hw30 : k0_chk30 v1237), ∀ a, (k0_off484 v1237) a + S1x16.size a ≤ S256x128.size a := fun v1237 k0_hw30 => k0_hw30.2.2.1
theorem k0_off486_inb : ∀ (v1237 : BitVec 32) (k0_hw30 : k0_chk30 v1237), ∀ a, (k0_off486 v1237) a + S1x16.size a ≤ S256x128.size a := fun v1237 k0_hw30 => k0_hw30.2.2.2.1
theorem k0_off488_inb : ∀ (v1237 : BitVec 32) (k0_hw30 : k0_chk30 v1237), ∀ a, (k0_off488 v1237) a + S1x16.size a ≤ S256x128.size a := fun v1237 k0_hw30 => k0_hw30.2.2.2.2.1
theorem k0_off490_inb : ∀ (v1237 : BitVec 32) (k0_hw30 : k0_chk30 v1237), ∀ a, (k0_off490 v1237) a + S1x16.size a ≤ S256x128.size a := fun v1237 k0_hw30 => k0_hw30.2.2.2.2.2.1
theorem k0_off492_inb : ∀ (v1237 : BitVec 32) (k0_hw30 : k0_chk30 v1237), ∀ a, (k0_off492 v1237) a + S1x16.size a ≤ S256x128.size a := fun v1237 k0_hw30 => k0_hw30.2.2.2.2.2.2.1
theorem k0_off494_inb : ∀ (v1237 : BitVec 32) (k0_hw30 : k0_chk30 v1237), ∀ a, (k0_off494 v1237) a + S1x16.size a ≤ S256x128.size a := fun v1237 k0_hw30 => k0_hw30.2.2.2.2.2.2.2

def k0_off495 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_354 : BitVec 32 := 16#32
  let v1238 : BitVec 32 := Scalar.muli arg12 c16_i32_354
  let c13_i32 : BitVec 32 := 13#32
  let v1239 : BitVec 32 := Scalar.addi v1238 c13_i32
  let v1320 : Index := Scalar.indexCast v1239
  let c112_377 : Index := 112#32
  ![v1320.toNat, 112]
def k0_off496 (v1329 : BitVec 32) : Fin 2 → Nat :=
  let v1332 : Index := Scalar.indexCast v1329
  let c0_380 : Index := 0#32
  ![v1332.toNat, 0]

def k0_off497 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_379 : BitVec 32 := 16#32
  let v1330 : BitVec 32 := Scalar.muli arg12 c16_i32_379
  let c14_i32 : BitVec 32 := 14#32
  let v1331 : BitVec 32 := Scalar.addi v1330 c14_i32
  let v1335 : Index := Scalar.indexCast v1331
  let c0_381 : Index := 0#32
  ![v1335.toNat, 0]
def k0_off498 (v1329 : BitVec 32) : Fin 2 → Nat :=
  let v1343 : Index := Scalar.indexCast v1329
  let c16_383 : Index := 16#32
  ![v1343.toNat, 16]
def k0_off499 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_379 : BitVec 32 := 16#32
  let v1330 : BitVec 32 := Scalar.muli arg12 c16_i32_379
  let c14_i32 : BitVec 32 := 14#32
  let v1331 : BitVec 32 := Scalar.addi v1330 c14_i32
  let v1346 : Index := Scalar.indexCast v1331
  let c16_384 : Index := 16#32
  ![v1346.toNat, 16]
def k0_off500 (v1329 : BitVec 32) : Fin 2 → Nat :=
  let v1354 : Index := Scalar.indexCast v1329
  let c32_386 : Index := 32#32
  ![v1354.toNat, 32]
def k0_off501 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_379 : BitVec 32 := 16#32
  let v1330 : BitVec 32 := Scalar.muli arg12 c16_i32_379
  let c14_i32 : BitVec 32 := 14#32
  let v1331 : BitVec 32 := Scalar.addi v1330 c14_i32
  let v1357 : Index := Scalar.indexCast v1331
  let c32_387 : Index := 32#32
  ![v1357.toNat, 32]
def k0_off502 (v1329 : BitVec 32) : Fin 2 → Nat :=
  let v1365 : Index := Scalar.indexCast v1329
  let c48_389 : Index := 48#32
  ![v1365.toNat, 48]
def k0_off503 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_379 : BitVec 32 := 16#32
  let v1330 : BitVec 32 := Scalar.muli arg12 c16_i32_379
  let c14_i32 : BitVec 32 := 14#32
  let v1331 : BitVec 32 := Scalar.addi v1330 c14_i32
  let v1368 : Index := Scalar.indexCast v1331
  let c48_390 : Index := 48#32
  ![v1368.toNat, 48]
def k0_off504 (v1329 : BitVec 32) : Fin 2 → Nat :=
  let v1376 : Index := Scalar.indexCast v1329
  let c64_392 : Index := 64#32
  ![v1376.toNat, 64]
def k0_off505 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_379 : BitVec 32 := 16#32
  let v1330 : BitVec 32 := Scalar.muli arg12 c16_i32_379
  let c14_i32 : BitVec 32 := 14#32
  let v1331 : BitVec 32 := Scalar.addi v1330 c14_i32
  let v1379 : Index := Scalar.indexCast v1331
  let c64_393 : Index := 64#32
  ![v1379.toNat, 64]
def k0_off506 (v1329 : BitVec 32) : Fin 2 → Nat :=
  let v1387 : Index := Scalar.indexCast v1329
  let c80_395 : Index := 80#32
  ![v1387.toNat, 80]
def k0_off507 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_379 : BitVec 32 := 16#32
  let v1330 : BitVec 32 := Scalar.muli arg12 c16_i32_379
  let c14_i32 : BitVec 32 := 14#32
  let v1331 : BitVec 32 := Scalar.addi v1330 c14_i32
  let v1390 : Index := Scalar.indexCast v1331
  let c80_396 : Index := 80#32
  ![v1390.toNat, 80]
def k0_off508 (v1329 : BitVec 32) : Fin 2 → Nat :=
  let v1398 : Index := Scalar.indexCast v1329
  let c96_398 : Index := 96#32
  ![v1398.toNat, 96]
def k0_off509 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_379 : BitVec 32 := 16#32
  let v1330 : BitVec 32 := Scalar.muli arg12 c16_i32_379
  let c14_i32 : BitVec 32 := 14#32
  let v1331 : BitVec 32 := Scalar.addi v1330 c14_i32
  let v1401 : Index := Scalar.indexCast v1331
  let c96_399 : Index := 96#32
  ![v1401.toNat, 96]
def k0_off510 (v1329 : BitVec 32) : Fin 2 → Nat :=
  let v1409 : Index := Scalar.indexCast v1329
  let c112_401 : Index := 112#32
  ![v1409.toNat, 112]

def k0_chk31 (v1329 : BitVec 32) : Prop :=
  (∀ a, (k0_off496 v1329) a + S1x16.size a ≤ S256x128.size a) ∧
  (∀ a, (k0_off498 v1329) a + S1x16.size a ≤ S256x128.size a) ∧
  (∀ a, (k0_off500 v1329) a + S1x16.size a ≤ S256x128.size a) ∧
  (∀ a, (k0_off502 v1329) a + S1x16.size a ≤ S256x128.size a) ∧
  (∀ a, (k0_off504 v1329) a + S1x16.size a ≤ S256x128.size a) ∧
  (∀ a, (k0_off506 v1329) a + S1x16.size a ≤ S256x128.size a) ∧
  (∀ a, (k0_off508 v1329) a + S1x16.size a ≤ S256x128.size a) ∧
  (∀ a, (k0_off510 v1329) a + S1x16.size a ≤ S256x128.size a)
theorem k0_off496_inb : ∀ (v1329 : BitVec 32) (k0_hw31 : k0_chk31 v1329), ∀ a, (k0_off496 v1329) a + S1x16.size a ≤ S256x128.size a := fun v1329 k0_hw31 => k0_hw31.1
theorem k0_off498_inb : ∀ (v1329 : BitVec 32) (k0_hw31 : k0_chk31 v1329), ∀ a, (k0_off498 v1329) a + S1x16.size a ≤ S256x128.size a := fun v1329 k0_hw31 => k0_hw31.2.1
theorem k0_off500_inb : ∀ (v1329 : BitVec 32) (k0_hw31 : k0_chk31 v1329), ∀ a, (k0_off500 v1329) a + S1x16.size a ≤ S256x128.size a := fun v1329 k0_hw31 => k0_hw31.2.2.1
theorem k0_off502_inb : ∀ (v1329 : BitVec 32) (k0_hw31 : k0_chk31 v1329), ∀ a, (k0_off502 v1329) a + S1x16.size a ≤ S256x128.size a := fun v1329 k0_hw31 => k0_hw31.2.2.2.1
theorem k0_off504_inb : ∀ (v1329 : BitVec 32) (k0_hw31 : k0_chk31 v1329), ∀ a, (k0_off504 v1329) a + S1x16.size a ≤ S256x128.size a := fun v1329 k0_hw31 => k0_hw31.2.2.2.2.1
theorem k0_off506_inb : ∀ (v1329 : BitVec 32) (k0_hw31 : k0_chk31 v1329), ∀ a, (k0_off506 v1329) a + S1x16.size a ≤ S256x128.size a := fun v1329 k0_hw31 => k0_hw31.2.2.2.2.2.1
theorem k0_off508_inb : ∀ (v1329 : BitVec 32) (k0_hw31 : k0_chk31 v1329), ∀ a, (k0_off508 v1329) a + S1x16.size a ≤ S256x128.size a := fun v1329 k0_hw31 => k0_hw31.2.2.2.2.2.2.1
theorem k0_off510_inb : ∀ (v1329 : BitVec 32) (k0_hw31 : k0_chk31 v1329), ∀ a, (k0_off510 v1329) a + S1x16.size a ≤ S256x128.size a := fun v1329 k0_hw31 => k0_hw31.2.2.2.2.2.2.2

def k0_off511 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_379 : BitVec 32 := 16#32
  let v1330 : BitVec 32 := Scalar.muli arg12 c16_i32_379
  let c14_i32 : BitVec 32 := 14#32
  let v1331 : BitVec 32 := Scalar.addi v1330 c14_i32
  let v1412 : Index := Scalar.indexCast v1331
  let c112_402 : Index := 112#32
  ![v1412.toNat, 112]
def k0_off512 (v1421 : BitVec 32) : Fin 2 → Nat :=
  let v1424 : Index := Scalar.indexCast v1421
  let c0_405 : Index := 0#32
  ![v1424.toNat, 0]

def k0_off513 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_404 : BitVec 32 := 16#32
  let v1422 : BitVec 32 := Scalar.muli arg12 c16_i32_404
  let c15_i32 : BitVec 32 := 15#32
  let v1423 : BitVec 32 := Scalar.addi v1422 c15_i32
  let v1427 : Index := Scalar.indexCast v1423
  let c0_406 : Index := 0#32
  ![v1427.toNat, 0]
def k0_off514 (v1421 : BitVec 32) : Fin 2 → Nat :=
  let v1435 : Index := Scalar.indexCast v1421
  let c16_408 : Index := 16#32
  ![v1435.toNat, 16]
def k0_off515 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_404 : BitVec 32 := 16#32
  let v1422 : BitVec 32 := Scalar.muli arg12 c16_i32_404
  let c15_i32 : BitVec 32 := 15#32
  let v1423 : BitVec 32 := Scalar.addi v1422 c15_i32
  let v1438 : Index := Scalar.indexCast v1423
  let c16_409 : Index := 16#32
  ![v1438.toNat, 16]
def k0_off516 (v1421 : BitVec 32) : Fin 2 → Nat :=
  let v1446 : Index := Scalar.indexCast v1421
  let c32_411 : Index := 32#32
  ![v1446.toNat, 32]
def k0_off517 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_404 : BitVec 32 := 16#32
  let v1422 : BitVec 32 := Scalar.muli arg12 c16_i32_404
  let c15_i32 : BitVec 32 := 15#32
  let v1423 : BitVec 32 := Scalar.addi v1422 c15_i32
  let v1449 : Index := Scalar.indexCast v1423
  let c32_412 : Index := 32#32
  ![v1449.toNat, 32]
def k0_off518 (v1421 : BitVec 32) : Fin 2 → Nat :=
  let v1457 : Index := Scalar.indexCast v1421
  let c48_414 : Index := 48#32
  ![v1457.toNat, 48]
def k0_off519 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_404 : BitVec 32 := 16#32
  let v1422 : BitVec 32 := Scalar.muli arg12 c16_i32_404
  let c15_i32 : BitVec 32 := 15#32
  let v1423 : BitVec 32 := Scalar.addi v1422 c15_i32
  let v1460 : Index := Scalar.indexCast v1423
  let c48_415 : Index := 48#32
  ![v1460.toNat, 48]
def k0_off520 (v1421 : BitVec 32) : Fin 2 → Nat :=
  let v1468 : Index := Scalar.indexCast v1421
  let c64_417 : Index := 64#32
  ![v1468.toNat, 64]
def k0_off521 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_404 : BitVec 32 := 16#32
  let v1422 : BitVec 32 := Scalar.muli arg12 c16_i32_404
  let c15_i32 : BitVec 32 := 15#32
  let v1423 : BitVec 32 := Scalar.addi v1422 c15_i32
  let v1471 : Index := Scalar.indexCast v1423
  let c64_418 : Index := 64#32
  ![v1471.toNat, 64]
def k0_off522 (v1421 : BitVec 32) : Fin 2 → Nat :=
  let v1479 : Index := Scalar.indexCast v1421
  let c80_420 : Index := 80#32
  ![v1479.toNat, 80]
def k0_off523 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_404 : BitVec 32 := 16#32
  let v1422 : BitVec 32 := Scalar.muli arg12 c16_i32_404
  let c15_i32 : BitVec 32 := 15#32
  let v1423 : BitVec 32 := Scalar.addi v1422 c15_i32
  let v1482 : Index := Scalar.indexCast v1423
  let c80_421 : Index := 80#32
  ![v1482.toNat, 80]
def k0_off524 (v1421 : BitVec 32) : Fin 2 → Nat :=
  let v1490 : Index := Scalar.indexCast v1421
  let c96_423 : Index := 96#32
  ![v1490.toNat, 96]
def k0_off525 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_404 : BitVec 32 := 16#32
  let v1422 : BitVec 32 := Scalar.muli arg12 c16_i32_404
  let c15_i32 : BitVec 32 := 15#32
  let v1423 : BitVec 32 := Scalar.addi v1422 c15_i32
  let v1493 : Index := Scalar.indexCast v1423
  let c96_424 : Index := 96#32
  ![v1493.toNat, 96]
def k0_off526 (v1421 : BitVec 32) : Fin 2 → Nat :=
  let v1501 : Index := Scalar.indexCast v1421
  let c112_426 : Index := 112#32
  ![v1501.toNat, 112]

def k0_chk32 (v1421 : BitVec 32) : Prop :=
  (∀ a, (k0_off512 v1421) a + S1x16.size a ≤ S256x128.size a) ∧
  (∀ a, (k0_off514 v1421) a + S1x16.size a ≤ S256x128.size a) ∧
  (∀ a, (k0_off516 v1421) a + S1x16.size a ≤ S256x128.size a) ∧
  (∀ a, (k0_off518 v1421) a + S1x16.size a ≤ S256x128.size a) ∧
  (∀ a, (k0_off520 v1421) a + S1x16.size a ≤ S256x128.size a) ∧
  (∀ a, (k0_off522 v1421) a + S1x16.size a ≤ S256x128.size a) ∧
  (∀ a, (k0_off524 v1421) a + S1x16.size a ≤ S256x128.size a) ∧
  (∀ a, (k0_off526 v1421) a + S1x16.size a ≤ S256x128.size a)
theorem k0_off512_inb : ∀ (v1421 : BitVec 32) (k0_hw32 : k0_chk32 v1421), ∀ a, (k0_off512 v1421) a + S1x16.size a ≤ S256x128.size a := fun v1421 k0_hw32 => k0_hw32.1
theorem k0_off514_inb : ∀ (v1421 : BitVec 32) (k0_hw32 : k0_chk32 v1421), ∀ a, (k0_off514 v1421) a + S1x16.size a ≤ S256x128.size a := fun v1421 k0_hw32 => k0_hw32.2.1
theorem k0_off516_inb : ∀ (v1421 : BitVec 32) (k0_hw32 : k0_chk32 v1421), ∀ a, (k0_off516 v1421) a + S1x16.size a ≤ S256x128.size a := fun v1421 k0_hw32 => k0_hw32.2.2.1
theorem k0_off518_inb : ∀ (v1421 : BitVec 32) (k0_hw32 : k0_chk32 v1421), ∀ a, (k0_off518 v1421) a + S1x16.size a ≤ S256x128.size a := fun v1421 k0_hw32 => k0_hw32.2.2.2.1
theorem k0_off520_inb : ∀ (v1421 : BitVec 32) (k0_hw32 : k0_chk32 v1421), ∀ a, (k0_off520 v1421) a + S1x16.size a ≤ S256x128.size a := fun v1421 k0_hw32 => k0_hw32.2.2.2.2.1
theorem k0_off522_inb : ∀ (v1421 : BitVec 32) (k0_hw32 : k0_chk32 v1421), ∀ a, (k0_off522 v1421) a + S1x16.size a ≤ S256x128.size a := fun v1421 k0_hw32 => k0_hw32.2.2.2.2.2.1
theorem k0_off524_inb : ∀ (v1421 : BitVec 32) (k0_hw32 : k0_chk32 v1421), ∀ a, (k0_off524 v1421) a + S1x16.size a ≤ S256x128.size a := fun v1421 k0_hw32 => k0_hw32.2.2.2.2.2.2.1
theorem k0_off526_inb : ∀ (v1421 : BitVec 32) (k0_hw32 : k0_chk32 v1421), ∀ a, (k0_off526 v1421) a + S1x16.size a ≤ S256x128.size a := fun v1421 k0_hw32 => k0_hw32.2.2.2.2.2.2.2

def k0_off527 (k0_t4 : Fin k0_t4_loop.trips) : Fin 2 → Nat :=
  let c0_i32_27 : BitVec 32 := 0#32
  let c1_i32_29 : BitVec 32 := 1#32
  let arg12 : BitVec 32 := Scf.iv c0_i32_27 c1_i32_29 k0_t4
  let c16_i32_404 : BitVec 32 := 16#32
  let v1422 : BitVec 32 := Scalar.muli arg12 c16_i32_404
  let c15_i32 : BitVec 32 := 15#32
  let v1423 : BitVec 32 := Scalar.addi v1422 c15_i32
  let v1504 : Index := Scalar.indexCast v1423
  let c112_427 : Index := 112#32
  ![v1504.toNat, 112]
@[reducible] def k0_t5_loop : Scf.Loop 32 :=
  let c0_i32_9 : BitVec 32 := 0#32
  let c256_i32_10 : BitVec 32 := 256#32
  let v8 : BitVec 32 := Scalar.addi c0_i32_9 c256_i32_10
  let c1_i32_11 : BitVec 32 := 1#32
  ⟨c0_i32_9, v8, c1_i32_11⟩
def k0_off528 (k0_t5 : Fin k0_t5_loop.trips) : Fin 2 → Nat :=
  let c0_i32_9 : BitVec 32 := 0#32
  let c1_i32_11 : BitVec 32 := 1#32
  let arg11 : BitVec 32 := Scf.iv c0_i32_9 c1_i32_11 k0_t5
  let v9 : Index := Scalar.indexCast arg11
  let c0 : Index := 0#32
  ![v9.toNat, 0]
def k0_off529 (k0_t5 : Fin k0_t5_loop.trips) : Fin 2 → Nat :=
  let c0_i32_9 : BitVec 32 := 0#32
  let c1_i32_11 : BitVec 32 := 1#32
  let arg11 : BitVec 32 := Scf.iv c0_i32_9 c1_i32_11 k0_t5
  let v20 : Index := Scalar.indexCast arg11
  let c16 : Index := 16#32
  ![v20.toNat, 16]
def k0_off530 (k0_t5 : Fin k0_t5_loop.trips) : Fin 2 → Nat :=
  let c0_i32_9 : BitVec 32 := 0#32
  let c1_i32_11 : BitVec 32 := 1#32
  let arg11 : BitVec 32 := Scf.iv c0_i32_9 c1_i32_11 k0_t5
  let v31 : Index := Scalar.indexCast arg11
  let c32 : Index := 32#32
  ![v31.toNat, 32]
def k0_off531 (k0_t5 : Fin k0_t5_loop.trips) : Fin 2 → Nat :=
  let c0_i32_9 : BitVec 32 := 0#32
  let c1_i32_11 : BitVec 32 := 1#32
  let arg11 : BitVec 32 := Scf.iv c0_i32_9 c1_i32_11 k0_t5
  let v42 : Index := Scalar.indexCast arg11
  let c48 : Index := 48#32
  ![v42.toNat, 48]
def k0_off532 (k0_t5 : Fin k0_t5_loop.trips) : Fin 2 → Nat :=
  let c0_i32_9 : BitVec 32 := 0#32
  let c1_i32_11 : BitVec 32 := 1#32
  let arg11 : BitVec 32 := Scf.iv c0_i32_9 c1_i32_11 k0_t5
  let v53 : Index := Scalar.indexCast arg11
  let c64 : Index := 64#32
  ![v53.toNat, 64]
def k0_off533 (k0_t5 : Fin k0_t5_loop.trips) : Fin 2 → Nat :=
  let c0_i32_9 : BitVec 32 := 0#32
  let c1_i32_11 : BitVec 32 := 1#32
  let arg11 : BitVec 32 := Scf.iv c0_i32_9 c1_i32_11 k0_t5
  let v64 : Index := Scalar.indexCast arg11
  let c80 : Index := 80#32
  ![v64.toNat, 80]
def k0_off534 (k0_t5 : Fin k0_t5_loop.trips) : Fin 2 → Nat :=
  let c0_i32_9 : BitVec 32 := 0#32
  let c1_i32_11 : BitVec 32 := 1#32
  let arg11 : BitVec 32 := Scf.iv c0_i32_9 c1_i32_11 k0_t5
  let v75 : Index := Scalar.indexCast arg11
  let c96 : Index := 96#32
  ![v75.toNat, 96]
def k0_off535 (k0_t5 : Fin k0_t5_loop.trips) : Fin 2 → Nat :=
  let c0_i32_9 : BitVec 32 := 0#32
  let c1_i32_11 : BitVec 32 := 1#32
  let arg11 : BitVec 32 := Scf.iv c0_i32_9 c1_i32_11 k0_t5
  let v86 : Index := Scalar.indexCast arg11
  let c112 : Index := 112#32
  ![v86.toNat, 112]
def k0_off536 (i : grid0.Coords) : Fin 3 → Nat :=
  let arg1 : BitVec 32 := BitVec.ofNat 32 (i 1).val
  let c0_i32_13_r1 : BitVec 32 := 0#32
  let arg0 : BitVec 32 := BitVec.ofNat 32 (i 0).val
  let c128_i32 : BitVec 32 := 128#32
  let v0 : BitVec 32 := Scalar.muli arg0 c128_i32
  ![arg1.toNat, 0, v0.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x256 : Shape := ⟨3, ![16, 4096, 256]⟩
abbrev S16x4096 : Shape := ⟨2, ![16, 4096]⟩
abbrev S16x4096x1 : Shape := ⟨3, ![16, 4096, 1]⟩
abbrev S256 : Shape := ⟨1, ![256]⟩
abbrev S1x1x256 : Shape := ⟨3, ![1, 1, 256]⟩
abbrev S16x4096x256x1 : Shape := ⟨4, ![16, 4096, 256, 1]⟩
abbrev S16x4096x1x256 : Shape := ⟨4, ![16, 4096, 1, 256]⟩
abbrev S_ : Shape := ⟨0, ![]⟩
abbrev S16x4096x256x256 : Shape := ⟨4, ![16, 4096, 256, 256]⟩
abbrev S16x256x256 : Shape := ⟨3, ![16, 256, 256]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096, .i32⟩
  | .hbm, ⟨2, _⟩ => ⟨S16x4096x1, .i32⟩
  | .hbm, ⟨3, _⟩ => ⟨S256, .i32⟩
  | .hbm, ⟨4, _⟩ => ⟨S1x1x256, .i32⟩
  | .hbm, ⟨5, _⟩ => ⟨S16x4096x256, .i32⟩
  | .hbm, ⟨6, _⟩ => ⟨S16x4096x256, .i32⟩
  | .hbm, ⟨7, _⟩ => ⟨S16x4096x256, .i1⟩
  | .hbm, ⟨8, _⟩ => ⟨S16x4096x256x1, .i1⟩
  | .hbm, ⟨9, _⟩ => ⟨S16x4096x1x256, .f32⟩
  | .hbm, ⟨10, _⟩ => ⟨S_, .f32⟩
  | .hbm, ⟨11, _⟩ => ⟨S_, .f32⟩
  | .hbm, ⟨12, _⟩ => ⟨S16x4096x256x256, .i1⟩
  | .hbm, ⟨13, _⟩ => ⟨S16x4096x256x256, .f32⟩
  | .hbm, ⟨14, _⟩ => ⟨S16x4096x256x256, .f32⟩
  | .hbm, ⟨15, _⟩ => ⟨S16x4096x256x256, .f32⟩
  | .hbm, ⟨16, _⟩ => ⟨S_, .f32⟩
  | .hbm, ⟨17, _⟩ => ⟨S16x256x256, .f32⟩
  | .hbm, ⟨18, _⟩ => ⟨S_, .f32⟩
  | .hbm, ⟨19, _⟩ => ⟨S16x256x256, .f32⟩
  | .hbm, ⟨20, _⟩ => ⟨S16x256x256, .i1⟩
  | .hbm, ⟨21, _⟩ => ⟨S_, .f32⟩
  | .hbm, ⟨22, _⟩ => ⟨S_, .f32⟩
  | .hbm, ⟨23, _⟩ => ⟨S16x256x256, .f32⟩
  | .hbm, ⟨24, _⟩ => ⟨S16x256x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Stage1.lean ====
abbrev S16x4096x3 : Shape := ⟨3, ![16, 4096, 3]⟩
abbrev S3x128 : Shape := ⟨2, ![3, 128]⟩
abbrev S128 : Shape := ⟨1, ![128]⟩
abbrev S128x256 : Shape := ⟨2, ![128, 256]⟩
abbrev S256 : Shape := ⟨1, ![256]⟩
abbrev S_ : Shape := ⟨0, ![]⟩
abbrev S16x4096x1 : Shape := ⟨3, ![16, 4096, 1]⟩
abbrev S16x4096x4 : Shape := ⟨3, ![16, 4096, 4]⟩
abbrev S16x4096x8 : Shape := ⟨3, ![16, 4096, 8]⟩
abbrev S16x8x4096 : Shape := ⟨3, ![16, 8, 4096]⟩
abbrev S5x128 : Shape := ⟨2, ![5, 128]⟩
abbrev S8x128 : Shape := ⟨2, ![8, 128]⟩
abbrev S1x128 : Shape := ⟨2, ![1, 128]⟩
abbrev S1x256 : Shape := ⟨2, ![1, 256]⟩
abbrev S16x256x3 : Shape := ⟨3, ![16, 256, 3]⟩
abbrev S16x1x4096 : Shape := ⟨3, ![16, 1, 4096]⟩
abbrev S16x4096x256 : Shape := ⟨3, ![16, 4096, 256]⟩
abbrev S1x4096x8 : Shape := ⟨3, ![1, 4096, 8]⟩
abbrev S1x8x4096 : Shape := ⟨3, ![1, 8, 4096]⟩
abbrev S1x256x3 : Shape := ⟨3, ![1, 256, 3]⟩
abbrev S1x1x4096 : Shape := ⟨3, ![1, 1, 4096]⟩
abbrev S1x4096x3 : Shape := ⟨3, ![1, 4096, 3]⟩
abbrev S1x4096x256 : Shape := ⟨3, ![1, 4096, 256]⟩
abbrev S4096x8 : Shape := ⟨2, ![4096, 8]⟩
abbrev S8x4096 : Shape := ⟨2, ![8, 4096]⟩
abbrev S1x8 : Shape := ⟨2, ![1, 8]⟩
abbrev S8x1 : Shape := ⟨2, ![8, 1]⟩
abbrev S4096 : Shape := ⟨1, ![4096]⟩
abbrev S4096x1 : Shape := ⟨2, ![4096, 1]⟩
abbrev S256x8 : Shape := ⟨2, ![256, 8]⟩
abbrev S8x256 : Shape := ⟨2, ![8, 256]⟩
abbrev S4096x256 : Shape := ⟨2, ![4096, 256]⟩
abbrev S4096x128 : Shape := ⟨2, ![4096, 128]⟩
abbrev S256x3 : Shape := ⟨2, ![256, 3]⟩
abbrev S4096x3 : Shape := ⟨2, ![4096, 3]⟩

abbrev nBuf : Space → Nat
  | .hbm => 24
  | .vmem => 18
  | .smem => 0
  | _ => 0

abbrev bufTy : (tb : Table) → Fin (tcTables nBuf tb) → BufTy
  | .hbm, ⟨0, _⟩ => ⟨S16x4096x3, .f32⟩
  | .hbm, ⟨1, _⟩ => ⟨S3x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S_, .f32⟩
  | .hbm, ⟨8, _⟩ => ⟨S16x4096x1, .f32⟩
  | .hbm, ⟨9, _⟩ => ⟨S_, .f32⟩
  | .hbm, ⟨10, _⟩ => ⟨S16x4096x4, .f32⟩
  | .hbm, ⟨11, _⟩ => ⟨S16x4096x8, .f32⟩
  | .hbm, ⟨12, _⟩ => ⟨S16x8x4096, .f32⟩
  | .hbm, ⟨13, _⟩ => ⟨S_, .f32⟩
  | .hbm, ⟨14, _⟩ => ⟨S5x128, .f32⟩
  | .hbm, ⟨15, _⟩ => ⟨S8x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x256, .f32⟩
  | .hbm, ⟨20, _⟩ => ⟨S16x256x3, .f32⟩
  | .hbm, ⟨21, _⟩ => ⟨S16x1x4096, .i32⟩
  | .hbm, ⟨22, _⟩ => ⟨S16x4096x3, .f32⟩
  | .hbm, ⟨23, _⟩ => ⟨S16x4096x256, .f32⟩
  | .local _ .vmem, ⟨0, _⟩ => ⟨S1x4096x8, .f32⟩
  | .local _ .vmem, ⟨1, _⟩ => ⟨S1x4096x8, .f32⟩
  | .local _ .vmem, ⟨2, _⟩ => ⟨S1x8x4096, .f32⟩
  | .local _ .vmem, ⟨3, _⟩ => ⟨S1x8x4096, .f32⟩
  | .local _ .vmem, ⟨4, _⟩ => ⟨S8x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x256, .f32⟩
  | .local _ .vmem, ⟨9, _⟩ => ⟨S1x256, .f32⟩
  | .local _ .vmem, ⟨10, _⟩ => ⟨S1x256x3, .f32⟩
  | .local _ .vmem, ⟨11, _⟩ => ⟨S1x256x3, .f32⟩
  | .local _ .vmem, ⟨12, _⟩ => ⟨S1x1x4096, .i32⟩
  | .local _ .vmem, ⟨13, _⟩ => ⟨S1x1x4096, .i32⟩
  | .local _ .vmem, ⟨14, _⟩ => ⟨S1x4096x3, .f32⟩
  | .local _ .vmem, ⟨15, _⟩ => ⟨S1x4096x3, .f32⟩
  | .local _ .vmem, ⟨16, _⟩ => ⟨S1x4096x256, .f32⟩
  | .local _ .vmem, ⟨17, _⟩ => ⟨S1x4096x256, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_7 : BitVec 32 := 0#32
  let c10_i32 : BitVec 32 := 10#32
  let v31 : BitVec 32 := Scalar.addi c0_i32_7 c10_i32
  let c1_i32 : BitVec 32 := 1#32
  ⟨c0_i32_7, v31, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x4096 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4096x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4096x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Stage1ReferenceIdeal.lean ====
abbrev S16x4096x3 : Shape := ⟨3, ![16, 4096, 3]⟩
abbrev S3x128 : Shape := ⟨2, ![3, 128]⟩
abbrev S128 : Shape := ⟨1, ![128]⟩
abbrev S128x256 : Shape := ⟨2, ![128, 256]⟩
abbrev S256 : Shape := ⟨1, ![256]⟩
abbrev S16x256x3 : Shape := ⟨3, ![16, 256, 3]⟩
abbrev S_ : Shape := ⟨0, ![]⟩
abbrev S16x4096 : Shape := ⟨2, ![16, 4096]⟩
abbrev S16x4096x1 : Shape := ⟨3, ![16, 4096, 1]⟩
abbrev S16x256 : Shape := ⟨2, ![16, 256]⟩
abbrev S16x1x256 : Shape := ⟨3, ![16, 1, 256]⟩
abbrev S16x4096x256 : Shape := ⟨3, ![16, 4096, 256]⟩
abbrev S1x1x256 : Shape := ⟨3, ![1, 1, 256]⟩
abbrev S16x256x1 : Shape := ⟨3, ![16, 256, 1]⟩
abbrev S16 : Shape := ⟨1, ![16]⟩
abbrev S16x1 : Shape := ⟨2, ![16, 1]⟩
abbrev S16x4096x2 : Shape := ⟨3, ![16, 4096, 2]⟩
abbrev S16x4096x128 : Shape := ⟨3, ![16, 4096, 128]⟩
abbrev S1x1x128 : Shape := ⟨3, ![1, 1, 128]⟩
abbrev S16x1x4096 : Shape := ⟨3, ![16, 1, 4096]⟩

abbrev nBuf : Space → Nat
  | .hbm => 123
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S3x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S16x256x3, .f32⟩
  | .hbm, ⟨8, _⟩ => ⟨S_, .i32⟩
  | .hbm, ⟨9, _⟩ => ⟨S16x4096, .i32⟩
  | .hbm, ⟨10, _⟩ => ⟨S_, .i32⟩
  | .hbm, ⟨11, _⟩ => ⟨S_, .i32⟩
  | .hbm, ⟨12, _⟩ => ⟨S16x4096x3, .f32⟩
  | .hbm, ⟨13, _⟩ => ⟨S_, .i32⟩
  | .hbm, ⟨14, _⟩ => ⟨S_, .i32⟩
  | .hbm, ⟨15, _⟩ => ⟨S16x256x3, .f32⟩
  | .hbm, ⟨16, _⟩ => ⟨S16x4096, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S16x4096x3, .f32⟩
  | .hbm, ⟨22, _⟩ => ⟨S_, .f32⟩
  | .hbm, ⟨23, _⟩ => ⟨S16x4096, .f32⟩
  | .hbm, ⟨24, _⟩ => ⟨S16x4096x1, .f32⟩
  | .hbm, ⟨25, _⟩ => ⟨S16x256x3, .f32⟩
  | .hbm, ⟨26, _⟩ => ⟨S_, .f32⟩
  | .hbm, ⟨27, _⟩ => ⟨S16x256, .f32⟩
  | .hbm, ⟨28, _⟩ => ⟨S16x1x256, .f32⟩
  | .hbm, ⟨29, _⟩ => ⟨S16x4096x256, .f32⟩
  | .hbm, ⟨30, _⟩ => ⟨S_, .f32⟩
  | .hbm, ⟨31, _⟩ => ⟨S16x4096x256, .f32⟩
  | .hbm, ⟨32, _⟩ => ⟨S16x4096x256, .f32⟩
  | .hbm, ⟨33, _⟩ => ⟨S16x4096x256, .f32⟩
  | .hbm, ⟨34, _⟩ => ⟨S16x4096x256, .f32⟩
  | .hbm, ⟨35, _⟩ => ⟨S16x4096x256, .f32⟩
  | .hbm, ⟨36, _⟩ => ⟨S16x4096x256, .f32⟩
  | .hbm, ⟨37, _⟩ => ⟨S16x4096x256, .i32⟩
  | .hbm, ⟨38, _⟩ => ⟨S_, .f32⟩
  | .hbm, ⟨39, _⟩ => ⟨S_, .i32⟩
  | .hbm, ⟨40, _⟩ => ⟨S16x4096, .f32⟩
  | .hbm, ⟨41, _⟩ => ⟨S16x4096, .i32⟩
  | .hbm, ⟨42, _⟩ => ⟨S16x4096x1, .i32⟩
  | .hbm, ⟨43, _⟩ => ⟨S256, .i32⟩
  | .hbm, ⟨44, _⟩ => ⟨S1x1x256, .i32⟩
  | .hbm, ⟨45, _⟩ => ⟨S16x4096x256, .i32⟩
  | .hbm, ⟨46, _⟩ => ⟨S16x4096x256, .i32⟩
  | .hbm, ⟨47, _⟩ => ⟨S16x4096x256, .i1⟩
  | .hbm, ⟨48, _⟩ => ⟨S16x4096x256, .f32⟩
  | .hbm, ⟨49, _⟩ => ⟨S_, .f32⟩
  | .hbm, ⟨50, _⟩ => ⟨S16x256, .f32⟩
  | .hbm, ⟨51, _⟩ => ⟨S16x256x3, .f32⟩
  | .hbm, ⟨52, _⟩ => ⟨S_, .f32⟩
  | .hbm, ⟨53, _⟩ => ⟨S16x256, .f32⟩
  | .hbm, ⟨54, _⟩ => ⟨S16x256, .f32⟩
  | .hbm, ⟨55, _⟩ => ⟨S16x256x1, .f32⟩
  | .hbm, ⟨56, _⟩ => ⟨S16x256x3, .f32⟩
  | .hbm, ⟨57, _⟩ => ⟨S16x256x3, .f32⟩
  | .hbm, ⟨58, _⟩ => ⟨S_, .i32⟩
  | .hbm, ⟨59, _⟩ => ⟨S_, .i32⟩
  | .hbm, ⟨60, _⟩ => ⟨S16, .i32⟩
  | .hbm, ⟨61, _⟩ => ⟨S16x1, .i32⟩
  | .hbm, ⟨62, _⟩ => ⟨S_, .i32⟩
  | .hbm, ⟨63, _⟩ => ⟨S16x1, .i32⟩
  | .hbm, ⟨64, _⟩ => ⟨S16x1, .i1⟩
  | .hbm, ⟨65, _⟩ => ⟨S_, .i32⟩
  | .hbm, ⟨66, _⟩ => ⟨S16x1, .i32⟩
  | .hbm, ⟨67, _⟩ => ⟨S16x1, .i32⟩
  | .hbm, ⟨68, _⟩ => ⟨S16x1, .i32⟩
  | .hbm, ⟨69, _⟩ => ⟨S_, .i32⟩
  | .hbm, ⟨70, _⟩ => ⟨S16x4096, .i32⟩
  | .hbm, ⟨71, _⟩ => ⟨S16x4096, .i1⟩
  | .hbm, ⟨72, _⟩ => ⟨S_, .i32⟩
  | .hbm, ⟨73, _⟩ => ⟨S16x4096, .i32⟩
  | .hbm, ⟨74, _⟩ => ⟨S16x4096, .i32⟩
  | .hbm, ⟨75, _⟩ => ⟨S16x4096, .i32⟩
  | .hbm, ⟨76, _⟩ => ⟨S16x4096, .i32⟩
  | .hbm, ⟨77, _⟩ => ⟨S16x4096x1, .i32⟩
  | .hbm, ⟨78, _⟩ => ⟨S16x4096x1, .i32⟩
  | .hbm, ⟨79, _⟩ => ⟨S16x4096x2, .i32⟩
  | .hbm, ⟨80, _⟩ => ⟨S16x4096x3, .f32⟩
  | .hbm, ⟨81, _⟩ => ⟨S16x4096x3, .f32⟩
  | .hbm, ⟨82, _⟩ => ⟨S16x4096x128, .f32⟩
  | .hbm, ⟨83, _⟩ => ⟨S1x1x128, .f32⟩
  | .hbm, ⟨84, _⟩ => ⟨S16x4096x128, .f32⟩
  | .hbm, ⟨85, _⟩ => ⟨S16x4096x128, .f32⟩
  | .hbm, ⟨86, _⟩ => ⟨S_, .f32⟩
  | .hbm, ⟨87, _⟩ => ⟨S16x4096, .f32⟩
  | .hbm, ⟨88, _⟩ => ⟨S16x4096x1, .f32⟩
  | .hbm, ⟨89, _⟩ => ⟨S_, .f32⟩
  | .hbm, ⟨90, _⟩ => ⟨S16x4096x1, .f32⟩
  | .hbm, ⟨91, _⟩ => ⟨S16x4096x1, .f32⟩
  | .hbm, ⟨92, _⟩ => ⟨S16x4096x128, .f32⟩
  | .hbm, ⟨93, _⟩ => ⟨S16x4096x128, .f32⟩
  | .hbm, ⟨94, _⟩ => ⟨S16x4096x128, .f32⟩
  | .hbm, ⟨95, _⟩ => ⟨S_, .f32⟩
  | .hbm, ⟨96, _⟩ => ⟨S16x4096, .f32⟩
  | .hbm, ⟨97, _⟩ => ⟨S16x4096x1, .f32⟩
  | .hbm, ⟨98, _⟩ => ⟨S_, .f32⟩
  | .hbm, ⟨99, _⟩ => ⟨S16x4096x1, .f32⟩
  | .hbm, ⟨100, _⟩ => ⟨S16x4096x1, .f32⟩
  | .hbm, ⟨101, _⟩ => ⟨S16x4096x128, .f32⟩
  | .hbm, ⟨102, _⟩ => ⟨S16x4096x128, .f32⟩
  | .hbm, ⟨103, _⟩ => ⟨S_, .f32⟩
  | .hbm, ⟨104, _⟩ => ⟨S16x4096x1, .f32⟩
  | .hbm, ⟨105, _⟩ => ⟨S16x4096x1, .f32⟩
  | .hbm, ⟨106, _⟩ => ⟨S16x4096x1, .f32⟩
  | .hbm, ⟨107, _⟩ => ⟨S16x4096x128, .f32⟩
  | .hbm, ⟨108, _⟩ => ⟨S16x4096x128, .f32⟩
  | .hbm, ⟨109, _⟩ => ⟨S1x1x128, .f32⟩
  | .hbm, ⟨110, _⟩ => ⟨S16x4096x128, .f32⟩
  | .hbm, ⟨111, _⟩ => ⟨S16x4096x128, .f32⟩
  | .hbm, ⟨112, _⟩ => ⟨S1x1x128, .f32⟩
  | .hbm, ⟨113, _⟩ => ⟨S16x4096x128, .f32⟩
  | .hbm, ⟨114, _⟩ => ⟨S16x4096x128, .f32⟩
  | .hbm, ⟨115, _⟩ => ⟨S_, .f32⟩
  | .hbm, ⟨116, _⟩ => ⟨S16x4096x128, .f32⟩
  | .hbm, ⟨117, _⟩ => ⟨S16x4096x128, .f32⟩
  | .hbm, ⟨118, _⟩ => ⟨S16x4096x256, .f32⟩
  | .hbm, ⟨119, _⟩ => ⟨S1x1x256, .f32⟩
  | .hbm, ⟨120, _⟩ => ⟨S16x4096x256, .f32⟩
  | .hbm, ⟨121, _⟩ => ⟨S16x4096x256, .f32⟩
  | .hbm, ⟨122, _⟩ => ⟨S16x1x4096, .i32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_c_1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_while0c_c_15 : Ref sig .tc := ⟨.hbm, 17, rfl⟩
abbrev main_while0c_v56 : Ref sig .tc := ⟨.hbm, 18, rfl⟩
abbrev main_while0b_c_15 : Ref sig .tc := ⟨.hbm, 19, rfl⟩
abbrev main_while0b_v56 : Ref sig .tc := ⟨.hbm, 20, rfl⟩
abbrev main_while0b_v57 : Ref sig .tc := ⟨.hbm, 21, rfl⟩
abbrev main_while0b_cst_16 : Ref sig .tc := ⟨.hbm, 22, rfl⟩
abbrev main_while0b_v58 : Ref sig .tc := ⟨.hbm, 23, rfl⟩
abbrev main_while0b_v59 : Ref sig .tc := ⟨.hbm, 24, rfl⟩
abbrev main_while0b_v60 : Ref sig .tc := ⟨.hbm, 25, rfl⟩
abbrev main_while0b_cst_17 : Ref sig .tc := ⟨.hbm, 26, rfl⟩
abbrev main_while0b_v61 : Ref sig .tc := ⟨.hbm, 27, rfl⟩
abbrev main_while0b_v62 : Ref sig .tc := ⟨.hbm, 28, rfl⟩
abbrev main_while0b_v63 : Ref sig .tc := ⟨.hbm, 29, rfl⟩
abbrev main_while0b_cst_18 : Ref sig .tc := ⟨.hbm, 30, rfl⟩
abbrev main_while0b_v64 : Ref sig .tc := ⟨.hbm, 31, rfl⟩
abbrev main_while0b_v65 : Ref sig .tc := ⟨.hbm, 32, rfl⟩
abbrev main_while0b_v66 : Ref sig .tc := ⟨.hbm, 33, rfl⟩
abbrev main_while0b_v67 : Ref sig .tc := ⟨.hbm, 34, rfl⟩
abbrev main_while0b_v68 : Ref sig .tc := ⟨.hbm, 35, rfl⟩
abbrev main_while0b_v69 : Ref sig .tc := ⟨.hbm, 36, rfl⟩
abbrev main_while0b_call0_v0 : Ref sig .tc := ⟨.hbm, 37, rfl⟩
abbrev main_while0b_call0_cst : Ref sig .tc := ⟨.hbm, 38, rfl⟩
abbrev main_while0b_call0_c : Ref sig .tc := ⟨.hbm, 39, rfl⟩
abbrev main_while0b_call0_v1_0 : Ref sig .tc := ⟨.hbm, 40, rfl⟩
abbrev main_while0b_v70 : Ref sig .tc := ⟨.hbm, 41, rfl⟩
abbrev main_while0b_v71 : Ref sig .tc := ⟨.hbm, 42, rfl⟩
abbrev main_while0b_v72 : Ref sig .tc := ⟨.hbm, 43, rfl⟩
abbrev main_while0b_v73 : Ref sig .tc := ⟨.hbm, 44, rfl⟩
abbrev main_while0b_v74 : Ref sig .tc := ⟨.hbm, 45, rfl⟩
abbrev main_while0b_v75 : Ref sig .tc := ⟨.hbm, 46, rfl⟩
abbrev main_while0b_v76 : Ref sig .tc := ⟨.hbm, 47, rfl⟩
abbrev main_while0b_v77 : Ref sig .tc := ⟨.hbm, 48, rfl⟩
abbrev main_while0b_cst_19 : Ref sig .tc := ⟨.hbm, 49, rfl⟩
abbrev main_while0b_v78 : Ref sig .tc := ⟨.hbm, 50, rfl⟩
abbrev main_while0b_v79 : Ref sig .tc := ⟨.hbm, 51, rfl⟩
abbrev main_while0b_cst_20 : Ref sig .tc := ⟨.hbm, 52, rfl⟩
abbrev main_while0b_v80 : Ref sig .tc := ⟨.hbm, 53, rfl⟩
abbrev main_while0b_v81 : Ref sig .tc := ⟨.hbm, 54, rfl⟩
abbrev main_while0b_v82 : Ref sig .tc := ⟨.hbm, 55, rfl⟩
abbrev main_while0b_v83 : Ref sig .tc := ⟨.hbm, 56, rfl⟩
abbrev main_while0b_v84 : Ref sig .tc := ⟨.hbm, 57, rfl⟩
abbrev main_while0b_c_21 : Ref sig .tc := ⟨.hbm, 58, rfl⟩
abbrev main_while0b_v85 : Ref sig .tc := ⟨.hbm, 59, rfl⟩
abbrev main_v3 : Ref sig .tc := ⟨.hbm, 60, rfl⟩
abbrev main_v4 : Ref sig .tc := ⟨.hbm, 61, rfl⟩
abbrev main_c_2 : Ref sig .tc := ⟨.hbm, 62, rfl⟩
abbrev main_v5 : Ref sig .tc := ⟨.hbm, 63, rfl⟩
abbrev main_v6 : Ref sig .tc := ⟨.hbm, 64, rfl⟩
abbrev main_c_3 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_c_4 : Ref sig .tc := ⟨.hbm, 69, rfl⟩
abbrev main_v10 : Ref sig .tc := ⟨.hbm, 70, rfl⟩
abbrev main_v11 : Ref sig .tc := ⟨.hbm, 71, rfl⟩
abbrev main_c_5 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_cst : Ref sig .tc := ⟨.hbm, 86, rfl⟩
abbrev main_v25 : Ref sig .tc := ⟨.hbm, 87, rfl⟩
abbrev main_v26 : Ref sig .tc := ⟨.hbm, 88, rfl⟩
abbrev main_cst_6 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_cst_7 : Ref sig .tc := ⟨.hbm, 95, rfl⟩
abbrev main_v32 : Ref sig .tc := ⟨.hbm, 96, rfl⟩
abbrev main_v33 : Ref sig .tc := ⟨.hbm, 97, rfl⟩
abbrev main_cst_8 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_cst_9 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_cst_10 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩

abbrev nD : Nat := 1
abbrev τ : Topo := Topo.v7x

variable {F : FTy → Type} [FloatOps F]

abbrev main_while0_count : Scf.Loop 32 := ⟨0#32, 10#32, 1#32⟩
-- ==== Stage2.lean ====
abbrev S16x4096x256 : Shape := ⟨3, ![16, 4096, 256]⟩
abbrev S16x1x4096 : Shape := ⟨3, ![16, 1, 4096]⟩
abbrev S16x256x256 : Shape := ⟨3, ![16, 256, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S1x512 : Shape := ⟨2, ![1, 512]⟩
abbrev S1x256 : Shape := ⟨2, ![1, 256]⟩
abbrev S1x4096x256 : Shape := ⟨3, ![1, 4096, 256]⟩
abbrev S1x1x4096 : Shape := ⟨3, ![1, 1, 4096]⟩
abbrev S1x256x256 : Shape := ⟨3, ![1, 256, 256]⟩
abbrev S4096 : Shape := ⟨1, ![4096]⟩
abbrev S4096x1 : Shape := ⟨2, ![4096, 1]⟩
abbrev S4096x256 : Shape := ⟨2, ![4096, 256]⟩
abbrev S256x256 : Shape := ⟨2, ![256, 256]⟩
abbrev S4096x512 : Shape := ⟨2, ![4096, 512]⟩

abbrev nBuf : Space → Nat
  | .hbm => 16
  | .vmem => 15
  | .smem => 0
  | _ => 0

abbrev bufTy : (tb : Table) → Fin (tcTables nBuf tb) → BufTy
  | .hbm, ⟨0, _⟩ => ⟨S16x4096x256, .f32⟩
  | .hbm, ⟨1, _⟩ => ⟨S16x1x4096, .i32⟩
  | .hbm, ⟨2, _⟩ => ⟨S16x256x256, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x512, .f32⟩
  | .hbm, ⟨10, _⟩ => ⟨S256x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x256, .f32⟩
  | .hbm, ⟨15, _⟩ => ⟨S16x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x1x4096, .i32⟩
  | .local _ .vmem, ⟨3, _⟩ => ⟨S1x1x4096, .i32⟩
  | .local _ .vmem, ⟨4, _⟩ => ⟨S1x256x256, .f32⟩
  | .local _ .vmem, ⟨5, _⟩ => ⟨S1x256x256, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x256, .f32⟩
  | .local _ .vmem, ⟨12, _⟩ => ⟨S1x256, .f32⟩
  | .local _ .vmem, ⟨13, _⟩ => ⟨S1x4096x256, .f32⟩
  | .local _ .vmem, ⟨14, _⟩ => ⟨S1x4096x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x4096x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Stage2ReferenceIdeal.lean ====
abbrev S16x4096x256 : Shape := ⟨3, ![16, 4096, 256]⟩
abbrev S16x1x4096 : Shape := ⟨3, ![16, 1, 4096]⟩
abbrev S16x256x256 : Shape := ⟨3, ![16, 256, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S16x4096 : Shape := ⟨2, ![16, 4096]⟩
abbrev S16 : Shape := ⟨1, ![16]⟩
abbrev S16x1 : Shape := ⟨2, ![16, 1]⟩
abbrev S_ : Shape := ⟨0, ![]⟩
abbrev S16x4096x1 : Shape := ⟨3, ![16, 4096, 1]⟩
abbrev S16x4096x2 : Shape := ⟨3, ![16, 4096, 2]⟩
abbrev S16x4096x512 : Shape := ⟨3, ![16, 4096, 512]⟩
abbrev S1x1x512 : Shape := ⟨3, ![1, 1, 512]⟩
abbrev S1x1x256 : Shape := ⟨3, ![1, 1, 256]⟩

abbrev nBuf : Space → Nat
  | .hbm => 72
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x1x4096, .i32⟩
  | .hbm, ⟨2, _⟩ => ⟨S16x256x256, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S16x4096, .i32⟩
  | .hbm, ⟨10, _⟩ => ⟨S16, .i32⟩
  | .hbm, ⟨11, _⟩ => ⟨S16x1, .i32⟩
  | .hbm, ⟨12, _⟩ => ⟨S_, .i32⟩
  | .hbm, ⟨13, _⟩ => ⟨S16x1, .i32⟩
  | .hbm, ⟨14, _⟩ => ⟨S16x1, .i1⟩
  | .hbm, ⟨15, _⟩ => ⟨S_, .i32⟩
  | .hbm, ⟨16, _⟩ => ⟨S16x1, .i32⟩
  | .hbm, ⟨17, _⟩ => ⟨S16x1, .i32⟩
  | .hbm, ⟨18, _⟩ => ⟨S16x1, .i32⟩
  | .hbm, ⟨19, _⟩ => ⟨S_, .i32⟩
  | .hbm, ⟨20, _⟩ => ⟨S16x4096, .i32⟩
  | .hbm, ⟨21, _⟩ => ⟨S16x4096, .i1⟩
  | .hbm, ⟨22, _⟩ => ⟨S_, .i32⟩
  | .hbm, ⟨23, _⟩ => ⟨S16x4096, .i32⟩
  | .hbm, ⟨24, _⟩ => ⟨S16x4096, .i32⟩
  | .hbm, ⟨25, _⟩ => ⟨S16x4096, .i32⟩
  | .hbm, ⟨26, _⟩ => ⟨S16x4096, .i32⟩
  | .hbm, ⟨27, _⟩ => ⟨S16x4096x1, .i32⟩
  | .hbm, ⟨28, _⟩ => ⟨S16x4096x1, .i32⟩
  | .hbm, ⟨29, _⟩ => ⟨S16x4096x2, .i32⟩
  | .hbm, ⟨30, _⟩ => ⟨S16x4096x256, .f32⟩
  | .hbm, ⟨31, _⟩ => ⟨S16x4096x512, .f32⟩
  | .hbm, ⟨32, _⟩ => ⟨S16x4096x512, .f32⟩
  | .hbm, ⟨33, _⟩ => ⟨S1x1x512, .f32⟩
  | .hbm, ⟨34, _⟩ => ⟨S16x4096x512, .f32⟩
  | .hbm, ⟨35, _⟩ => ⟨S16x4096x512, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S_, .f32⟩
  | .hbm, ⟨40, _⟩ => ⟨S16x4096x1, .f32⟩
  | .hbm, ⟨41, _⟩ => ⟨S16x4096x1, .f32⟩
  | .hbm, ⟨42, _⟩ => ⟨S16x4096x512, .f32⟩
  | .hbm, ⟨43, _⟩ => ⟨S16x4096x512, .f32⟩
  | .hbm, ⟨44, _⟩ => ⟨S16x4096x512, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S_, .f32⟩
  | .hbm, ⟨49, _⟩ => ⟨S16x4096x1, .f32⟩
  | .hbm, ⟨50, _⟩ => ⟨S16x4096x1, .f32⟩
  | .hbm, ⟨51, _⟩ => ⟨S16x4096x512, .f32⟩
  | .hbm, ⟨52, _⟩ => ⟨S16x4096x512, .f32⟩
  | .hbm, ⟨53, _⟩ => ⟨S_, .f32⟩
  | .hbm, ⟨54, _⟩ => ⟨S16x4096x1, .f32⟩
  | .hbm, ⟨55, _⟩ => ⟨S16x4096x1, .f32⟩
  | .hbm, ⟨56, _⟩ => ⟨S16x4096x1, .f32⟩
  | .hbm, ⟨57, _⟩ => ⟨S16x4096x512, .f32⟩
  | .hbm, ⟨58, _⟩ => ⟨S16x4096x512, .f32⟩
  | .hbm, ⟨59, _⟩ => ⟨S1x1x512, .f32⟩
  | .hbm, ⟨60, _⟩ => ⟨S16x4096x512, .f32⟩
  | .hbm, ⟨61, _⟩ => ⟨S16x4096x512, .f32⟩
  | .hbm, ⟨62, _⟩ => ⟨S1x1x512, .f32⟩
  | .hbm, ⟨63, _⟩ => ⟨S16x4096x512, .f32⟩
  | .hbm, ⟨64, _⟩ => ⟨S16x4096x512, .f32⟩
  | .hbm, ⟨65, _⟩ => ⟨S_, .f32⟩
  | .hbm, ⟨66, _⟩ => ⟨S16x4096x512, .f32⟩
  | .hbm, ⟨67, _⟩ => ⟨S16x4096x512, .f32⟩
  | .hbm, ⟨68, _⟩ => ⟨S16x4096x256, .f32⟩
  | .hbm, ⟨69, _⟩ => ⟨S1x1x256, .f32⟩
  | .hbm, ⟨70, _⟩ => ⟨S16x4096x256, .f32⟩
  | .hbm, ⟨71, _⟩ => ⟨S16x4096x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Proof.Setup.lean ====
/-
  The segment-max kernel's launch and the names the other modules use: the SparseCore configuration as the launch
  theorem takes it, the ghost state, the buffers, and what a tile's registers of values mean (the label of a row, the
  datum of a row, the running maximum of a segment).
-/
module
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters
abbrev EH : Emb UH (MT nD τ sig (HIx 1) (Elt F) ℕ UU ℕ) := embL

/-! ## The buffers -/

/-- The data, the labels and the result, as locations of device `d`. -/
abbrev dLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0

/-- The kernel's operands as a tile names them: data, labels, result; then its scratch: the row of labels, the two
    chunks of data, the accumulator. -/
abbrev dV : Memref sig Kind.scVector Space.hbm S16x4096x256 EltTy.f32 := Memref.whole main_arg0_scv
abbrev lV : Memref sig Kind.scVector Space.hbm S16x4096 EltTy.i32 := Memref.whole main_arg1_scv
abbrev oV : Memref sig Kind.scVector Space.hbm S16x256x256 EltTy.f32 := Memref.whole main_v0_scv
abbrev rowV : Memref sig Kind.scVector Space.vmem S4096 EltTy.i32 := Memref.whole cc0_scratch0
abbrev bufA : Memref sig Kind.scVector Space.vmem S256x128 EltTy.f32 := Memref.whole cc0_scratch1
abbrev bufB : Memref sig Kind.scVector Space.vmem S256x128 EltTy.f32 := Memref.whole cc0_scratch2
abbrev accV : Memref sig Kind.scVector Space.vmem S256x128 EltTy.f32 := Memref.whole cc0_scratch3

/-- The SparseCore and the tile at grid point `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem bound_zero : grid0.bound 0 = 2 := rfl
theorem bound_one : grid0.bound 1 = 16 := rfl
/-- The half of the columns and the batch row that the tile at `L` works on. -/
abbrev cL (L : grid0.Coords) : Fin 2 := Fin.cast bound_zero (L 0)
abbrev jL (L : grid0.Coords) : Fin 16 := Fin.cast bound_one (L 1)

/-! ## The values -/

/-- The label of row `n` of batch row `j`, as a word (`0` past the last row, which is never read). -/
def labW (lab : S16x4096.Idx → BitVec 32) (j : Fin 16) (n : ℕ) : BitVec 32 :=
  if h : n < 4096 then lab (ix2 j ⟨n, h⟩) else 0

variable [FloatOps F]

/-- Minus infinity, as the kernel writes it. -/
def ninf : F .f32 := Scalar.ofBits .f32 0xff800000#32

/-- Column `x` of the half `c` of row `n` of batch row `j`. -/
def datV (dat : S16x4096x256.Idx → F .f32) (j : Fin 16) (c : Fin 2) (n : ℕ) (x : Fin 128) : F .f32 :=
  if h : n < 4096 then dat (ix3 j ⟨n, h⟩ ⟨128 * c.val + x.val, by omega⟩) else ninf

/-- The running maximum of one column over the rows labelled `k`, after `n` rows: from minus infinity, each row of
    the segment folded in. -/
def segAt (W : ℕ → BitVec 32) (X : ℕ → F .f32) (k : ℕ) : ℕ → F .f32
  | 0 => ninf
  | n + 1 => if (W n).toNat = k then FloatOps.maximumf (segAt W X k n) (X n) else segAt W X k n

/-- The accumulator after `n` rows and the first `g` groups of sixteen columns of the next. -/
def accAt (W : ℕ → BitVec 32) (X : ℕ → Fin 128 → F .f32) (n g : ℕ) : S256x128.Idx → F .f32 := fun x =>
  segAt W (fun r => X r (x 1)) (x 0).val (if (x 1).val < 16 * g then n + 1 else n)

/-- The last pass: minus infinity becomes zero. -/
def fixV (v : F .f32) : F .f32 :=
  Scalar.select (FloatOps.cmpf .oeq v (ninf (F := F))) (Scalar.ofBits .f32 0x00000000#32) v

end Cert.Proof.SegMax

end
-- ==== Proof.Steps.lean ====
/-
  The steps of a tile's straight code, as rules: a load of the accumulator, of a chunk of data or of the labels, a check,
  and a store of one group of sixteen columns. Each rule takes the state before the operation to the state after it,
  the state being the three buffers' contents and what else the tile holds.
-/
module
public import proofs.«01_k».proof.Proof.Setup
public import Idealize.ShloMosaic.Lib.Pointwise.Reshape

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The monoid of the launch. -/
abbrev MM (F : FTy → Type) := MT nD τ sig (HIx 1) (Elt F) ℕ UU ℕ

/-- A tile's program. -/
abbrev TProg (F : FTy → Type) [FloatOps F] (L : grid0.Coords) (α : Type) : Type _ := Prog (TpuEff nD τ sig (Elt F) Λ₀ (.scVector ((L 0).castLE hcore0) ((L 1).castLE hsub0))) α

section Steps

section
variable (d : Dev nD) (L : grid0.Coords)

/-- The weakest precondition of a tile's program. -/
abbrev twp {α : Type} (p : TProg F L α) (Q : α → sProp (MM F)) : sProp (MM F) :=
  wp frame (wpE (defs₀ (F := F)) 𝒱₀ (thr d L) none) Set.univ p Q

/-- The state between operations: the accumulator at `A`, the chunk of data `B` at `g`, the labels' row at `w`, and `R`. -/
def St (B : Memref sig Kind.scVector Space.vmem S256x128 EltTy.f32) (g : Buf (Elt F) (B.view.loc (thr d L)))
    (w : S4096.Idx → BitVec 32) (R : sProp (MM F)) (A : S256x128.Idx → F .f32) : sProp (MM F) :=
  iprop((accV.view.loc (thr d L) ↦{fullShare} (A : Buf (Elt F) (accV.view.loc (thr d L)))) ∗ (B.view.loc (thr d L) ↦{fullShare} g)
    ∗ (rowV.view.loc (thr d L) ↦{fullShare} (w : Buf (Elt F) (rowV.view.loc (thr d L)))) ∗ R)
end

variable {d : Dev nD} {L : grid0.Coords}
variable {B : Memref sig Kind.scVector Space.vmem S256x128 EltTy.f32} {g : Buf (Elt F) (B.view.loc (thr d L))}
variable {w : S4096.Idx → BitVec 32} {R : sProp (MM F)} {A : S256x128.Idx → F .f32} {α β : Type} {Q : α → sProp (MM F)} {H : sProp (MM F)}

theorem twp_bind {p : TProg F L β} {k : β → TProg F L α} (h : H ⊢ twp d L p (fun x => twp d L (k x) Q)) : H ⊢ twp d L (p >>= k) Q := by
  unfold twp; rw [wp_bind]; exact h

theorem twp_pure {x : α} (h : H ⊢ Q x) : H ⊢ twp d L (pure x) Q := by
  unfold twp; rw [wp_pure]
  refine h.trans ?_
  iintro H; imodintro; iexact H

/-- A load of the accumulator. -/
theorem ld_acc {r : LoadRect S256x128} {hl : accV.view.LoadsAt r} {k : Vec F r.shape .f32 → TProg F L α}
    (h : St d L B g w R A ⊢ twp d L (k fun y => A (r.idx y)) Q) :
    St d L B g w R A ⊢ twp d L ((Prog.lift (.load accV r hl) : TProg F L (Vec F r.shape .f32)) >>= k) Q := by
  unfold St at h ⊢
  iintro ⟨HA, HB, HW, HR⟩
  iapply (wp_load 𝒱₀ (thr d L) none Set.univ (m := accV) (r := r) (hl := hl) (k := k) (Finset.subset_univ _)) $$ HA
  iintro HA
  iapply h
  isplitl [HA]; · iexact HA
  isplitl [HB]; · iexact HB
  isplitl [HW]; · iexact HW
  iexact HR

/-- A load of the chunk. -/
theorem ld_buf {r : LoadRect S256x128} {hl : B.view.LoadsAt r} {k : Vec F r.shape .f32 → TProg F L α}
    (b : S256x128.Idx → F .f32) (hb : B.view.read (Elt F) g = b)
    (h : St d L B g w R A ⊢ twp d L (k fun y => b (r.idx y)) Q) :
    St d L B g w R A ⊢ twp d L ((Prog.lift (.load B r hl) : TProg F L (Vec F r.shape .f32)) >>= k) Q := by
  subst hb
  unfold St at h ⊢
  iintro ⟨HA, HB, HW, HR⟩
  iapply (wp_load 𝒱₀ (thr d L) none Set.univ (m := B) (r := r) (hl := hl) (k := k) (Finset.subset_univ _)) $$ HB
  iintro HB
  iapply h
  isplitl [HA]; · iexact HA
  isplitl [HB]; · iexact HB
  isplitl [HW]; · iexact HW
  iexact HR

/-- A load of the labels. -/
theorem ld_row {r : LoadRect S4096} {hl : rowV.view.LoadsAt r} {k : Vec F r.shape .i32 → TProg F L α}
    (h : St d L B g w R A ⊢ twp d L (k fun y => w (r.idx y)) Q) :
    St d L B g w R A ⊢ twp d L ((Prog.lift (.load rowV r hl) : TProg F L (Vec F r.shape .i32)) >>= k) Q := by
  unfold St at h ⊢
  iintro ⟨HA, HB, HW, HR⟩
  iapply (wp_load 𝒱₀ (thr d L) none Set.univ (m := rowV) (r := r) (hl := hl) (k := k) (Finset.subset_univ _)) $$ HW
  iintro HW
  iapply h
  isplitl [HA]; · iexact HA
  isplitl [HB]; · iexact HB
  isplitl [HW]; · iexact HW
  iexact HR

/-- A check that holds. -/
theorem st_assume {P : Prop} {dP : Decidable P} {k : PLift P → TProg F L α} (hP : P)
    (h : H ⊢ twp d L (k ⟨hP⟩) Q) : H ⊢ twp d L (Prog.lift (.assume P dP) >>= k) Q :=
  h.trans (wp_assume 𝒱₀ (thr d L) none Set.univ (k := k) hP)

/-- A store of the accumulator at a row `k` and a group `q` of sixteen columns: the contents there become `v`'s, the
    others stay. -/
theorem st_acc {off : Fin 2 → ℕ} {inb : ∀ a, off a + S1x16.size a ≤ S256x128.size a} {v : S1x16.Idx → F .f32}
    {hx : (accV.access (Rect.unit (s := S256x128) off S1x16.size inb)).Stores Finset.univ} {hm : Finset.univ = Finset.univ ∨ ∀ a, (Rect.unit (s := S256x128) off S1x16.size inb).stride a = 1}
    {k : PUnit → TProg F L α} (A' : S256x128.Idx → F .f32) (r q : ℕ) (hoff : off = ![r, 16 * q])
    (hA : ∀ x : S256x128.Idx, A' x = if h : (x 0).val = r ∧ (x 1).val / 16 = q then v (ix2 0 ⟨(x 1).val % 16, Nat.mod_lt _ (by decide)⟩) else A x)
    (h : St d L B g w R A' ⊢ twp d L (k ⟨⟩) Q) :
    St d L B g w R A ⊢ twp d L (Prog.lift (.store accV (Rect.unit (s := S256x128) off S1x16.size inb) v Finset.univ hx hm) >>= k) Q := by
  subst hoff
  have e : (accV.access (Rect.unit (s := S256x128) ![r, 16 * q] S1x16.size inb)).write (Elt F) (A : Buf (Elt F) (accV.view.loc (thr d L))) v Finset.univ = A' := by
    funext x
    rw [hA x]
    by_cases hq : (x 0).val = r ∧ (x 1).val / 16 = q
    · rw [dif_pos hq]
      have hemb : (accV.access (Rect.unit (s := S256x128) ![r, 16 * q] S1x16.size inb)).emb (ix2 0 ⟨(x 1).val % 16, Nat.mod_lt _ (by decide)⟩) = x := by
        refine Rect.emb_eq_of_coords (Rect.unit (s := S256x128) ![r, 16 * q] S1x16.size inb) _ x fun a => ?_
        match a with
        | 0 => show (x 0).val = r + 1 * 0; omega
        | 1 => show (x 1).val = 16 * q + 1 * ((x 1).val % 16); omega
      rw [← hemb, View.write_emb_of_mem _ _ (Finset.mem_univ _), hemb]
      rfl
    · rw [dif_neg hq, View.write_of_not_mem]
      intro hmem
      apply hq
      obtain ⟨y, -, hy⟩ := Finset.mem_map.mp hmem
      have h0 : (x 0).val = r + 1 * (y 0).val := by rw [← hy]; rfl
      have h1 : (x 1).val = 16 * q + 1 * (y 1).val := by rw [← hy]; rfl
      have hy0 : (y 0).val < 1 := (y 0).isLt
      have hy1 : (y 1).val < 16 := (y 1).isLt
      omega
  unfold St at h ⊢
  iintro ⟨HA, HB, HW, HR⟩
  iapply (wp_store 𝒱₀ (thr d L) none Set.univ (m := accV) (hx := hx) (hm := hm) (k := k) (Finset.subset_univ _)) $$ HA
  iintro HA
  rw [e]
  iapply h
  isplitl [HA]; · iexact HA
  isplitl [HB]; · iexact HB
  isplitl [HW]; · iexact HW
  iexact HR

end Steps

/-! ## What the kernel's values are -/

/-- The largest of two groups of sixteen, the shape changed there and back. -/
theorem max_group (a b : S1x16.Idx → F .f32) (h₁ : S1x16.ShapeCasts S16) (h₂ : S16.ShapeCasts S1x16) :
    shapeCast S1x16 (maximumf (φ := .f32) (F := F) (shapeCast S16 a h₁) (shapeCast S16 b h₁)) h₂ = fun y => FloatOps.maximumf (a y) (b y) := by
  have e : ∀ x : S1x16.Idx → F .f32, shapeCast S1x16 (shapeCast S16 x h₁) h₂ = x := fun x => shapeCast_comp x h₁ h₂ |>.trans (shapeCast_id _ _)
  funext y
  exact congrArg₂ FloatOps.maximumf (congrFun (e a) y) (congrFun (e b) y)

/-- A group of the last pass, the shape changed there and back. -/
theorem fix_group (a : S1x16.Idx → F .f32) (h₁ : S1x16.ShapeCasts S16) (h₂ : S16.ShapeCasts S1x16) :
    shapeCast S1x16 (select (cmpf (φ := .f32) (F := F) .oeq (shapeCast S16 a h₁) (broadcast S16 (ninf (F := F)))) (broadcast S16 (Scalar.ofBits .f32 0x00000000#32)) (shapeCast S16 a h₁)) h₂
      = fun y => fixV (a y) := by
  have e : ∀ x : S1x16.Idx → F .f32, shapeCast S1x16 (shapeCast S16 x h₁) h₂ = x := fun x => shapeCast_comp x h₁ h₂ |>.trans (shapeCast_id _ _)
  funext y
  exact congrArg fixV (congrFun (e a) y)

/-- One label out of a loaded group of sixteen. -/
theorem label_at (x : S16.Idx → BitVec 32) (r : ℕ) (h : S16.ShapeCasts S16) (hs : S16.Slices ![r] S1) (hp : ∀ a, (![0] : Fin 1 → ℕ) a < S1.size a) (hr : r < 16) :
    extractAt ![0] (extractStridedSlice S1 ![r] (shapeCast S16 x h) hs) hp = x (ix1 ⟨r, hr⟩) := by
  rw [shapeCast_id]
  exact congrArg x (funext fun a => match a with | 0 => Fin.ext (show r + 0 = r from rfl))

end Cert.Proof.SegMax

end
-- ==== Proof.Trips.lean ====
/-
  One trip of a chunk's loop: sixteen rows, each folded into its segment's row of the accumulator, eight groups of
  sixteen columns. One rule for a group; the trip is the rule applied along the code.
-/
module
public import proofs.«01_k».proof.Proof.Steps

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A row below 256 passes the checks of a row's eight groups. -/
theorem chk8 {v : BitVec 32} (h : v.toNat < 256) : k0_chk1 v := by
  have key : ∀ c : ℕ, c + 16 ≤ 128 → ∀ a, (![v.toNat, c] : Fin 2 → ℕ) a + S1x16.size a ≤ S256x128.size a := fun c hc a =>
    match a with
    | 0 => (show v.toNat + 1 ≤ 256 by omega)
    | 1 => (show c + 16 ≤ 128 from hc)
  exact ⟨key 0 (by decide), key 16 (by decide), key 32 (by decide), key 48 (by decide), key 64 (by decide), key 80 (by decide), key 96 (by decide), key 112 (by decide)⟩

/-- The accumulator after `16 m + r` rows and `q` groups of the next. -/
def grp (W : ℕ → BitVec 32) (X : ℕ → Fin 128 → F .f32) (m r q : ℕ) : S256x128.Idx → F .f32 := accAt W X (16 * m + r) q

theorem accAt_row (W : ℕ → BitVec 32) (X : ℕ → Fin 128 → F .f32) (n : ℕ) : accAt W X n 8 = accAt W X (n + 1) 0 := by
  funext x
  have hx : (x 1).val < 16 * 8 := (x 1).isLt
  unfold accAt
  rw [if_pos hx, if_neg (by omega)]

theorem grp_row (W : ℕ → BitVec 32) (X : ℕ → Fin 128 → F .f32) (m r : ℕ) : grp W X m r 8 = grp W X m (r + 1) 0 := accAt_row W X _

section Steps

variable {d : Dev nD} {L : grid0.Coords}
variable {B : Memref sig Kind.scVector Space.vmem S256x128 EltTy.f32} {g : Buf (Elt F) (B.view.loc (thr d L))}
variable {w : S4096.Idx → BitVec 32} {R : sProp (MM F)} {α β : Type} {Q : α → sProp (MM F)} {H : sProp (MM F)}
variable {W : ℕ → BitVec 32} {X : ℕ → Fin 128 → F .f32} {m t r q : ℕ}

/-- The next operation is a load of a group. -/
theorem is_load {M : Memref sig Kind.scVector Space.vmem S256x128 EltTy.f32} {off : Fin 2 → ℕ} {inb : ∀ a, off a + S1x16.size a ≤ S256x128.size a}
    {hl : M.view.LoadsAt (Rect.unit (s := S256x128) off S1x16.size inb).toLoadRect} {k : Vec F S1x16 .f32 → TProg F L α}
    (h : H ⊢ twp d L (do let v : Vec F S1x16 .f32 ← Prog.lift (.load M (Rect.unit (s := S256x128) off S1x16.size inb).toLoadRect hl); k v) Q) :
    H ⊢ twp d L (do let v : Vec F S1x16 .f32 ← Prog.lift (.load M (Rect.unit (s := S256x128) off S1x16.size inb).toLoadRect hl); k v) Q := h

/-- The next operation is a store. -/
theorem is_store {M : Memref sig Kind.scVector Space.vmem S256x128 EltTy.f32} {off : Fin 2 → ℕ} {inb : ∀ a, off a + S1x16.size a ≤ S256x128.size a}
    {v : Vec F S1x16 .f32} {hx : (M.access (Rect.unit (s := S256x128) off S1x16.size inb)).Stores Finset.univ} {hm : Finset.univ = Finset.univ ∨ ∀ a, (Rect.unit (s := S256x128) off S1x16.size inb).stride a = 1}
    {k : PUnit → TProg F L α}
    (h : H ⊢ twp d L (Prog.lift (.store M (Rect.unit (s := S256x128) off S1x16.size inb) v Finset.univ hx hm) >>= k) Q) :
    H ⊢ twp d L (Prog.lift (.store M (Rect.unit (s := S256x128) off S1x16.size inb) v Finset.univ hx hm) >>= k) Q := h

/-- The next operation is a check. -/
theorem is_check {P : Prop} {dP : Decidable P} {k : PLift P → TProg F L α} (h : H ⊢ twp d L (Prog.lift (.assume P dP) >>= k) Q) :
    H ⊢ twp d L (Prog.lift (.assume P dP) >>= k) Q := h

/-- The last operation is a load of a group. -/
theorem last_load {M : Memref sig Kind.scVector Space.vmem S256x128 EltTy.f32} {off : Fin 2 → ℕ} {inb : ∀ a, off a + S1x16.size a ≤ S256x128.size a}
    {hl : M.view.LoadsAt (Rect.unit (s := S256x128) off S1x16.size inb).toLoadRect} {Q : Vec F S1x16 .f32 → sProp (MM F)}
    (h : H ⊢ twp d L ((Prog.lift (.load M (Rect.unit (s := S256x128) off S1x16.size inb).toLoadRect hl) : TProg F L (Vec F S1x16 .f32)) >>= pure) Q) :
    H ⊢ twp d L (Prog.lift (.load M (Rect.unit (s := S256x128) off S1x16.size inb).toLoadRect hl) : TProg F L (Vec F S1x16 .f32)) Q := h

/-- The last operation is a store. -/
theorem last_store {M : Memref sig Kind.scVector Space.vmem S256x128 EltTy.f32} {off : Fin 2 → ℕ} {inb : ∀ a, off a + S1x16.size a ≤ S256x128.size a}
    {v : Vec F S1x16 .f32} {hx : (M.access (Rect.unit (s := S256x128) off S1x16.size inb)).Stores Finset.univ} {hm : Finset.univ = Finset.univ ∨ ∀ a, (Rect.unit (s := S256x128) off S1x16.size inb).stride a = 1}
    {Q : PUnit → sProp (MM F)}
    (h : H ⊢ twp d L (Prog.lift (.store M (Rect.unit (s := S256x128) off S1x16.size inb) v Finset.univ hx hm) >>= pure) Q) :
    H ⊢ twp d L (Prog.lift (.store M (Rect.unit (s := S256x128) off S1x16.size inb) v Finset.univ hx hm)) Q := h

/-- The program is an operation followed by the rest. -/
theorem is_bind {p : TProg F L β} {k : β → TProg F L α} (h : H ⊢ twp d L (p >>= k) Q) : H ⊢ twp d L (p >>= k) Q := h

/-- The labels of a trip, loaded: each below 256. -/
theorem ld_labels {off : Fin 1 → ℕ} {inb : ∀ a, off a + S16.size a ≤ S4096.size a} {hl : rowV.view.LoadsAt (Rect.unit (s := S4096) off S16.size inb).toLoadRect}
    {k : Vec F S16 .i32 → TProg F L α} {A : S256x128.Idx → F .f32} (hoff : off = ![16 * m]) (hW : ∀ n : Fin 4096, w (ix1 n) = W n.val)
    (h : ∀ y : Vec F S16 .i32, (∀ r (hr : r < 16), y (ix1 ⟨r, hr⟩) = W (16 * m + r)) → St d L B g w R A ⊢ twp d L (k y) Q) :
    St d L B g w R A ⊢ twp d L ((Prog.lift (.load rowV (Rect.unit (s := S4096) off S16.size inb).toLoadRect hl) : TProg F L (Vec F S16 .i32)) >>= k) Q := by
  subst hoff
  refine ld_row (h _ fun r hr => ?_)
  have hm : 16 * m + 16 ≤ 4096 := inb 0
  rw [← hW ⟨16 * m + r, by omega⟩]
  exact congrArg w (funext fun a => match a with | 0 => Fin.ext (show 16 * m + 1 * r = 16 * m + r by omega))

/-- A row's check, at the first row of a trip. -/
theorem st_check {P : Prop} {dP : Decidable P} {k : PLift P → TProg F L α} {e : BitVec 32} (hP : k0_chk1 e = P) (he : e.toNat < 256)
    (h : ∀ hp : P, H ⊢ twp d L (k ⟨hp⟩) Q) : H ⊢ twp d L (Prog.lift (.assume P dP) >>= k) Q :=
  st_assume (hP ▸ chk8 he) (h _)

/-- A row's check, a row having ended. -/
theorem st_next {P : Prop} {dP : Decidable P} {k : PLift P → TProg F L α} {e : BitVec 32} (hP : k0_chk1 e = P) (he : e.toNat < 256)
    (h : ∀ hp : P, St d L B g w R (grp W X m (r + 1) 0) ⊢ twp d L (k ⟨hp⟩) Q) :
    St d L B g w R (grp W X m r 8) ⊢ twp d L (Prog.lift (.assume P dP) >>= k) Q := by
  rw [grp_row]
  exact st_check hP he h

/-- One group of a row: read from the accumulator and from the chunk, the larger written back. -/
theorem st_group {b : S256x128.Idx → F .f32} {off offb : Fin 2 → ℕ} {inb : ∀ a, off a + S1x16.size a ≤ S256x128.size a}
    {inbb : ∀ a, offb a + S1x16.size a ≤ S256x128.size a} {v A0 b0 : S1x16.Idx → F .f32}
    {h₁ : S1x16.ShapeCasts S16} {h₂ : S1x16.ShapeCasts S16} {h₃ : S16.ShapeCasts S1x16}
    {hx : (accV.access (Rect.unit (s := S256x128) off S1x16.size inb)).Stores Finset.univ} {hm : Finset.univ = Finset.univ ∨ ∀ a, (Rect.unit (s := S256x128) off S1x16.size inb).stride a = 1}
    {k : PUnit → TProg F L α} {e : BitVec 32}
    (hX : ∀ (r : ℕ) (x : S256x128.Idx), r < 16 → (x 0).val = 16 * t + r → b x = X (16 * m + r) (x 1))
    (hq : q < 8) (hr : r < 16)
    (hv : v = shapeCast S1x16 (maximumf (φ := .f32) (F := F) (shapeCast S16 A0 h₁) (shapeCast S16 b0 h₂)) h₃)
    (hA : A0 = fun y => grp W X m r q ((Rect.unit (s := S256x128) off S1x16.size inb).toLoadRect.idx y))
    (hb : b0 = fun y => b ((Rect.unit (s := S256x128) offb S1x16.size inbb).toLoadRect.idx y))
    (hoff : off = ![e.toNat, 16 * q]) (hoffb : offb = ![16 * t + r, 16 * q])
    (he : e = W (16 * m + r))
    (h : St d L B g w R (grp W X m r (q + 1)) ⊢ twp d L (k ⟨⟩) Q) :
    St d L B g w R (grp W X m r q) ⊢ twp d L (Prog.lift (.store accV (Rect.unit (s := S256x128) off S1x16.size inb) v Finset.univ hx hm) >>= k) Q := by
  subst hoff hoffb he
  rw [max_group] at hv
  subst hv hA hb
  refine st_acc (grp W X m r (q + 1)) _ q rfl (fun x => ?_) h
  have hx1 : (x 1).val < 128 := (x 1).isLt
  unfold grp accAt
  by_cases hc : (x 0).val = (W (16 * m + r)).toNat ∧ (x 1).val / 16 = q
  · rw [dif_pos hc, if_pos (by omega)]
    have e1 : (Rect.unit (s := S256x128) ![(W (16 * m + r)).toNat, 16 * q] S1x16.size inb).toLoadRect.idx (ix2 0 ⟨(x 1).val % 16, Nat.mod_lt _ (by decide)⟩) = x :=
      funext fun a => match a with
        | 0 => Fin.ext (show (W (16 * m + r)).toNat + 1 * 0 = (x 0).val by omega)
        | 1 => Fin.ext (show 16 * q + 1 * ((x 1).val % 16) = (x 1).val by omega)
    have e2 := hX r ((Rect.unit (s := S256x128) ![16 * t + r, 16 * q] S1x16.size inbb).toLoadRect.idx (ix2 0 ⟨(x 1).val % 16, Nat.mod_lt _ (by decide)⟩)) hr
      (show 16 * t + r + 1 * 0 = _ by omega)
    have e3 : (Rect.unit (s := S256x128) ![16 * t + r, 16 * q] S1x16.size inbb).toLoadRect.idx (ix2 0 ⟨(x 1).val % 16, Nat.mod_lt _ (by decide)⟩) 1 = x 1 :=
      Fin.ext (show 16 * q + 1 * ((x 1).val % 16) = (x 1).val by omega)
    beta_reduce
    rw [e1, if_neg (by omega), e2, e3, segAt, if_pos hc.1.symm]
  · rw [dif_neg hc]
    by_cases h1 : (x 1).val < 16 * q
    · rw [if_pos h1, if_pos (by omega)]
    · rw [if_neg h1]
      by_cases h2 : (x 1).val < 16 * (q + 1)
      · rw [if_pos h2, segAt, if_neg (fun hh => hc ⟨hh.symm, by omega⟩)]
      · rw [if_neg h2]

set_option maxRecDepth 65536 in
set_option maxHeartbeats 0 in
/-- A trip over the first chunk of a pair. -/
theorem trip3 {v21 : BitVec 32} {s0 s1 s2 s3 : DmaSems sig S_} {h2 h3 h4 h5 h6 h7 h8} (t2 : Fin k0_t2_loop.trips) (t3 : Fin k0_t3_loop.trips)
    {g : Buf (Elt F) (bufA.view.loc (thr d L))} {b : S256x128.Idx → F .f32} (hb : bufA.view.read (Elt F) g = b) (hlt : ∀ n, (W n).toNat < 256)
    (hW : ∀ n : Fin 4096, w (ix1 n) = W n.val)
    (hX : ∀ (r : ℕ) (x : S256x128.Idx), r < 16 → (x 0).val = 16 * t3.val + r → b x = X (16 * (32 * t2.val + t3.val) + r) (x 1)) :
    St d L bufA g w R (grp W X (32 * t2.val + t3.val) 0 0)
      ⊢ twp d L (k0_t3_body L dV h2 lV h3 oV h4 rowV h5 bufA h6 bufB h7 accV h8 s0 s1 s2 s3 t2 v21 t3 ()) (fun _ => St d L bufA g w R (grp W X (32 * t2.val + t3.val) 15 8)) := by
  unfold k0_t3_body
  refine twp_bind ?_
  unfold k0_part34
  refine twp_bind ?_
  refine ld_labels (m := 32 * t2.val + t3.val) ((k0_off13_eq t2 t3).trans (by congr 1; omega)) hW fun y hy => ?_
  have hl : ∀ (r : ℕ) (hr : r < 16) (h hs hp), extractAt ![0] (extractStridedSlice S1 ![r] (shapeCast S16 y h) hs) hp = W (16 * (32 * t2.val + t3.val) + r) :=
    fun r hr h hs hp => (label_at y r h hs hp hr).trans (hy r hr)
  have hll : ∀ (r : ℕ) (hr : r < 16) (h hs hp), (extractAt ![0] (extractStridedSlice S1 ![r] (shapeCast S16 y h) hs) hp).toNat < 256 :=
    fun r hr h hs hp => (hl r hr h hs hp) ▸ hlt _
  refine st_check rfl (hll _ (by decide) _ _ _) fun _ => ?_
  repeat (first
    | with_reducible refine is_load (M := accV) ?_
      refine ld_acc ?_
    | with_reducible refine is_load (M := bufA) ?_
      refine ld_buf b hb ?_
    | with_reducible refine is_store ?_
      refine st_group hX (by decide) (by decide) rfl rfl rfl rfl ClosedOff.eq (hl _ (by decide) _ _ _) ?_
    | with_reducible refine is_check ?_
      refine st_next rfl (hll _ (by decide) _ _ _) fun _ => ?_
    | with_reducible refine twp_pure ?_
    | with_reducible refine last_load ?_
    | with_reducible refine last_store ?_
    | with_reducible refine twp_bind ?_
      refine is_bind ?_)
  iintro H; iexact H

set_option maxRecDepth 65536 in
set_option maxHeartbeats 0 in
/-- A trip over the second chunk of a pair. -/
theorem trip4 {v33 : BitVec 32} {s0 s1 s2 s3 : DmaSems sig S_} {h2 h3 h4 h5 h6 h7 h8} (t2 : Fin k0_t2_loop.trips) (t4 : Fin k0_t4_loop.trips)
    {g : Buf (Elt F) (bufB.view.loc (thr d L))} {b : S256x128.Idx → F .f32} (hb : bufB.view.read (Elt F) g = b) (hlt : ∀ n, (W n).toNat < 256)
    (hW : ∀ n : Fin 4096, w (ix1 n) = W n.val)
    (hX : ∀ (r : ℕ) (x : S256x128.Idx), r < 16 → (x 0).val = 16 * t4.val + r → b x = X (16 * (32 * t2.val + 16 + t4.val) + r) (x 1)) :
    St d L bufB g w R (grp W X (32 * t2.val + 16 + t4.val) 0 0)
      ⊢ twp d L (k0_t4_body L dV h2 lV h3 oV h4 rowV h5 bufA h6 bufB h7 accV h8 s0 s1 s2 s3 t2 v33 t4 ()) (fun _ => St d L bufB g w R (grp W X (32 * t2.val + 16 + t4.val) 15 8)) := by
  unfold k0_t4_body
  refine twp_bind ?_
  unfold k0_part68
  refine twp_bind ?_
  refine ld_labels (m := 32 * t2.val + 16 + t4.val) ((k0_off271_eq t2 t4).trans (by congr 1; omega)) hW fun y hy => ?_
  have hl : ∀ (r : ℕ) (hr : r < 16) (h hs hp), extractAt ![0] (extractStridedSlice S1 ![r] (shapeCast S16 y h) hs) hp = W (16 * (32 * t2.val + 16 + t4.val) + r) :=
    fun r hr h hs hp => (label_at y r h hs hp hr).trans (hy r hr)
  have hll : ∀ (r : ℕ) (hr : r < 16) (h hs hp), (extractAt ![0] (extractStridedSlice S1 ![r] (shapeCast S16 y h) hs) hp).toNat < 256 :=
    fun r hr h hs hp => (hl r hr h hs hp) ▸ hlt _
  refine st_check rfl (hll _ (by decide) _ _ _) fun _ => ?_
  repeat (first
    | with_reducible refine is_load (M := accV) ?_
      refine ld_acc ?_
    | with_reducible refine is_load (M := bufB) ?_
      refine ld_buf b hb ?_
    | with_reducible refine is_store ?_
      refine st_group hX (by decide) (by decide) rfl rfl rfl rfl ClosedOff.eq (hl _ (by decide) _ _ _) ?_
    | with_reducible refine is_check ?_
      refine st_next rfl (hll _ (by decide) _ _ _) fun _ => ?_
    | with_reducible refine twp_pure ?_
    | with_reducible refine last_load ?_
    | with_reducible refine last_store ?_
    | with_reducible refine twp_bind ?_
      refine is_bind ?_)
  iintro H; iexact H

end Steps

/-! ## The first and the last pass over the accumulator -/

/-- The accumulator `A` with `f` applied at the first `r` rows and the first `q` groups of the next. -/
def pass (f : F .f32 → F .f32) (A : S256x128.Idx → F .f32) (r q : ℕ) : S256x128.Idx → F .f32 := fun x =>
  if (x 0).val < r ∨ ((x 0).val = r ∧ (x 1).val < 16 * q) then f (A x) else A x

theorem pass_row (f : F .f32 → F .f32) (A : S256x128.Idx → F .f32) (r : ℕ) : pass f A r 8 = pass f A (r + 1) 0 := by
  funext x
  have hx : (x 1).val < 128 := (x 1).isLt
  unfold pass
  by_cases h : (x 0).val < r + 1
  · rw [if_pos (by omega), if_pos (by omega)]
  · rw [if_neg (by omega), if_neg (by omega)]

theorem pass_zero (f : F .f32 → F .f32) (A : S256x128.Idx → F .f32) : pass f A 0 0 = A := by
  funext x
  unfold pass
  rw [if_neg (by omega)]

theorem pass_all (f : F .f32 → F .f32) (A : S256x128.Idx → F .f32) : pass f A 256 0 = fun x => f (A x) := by
  funext x
  have hx : (x 0).val < 256 := (x 0).isLt
  unfold pass
  rw [if_pos (by omega)]

section Passes

variable {d : Dev nD} {L : grid0.Coords}
variable {B : Memref sig Kind.scVector Space.vmem S256x128 EltTy.f32} {g : Buf (Elt F) (B.view.loc (thr d L))}
variable {w : S4096.Idx → BitVec 32} {R : sProp (MM F)} {α β : Type} {Q : α → sProp (MM F)} {H : sProp (MM F)}

/-- One group of a pass. -/
theorem st_pass {f : F .f32 → F .f32} {A : S256x128.Idx → F .f32} {r q : ℕ} {off : Fin 2 → ℕ} {inb : ∀ a, off a + S1x16.size a ≤ S256x128.size a} {v : S1x16.Idx → F .f32}
    {hx : (accV.access (Rect.unit (s := S256x128) off S1x16.size inb)).Stores Finset.univ} {hm : Finset.univ = Finset.univ ∨ ∀ a, (Rect.unit (s := S256x128) off S1x16.size inb).stride a = 1}
    {k : PUnit → TProg F L α} (hoff : off = ![r, 16 * q])
    (hv : v = fun y => f (pass f A r q ((Rect.unit (s := S256x128) off S1x16.size inb).toLoadRect.idx y)))
    (h : St d L B g w R (pass f A r (q + 1)) ⊢ twp d L (k ⟨⟩) Q) :
    St d L B g w R (pass f A r q) ⊢ twp d L (Prog.lift (.store accV (Rect.unit (s := S256x128) off S1x16.size inb) v Finset.univ hx hm) >>= k) Q := by
  subst hoff hv
  refine st_acc (pass f A r (q + 1)) _ q rfl (fun x => ?_) h
  by_cases hc : (x 0).val = r ∧ (x 1).val / 16 = q
  · have e1 : (Rect.unit (s := S256x128) ![r, 16 * q] S1x16.size inb).toLoadRect.idx (ix2 0 ⟨(x 1).val % 16, Nat.mod_lt _ (by decide)⟩) = x :=
      funext fun a => match a with
        | 0 => Fin.ext (show r + 1 * 0 = (x 0).val by omega)
        | 1 => Fin.ext (show 16 * q + 1 * ((x 1).val % 16) = (x 1).val by omega)
    rw [dif_pos hc]
    beta_reduce
    rw [e1]
    unfold pass
    rw [if_pos (by omega), if_neg (by omega)]
  · rw [dif_neg hc]
    unfold pass
    by_cases h1 : (x 0).val < r ∨ ((x 0).val = r ∧ (x 1).val < 16 * q)
    · rw [if_pos h1, if_pos (by omega)]
    · rw [if_neg h1, if_neg (by omega)]

set_option maxRecDepth 65536 in
set_option maxHeartbeats 0 in
/-- A trip of the first pass: a row of the accumulator becomes minus infinity. -/
theorem trip1 {A : S256x128.Idx → F .f32} {s0 s1 s2 s3 : DmaSems sig S_} {h2 h3 h4 h5 h6 h7 h8} (t1 : Fin k0_t1_loop.trips) :
    St d L B g w R (pass (fun _ => ninf) A t1.val 0)
      ⊢ twp d L (k0_t1_body L dV h2 lV h3 oV h4 rowV h5 bufA h6 bufB h7 accV h8 s0 s1 s2 s3 t1 ()) (fun _ => St d L B g w R (pass (fun _ => ninf) A t1.val 8)) := by
  unfold k0_t1_body
  repeat (first
    | with_reducible refine is_load (M := accV) ?_
      refine ld_acc ?_
    | with_reducible refine is_store ?_
      refine st_pass ClosedOff.eq rfl ?_
    | with_reducible refine twp_pure ?_)
  iintro H; iexact H

set_option maxRecDepth 65536 in
set_option maxHeartbeats 0 in
/-- A trip of the last pass: minus infinity becomes zero along a row. -/
theorem trip5 {A : S256x128.Idx → F .f32} {s0 s1 s2 s3 : DmaSems sig S_} {h2 h3 h4 h5 h6 h7 h8} (t5 : Fin k0_t5_loop.trips) :
    St d L B g w R (pass fixV A t5.val 0)
      ⊢ twp d L (k0_t5_body L dV h2 lV h3 oV h4 rowV h5 bufA h6 bufB h7 accV h8 s0 s1 s2 s3 t5 ()) (fun _ => St d L B g w R (pass fixV A t5.val 8)) := by
  unfold k0_t5_body
  repeat (first
    | with_reducible refine is_load (M := accV) ?_
      refine ld_acc ?_
    | with_reducible refine is_store ?_
      refine st_pass ClosedOff.eq (fix_group _ _ _) ?_
    | with_reducible refine twp_pure ?_
    | with_reducible refine last_load ?_
    | with_reducible refine last_store ?_
    | with_reducible refine twp_bind ?_
      refine is_bind ?_)
  iintro H; iexact H

end Passes

end Cert.Proof.SegMax

end
-- ==== Proof.Copies.lean ====
/-
  The copies of a tile: a copy's start and its wait, as rules that keep the whole of the source's share; what a copied
  slice is; a loop by its invariant.
-/
module
public import proofs.«01_k».proof.Proof.Trips
public import Idealize.ShloMosaic.Lib.ValueLayout

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- What a tile owes: `O`, its waits being `W` and waits of its own copies. -/
def Owes (d : Dev nD) (L : grid0.Coords) (O : CellTallies nD τ sig (HIx 1)) (W : Waits sig (HIx 1)) : sProp (MM F) :=
  iprop(∃ W', ⌜∀ p ∈ W', p ∈ W ∨ p.2 = none⌝ ∗ owes (thr d L) O W')

section Copies

variable {d : Dev nD} {L : grid0.Coords} {α : Type} {Q : α → sProp (MM F)}

/-- A copy under way on the cell `sem`, which brings `D`. -/
abbrev Fl (d : Dev nD) (L : grid0.Coords) (sem : DmaSem sig) (N : ℕ) (D : sProp (MM F)) : sProp (MM F) :=
  Transfers.Flight countersEmb (thr d L) (.dma sem) (default : HIx 1) N D

/-- A copy under way brings what is set beside it too. -/
theorem Fl_frame {sem : DmaSem sig} {N : ℕ} {D E : sProp (MM F)} : iprop(Fl d L sem N D ∗ E) ⊢ Fl d L sem N iprop(D ∗ E) := by
  unfold Fl Transfers.Flight
  iintro ⟨⟨⟨%R, HR, %hcap, %hpeek⟩, Hcred⟩, HE⟩
  isplitl [HR HE]
  · iexists iprop(R ∗ E)
    isplitl [HR HE]
    · isplitl [HR]; · iexact HR
      iexact HE
    isplit
    · ipureintro
      intro K
      refine BIBase.Entails.trans ?_ (hcap K)
      iintro ⟨⟨HR, HE⟩, HK⟩
      isplitl [HR]; · iexact HR
      iintro ⟨Hv, HD⟩
      iapply HK
      isplitl [Hv]; · iexact Hv
      isplitl [HD]; · iexact HD
      iexact HE
    · ipureintro
      intro K
      refine BIBase.Entails.trans ?_ (hpeek K)
      iintro ⟨⟨HR, HE⟩, HK⟩
      isplitl [HR]; · iexact HR
      iintro HR
      iapply HK
      isplitl [HR]; · iexact HR
      iexact HE
  · iexact Hcred

/-- A copy's start: of a slice of a buffer of which a share is held over `S`, to a destination held over `T`. Both are
    what the copy brings back. -/
theorem start_copy {sp sp' : Space} {s : Shape} {e : EltTy} {src : Memref sig .scVector sp s e} {dst : Memref sig .scVector sp' s e} {sem : DmaSem sig}
    {hs : src.view.WordExact} {hd : dst.view.WordExact} {ht : DmaTarget.Typed (nD := nD) (τ := τ) (p := (thr d L).2) sp (.dma sem) (.here dst)}
    {k : PUnit → TProg F L α} {q : PosShare TreeShare} {fs : Buf (Elt F) (src.view.loc (thr d L))} {fd : Buf (Elt F) (dst.view.loc (thr d L))}
    {S : Finset (Idx (src.view.loc (thr d L)))} {T : Finset (Idx (dst.view.loc (thr d L)))} (hS : src.view.set ⊆ S) (hT : dst.view.set ⊆ T) (hN0 : 0 < dst.view.dmaCredit) :
    iprop((src.view.loc (thr d L) ↦[S]{q} fs) ∗ (dst.view.loc (thr d L) ↦[T]{fullShare} fd) ∗ semVal (thr d L, .dma sem) 0)
      ⊢ iprop((Fl d L sem dst.view.dmaCredit iprop((dst.view.loc (thr d L) ↦[T]{fullShare} (dst.view.write (Elt F) fd (src.view.read (Elt F) fs) Finset.univ))
            ∗ (src.view.loc (thr d L) ↦[S]{q} fs)) -∗ twp d L (k ⟨⟩) Q)
          -∗ twp d L (Prog.lift (.enqueueDma src (.here dst) (.dma sem) hs hd ht) >>= k) Q) := by
  iintro ⟨HS, HT, Hv⟩ HK
  ihave HS := (pointsTo_split_subset (q := q) (f := fs) hS).1 $$ HS
  icases HS with ⟨HS, HS'⟩
  iapply (Transfers.wp_dmaLocal countersEmb 𝒱₀ (thr d L) none (via := .same) (k := k) (default : HIx 1) dst.view.dmaCredit rfl hN0 hT) $$ [HS HT Hv]
  · isplitl [HS]; · iexact HS
    isplitl [HT]; · iexact HT
    iexact Hv
  iintro HF
  iapply HK
  ihave HF := (Fl_frame (d := d) (L := L)) $$ [HF HS']
  · isplitl [HF]; · iexact HF
    iexact HS'
  iapply (Transfers.Flight_mono countersEmb (thr d L) _) $$ HF
  iintro ⟨⟨HT, HS⟩, HS'⟩
  isplitl [HT]; · iexact HT
  iapply (pointsTo_split_subset (q := q) (f := fs) hS).2
  isplitl [HS]; · iexact HS
  iexact HS'

/-- A copy's wait. -/
theorem wait_copy {sp sp' : Space} {s s' : Shape} {e e' : EltTy} {src : Memref sig .scVector sp s e} {dst : Memref sig .scVector sp' s' e'} {sem : DmaSem sig}
    {hs : src.view.WordExact} {hd : dst.view.WordExact} {k : PUnit → TProg F L α} {D : sProp (MM F)}
    {O : CellTallies nD τ sig (HIx 1)} {W : Waits sig (HIx 1)} (hO : ∀ g, O g none = 0) :
    iprop(levAts (K (F := F)).L (K (F := F)).lev ∗ Fl d L sem dst.view.dmaCredit D ∗ Owes d L O W)
      ⊢ iprop((iprop(D ∗ semVal (thr d L, .dma sem) 0 ∗ Owes d L O W) -∗ twp d L (k ⟨⟩) Q)
          -∗ twp d L (Prog.lift (.waitDma2 sem src dst hs hd) >>= k) Q) := by
  unfold Owes
  iintro ⟨#Hlv, HF, ⟨%W', %hW', HO⟩⟩ HK
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (k := k) (default : HIx 1) (rfl : dst.view.dmaCredit = _)) $$ [HF HO]
  · isplitl [HF]; · iexact HF
    isplitl [HO]; · iexact HO
    iapply (Transfers.MayWaits.elim (SemLoc.dma sem)) $$ Hmw
  iintro ⟨HD, Hv, HO⟩
  iapply HK
  isplitl [HD]; · iexact HD
  isplitl [Hv]; · iexact Hv
  iexists _; isplitr
  swap; · iexact HO
  ipureintro; intro p hp
  rcases Finset.mem_insert.mp hp with hp | hp
  · exact .inr (hp ▸ rfl)
  · exact hW' p hp

/-- A counted loop without carried values, by its invariant. -/
theorem loop_inv {l : Scf.Loop 32} {hok : l.OK} {body : Fin l.trips → Unit → TProg F L Unit} {k : Unit → TProg F L α} (I : ℕ → sProp (MM F))
    (hbody : ∀ t : Fin l.trips, I t.val ⊢ twp d L (body t ()) (fun _ => I (t.val + 1))) :
    I 0 ⊢ iprop((I l.trips -∗ twp d L (k ()) Q) -∗ twp d L (Scf.Loop.for l hok ⟨⟩ body >>= k) Q) := by
  iintro HI HK
  iapply (Scf.wp_for_bind frame (wpE (defs₀ (F := F)) 𝒱₀ (thr d L) none) Set.univ l.lb l.ub l.st hok () body (fun n _ => I n) (fun t _ => hbody t)) $$ HI
  iintro %acc HI
  iapply HK
  iexact HI

end Copies

/-! ## What a slice reads -/

/-- The chunk of the data that starts at row `n`: 256 rows of the half `c` of the columns of batch row `j`. -/
def chunk (dat : S16x4096x256.Idx → F .f32) (j : Fin 16) (c : Fin 2) (n : ℕ) : S256x128.Idx → F .f32 := fun x => datV dat j c (n + (x 0).val) (x 1)

theorem read_chunk (dat : S16x4096x256.Idx → F .f32) (j : Fin 16) (c : Fin 2) (n : ℕ) {off : Fin 3 → ℕ} {inb : ∀ a, off a + S1x256x128.size a ≤ S16x4096x256.size a} {hst hsq}
    (hoff : off = ![j.val, n, 128 * c.val]) :
    (Memref.squeeze (Memref.slice dV (Rect.unit (s := S16x4096x256) off S1x256x128.size inb) hst) S256x128 hsq).view.read (Elt F) dat = chunk dat j c n := by
  subst hoff
  have hn : n + 256 ≤ 4096 := inb 1
  funext x
  obtain ⟨x, y, rfl⟩ : ∃ (a : Fin 256) (b : Fin 128), x = ix2 a b := ⟨x 0, x 1, funext fun a => match a with | 0 => rfl | 1 => rfl⟩
  have hx : x.val < 256 := x.isLt
  have hy : y.val < 128 := y.isLt
  refine (View.read_apply _ _).trans ((cast_eq _ _).trans ?_)
  show _ = datV dat j c (n + x.val) y
  unfold datV
  rw [dif_pos (by omega)]
  refine congrArg dat ?_
  refine (congrArg (Rect.unit (s := S16x4096x256) ![j.val, n, 128 * c.val] S1x256x128.size inb).emb (ValueIdx.reshapeEquiv_ix2_1ab hsq.numel_eq x y)).trans ?_
  refine Rect.emb_eq_of_coords _ _ _ fun a => ?_
  match a with
  | 0 => show j.val = j.val + 1 * 0; omega
  | 1 => show n + x.val = n + 1 * x.val; omega
  | 2 => show 128 * c.val + y.val = 128 * c.val + 1 * y.val; omega

/-- The row of labels. -/
theorem read_labels (lab : S16x4096.Idx → BitVec 32) (j : Fin 16) {off : Fin 2 → ℕ} {inb : ∀ a, off a + S1x4096.size a ≤ S16x4096.size a} {hst hsq}
    (hoff : off = ![j.val, 0]) (n : Fin 4096) :
    (Memref.squeeze (Memref.slice lV (Rect.unit (s := S16x4096) off S1x4096.size inb) hst) S4096 hsq).view.read (Elt F) lab (ix1 n) = labW lab j n.val := by
  subst hoff
  refine (View.read_apply _ _).trans ((cast_eq _ _).trans ?_)
  unfold labW
  rw [dif_pos n.isLt]
  refine congrArg lab ?_
  have e : Shape.reshapeEquiv hsq.numel_eq (ix1 n) = (ix2 (0 : Fin 1) n : S1x4096.Idx) := Shape.reshapeEquiv_eq_of_rowMajor hsq.numel_eq (by
    rw [Shape.rowMajor_val_two, Shape.rowMajor_val_one]
    show 0 * 4096 + n.val = n.val
    omega)
  refine (congrArg (Rect.unit (s := S16x4096) ![j.val, 0] S1x4096.size inb).emb e).trans ?_
  refine Rect.emb_eq_of_coords _ _ _ fun a => ?_
  match a with
  | 0 => show j.val = j.val + 1 * 0; omega
  | 1 => show n.val = 0 + 1 * n.val; omega

end Cert.Proof.SegMax

end
-- ==== Proof.Tile.lean ====
/-
  A tile's whole task, from its operands to its block of the result, the value carried along: the labels' row fetched, the
  accumulator set to minus infinity, the sixteen chunks of data folded in (each fetched while the one before is
  folded), minus infinity made zero, the accumulator copied out.
-/
module
public import proofs.«01_k».proof.Proof.Copies

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Tile

variable (d : Dev nD) (L : grid0.Coords)
variable (dat : S16x4096x256.Idx → F .f32) (lab : S16x4096.Idx → BitVec 32)

/-- The labels and the columns of the tile at `L`. -/
abbrev Wt : ℕ → BitVec 32 := labW lab (jL L)
abbrev Xt : ℕ → Fin 128 → F .f32 := datV dat (jL L) (cL L)
abbrev chunkT (n : ℕ) : S256x128.Idx → F .f32 := chunk dat (jL L) (cL L) n

theorem grp_next (W : ℕ → BitVec 32) (X : ℕ → Fin 128 → F .f32) (m : ℕ) : grp W X m 15 8 = grp W X (m + 1) 0 0 := by
  rw [grp_row]
  unfold grp
  rfl

theorem hX_chunk (dat : S16x4096x256.Idx → F .f32) (n t m : ℕ) (hm : n + 16 * t = 16 * m) (r : ℕ) (x : S256x128.Idx) (_ : r < 16) (hx : (x 0).val = 16 * t + r) :
    chunkT L dat n x = Xt L dat (16 * m + r) (x 1) := by
  show datV dat _ _ (n + (x 0).val) (x 1) = _
  rw [show n + (x 0).val = 16 * m + r by omega]

variable {d L dat lab}
variable {w : S4096.Idx → BitVec 32} {α : Type} {Q : α → sProp (MM F)}

/-- A tile's share of the data. -/
abbrev dPts (d : Dev nD) (L : grid0.Coords) (dat : S16x4096x256.Idx → F .f32) (q : PosShare TreeShare) : sProp (MM F) :=
  dV.view.loc (thr d L) ↦{q} (dat : Buf (Elt F) (dV.view.loc (thr d L)))

/-- A buffer of a tile at contents given as a function of its indices. -/
abbrev bPts (d : Dev nD) (L : grid0.Coords) (B : Memref sig Kind.scVector Space.vmem S256x128 EltTy.f32) (g : Buf (Elt F) (B.view.loc (thr d L))) : sProp (MM F) :=
  B.view.loc (thr d L) ↦{fullShare} g

/-- A fetch of a chunk. -/
theorem fetch {B : Memref sig Kind.scVector Space.vmem S256x128 EltTy.f32} {sem : DmaSem sig} {n : ℕ} {off : Fin 3 → ℕ} {inb : ∀ a, off a + S1x256x128.size a ≤ S16x4096x256.size a}
    {hst hsq} {hs hd ht} {k : PUnit → TProg F L α} {q : PosShare TreeShare}
    (hoff : off = ![(jL L).val, n, 128 * (cL L).val]) {g g' : Buf (Elt F) (B.view.loc (thr d L))} (hg : B.view.write (Elt F) g (chunkT L dat n) Finset.univ = g')
    (hN : 0 < B.view.dmaCredit) :
    iprop(dPts d L dat q ∗ bPts d L B g ∗ semVal (thr d L, .dma sem) 0)
      ⊢ iprop((Fl d L sem B.view.dmaCredit iprop(bPts d L B g' ∗ dPts d L dat q) -∗ twp d L (k ⟨⟩) Q)
          -∗ twp d L (Prog.lift (.enqueueDma (Memref.squeeze (Memref.slice dV (Rect.unit (s := S16x4096x256) off S1x256x128.size inb) hst) S256x128 hsq) (.here B) (.dma sem) hs hd ht) >>= k) Q) := by
  have h := start_copy (d := d) (L := L) (src := Memref.squeeze (Memref.slice dV (Rect.unit (s := S16x4096x256) off S1x256x128.size inb) hst) S256x128 hsq) (dst := B)
    (sem := sem) (hs := hs) (hd := hd) (ht := ht) (k := k) (Q := Q) (q := q) (fs := dat) (fd := g) (S := Finset.univ) (T := Finset.univ) (Finset.subset_univ _) (Finset.subset_univ _) hN
  rw [read_chunk dat (jL L) (cL L) n hoff, hg] at h
  exact h

/-- The loop over a pair of chunks has one more pair to fetch exactly when it is not at its last trip. -/
theorem cond_iff : ∀ t : Fin k0_t2_loop.trips, k0_cond1 t = 1#1 ↔ t.val + 1 < 8 := by decide +kernel

variable {O : CellTallies nD τ sig (HIx 1)} {W : Waits sig (HIx 1)}

/-- What the first buffer holds at trip `k` of the loop over pairs of chunks: its next chunk on the way, or after the last trip nothing. -/
def firstAt (d : Dev nD) (L : grid0.Coords) (dat : S16x4096x256.Idx → F .f32) (q : PosShare TreeShare) (k : ℕ) : sProp (MM F) :=
  if k < 8 then Fl d L cc0_scratch4.sem bufA.view.dmaCredit iprop(bPts d L bufA (chunkT L dat (512 * k)) ∗ dPts d L dat q)
  else iprop((∃ g, bPts d L bufA g) ∗ dPts d L dat q ∗ semVal (thr d L, .dma cc0_scratch4.sem) 0)

/-- Between the trips of the loop over pairs of chunks: `512 k` rows folded in. -/
def pairInv (d : Dev nD) (L : grid0.Coords) (dat : S16x4096x256.Idx → F .f32) (lab : S16x4096.Idx → BitVec 32) (w : S4096.Idx → BitVec 32)
    (O : CellTallies nD τ sig (HIx 1)) (W : Waits sig (HIx 1)) (qa qb : PosShare TreeShare) (k : ℕ) : sProp (MM F) :=
  iprop(levAts (K (F := F)).L (K (F := F)).lev ∗ bPts d L accV (grp (Wt L lab) (Xt L dat) (32 * k) 0 0)
    ∗ (rowV.view.loc (thr d L) ↦{fullShare} (w : Buf (Elt F) (rowV.view.loc (thr d L)))) ∗ firstAt d L dat qa k
    ∗ (∃ g, bPts d L bufB g) ∗ dPts d L dat qb ∗ semVal (thr d L, .dma cc0_scratch5.sem) 0 ∗ Owes d L O W)

set_option maxRecDepth 65536 in
set_option maxHeartbeats 0 in
/-- A trip of the loop over pairs of chunks. -/
theorem pair_trip {h2 h3 h4 h5 h6 h7 h8} {s2 s3 : DmaSems sig S_} {qa qb : PosShare TreeShare} (hO : ∀ g, O g none = 0) (hlt : ∀ n, (Wt L lab n).toNat < 256)
    (hW : ∀ n : Fin 4096, w (ix1 n) = Wt L lab n.val) (t : Fin k0_t2_loop.trips) :
    pairInv d L dat lab w O W qa qb t.val
      ⊢ twp d L (k0_t2_body L dV h2 lV h3 oV h4 rowV h5 bufA h6 bufB h7 accV h8 cc0_scratch4 cc0_scratch5 s2 s3 t ()) (fun _ => pairInv d L dat lab w O W qa qb (t.val + 1)) := by
  have ht : t.val < 8 := t.isLt
  unfold k0_t2_body
  obtain ⟨QQ, hQ⟩ : ∃ QQ, QQ = pairInv d L dat lab w O W qa qb (t.val + 1) := ⟨_, rfl⟩
  rw [← hQ]
  unfold pairInv
  rw [show firstAt d L dat qa t.val = Fl d L cc0_scratch4.sem bufA.view.dmaCredit iprop(bPts d L bufA (chunkT L dat (512 * t.val)) ∗ dPts d L dat qa) from if_pos ht]
  iintro ⟨#Hlv, HA, Hw, HF, ⟨%gB, HB⟩, Hd, Hs, HO⟩
  iapply (wait_copy hO) $$ [HF HO]
  · isplitr; · iexact Hlv
    isplitl [HF]; · iexact HF
    iexact HO
  iintro ⟨⟨HbA, HdA⟩, HsA, HO⟩
  iapply (fetch (d := d) (L := L) (dat := dat) (B := bufB) (q := qb) (n := 512 * t.val + 256) (k0_off12_eq L t) (g' := chunkT L dat (512 * t.val + 256)) (View.write_whole_univ _ _ _) (by decide)) $$ [Hd HB Hs]
  · isplitl [Hd]; · iexact Hd
    isplitl [HB]; · iexact HB
    iexact Hs
  iintro HF
  iapply (loop_inv (fun m => St d L bufA (chunkT L dat (512 * t.val)) w iprop(emp) (grp (Wt L lab) (Xt L dat) (32 * t.val + m) 0 0)) (fun u => by
    rw [show 32 * t.val + (u.val + 1) = 32 * t.val + u.val + 1 from rfl, ← grp_next]
    exact trip3 t u (b := chunkT L dat (512 * t.val)) rfl hlt hW (hX_chunk L dat (512 * t.val) u.val (32 * t.val + u.val) (by omega)))) $$ [HA HbA Hw]
  · unfold St
    isplitl [HA]; · iexact HA
    isplitl [HbA]; · iexact HbA
    isplitl [Hw]; · iexact Hw
    itrivial
  unfold St
  iintro ⟨HA, HbA, Hw, -⟩
  iapply (wait_copy hO) $$ [HF HO]
  · isplitr; · iexact Hlv
    isplitl [HF]; · iexact HF
    iexact HO
  iintro ⟨⟨HB, Hd⟩, Hs, HO⟩
  have key : iprop(levAts (K (F := F)).L (K (F := F)).lev ∗ bPts d L accV (grp (Wt L lab) (Xt L dat) (32 * t.val + 16) 0 0)
      ∗ (rowV.view.loc (thr d L) ↦{fullShare} (w : Buf (Elt F) (rowV.view.loc (thr d L)))) ∗ firstAt d L dat qa (t.val + 1)
      ∗ bPts d L bufB (chunkT L dat (512 * t.val + 256)) ∗ dPts d L dat qb ∗ semVal (thr d L, .dma cc0_scratch5.sem) 0 ∗ Owes d L O W)
      ⊢ twp d L (Scf.Loop.for k0_t4_loop k0_t4_ok ⟨⟩ (k0_t4_body L dV h2 lV h3 oV h4 rowV h5 bufA h6 bufB h7 accV h8 cc0_scratch4 cc0_scratch5 s2 s3 t
            (Scalar.muli (Scalar.addi (Scalar.muli 2#32 (Scf.iv 0#32 1#32 t.val)) 1#32) 256#32)) >>= fun _ => (pure PUnit.unit : TProg F L Unit))
          (fun _ => QQ) := by
    iintro ⟨#Hlv, HA, Hw, HF, HB, Hd, Hs, HO⟩
    iapply (loop_inv (fun m => St d L bufB (chunkT L dat (512 * t.val + 256)) w iprop(emp) (grp (Wt L lab) (Xt L dat) (32 * t.val + 16 + m) 0 0)) (fun u => by
      rw [show 32 * t.val + 16 + (u.val + 1) = 32 * t.val + 16 + u.val + 1 from rfl, ← grp_next]
      exact trip4 t u (b := chunkT L dat (512 * t.val + 256)) rfl hlt hW (hX_chunk L dat (512 * t.val + 256) u.val (32 * t.val + 16 + u.val) (by omega)))) $$ [HA HB Hw]
    · unfold St
      isplitl [HA]; · iexact HA
      isplitl [HB]; · iexact HB
      isplitl [Hw]; · iexact Hw
      itrivial
    unfold St
    iintro ⟨HA, HB, Hw, -⟩
    iapply (twp_pure (d := d) (L := L) (H := QQ) (x := ()) (Q := fun _ => QQ) (BI.Entails.refl _))
    rw [hQ]
    unfold pairInv
    isplitr; · iexact Hlv
    isplitl [HA]; · iexact HA
    isplitl [Hw]; · iexact Hw
    isplitl [HF]; · iexact HF
    isplitl [HB]; · iexists _; iexact HB
    isplitl [Hd]; · iexact Hd
    isplitl [Hs]; · iexact Hs
    iexact HO
  by_cases hc : k0_cond1 t = 1#1
  · simp only [dif_pos hc]
    iapply (fetch (d := d) (L := L) (dat := dat) (B := bufA) (q := qa) (n := 512 * (t.val + 1)) ((k0_off270_eq L t).trans (by congr 1)) (g' := chunkT L dat (512 * (t.val + 1))) (View.write_whole_univ _ _ _) (by decide)) $$ [HdA HbA HsA]
    · isplitl [HdA]; · iexact HdA
      isplitl [HbA]; · iexact HbA
      iexact HsA
    iintro HF
    ihave HF := (Entails.of_eq (show Fl d L cc0_scratch4.sem bufA.view.dmaCredit iprop(bPts d L bufA (chunkT L dat (512 * (t.val + 1))) ∗ dPts d L dat qa) = firstAt d L dat qa (t.val + 1)
      from (if_pos ((cond_iff t).mp hc)).symm)) $$ HF
    iapply key
    isplitr; · iexact Hlv
    isplitl [HA]; · iexact HA
    isplitl [Hw]; · iexact Hw
    isplitl [HF]; · iexact HF
    isplitl [HB]; · iexact HB
    isplitl [Hd]; · iexact Hd
    isplitl [Hs]; · iexact Hs
    iexact HO
  · simp only [dif_neg hc]
    iapply key
    isplitr; · iexact Hlv
    isplitl [HA]; · iexact HA
    isplitl [Hw]; · iexact Hw
    isplitl [HbA HdA HsA]
    · iapply (Entails.of_eq (show iprop((∃ g, bPts d L bufA g) ∗ dPts d L dat qa ∗ semVal (thr d L, .dma cc0_scratch4.sem) 0) = firstAt d L dat qa (t.val + 1)
        from (if_neg (fun h => hc ((cond_iff t).mpr h))).symm))
      isplitl [HbA]; · iexists _; iexact HbA
      isplitl [HdA]; · iexact HdA
      iexact HsA
    isplitl [HB]; · iexact HB
    isplitl [Hd]; · iexact Hd
    isplitl [Hs]; · iexact Hs
    iexact HO

end Tile

end Cert.Proof.SegMax

end
-- ==== Proof.Body.lean ====
/-
  A tile's whole task: from a share of the data, a share of the labels and its block of the result to the same with the block at the
  segments' maxima.
-/
module
public import proofs.«01_k».proof.Proof.Tile

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The result -/

/-- One column of the data along the rows of a batch row. -/
def colV (dat : S16x4096x256.Idx → F .f32) (j : Fin 16) (x : Fin 256) (n : ℕ) : F .f32 :=
  if h : n < 4096 then dat (ix3 j ⟨n, h⟩ x) else ninf

/-- The kernel's result: of each segment and column the maximum over the segment's rows, an empty segment's made zero. -/
def segMaxV (dat : S16x4096x256.Idx → F .f32) (lab : S16x4096.Idx → BitVec 32) : S16x256x256.Idx → F .f32 := fun x =>
  fixV (segAt (labW lab (x 0)) (colV dat (x 0) (x 2)) (x 1).val 4096)

/-- Column `y` of the half `c`, among all. -/
abbrev colIx (c : Fin 2) (y : Fin 128) : Fin 256 := ⟨128 * c.val + y.val, by omega⟩

/-- The block of the result that the tile of half `c` and batch row `j` writes. -/
def oSet (c : Fin 2) (j : Fin 16) : Finset S16x256x256.Idx := Finset.univ.filter fun x => (x 0).val = j.val ∧ (x 2).val / 128 = c.val

/-- A tile's block of the result as it names it. -/
abbrev oBlk (off : Fin 3 → ℕ) (inb : ∀ a, off a + S1x256x128.size a ≤ S16x256x256.size a)
    (hst : ∀ a, (Rect.unit (s := S16x256x256) off S1x256x128.size inb).stride a = 1) (hsq : S1x256x128.Squeezes S256x128) : Memref sig Kind.scVector Space.hbm S256x128 EltTy.f32 :=
  Memref.squeeze (Memref.slice oV (Rect.unit (s := S16x256x256) off S1x256x128.size inb) hst) S256x128 hsq

section Block

variable {j : Fin 16} {c : Fin 2} {off : Fin 3 → ℕ} {inb : ∀ a, off a + S1x256x128.size a ≤ S16x256x256.size a} {hst hsq}

theorem oBlk_emb (hoff : off = ![j.val, 0, 128 * c.val]) (x : Fin 256) (y : Fin 128) :
    (oBlk off inb hst hsq).view.emb (ix2 x y) = (ix3 j x (colIx c y) : S16x256x256.Idx) := by
  subst hoff
  refine (congrArg (Rect.unit (s := S16x256x256) ![j.val, 0, 128 * c.val] S1x256x128.size inb).emb (ValueIdx.reshapeEquiv_ix2_1ab hsq.numel_eq x y)).trans ?_
  refine Rect.emb_eq_of_coords _ _ _ fun a => ?_
  match a with
  | 0 => show j.val = j.val + 1 * 0; omega
  | 1 => show x.val = 0 + 1 * x.val; omega
  | 2 => show 128 * c.val + y.val = 128 * c.val + 1 * y.val; omega

theorem oBlk_set (hoff : off = ![j.val, 0, 128 * c.val]) : (oBlk off inb hst hsq).view.set ⊆ oSet c j := by
  subst hoff
  show (((View.whole (main_v0_scv : Ref sig .scVector)).slice _).reshape _ _).set ⊆ _
  rw [View.set_reshape, View.set_slice]
  intro x hx
  obtain ⟨x', hx', rfl⟩ := Finset.mem_map.mp hx
  have h := Rect.mem_set_unit.mp hx'
  have h0 := h 0
  have h2 := h 2
  refine Finset.mem_filter.mpr ⟨Finset.mem_univ _, ?_⟩
  change (x' 0).val = j.val ∧ (x' 2).val / 128 = c.val
  have h0' : j.val ≤ (x' 0).val ∧ (x' 0).val < j.val + 1 := h0
  have h2' : 128 * c.val ≤ (x' 2).val ∧ (x' 2).val < 128 * c.val + 128 := h2
  omega

/-- The copied-out accumulator on its block is the result. -/
theorem oBlk_write (hoff : off = ![j.val, 0, 128 * c.val]) (dat : S16x4096x256.Idx → F .f32) (lab : S16x4096.Idx → BitVec 32) (f : S16x256x256.Idx → F .f32) {x : S16x256x256.Idx}
    (hx : x ∈ oSet c j) :
    (oBlk off inb hst hsq).view.write (Elt F) f (fun y => fixV (accAt (labW lab j) (datV dat j c) 4096 0 y)) Finset.univ x = segMaxV dat lab x := by
  obtain ⟨a, b, z, rfl⟩ : ∃ (a : Fin 16) (b z : Fin 256), x = ix3 a b z := ⟨x 0, x 1, x 2, funext fun i => match i with | 0 => rfl | 1 => rfl | 2 => rfl⟩
  obtain ⟨h0, h2⟩ : a.val = j.val ∧ z.val / 128 = c.val := (Finset.mem_filter.mp hx).2
  obtain rfl : a = j := Fin.ext h0
  obtain ⟨y, rfl⟩ : ∃ y : Fin 128, z = colIx c y := ⟨⟨z.val % 128, Nat.mod_lt _ (by decide)⟩, Fin.ext (by show z.val = 128 * c.val + z.val % 128; omega)⟩
  rw [← oBlk_emb (inb := inb) (hst := hst) (hsq := hsq) hoff b y]
  refine (View.write_emb_of_mem _ _ (Finset.mem_univ _)).trans ?_
  rw [oBlk_emb hoff]
  rfl

end Block

/-! ## The task -/

section Task

variable {d : Dev nD} {L : grid0.Coords} {dat : S16x4096x256.Idx → F .f32} {lab : S16x4096.Idx → BitVec 32} {α : Type} {Q : α → sProp (MM F)}
variable {O : CellTallies nD τ sig (HIx 1)} {W : Waits sig (HIx 1)}

/-- A tile's share of the labels, and its block of the result. -/
abbrev lPts (d : Dev nD) (L : grid0.Coords) (lab : S16x4096.Idx → BitVec 32) (q : PosShare TreeShare) : sProp (MM F) :=
  lV.view.loc (thr d L) ↦{q} (lab : Buf (Elt F) (lV.view.loc (thr d L)))
abbrev oPts (d : Dev nD) (L : grid0.Coords) (f : S16x256x256.Idx → F .f32) : sProp (MM F) :=
  oV.view.loc (thr d L) ↦[oSet (cL L) (jL L)]{fullShare} (f : Buf (Elt F) (oV.view.loc (thr d L)))
/-- The row of labels in a tile's scratch. -/
abbrev rPts (d : Dev nD) (L : grid0.Coords) (w : S4096.Idx → BitVec 32) : sProp (MM F) :=
  rowV.view.loc (thr d L) ↦{fullShare} (w : Buf (Elt F) (rowV.view.loc (thr d L)))

/-- The fetch of the row of labels. -/
theorem fetch_row {sem : DmaSem sig} {off : Fin 2 → ℕ} {inb : ∀ a, off a + S1x4096.size a ≤ S16x4096.size a} {hst hsq} {hs hd ht} {k : PUnit → TProg F L α}
    {q : PosShare TreeShare} (hoff : off = ![(jL L).val, 0]) {w₀ : S4096.Idx → BitVec 32} :
    iprop(lPts d L lab q ∗ rPts d L w₀ ∗ semVal (thr d L, .dma sem) 0)
      ⊢ iprop((Fl d L sem rowV.view.dmaCredit iprop((∃ w, ⌜∀ n : Fin 4096, w (ix1 n) = Wt L lab n.val⌝ ∗ rPts d L w) ∗ lPts d L lab q) -∗ twp d L (k ⟨⟩) Q)
          -∗ twp d L (Prog.lift (.enqueueDma (Memref.squeeze (Memref.slice lV (Rect.unit (s := S16x4096) off S1x4096.size inb) hst) S4096 hsq) (.here rowV) (.dma sem) hs hd ht) >>= k) Q) := by
  iintro H HK
  iapply (start_copy (d := d) (L := L) (src := Memref.squeeze (Memref.slice lV (Rect.unit (s := S16x4096) off S1x4096.size inb) hst) S4096 hsq) (dst := rowV)
    (sem := sem) (q := q) (fs := lab) (fd := w₀) (S := Finset.univ) (T := Finset.univ) (Finset.subset_univ _) (Finset.subset_univ _) (by decide)) $$ H
  iintro HF
  iapply HK
  iapply (Transfers.Flight_mono countersEmb (thr d L) _) $$ HF
  iintro ⟨Hr, Hl⟩
  isplitl [Hr]
  · iexists _; isplitr
    swap; · iexact Hr
    ipureintro
    intro n
    rw [View.write_whole_univ]
    exact read_labels lab (jL L) hoff n
  iexact Hl

/-- The copy of the accumulator to the tile's block of the result. -/
theorem store_block {sem : DmaSem sig} {off : Fin 3 → ℕ} {inb : ∀ a, off a + S1x256x128.size a ≤ S16x256x256.size a} {hst hsq} {hs hd ht} {k : PUnit → TProg F L α}
    (hoff : off = ![(jL L).val, 0, 128 * (cL L).val]) {f : S16x256x256.Idx → F .f32} {A : S256x128.Idx → F .f32} (hA : A = fun y => fixV (accAt (Wt L lab) (Xt L dat) 4096 0 y))
    (hN : 0 < (oBlk off inb hst hsq).view.dmaCredit) :
    iprop(bPts d L accV A ∗ oPts d L f ∗ semVal (thr d L, .dma sem) 0)
      ⊢ iprop((Fl d L sem (oBlk off inb hst hsq).view.dmaCredit iprop(oPts d L (segMaxV dat lab) ∗ bPts d L accV A) -∗ twp d L (k ⟨⟩) Q)
          -∗ twp d L (Prog.lift (.enqueueDma accV (.here (oBlk off inb hst hsq)) (.dma sem) hs hd ht) >>= k) Q) := by
  have h := start_copy (d := d) (L := L) (src := accV) (dst := oBlk off inb hst hsq) (sem := sem) (hs := hs) (hd := hd) (ht := ht) (k := k) (Q := Q) (q := fullShare) (fs := A) (fd := f)
    (S := Finset.univ) (T := oSet (cL L) (jL L)) (Finset.subset_univ _) (oBlk_set hoff) hN
  subst hA
  have e : (oV.view.loc (thr d L) ↦[oSet (cL L) (jL L)]{fullShare} ((oBlk off inb hst hsq).view.write (Elt F) f (fun y => fixV (accAt (Wt L lab) (Xt L dat) 4096 0 y)) Finset.univ) : sProp (MM F))
      = oPts d L (segMaxV dat lab) := pointsTo_congr fun x hx => oBlk_write hoff dat lab f hx
  rw [← e]
  exact h

/-- What a tile holds of its own throughout: the labels' and the chunks' shares. -/
abbrev reads (d : Dev nD) (L : grid0.Coords) (dat : S16x4096x256.Idx → F .f32) (lab : S16x4096.Idx → BitVec 32) (qa qb ql : PosShare TreeShare) : sProp (MM F) :=
  iprop(dPts d L dat qa ∗ dPts d L dat qb ∗ lPts d L lab ql)

theorem ninf_grp (W : ℕ → BitVec 32) (X : ℕ → Fin 128 → F .f32) (A : S256x128.Idx → F .f32) : pass (fun _ => ninf) A 256 0 = grp W X (32 * 0) 0 0 := by
  rw [pass_all]
  funext x
  unfold grp accAt
  rw [if_neg (by omega)]
  rfl

set_option maxRecDepth 65536 in
set_option maxHeartbeats 0 in
/-- A tile's task up to the start of the copy of its result. -/
theorem seg_part {h2 h3 h4 h5 h6 h7 h8} {qa qb ql : PosShare TreeShare} {f : S16x256x256.Idx → F .f32} (hO : ∀ g, O g none = 0) (hlt : ∀ n, (Wt L lab n).toNat < 256)
    {gA gB gC : S256x128.Idx → F .f32} {w₀ : S4096.Idx → BitVec 32} :
    iprop(levAts (K (F := F)).L (K (F := F)).lev ∗ reads d L dat lab qa qb ql ∗ oPts d L f ∗ rPts d L w₀ ∗ bPts d L bufA gA ∗ bPts d L bufB gB ∗ bPts d L accV gC
        ∗ semVal (thr d L, .dma cc0_scratch4.sem) 0 ∗ semVal (thr d L, .dma cc0_scratch5.sem) 0 ∗ semVal (thr d L, .dma cc0_scoped0.sem) 0 ∗ semVal (thr d L, .dma cc0_scoped1.sem) 0
        ∗ Owes d L O W)
      ⊢ twp d L (k0_part71 L dV h2 lV h3 oV h4 rowV h5 bufA h6 bufB h7 accV h8 cc0_scratch4 cc0_scratch5 cc0_scoped0 cc0_scoped1)
          (fun _ => iprop(reads d L dat lab qa qb ql
            ∗ (∃ A, Fl d L cc0_scoped1.sem (oBlk (k0_off536 L) (k0_off536_inb L) (fun _ => rfl) squeezes_S1x256x128_S256x128).view.dmaCredit
                iprop(oPts d L (segMaxV dat lab) ∗ bPts d L accV A))
            ∗ (∃ w, rPts d L w) ∗ (∃ g, bPts d L bufA g) ∗ (∃ g, bPts d L bufB g)
            ∗ semVal (thr d L, .dma cc0_scratch4.sem) 0 ∗ semVal (thr d L, .dma cc0_scratch5.sem) 0 ∗ semVal (thr d L, .dma cc0_scoped0.sem) 0 ∗ Owes d L O W)) := by
  rw [k0_part71_eq_skeleton]
  unfold k0_part71_skel reads
  iintro ⟨#Hlv, ⟨Hda, Hdb, Hl⟩, Ho, Hr, HbA, HbB, HA, Hs4, Hs5, Hs0, Hs1, HO⟩
  iapply (fetch_row (d := d) (L := L) (lab := lab) (q := ql) (k0_off1_eq L)) $$ [Hl Hr Hs0]
  · isplitl [Hl]; · iexact Hl
    isplitl [Hr]; · iexact Hr
    iexact Hs0
  iintro HF
  iapply (wait_copy hO) $$ [HF HO]
  · isplitr; · iexact Hlv
    isplitl [HF]; · iexact HF
    iexact HO
  iintro ⟨⟨⟨%w, %hW, Hr⟩, Hl⟩, Hs0, HO⟩
  iapply (loop_inv (fun m => St d L bufA gA w iprop(emp) (pass (fun _ => ninf) gC m 0)) (fun u => by
    rw [← pass_row]
    exact trip1 u)) $$ [HA HbA Hr]
  · unfold St
    rw [pass_zero]
    isplitl [HA]; · iexact HA
    isplitl [HbA]; · iexact HbA
    isplitl [Hr]; · iexact Hr
    itrivial
  rw [show k0_t1_loop.trips = 256 from rfl, ninf_grp (Wt L lab) (Xt L dat)]
  unfold St
  iintro ⟨HA, HbA, Hr, -⟩
  iapply (fetch (d := d) (L := L) (dat := dat) (B := bufA) (q := qa) (n := 512 * 0) (k0_off10_eq L) (g' := chunkT L dat (512 * 0)) (View.write_whole_univ _ _ _) (by decide)) $$ [Hda HbA Hs4]
  · isplitl [Hda]; · iexact Hda
    isplitl [HbA]; · iexact HbA
    iexact Hs4
  iintro HF
  iapply (loop_inv (fun m => pairInv d L dat lab w O W qa qb m) (fun u => pair_trip hO hlt hW u)) $$ [HA HF HbB Hr Hdb Hs5 HO]
  · unfold pairInv
    isplitr; · iexact Hlv
    isplitl [HA]; · iexact HA
    isplitl [Hr]; · iexact Hr
    isplitl [HF]
    · iapply (Entails.of_eq (show Fl d L cc0_scratch4.sem bufA.view.dmaCredit iprop(bPts d L bufA (chunkT L dat (512 * 0)) ∗ dPts d L dat qa) = firstAt d L dat qa 0
        from (if_pos (by decide)).symm))
      iexact HF
    isplitl [HbB]; · iexists _; iexact HbB
    isplitl [Hdb]; · iexact Hdb
    isplitl [Hs5]; · iexact Hs5
    iexact HO
  rw [show k0_t2_loop.trips = 8 from rfl]
  unfold pairInv
  rw [show firstAt d L dat qa 8 = iprop((∃ g, bPts d L bufA g) ∗ dPts d L dat qa ∗ semVal (thr d L, .dma cc0_scratch4.sem) 0) from if_neg (by decide)]
  iintro ⟨-, HA, Hr, ⟨⟨%g, HbA⟩, Hda, Hs4⟩, HbB, Hdb, Hs5, HO⟩
  iapply (loop_inv (fun m => St d L bufA g w iprop(emp) (pass fixV (grp (Wt L lab) (Xt L dat) (32 * 8) 0 0) m 0)) (fun u => by
    rw [← pass_row]
    exact trip5 u)) $$ [HA HbA Hr]
  · unfold St
    rw [pass_zero]
    isplitl [HA]; · iexact HA
    isplitl [HbA]; · iexact HbA
    isplitl [Hr]; · iexact Hr
    itrivial
  rw [show k0_t5_loop.trips = 256 from rfl, pass_all]
  unfold St
  iintro ⟨HA, HbA, Hr, -⟩
  iapply (store_block (d := d) (L := L) (dat := dat) (lab := lab) (k0_off536_eq L) (f := f) rfl (View.dmaCredit_pos _ (by decide))) $$ [HA Ho Hs1]
  · isplitl [HA]; · iexact HA
    isplitl [Ho]; · iexact Ho
    iexact Hs1
  iintro HF
  iapply twp_pure (BI.Entails.refl _)
  isplitl [Hda Hdb Hl]
  · isplitl [Hda]; · iexact Hda
    isplitl [Hdb]; · iexact Hdb
    iexact Hl
  isplitl [HF]; · iexists _; iexact HF
  isplitl [Hr]; · iexists _; iexact Hr
  isplitl [HbA]; · iexists _; iexact HbA
  isplitl [HbB]; · iexact HbB
  isplitl [Hs4]; · iexact Hs4
  isplitl [Hs5]; · iexact Hs5
  isplitl [Hs0]; · iexact Hs0
  iexact HO

/-! ## The tile's own semaphores and buffers -/

/-- A transfer semaphore of a tile. -/
abbrev semC (d : Dev nD) (L : grid0.Coords) (s : DmaSem sig) : GSem nD τ sig := (thr d L, .dma s)

theorem semC_ne (d : Dev nD) (L : grid0.Coords) {s t : DmaSem sig} (h : s ≠ t) : semC d L s ≠ semC d L t := fun e => h (by
  have := congrArg Prod.snd e
  injection this)

theorem ownSems_tile (d : Dev nD) (L : grid0.Coords) :
    (ownSems0 (thr d L) : sProp (MM F))
      = iprop(semVal (semC d L cc0_scratch4.sem) 0 ∗ semVal (semC d L cc0_scratch5.sem) 0 ∗ semVal (semC d L cc0_scoped0.sem) 0 ∗ semVal (semC d L cc0_scoped1.sem) 0
          ∗ bigSep (((((ownCells (thr d L)).erase (semC d L cc0_scratch4.sem)).erase (semC d L cc0_scratch5.sem)).erase (semC d L cc0_scoped0.sem)).erase (semC d L cc0_scoped1.sem))
              fun g => semVal g 0) := by
  have m4 : semC d L cc0_scratch4.sem ∈ ownCells (thr d L) := mem_ownCells.mpr ⟨rfl, by show (SemLoc.dma cc0_scratch4.sem : SemLoc sig).isScoped .scVector = true; decide⟩
  have m5 : semC d L cc0_scratch5.sem ∈ ownCells (thr d L) := mem_ownCells.mpr ⟨rfl, by show (SemLoc.dma cc0_scratch5.sem : SemLoc sig).isScoped .scVector = true; decide⟩
  have n0 : semC d L cc0_scoped0.sem ∈ ownCells (thr d L) := mem_ownCells.mpr ⟨rfl, by show (SemLoc.dma cc0_scoped0.sem : SemLoc sig).isScoped .scVector = true; decide⟩
  have n1 : semC d L cc0_scoped1.sem ∈ ownCells (thr d L) := mem_ownCells.mpr ⟨rfl, by show (SemLoc.dma cc0_scoped1.sem : SemLoc sig).isScoped .scVector = true; decide⟩
  unfold SparseCore.Cfg.ownSems0
  rw [SparseCore.bigSep_erase' m4, SparseCore.bigSep_erase' (Finset.mem_erase.mpr ⟨semC_ne d L (by decide), m5⟩),
    SparseCore.bigSep_erase' (Finset.mem_erase.mpr ⟨semC_ne d L (by decide), Finset.mem_erase.mpr ⟨semC_ne d L (by decide), n0⟩⟩),
    SparseCore.bigSep_erase' (Finset.mem_erase.mpr ⟨semC_ne d L (by decide), Finset.mem_erase.mpr ⟨semC_ne d L (by decide), Finset.mem_erase.mpr ⟨semC_ne d L (by decide), n1⟩⟩⟩)]

/-- A scratch buffer of a tile. -/
abbrev refV (L : grid0.Coords) (b : Ref sig .scVector) : DevRef τ sig := (Proc.scVector (cV L) (jV L)).devRef b

theorem refV_ne (L : grid0.Coords) {b b' : Ref sig .scVector} (h : b ≠ b') : refV L b ≠ refV L b' := fun e => h (Proc.devRef_injective _ e)

theorem ownBufs_tile (d : Dev nD) (L : grid0.Coords) :
    (ownBufs (thr d L) : sProp (MM F))
      = iprop((∃ w, rPts d L w) ∗ (∃ g, bPts d L bufA g) ∗ (∃ g, bPts d L bufB g) ∗ (∃ g, bPts d L accV g)
          ∗ bigSep (((((ownRefs (τ := τ) (.scVector (cV L) (jV L))).erase (refV L cc0_scratch0)).erase (refV L cc0_scratch1)).erase (refV L cc0_scratch2)).erase (refV L cc0_scratch3))
              fun b => iprop(∃ f, ((d, b) : Loc nD τ sig) ↦{fullShare} f)) := by
  have mem (b : Ref sig .scVector) (h : (refV L b).owner = (refV L cc0_scratch0).owner) : refV L b ∈ ownRefs (τ := τ) (.scVector (cV L) (jV L)) :=
    SparseCore.Cfg.mem_ownRefs_of_owner (p := Proc.scVector (cV L) (jV L)) (b := refV L b) h
  unfold SparseCore.Cfg.ownBufs
  refine (SparseCore.bigSep_erase' (mem cc0_scratch0 rfl)).trans ?_
  rw [SparseCore.bigSep_erase' (Finset.mem_erase.mpr ⟨refV_ne L (by decide), mem cc0_scratch1 rfl⟩),
    SparseCore.bigSep_erase' (Finset.mem_erase.mpr ⟨refV_ne L (by decide), Finset.mem_erase.mpr ⟨refV_ne L (by decide), mem cc0_scratch2 rfl⟩⟩),
    SparseCore.bigSep_erase' (Finset.mem_erase.mpr ⟨refV_ne L (by decide), Finset.mem_erase.mpr ⟨refV_ne L (by decide), Finset.mem_erase.mpr ⟨refV_ne L (by decide), mem cc0_scratch3 rfl⟩⟩⟩)]
  rfl

set_option maxRecDepth 65536 in
set_option maxHeartbeats 0 in
/-- A tile's whole task. -/
theorem seg_task {h2 h3 h4 h5 h6 h7 h8} {qa qb ql : PosShare TreeShare} {f : S16x256x256.Idx → F .f32} (hO : ∀ g, O g none = 0) (hlt : ∀ n, (Wt L lab n).toNat < 256) :
    iprop(levAts (K (F := F)).L (K (F := F)).lev ∗ emp ∗ (reads d L dat lab qa qb ql ∗ oPts d L f) ∗ scopedBufs (thr d L) ∗ scopedSems0 (thr d L) ∗ owes (thr d L) O W)
      ⊢ twp d L (cc0_seg L dV h2 lV h3 oV h4 rowV h5 bufA h6 bufB h7 accV h8 cc0_scratch4 cc0_scratch5 cc0_scoped0 cc0_scoped1)
          (fun _ => iprop((reads d L dat lab qa qb ql ∗ oPts d L (segMaxV dat lab)) ∗ scopedBufs (thr d L) ∗ scopedSems0 (thr d L)
            ∗ ∃ W', ⌜∀ p ∈ W', p ∈ W ∨ p.2 = none⌝ ∗ owes (thr d L) O W')) := by
  rw [cc0_seg_eq_skeleton]
  unfold cc0_seg_skel
  rw [(K (F := F)).scopedBufs_V facts d (cV L) (jV L), SparseCore.Cfg.scopedSems0_V (Val := Elt F) d (cV L) (jV L), ownSems_tile, ownBufs_tile]
  iintro ⟨#Hlv, -, ⟨Hrd, Ho⟩, ⟨⟨%w₀, Hr⟩, ⟨%gA, HbA⟩, ⟨%gB, HbB⟩, ⟨%gC, HA⟩, Hbufs⟩, ⟨Hs4, Hs5, Hs0, Hs1, Hsems⟩, HO⟩
  iapply (twp_bind (BI.Entails.refl _))
  iapply (wp_wand frame _ _) $$ [Hrd Ho Hr HbA HbB HA Hs4 Hs5 Hs0 Hs1 HO]
  · iapply (seg_part (d := d) (L := L) (dat := dat) (lab := lab) (W := W) (f := f) hO hlt)
    isplitr; · iexact Hlv
    isplitl [Hrd]; · iexact Hrd
    isplitl [Ho]; · iexact Ho
    isplitl [Hr]; · iexact Hr
    isplitl [HbA]; · iexact HbA
    isplitl [HbB]; · iexact HbB
    isplitl [HA]; · iexact HA
    isplitl [Hs4]; · iexact Hs4
    isplitl [Hs5]; · iexact Hs5
    isplitl [Hs0]; · iexact Hs0
    isplitl [Hs1]; · iexact Hs1
    unfold Owes
    iexists W; isplitr
    · ipureintro; exact fun p hp => .inl hp
    iexact HO
  iintro %u ⟨Hrd, ⟨%A, HF⟩, Hr, HbA, HbB, Hs4, Hs5, Hs0, HO⟩
  iapply (wait_copy hO) $$ [HF HO]
  · isplitr; · iexact Hlv
    isplitl [HF]; · iexact HF
    iexact HO
  iintro ⟨⟨Ho, HA⟩, Hs1, HO⟩
  iapply twp_pure (BI.Entails.refl _)
  isplitl [Hrd Ho]
  · isplitl [Hrd]; · iexact Hrd
    iexact Ho
  isplitl [Hr HbA HbB HA Hbufs]
  · isplitl [Hr]; · iexact Hr
    isplitl [HbA]; · iexact HbA
    isplitl [HbB]; · iexact HbB
    isplitl [HA]; · iexists _; iexact HA
    iexact Hbufs
  isplitl [Hs4 Hs5 Hs0 Hs1 Hsems]
  · isplitl [Hs4]; · iexact Hs4
    isplitl [Hs5]; · iexact Hs5
    isplitl [Hs0]; · iexact Hs0
    isplitl [Hs1]; · iexact Hs1
    iexact Hsems
  unfold Owes
  iexact HO

end Task

end Cert.Proof.SegMax

end
-- ==== Proof.Launch.lean ====
/-
  The launch of the segment-max kernel: what the call hands its two SparseCores and each of their sixteen tiles (shares of the data and
  of the labels, a block of the result), the tiles' obligation, the split and the join, and the program's run.
-/
module
public import proofs.«01_k».proof.Proof.Body

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The blocks of the result -/

theorem mem_oSet {c : Fin 2} {j : Fin 16} {x : S16x256x256.Idx} : x ∈ oSet c j ↔ (x 0).val = j.val ∧ (x 2).val / 128 = c.val := by
  unfold oSet
  rw [Finset.mem_filter]
  exact and_iff_right (Finset.mem_univ _)

theorem oSet_disjoint (c : Fin 2) : ∀ j ∈ (Finset.univ : Finset (Fin 16)), ∀ j' ∈ (Finset.univ : Finset (Fin 16)), j ≠ j' → Disjoint (oSet c j) (oSet c j') :=
  fun _ _ _ _ h => Finset.disjoint_left.mpr fun _ hx hx' => h (Fin.ext ((mem_oSet.mp hx).1.symm.trans (mem_oSet.mp hx').1))

/-- The half of the result that a SparseCore's tiles write. -/
def oHalf (c : Fin 2) : Finset S16x256x256.Idx := Finset.univ.biUnion (oSet c)

theorem oHalf_disjoint : ∀ c ∈ (Finset.univ : Finset (Fin 2)), ∀ c' ∈ (Finset.univ : Finset (Fin 2)), c ≠ c' → Disjoint (oHalf c) (oHalf c') :=
  fun _ _ _ _ h => Finset.disjoint_left.mpr fun _ hx hx' => by
    obtain ⟨_, _, hx⟩ := Finset.mem_biUnion.mp hx
    obtain ⟨_, _, hx'⟩ := Finset.mem_biUnion.mp hx'
    exact h (Fin.ext ((mem_oSet.mp hx).2.symm.trans (mem_oSet.mp hx').2))

theorem oHalf_cover : (Finset.univ : Finset (Fin 2)).biUnion oHalf = Finset.univ := Finset.eq_univ_of_forall fun x => by
  have h2 : (x 2).val < 256 := (x 2).isLt
  exact Finset.mem_biUnion.mpr ⟨⟨(x 2).val / 128, by omega⟩, Finset.mem_univ _, Finset.mem_biUnion.mpr ⟨x 0, Finset.mem_univ _, mem_oSet.mpr ⟨rfl, rfl⟩⟩⟩

/-! ## Shares and what the handshakes carry -/

/-- SparseCore `c`'s share of the data and of the labels, and tile `j`'s of it. -/
def qC (c : Fin 2) : PosShare TreeShare := Transfers.dealOf fullShare Finset.univ c
def qT (c : Fin 2) (j : Fin 16) : PosShare TreeShare := Transfers.dealOf (qC c) Finset.univ j

variable (m : (ℓ : Loc nD τ sig) → Buf (Elt F) ℓ) (ρ : Dev nD → PrngReg)

/-- The launch memory's data and labels. -/
abbrev datM (d : Dev nD) : S16x4096x256.Idx → F .f32 := m (dLoc d)
abbrev labM (d : Dev nD) : S16x4096.Idx → BitVec 32 := m (lLoc d)
/-- The result, from the launch memory. -/
abbrev resM (d : Dev nD) : Buf (Elt F) (oLoc d) := segMaxV (datM m d) (labM m d)

abbrev dAt (d : Dev nD) (q : PosShare TreeShare) : sProp (MM F) := dLoc d ↦{q} m (dLoc d)
abbrev lAt (d : Dev nD) (q : PosShare TreeShare) : sProp (MM F) := lLoc d ↦{q} m (lLoc d)
abbrev oAt (d : Dev nD) (I : Finset (Idx (oLoc d))) (f : Buf (Elt F) (oLoc d)) : sProp (MM F) := oLoc d ↦[I]{fullShare} f

/-- What a SparseCore is handed and hands back, the result's half at `f`. -/
abbrev corePay (d : Dev nD) (c : Fin 2) (f : Buf (Elt F) (oLoc d)) : sProp (MM F) := iprop(dAt m d (qC c) ∗ lAt m d (qC c) ∗ oAt d (oHalf c) f)
/-- What a tile is handed and hands back, its block at `f`. -/
abbrev tilePay (d : Dev nD) (c : Fin 2) (j : Fin 16) (f : Buf (Elt F) (oLoc d)) : sProp (MM F) :=
  iprop((dAt m d (qT c j).left ∗ dAt m d (qT c j).right ∗ lAt m d (qT c j)) ∗ oAt d (oSet c j) f)

def P : (K (F := F)).Pay (nD := nD) (Val := Elt F) (Name := ℕ) (U := UU) where
  st := fun q d c => match q with | 0 => corePay m d (Fin.cast nCore_zero c) (m (oLoc d))
  dn := fun q d c => match q with | 0 => corePay m d (Fin.cast nCore_zero c) (resM m d)
  go := fun q d c j => match q with | 0 => tilePay m d (Fin.cast nCore_zero c) (Fin.cast nSub_zero j) (m (oLoc d))
  td := fun q d c j => match q with | 0 => tilePay m d (Fin.cast nCore_zero c) (Fin.cast nSub_zero j) (resM m d)
  x := fun _ _ => iprop(emp)

instance corePay_storable (d : Dev nD) (c : Fin 2) (f : Buf (Elt F) (oLoc d)) : BI.Storable (upEmb : UEmb _ (MM F)) (corePay m d c f) := inferInstance
instance tilePay_storable (d : Dev nD) (c : Fin 2) (j : Fin 16) (f : Buf (Elt F) (oLoc d)) : BI.Storable (upEmb : UEmb _ (MM F)) (tilePay m d c j f) := inferInstance

instance P_storable : (P (F := F) m).IsStorable where
  st q d _ := match q with | 0 => corePay_storable m d _ _
  dn q d _ := match q with | 0 => corePay_storable m d _ _
  go q d _ _ := match q with | 0 => tilePay_storable m d _ _ _
  td q d _ _ := match q with | 0 => tilePay_storable m d _ _ _

/-- What the run asks of the launch memory: every label names a segment. -/
def PreOK : Prop := ∀ (d : Dev nD) (x : S16x4096.Idx), (labM m d x).toNat < 256

theorem labW_lt (hpre : PreOK m) (d : Dev nD) (j : Fin 16) (n : ℕ) : (labW (labM m d) j n).toNat < 256 := by
  unfold labW
  by_cases h : n < 4096
  · rw [dif_pos h]; exact hpre d _
  · rw [dif_neg h]; decide

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_seg (coordsV c s) dV (Memref.isWhole_whole _) lV (Memref.isWhole_whole _) oV (Memref.isWhole_whole _)
          rowV (Memref.isWhole_whole _) bufA (Memref.isWhole_whole _) bufB (Memref.isWhole_whole _) accV (Memref.isWhole_whole _)
          cc0_scratch4 cc0_scratch5 cc0_scoped0 cc0_scoped1) ⟨⟩ c s := rfl

theorem waits_weaken {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right .inl
  iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact (seg_task (d := d) (L := coordsV ⟨_, hci.1⟩ ⟨_, hci.2⟩) (dat := datM m d) (lab := labM m d) (f := m (oLoc d)) hO (labW_lt m hpre d _)).trans
    (wp_mono frame _ _ fun _ => waits_weaken)

/-! ## The operands split among the tiles, the results join -/

theorem dAt_halves (d : Dev nD) (q : PosShare TreeShare) : dAt m d q = iprop(dAt m d q.left ∗ dAt m d q.right) :=
  BI.Entails.antisymm (pointsTo_share (PosShare.mem_left_op_right q)).1 (pointsTo_share (PosShare.mem_left_op_right q)).2

theorem regroup (A B C D : sProp (MM F)) : iprop((A ∗ B) ∗ C ∗ D) = iprop((A ∗ B ∗ C) ∗ D) := by
  have h1 : iprop((A ∗ B) ∗ C ∗ D) ⊢ iprop((A ∗ B ∗ C) ∗ D) := by
    iintro ⟨⟨Ha, Hb⟩, Hl, Ho⟩
    isplitl [Ha Hb Hl]
    · isplitl [Ha]; · iexact Ha
      isplitl [Hb]; · iexact Hb
      iexact Hl
    iexact Ho
  have h2 : iprop((A ∗ B ∗ C) ∗ D) ⊢ iprop((A ∗ B) ∗ C ∗ D) := by
    iintro ⟨⟨Ha, Hb, Hl⟩, Ho⟩
    isplitl [Ha Hb]
    · isplitl [Ha]; · iexact Ha
      iexact Hb
    isplitl [Hl]; · iexact Hl
    iexact Ho
  exact BI.Entails.antisymm h1 h2

theorem core_tiles (d : Dev nD) (c : Fin 2) (f : Buf (Elt F) (oLoc d)) : corePay m d c f = bigSep Finset.univ fun j : Fin 16 => tilePay m d c j f := by
  rw [bigSep_sep', bigSep_sep', bigSep_sep']
  have e1 : (bigSep Finset.univ fun j : Fin 16 => dAt m d (qT c j)) = dAt m d (qC c) := (Transfers.pointsTo_deal Finset.univ ⟨0, Finset.mem_univ _⟩ (qC c)).symm
  have e2 : (bigSep Finset.univ fun j : Fin 16 => lAt m d (qT c j)) = lAt m d (qC c) := (Transfers.pointsTo_deal Finset.univ ⟨0, Finset.mem_univ _⟩ (qC c)).symm
  have e3 : (bigSep Finset.univ fun j : Fin 16 => oAt d (oSet c j) f) = oAt d (oHalf c) f := (pointsTo_biUnion Finset.univ (ℓ := oLoc d) (oSet c) (oSet_disjoint c)).symm
  rw [show (fun j : Fin 16 => dAt m d (qT c j)) = fun j => iprop(dAt m d (qT c j).left ∗ dAt m d (qT c j).right) from funext fun j => dAt_halves m d _, bigSep_sep'] at e1
  rw [e2, e3]
  unfold corePay
  rw [← e1]
  exact regroup _ _ _ _

theorem whole_cores (d : Dev nD) (f : Buf (Elt F) (oLoc d)) :
    iprop(dAt m d fullShare ∗ lAt m d fullShare ∗ oAt d Finset.univ f) = bigSep Finset.univ fun c : Fin 2 => corePay m d c f := by
  rw [bigSep_sep', bigSep_sep']
  have e1 : (bigSep Finset.univ fun c : Fin 2 => dAt m d (qC c)) = dAt m d fullShare := (Transfers.pointsTo_deal Finset.univ ⟨0, Finset.mem_univ _⟩ fullShare).symm
  have e2 : (bigSep Finset.univ fun c : Fin 2 => lAt m d (qC c)) = lAt m d fullShare := (Transfers.pointsTo_deal Finset.univ ⟨0, Finset.mem_univ _⟩ fullShare).symm
  have e3 : (bigSep Finset.univ fun c : Fin 2 => oAt d (oHalf c) f) = oAt d Finset.univ f := by
    rw [← pointsTo_biUnion Finset.univ (ℓ := oLoc d) oHalf oHalf_disjoint, oHalf_cover]
  rw [e1, e2, e3]

theorem bigSep_tiles (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp (MM F)) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show corePay m d (Fin.cast nCore_zero c) (m (oLoc d)) ⊢ |={Set.univ}=> iprop(
      (bigSep Finset.univ fun i : Fin ((K (F := F)).nSub 0) => tilePay m d (Fin.cast nCore_zero c) (Fin.cast nSub_zero i) (m (oLoc d)))
      ∗ ((bigSep Finset.univ fun i : Fin ((K (F := F)).nSub 0) => tilePay m d (Fin.cast nCore_zero c) (Fin.cast nSub_zero i) (resM m d))
          -∗ corePay m d (Fin.cast nCore_zero c) (resM m d)))
  rw [bigSep_tiles (F := F) (fun i => tilePay m d _ i (m (oLoc d))), bigSep_tiles (F := F) (fun i => tilePay m d _ i (resM m d)), ← core_tiles, ← core_tiles]
  iintro H; imodintro
  isplitl [H]; · iexact H
  iintro H; iexact H

/-! ## The launch -/

def u₀ : UU := (initOf (K (F := F)).hsCells (K (F := F)).hsToks, 1)

theorem bigSep_of_emp {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  have ex : (bigSep Finset.univ fun thr : Thread nD τ => bigSep Finset.univ fun q : Fin 1 => (P (F := F) m).x q thr) = iprop(emp) :=
    (bigSep_congr fun _ _ => bigSep_univ_of_subsingleton (0 : Fin 1)).trans (bigSep_of_emp _)
  rw [ex, bigSep_of_emp]
  iintro Hu
  ihave H := (ownU_pair (initOf (K (F := F)).hsCells (K (F := F)).hsToks) (1 : Counters)) $$ Hu
  icases H with ⟨HH, -⟩
  imodintro
  isplitl [HH]; · iexact HH
  isplitr <;> iempintro

theorem unscopedBufs_eq (d : Dev nD) (W : (b : Ref sig .tc) → Buf (Elt F) ((d.tc : Thread nD τ).loc b)) :
    (unscopedBufs d W : sProp (MM F)) = iprop((dLoc d ↦{fullShare} W main_arg0) ∗ (lLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What `@main` ends with. -/
abbrev FIN (d : Dev nD) : sProp (MM F) := iprop(dAt m d fullShare ∗ lAt m d fullShare ∗ oAt d Finset.univ (resM m d))

theorem st_eq (d : Dev nD) : (bigSep Finset.univ fun c : Fin ((K (F := F)).nCore 0) => (P m).st 0 d c)
    = iprop(dAt m d fullShare ∗ lAt m d fullShare ∗ oAt d Finset.univ (m (oLoc d))) :=
  (bigSep_cores (F := F) (fun c => corePay m d c (m (oLoc d)))).trans (whole_cores m d _).symm
theorem dn_eq (d : Dev nD) : (bigSep Finset.univ fun c : Fin ((K (F := F)).nCore 0) => (P m).dn 0 d c) = FIN m d :=
  (bigSep_cores (F := F) (fun c => corePay m d c (resM m d))).trans (whole_cores m d _).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hops, Hts, -⟩, -⟩
  iapply ((K (F := F)).wp_run (D (F := F)) 𝒱 (EH := EH) (P := P m) κ d 0) $$ [Hst Hops Hb Hts]
  isplitr; · iexact Hctx
  isplitl [Hst]; · iexact Hst
  isplitl [Hops]
  · rw [st_eq]
    iexact Hops
  iintro ⟨Hst, Hdn⟩
  ihave Hdn := (Entails.of_eq (dn_eq m d)) $$ Hdn
  imodintro
  isplitl [Hst]; · iexact Hst
  isplitl [Hdn]; · iexact Hdn
  isplitl [Hb] <;> iassumption

/-- What the final memory is then known to hold. -/
def fq (d : Dev nD) (s' : Phys nD τ sig (Elt F)) : Prop :=
  s'.mem.mem (dLoc d) = m (dLoc d) ∧ s'.mem.mem (lLoc d) = m (lLoc d) ∧ s'.mem.mem (oLoc d) = resM m d

set_option maxRecDepth 16384 in
theorem hfin (d : Dev nD) (s' : Phys nD τ sig (Elt F)) : iprop(FIN m d ∗ SI s') ⊢ (⌜fq m d s'⌝ : sProp (MM F)) := by
  iintro ⟨⟨Hd, Hl, Ho⟩, HSI⟩
  ihave H := (persistent_entails_right (SI_pointsTo_agree (st := s') (ℓ := dLoc d) (I := Finset.univ) (q := fullShare) (f := m (dLoc d)))) $$ [HSI Hd]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := oLoc d) (I := Finset.univ) (q := fullShare) (f := resM m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (dLoc c) = m (dLoc c) ∧ r.2.mem (lLoc c) = m (lLoc c) ∧ r.2.mem (oLoc c) = resM m c) ∧ r.2.sem = fun _ => 0

/-- The program's run: the arguments kept, the result the segments' maxima, every semaphore back at zero. -/
theorem run_main [∀ e, Nonempty (Elt F e)] (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.SegMax

end
-- ==== Proof.Maximum.lean ====
/-
  The reference's result is the kernel's: the maximum over all rows, of a row's data where the row has the segment's
  label and of minus infinity elsewhere, is the running maximum over the segment's rows. And the
  precondition says of each label that it names a segment.
-/
module
public import proofs.«01_k».proof.Proof.Body
public import proofs.«01_k».proof.Proof.Gen.ReferenceIdeal
public import proofs.«01_k».proof.Proof.Gen.Pre_labels_in_range
public import Idealize.ShloMosaic.Lib.ValueIdxCoords
public import Idealize.ShloMosaic.PureOps.Ideal.Laws
public import Idealize.ShloMosaic.PureOps.Reduce

@[expose] public section

noncomputable section

namespace Cert.Proof.SegMax

open Idealize.ShloMosaic

/-! ## The labels -/

theorem andi_one {a b : BitVec 1} : IntOp.andi a b = 1#1 ↔ a = 1#1 ∧ b = 1#1 := by revert a b; decide

theorem foldl_andi_one {ι : Type} (f : ι → BitVec 1) (l : List ι) (b : BitVec 1) : l.foldl (fun r i => IntOp.andi r (f i)) b = 1#1 → b = 1#1 ∧ ∀ i ∈ l, f i = 1#1 := by
  induction l generalizing b with
  | nil => exact fun h => ⟨h, fun _ hi => nomatch hi⟩
  | cons a l ih =>
    intro h
    obtain ⟨h1, h2⟩ := ih _ h
    obtain ⟨hb, ha⟩ := andi_one.mp h1
    exact ⟨hb, fun i hi => (List.mem_cons.mp hi).elim (fun e => e ▸ ha) (h2 i)⟩

theorem label_of_check {v : BitVec 32} (h : IntOp.andi (IntOp.cmpi .sge v 0#32) (IntOp.cmpi .slt v 256#32) = 1#1) : v.toNat < 256 := by
  obtain ⟨h1, h2⟩ := andi_one.mp h
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_ofNat, Nat.reducePow, Nat.reduceMod] at h1 h2
  omega

/-- The precondition on the arguments says that every label names a segment. -/
theorem labels_of_pre {F : FTy → Type} [FloatOps F] {dat : FVec F Cert.Pre_labels_in_range.S16x4096x256 .f32} {lab : IVec Cert.Pre_labels_in_range.S16x4096 32}
    (h : Cert.Pre_labels_in_range.fn dat lab = fun _ => 1#1) (x : Cert.Pre_labels_in_range.S16x4096.Idx) : (lab x).toNat < 256 := by
  have h0 := congrFun h (fun a => a.elim0)
  unfold Cert.Pre_labels_in_range.fn at h0
  beta_reduce at h0
  rw [Host.reduce_eq_foldl] at h0
  refine label_of_check ((foldl_andi_one _ _ _ h0).2 x (List.mem_filter.mpr ⟨List.mem_map.mpr ⟨_, List.mem_finRange _, Equiv.symm_apply_apply _ x⟩, ?_⟩))
  exact decide_eq_true (funext fun a => a.elim0)

/-! ## The maximum -/

theorem ninf_ideal : (ninf (F := Ideal) : EReal) = ⊥ := by
  show Ideal.ofBits .f32 0xFF800000#32 = ⊥
  simp [Ideal.ofBits, Ideal.ieee]

theorem segAt_ideal (W : ℕ → BitVec 32) (X : ℕ → Ideal .f32) (k : ℕ) (n : ℕ) :
    segAt W X k n = (Finset.range n).fold FloatOps.maximumf (ninf (F := Ideal)) fun r => if (W r).toNat = k then X r else ninf := by
  induction n with
  | zero => rfl
  | succ n ih =>
    rw [Finset.range_add_one, Finset.fold_insert Finset.notMem_range_self, ← ih]
    have e : segAt W X k (n + 1) = if (W n).toNat = k then FloatOps.maximumf (segAt W X k n) (X n) else segAt W X k n := rfl
    rw [e]
    by_cases h : (W n).toNat = k
    · rw [if_pos h, if_pos h]
      exact max_comm (segAt W X k n : EReal) (X n)
    · rw [if_neg h, if_neg h]
      show _ = max (ninf (F := Ideal) : EReal) _
      rw [ninf_ideal, max_bot_left]

theorem fold_range {α : Type} (op : α → α → α) [Std.Commutative op] [Std.Associative op] (b : α) (n : ℕ) (f : ℕ → α) :
    (Finset.range n).fold op b f = (Finset.univ : Finset (Fin n)).fold op b fun i => f i.val := by
  have e : Finset.range n = (Finset.univ : Finset (Fin n)).image Fin.val := by
    ext i
    rw [Finset.mem_range, Finset.mem_image]
    exact ⟨fun h => ⟨⟨i, h⟩, Finset.mem_univ _, rfl⟩, fun ⟨j, _, h⟩ => h ▸ j.isLt⟩
  rw [e, Finset.fold_image fun i _ j _ h => Fin.ext h]
  rfl

/-! ## The reference -/

section Reference

open Cert.ReferenceIdeal Cert.ReferenceIdeal.Gen

variable (dat : FVec Ideal S16x4096x256 .f32) (lab : IVec S16x4096 32)

/-- Which rows have which label. -/
def hot : IVec S16x4096x256x256 1 :=
  broadcastInDim S16x4096x256x256 ![0, 1, 2, 3] bcast_S16x4096x256x1_S16x4096x256x256_0_1_2_3 (broadcastInDim S16x4096x256x1 ![0, 1, 2] bcast_S16x4096x256_S16x4096x256x1_0_1_2
    (cmpi .eq (broadcastInDim S16x4096x256 ![0, 1, 2] bcast_S16x4096x1_S16x4096x256_0_1_2 (broadcastInDim S16x4096x1 ![0, 1] bcast_S16x4096_S16x4096x1_0_1 lab))
      (broadcastInDim S16x4096x256 ![0, 1, 2] bcast_S1x1x256_S16x4096x256_0_1_2 (broadcastInDim S1x1x256 ![2] bcast_S256_S1x1x256_2 (iotaInDim S256 32 0)))))

/-- Each row's data where it has the label, minus infinity elsewhere. -/
def masked : FVec Ideal S16x4096x256x256 .f32 :=
  select (hot lab) (broadcastInDim S16x4096x256x256 ![0, 1, 2, 3] bcast_S16x4096x1x256_S16x4096x256x256_0_1_2_3
      (broadcastInDim S16x4096x1x256 ![0, 1, 3] bcast_S16x4096x256_S16x4096x1x256_0_1_3 dat))
    (broadcastInDim S16x4096x256x256 ![] bcast_S_S16x4096x256x256 (id (constant S_ .f32 0xFF800000#32)))

/-- The maximum over the rows. -/
def rowMax : FVec Ideal S16x256x256 .f32 := Host.reduce FloatOps.maximumf (masked dat lab) (constant S_ .f32 0xFF800000#32) reducesTo_S16x4096x256x256_S16x256x256_d1 h_S_

/-- The reference's result. -/
def refMax : FVec Ideal S16x256x256 .f32 :=
  select (cmpf .oeq (rowMax dat lab) (broadcastInDim S16x256x256 ![] bcast_S_S16x256x256 (constant S_ .f32 0xFF800000#32)))
    (broadcastInDim S16x256x256 ![] bcast_S_S16x256x256 (id (constant S_ .f32 0x00000000#32))) (rowMax dat lab)

theorem masked_at (j : Fin 16) (r : Fin 4096) (k x : Fin 256) :
    masked dat lab (ix4 j r k x) = if (lab (ix2 j r)).toNat = k.val then dat (ix3 j r x) else ninf := by
  have e : hot lab (ix4 j r k x) = BitVec.ofBool (lab (ix2 j r) == BitVec.ofNat 32 k.val) := by
    show BitVec.ofBool (lab _ == BitVec.ofNat 32 _) = _
    congr 2
    congr 1
    funext a
    match a with | 0 => rfl | 1 => rfl
  have e' : (lab (ix2 j r) == BitVec.ofNat 32 k.val) = decide ((lab (ix2 j r)).toNat = k.val) := by
    have hk := k.isLt
    rw [Bool.eq_iff_iff, beq_iff_eq, decide_eq_true_iff, ← BitVec.toNat_inj, BitVec.toNat_ofNat, Nat.mod_eq_of_lt (by omega)]
  show Scalar.select (hot lab (ix4 j r k x)) (dat _) (ninf (F := Ideal)) = _
  rw [e, e']
  by_cases h : (lab (ix2 j r)).toNat = k.val
  · rw [decide_eq_true h, if_pos h]
    show dat _ = dat _
    congr 1
    funext a
    match a with | 0 => rfl | 1 => rfl | 2 => rfl
  · rw [decide_eq_false h, if_neg h]
    rfl

theorem rowMax_at (j : Fin 16) (k x : Fin 256) : rowMax dat lab (ix3 j k x) = segAt (labW lab j) (colV dat j x) k.val 4096 := by
  have hR : S16x4096x256x256.Reduces [1] S16x256x256 := by decide
  have h1 : rowMax dat lab (ix3 j k x) = (Finset.univ : Finset (Fin 4096)).fold FloatOps.maximumf (ninf (F := Ideal)) fun r => masked dat lab (hR.lift (ix3 j k x) r) :=
    Host.reduce_eq_fold_single FloatOps.maximumf (masked dat lab) _ _ hR h_S_ (ix3 j k x)
  have h2 (r : Fin 4096) : masked dat lab (hR.lift (ix3 j k x) r) = if (labW lab j r.val).toNat = k.val then colV dat j x r.val else ninf := by
    have er : hR.lift (ix3 j k x) r = ix4 j r k x := by
      funext c
      apply Fin.ext
      fin_cases c <;> rfl
    rw [er, masked_at]
    unfold labW colV
    rw [dif_pos r.isLt, dif_pos r.isLt]
  rw [h1, segAt_ideal, fold_range]
  exact congrArg (fun f => Finset.fold FloatOps.maximumf (ninf (F := Ideal)) f (Finset.univ : Finset (Fin 4096))) (funext h2)

/-- The last step of the reference at one index: minus infinity becomes zero. -/
theorem fix_at (M : FVec Ideal S16x256x256 .f32) (y : S16x256x256.Idx) :
    select (cmpf .oeq M (broadcastInDim S16x256x256 ![] bcast_S_S16x256x256 (constant S_ .f32 0xFF800000#32)))
      (broadcastInDim S16x256x256 ![] bcast_S_S16x256x256 (id (constant S_ .f32 0x00000000#32))) M y = fixV (F := Ideal) (M y) := rfl

/-- The reference's result is the segments' maxima. -/
theorem ref_value : refMax dat lab = segMaxV (F := Ideal) dat lab := by
  funext y
  have e : y = ix3 (n0 := 16) (n1 := 256) (n2 := 256) (y 0) (y 1) (y 2) := funext fun i => match i with | 0 => rfl | 1 => rfl | 2 => rfl
  have e' : rowMax dat lab y = segAt (labW lab (y 0)) (colV dat (y 0) (y 2)) (y 1).val 4096 :=
    (congrArg (rowMax dat lab) e).trans (rowMax_at dat lab (y 0) (y 1) (y 2))
  unfold refMax segMaxV
  rw [fix_at, e']

end Reference

end Cert.Proof.SegMax

end
-- ==== Proof.Blocks.lean ====
/- What the clustering kernel's body leaves in each output block, as the payloads of the blocks it reads. -/
module

public import proofs.«01_k».proof.Proof.Gen.Stage1Ideal.Value

@[expose] public section

noncomputable section

namespace Cert.Proof.Blocks

open Cert.Stage1Ideal Cert.Stage1Ideal.Gen Cert.Stage1Ideal.Value Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The pair (centroids transposed, labels) the body's loop carries, after its first `k` trips. -/
def carry (v0 : Vec F S1x4096x8 .f32) (v2 : Vec F S1x8x4096 .f32) : Nat → FVec F S8x256 .f32 × IVec S4096 32
  | 0 => (k0_pay7 v0, k0_pay8)
  | k + 1 => (k0_pay10 v0 v2 (carry v0 v2 k).1, k0_pay9 v0 (carry v0 v2 k).1)

theorem foldl_carry (v0 : Vec F S1x4096x8 .f32) (v2 : Vec F S1x8x4096 .f32) {α : Type} (L : List α) (k : Nat) :
    L.foldl (fun acc _ => (k0_pay10 v0 v2 acc.1, k0_pay9 v0 acc.1)) (carry v0 v2 k) = carry v0 v2 (k + L.length) := by
  induction L generalizing k with
  | nil => rfl
  | cons a L ih =>
    rw [List.foldl_cons]
    exact (ih (k + 1)).trans (by rw [List.length_cons, Nat.add_right_comm, Nat.add_assoc])

theorem fold_carry (v0 : Vec F S1x4096x8 .f32) (v2 : Vec F S1x8x4096 .f32) :
    Scf.fold (n := k0_t1_loop.trips) (fun _ acc => (k0_pay10 v0 v2 acc.1, k0_pay9 v0 acc.1)) (k0_pay7 v0, k0_pay8) = carry v0 v2 10 := by
  rw [Scf.fold_eq]
  refine (foldl_carry v0 v2 _ 0).trans ?_
  rw [List.length_finRange]
  rfl

variable (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S8x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x256x3 .f32) (harg9 : arg9.IsWhole) (arg10 : Memref sig .tc .vmem S1x1x4096 .i32) (harg10 : arg10.IsWhole) (arg11 : Memref sig .tc .vmem S1x4096x3 .f32) (harg11 : arg11.IsWhole) (arg12 : Memref sig .tc .vmem S1x4096x256 .f32) (harg12 : arg12.IsWhole)
    (x0 : Vec F S1x4096x8 .f32) (x1 : Vec F S1x8x4096 .f32) (x2 : Vec F S8x128 .f32) (x3 : Vec F S1x128 .f32) (x4 : Vec F S1x128 .f32) (x5 : Vec F S1x128 .f32) (x6 : Vec F S128x256 .f32) (x7 : Vec F S1x256 .f32)

theorem out8_eq : out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay1 (k0_pay11 (carry x0 x1 10).1) := by
  unfold out0_A_8
  rw [View.read_writes_junk_eq_canon]
  unfold kernelRun0_A
  dsimp only
  sl_unfold_words
  refine (View.canon_unit_zero hz3 _ _).trans ?_
  simp only [View.readAt_eq_ld, Memref.IsWhole.read_unread, View.ld_unit_zero (S := S1x4096x8) hz3, View.ld_unit_zero (S := S1x8x4096) hz3, View.ld_unit_zero (S := S8x128) hz2, View.ld_unit_zero (S := S1x128) hz2, View.ld_unit_zero (S := S128x256) hz2, View.ld_unit_zero (S := S1x256) hz2]
  rw [fold_carry]

theorem out9_eq : out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay2 (carry x0 x1 10).2 := by
  unfold out0_A_9
  rw [View.read_writes_junk_eq_canon]
  unfold kernelRun0_A
  dsimp only
  sl_unfold_words
  refine (View.canon_unit_zero hz3 _ _).trans ?_
  simp only [View.readAt_eq_ld, Memref.IsWhole.read_unread, View.ld_unit_zero (S := S1x4096x8) hz3, View.ld_unit_zero (S := S1x8x4096) hz3, View.ld_unit_zero (S := S8x128) hz2, View.ld_unit_zero (S := S1x128) hz2, View.ld_unit_zero (S := S128x256) hz2, View.ld_unit_zero (S := S1x256) hz2]
  rw [fold_carry]

theorem out10_eq : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay3 (k0_pay12 (carry x0 x1 10).1 (carry x0 x1 10).2) := by
  unfold out0_A_10
  rw [View.read_writes_junk_eq_canon]
  unfold kernelRun0_A
  dsimp only
  sl_unfold_words
  refine (View.canon_unit_zero hz3 _ _).trans ?_
  simp only [View.readAt_eq_ld, Memref.IsWhole.read_unread, View.ld_unit_zero (S := S1x4096x8) hz3, View.ld_unit_zero (S := S1x8x4096) hz3, View.ld_unit_zero (S := S8x128) hz2, View.ld_unit_zero (S := S1x128) hz2, View.ld_unit_zero (S := S128x256) hz2, View.ld_unit_zero (S := S1x256) hz2]
  rw [fold_carry]

theorem out11_eq : out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay4 (k0_pay14 (k0_pay13 x0 (carry x0 x1 10).1 (carry x0 x1 10).2) x2 x3 x4 x5 x6) (k0_pay15 x7) := by
  unfold out0_A_11
  rw [View.read_writes_junk_eq_canon]
  unfold kernelRun0_A
  dsimp only
  sl_unfold_words
  refine (View.canon_unit_zero hz3 _ _).trans ?_
  simp only [View.readAt_eq_ld, Memref.IsWhole.read_unread, View.ld_unit_zero (S := S1x4096x8) hz3, View.ld_unit_zero (S := S1x8x4096) hz3, View.ld_unit_zero (S := S8x128) hz2, View.ld_unit_zero (S := S1x128) hz2, View.ld_unit_zero (S := S128x256) hz2, View.ld_unit_zero (S := S1x256) hz2]
  rw [fold_carry]

end Cert.Proof.Blocks

end
-- ==== Proof.Windows.lean ====
/- Where a window's block sits in its array, from its index map's values: the array itself, or one batch of sixteen. -/
module

public import Idealize.ShloMosaic.Lib.Pipeline.Value
public import Idealize.ShloMosaic.Lib.Pointwise

@[expose] public section

noncomputable section

namespace Cert.Proof.Windows

open Idealize.ShloMosaic

/-- Batch `t` of an array of sixteen, as a block. -/
def part {a b : Nat} {α : Type} (X : (⟨3, ![16, a, b]⟩ : Shape).Idx → α) (t : Fin 16) : (⟨3, ![1, a, b]⟩ : Shape).Idx → α :=
  fun y => X (ix3 t (y 1) (y 2))

/-- A block of the array's own size at index zero is the array. -/
theorem whole {S : Shape} (e : S.Idx → S.Idx) (i : Fin S.rank → ℕ) (hi : ∀ a, i a = 0)
    (he : ∀ j a, (e j a).val = i a * S.size a + 1 * (j a).val) (j : S.Idx) : e j = j := by
  funext a
  apply Fin.ext
  rw [he, hi, Nat.zero_mul, Nat.zero_add, Nat.one_mul]

/-- A block of one batch at index `t` on the first axis is batch `t`. -/
theorem batch {a b : ℕ} (e : (⟨3, ![1, a, b]⟩ : Shape).Idx → (⟨3, ![16, a, b]⟩ : Shape).Idx) (i : Fin 3 → ℕ) (t : Fin 16)
    (hi : i 0 = t.val ∧ i 1 = 0 ∧ i 2 = 0) (he : ∀ (j : (⟨3, ![1, a, b]⟩ : Shape).Idx) (x : Fin 3), (e j x).val = i x * (![1, a, b] : Fin 3 → ℕ) x + 1 * (j x).val)
    (j : (⟨3, ![1, a, b]⟩ : Shape).Idx) : e j = ix3 t (j 1) (j 2) := by
  have h0 : (j 0).val < 1 := (j 0).isLt
  funext x
  apply Fin.ext
  refine (he j x).trans ?_
  match x with
  | ⟨0, _⟩ => show i 0 * 1 + 1 * (j 0).val = t.val; omega
  | ⟨1, _⟩ => show i 1 * a + 1 * (j 1).val = (j 1).val; rw [hi.2.1]; omega
  | ⟨2, _⟩ => show i 2 * b + 1 * (j 2).val = (j 2).val; rw [hi.2.2]; omega

/-- A block of one batch has one first coordinate. -/
theorem at_first {a b : ℕ} (j : (⟨3, ![1, a, b]⟩ : Shape).Idx) : j = ix3 (0 : Fin 1) (j 1) (j 2) := by
  conv_lhs => rw [eq_ix3 j]
  exact congrArg (fun a : Fin 1 => ix3 a (j 1) (j 2)) (Subsingleton.elim _ _)

theorem mem_of_eq {α : Type} {s : Set α} {x y : α} (h : x ∈ s) (e : x = y) : y ∈ s := e ▸ h

end Cert.Proof.Windows

end
-- ==== Proof.Arrays.lean ====
/- The clustering kernel's run: each result array after it as one function of the arrays that its grid reads, and what
   the operations before the grid leave in those. -/
module

public import proofs.«01_k».proof.Proof.Blocks
public import proofs.«01_k».proof.Proof.Windows
public import Idealize.ShloMosaic.Lib.StableHlo.Run

@[expose] public section

noncomputable section

namespace Cert.Proof.Arrays

open Cert.Stage1Ideal Cert.Stage1Ideal.Gen Cert.Stage1Ideal.Value Cert.Proof.Blocks Cert.Proof.Windows
open Idealize.ShloMosaic Idealize.ShloMosaic.TcCoe Idealize.SL.Sem Idealize.ShloMosaic.StableHlo

variable {F : FTy → Type} [FloatOps F]

/-- The arrays the grid reads: the padded points, their transpose, the padded first weights, and the vectors as rows. -/
structure Reads (F : FTy → Type) where
  x : Vec F S16x4096x8 .f32
  xt : Vec F S16x8x4096 .f32
  w1 : Vec F S8x128 .f32
  b1 : Vec F S1x128 .f32
  g : Vec F S1x128 .f32
  be : Vec F S1x128 .f32
  w2 : Vec F S128x256 .f32
  b2 : Vec F S1x256 .f32

variable (R : Reads F)

/-- What batch `t`'s loop ends with. -/
def Reads.last (t : Fin 16) : FVec F S8x256 .f32 × IVec S4096 32 := carry (part R.x t) (part R.xt t) 10

def Reads.cent : Vec F S16x256x3 .f32 := fun i => k0_pay1 (k0_pay11 (R.last (i 0)).1) (ix3 0 (i 1) (i 2))
def Reads.labels : Vec F S16x1x4096 .i32 := fun i => k0_pay2 (R.last (i 0)).2 (ix3 0 (i 1) (i 2))
def Reads.near : Vec F S16x4096x3 .f32 := fun i => k0_pay3 (k0_pay12 (R.last (i 0)).1 (R.last (i 0)).2) (ix3 0 (i 1) (i 2))
def Reads.hidden : Vec F S16x4096x256 .f32 := fun i =>
  k0_pay4 (k0_pay14 (k0_pay13 (part R.x (i 0)) (R.last (i 0)).1 (R.last (i 0)).2) R.w1 R.b1 R.g R.be R.w2) (k0_pay15 R.b2) (ix3 0 (i 1) (i 2))

variable (m : (ℓ : Loc nD τ sig) → Buf (Elt F) ℓ) (ρ : Dev nD → PrngReg)

/-- What the grid of core `c` reads. -/
def reads (c : Dev nD) : Reads F :=
  ⟨V m c main_v2, V m c main_v3, V m c main_v5, V m c main_v6, V m c main_v7, V m c main_v8, V m c main_arg5, V m c main_v9⟩

/-! ## The blocks read -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- The weights and the vectors are read whole at each point. -/
theorem idxs : ∀ t : Fin cfg0.N, (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ ∀ a : Fin 2, win0_7.index t a = 0 :=
  (by decide +kernel : ∀ t : Fin grid0.N, _)

variable (c : Dev nD) (t : Fin cfg0.N)

theorem iblk0 : iblk m c 0 t = part (reads m c).x t :=
  funext fun j => congrArg (V m c main_v2) (batch (fun j => ((cfg0.win 0).blk t).view.emb j) (win0_0.index t) t (idx0 t) (fun _ _ => rfl) j)

theorem iblk1 : iblk m c 1 t = part (reads m c).xt t :=
  funext fun j => congrArg (V m c main_v3) (batch (fun j => ((cfg0.win 1).blk t).view.emb j) (win0_1.index t) t (idx1 t) (fun _ _ => rfl) j)

theorem iblk2 : iblk m c 2 t = (reads m c).w1 :=
  funext fun j => congrArg (V m c main_v5) (whole (fun j => ((cfg0.win 2).blk t).view.emb j) (win0_2.index t) (idxs t).1 (fun _ _ => rfl) j)

theorem iblk3 : iblk m c 3 t = (reads m c).b1 :=
  funext fun j => congrArg (V m c main_v6) (whole (fun j => ((cfg0.win 3).blk t).view.emb j) (win0_3.index t) (idxs t).2.1 (fun _ _ => rfl) j)

theorem iblk4 : iblk m c 4 t = (reads m c).g :=
  funext fun j => congrArg (V m c main_v7) (whole (fun j => ((cfg0.win 4).blk t).view.emb j) (win0_4.index t) (idxs t).2.2.1 (fun _ _ => rfl) j)

theorem iblk5 : iblk m c 5 t = (reads m c).be :=
  funext fun j => congrArg (V m c main_v8) (whole (fun j => ((cfg0.win 5).blk t).view.emb j) (win0_5.index t) (idxs t).2.2.2.1 (fun _ _ => rfl) j)

theorem iblk6 : iblk m c 6 t = (reads m c).w2 :=
  funext fun j => congrArg (V m c main_arg5) (whole (fun j => ((cfg0.win 6).blk t).view.emb j) (win0_6.index t) (idxs t).2.2.2.2.1 (fun _ _ => rfl) j)

theorem iblk7 : iblk m c 7 t = (reads m c).b2 :=
  funext fun j => congrArg (V m c main_v9) (whole (fun j => ((cfg0.win 7).blk t).view.emb j) (win0_7.index t) (idxs t).2.2.2.2.2 (fun _ _ => rfl) j)

/-! ## The arrays written -/

theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

theorem emb8 (j : S1x256x3.Idx) : ((cfg0.win 8).blk t).view.emb j = ix3 (n0 := 16) t (j 1) (j 2) :=
  batch (fun j => ((cfg0.win 8).blk t).view.emb j) (win0_8.index t) t (idx8 t) (fun _ _ => rfl) j

theorem emb9 (j : S1x1x4096.Idx) : ((cfg0.win 9).blk t).view.emb j = ix3 (n0 := 16) t (j 1) (j 2) :=
  batch (fun j => ((cfg0.win 9).blk t).view.emb j) (win0_9.index t) t (idx9 t) (fun _ _ => rfl) j

theorem emb10 (j : S1x4096x3.Idx) : ((cfg0.win 10).blk t).view.emb j = ix3 (n0 := 16) t (j 1) (j 2) :=
  batch (fun j => ((cfg0.win 10).blk t).view.emb j) (win0_10.index t) t (idx10 t) (fun _ _ => rfl) j

theorem emb11 (j : S1x4096x256.Idx) : ((cfg0.win 11).blk t).view.emb j = ix3 (n0 := 16) t (j 1) (j 2) :=
  batch (fun j => ((cfg0.win 11).blk t).view.emb j) (win0_11.index t) t (idx11 t) (fun _ _ => rfl) j

theorem flushed8_eq : (dats m 0 c).flushed 8 t = ((cfg0.win 8).blk t).view.read (Elt F) (reads m c).cent := by
  rw [flushed8_A, out8_eq, iblk0, iblk1]
  exact funext fun j => (congrArg _ (at_first j)).trans (congrArg (reads m c).cent (emb8 t j)).symm

theorem flushed9_eq : (dats m 0 c).flushed 9 t = ((cfg0.win 9).blk t).view.read (Elt F) (reads m c).labels := by
  rw [flushed9_A, out9_eq, iblk0, iblk1]
  exact funext fun j => (congrArg _ (at_first j)).trans (congrArg (reads m c).labels (emb9 t j)).symm

theorem flushed10_eq : (dats m 0 c).flushed 10 t = ((cfg0.win 10).blk t).view.read (Elt F) (reads m c).near := by
  rw [flushed10_A, out10_eq, iblk0, iblk1]
  exact funext fun j => (congrArg _ (at_first j)).trans (congrArg (reads m c).near (emb10 t j)).symm

theorem flushed11_eq : (dats m 0 c).flushed 11 t = ((cfg0.win 11).blk t).view.read (Elt F) (reads m c).hidden := by
  rw [flushed11_A, out11_eq, iblk0, iblk1, iblk2, iblk3, iblk4, iblk5, iblk6, iblk7]
  exact funext fun j => (congrArg _ (at_first j)).trans (congrArg (reads m c).hidden (emb11 t j)).symm

theorem final8 : (dats m 0 c).arrAt 8 cfg0.N = (reads m c).cent :=
  (dats m 0 c).arrAt_eq_of_cover 8 (reads m c).cent (fun t _ => flushed8_eq m c t) fun i : S16x256x3.Idx =>
    ⟨(i 0 : Fin 16), flush0_8 _, mem_of_eq (View.emb_mem_set _ (ix3 (0 : Fin 1) (i 1) (i 2) : S1x256x3.Idx)) ((emb8 (i 0) _).trans (eq_ix3 i).symm)⟩

theorem final9 : (dats m 0 c).arrAt 9 cfg0.N = (reads m c).labels :=
  (dats m 0 c).arrAt_eq_of_cover 9 (reads m c).labels (fun t _ => flushed9_eq m c t) fun i : S16x1x4096.Idx =>
    ⟨(i 0 : Fin 16), flush0_9 _, mem_of_eq (View.emb_mem_set _ (ix3 (0 : Fin 1) (i 1) (i 2) : S1x1x4096.Idx)) ((emb9 (i 0) _).trans (eq_ix3 i).symm)⟩

theorem final10 : (dats m 0 c).arrAt 10 cfg0.N = (reads m c).near :=
  (dats m 0 c).arrAt_eq_of_cover 10 (reads m c).near (fun t _ => flushed10_eq m c t) fun i : S16x4096x3.Idx =>
    ⟨(i 0 : Fin 16), flush0_10 _, mem_of_eq (View.emb_mem_set _ (ix3 (0 : Fin 1) (i 1) (i 2) : S1x4096x3.Idx)) ((emb10 (i 0) _).trans (eq_ix3 i).symm)⟩

theorem final11 : (dats m 0 c).arrAt 11 cfg0.N = (reads m c).hidden :=
  (dats m 0 c).arrAt_eq_of_cover 11 (reads m c).hidden (fun t _ => flushed11_eq m c t) fun i : S16x4096x256.Idx =>
    ⟨(i 0 : Fin 16), flush0_11 _, mem_of_eq (View.emb_mem_set _ (ix3 (0 : Fin 1) (i 1) (i 2) : S1x4096x256.Idx)) ((emb11 (i 0) _).trans (eq_ix3 i).symm)⟩

end Cert.Proof.Arrays

end
-- ==== Proof.RefRun.lean ====
/- The run of the reference for the clustering step: its operations listed in stretches around its one counted loop, and
   what every buffer holds at the end. -/
module

public import proofs.«01_k».proof.Proof.Gen.Stage1ReferenceIdeal
public import Idealize.ShloMosaic.Lib.StableHlo.RunLoop
public import Idealize.ShloMosaic.Lib.StableHlo.Run
public import Idealize.ShloMosaic.Lib.Scf.Counter
public import Idealize.ShloMosaic.Lib.Scf.ExitTest

@[expose] public section

noncomputable section

namespace Cert.Stage1ReferenceIdeal.Value

open Idealize.SL.Sem Cert.Stage1ReferenceIdeal Cert.Stage1ReferenceIdeal.Gen Idealize.ShloMosaic Idealize.ShloMosaic.TcCoe Idealize.ShloMosaic.StableHlo

variable {F : FTy → Type} [FloatOps F]

/-- What @main runs before its loop: the first 256 points as centroids, the labels at 0, and the copies into the carried buffers. -/
abbrev preOps : List (HloOp τ sig (Elt F)) :=
  [ unary main_arg0 main_v0 ((extractStridedSlice S16x256x3 ![0, 0, 0] · slices_S16x4096x3_S16x256x3_0_0_0) : (⟨S16x4096x3, .f32⟩ : BufTy).Contents (Elt F) → (⟨S16x256x3, .f32⟩ : BufTy).Contents (Elt F)),
    nullary main_c (constantI S_ 32 0#32),
    unary main_c main_v1 (broadcastInDim S16x4096 ![] bcast_S_S16x4096 : (⟨S_, .i32⟩ : BufTy).Contents (Elt F) → (⟨S16x4096, .i32⟩ : BufTy).Contents (Elt F)),
    nullary main_c_0 (constantI S_ 32 0#32),
    nullary main_c_1 (constantI S_ 32 0#32),
    unary main_arg0 main_v2_0 id,
    unary main_c_1 main_v2_1 id,
    unary main_c_0 main_v2_2 id,
    unary main_v0 main_v2_3 id,
    unary main_v1 main_v2_4 id ]

theorem preOps_sub : (preOps : List (HloOp τ sig (Elt F))).Forall fun op => op.bufs ⊆ tcRefs τ sig :=
  ⟨unary_bufs_sub .., nullary_bufs_sub .., unary_bufs_sub .., nullary_bufs_sub .., nullary_bufs_sub .., unary_bufs_sub .., unary_bufs_sub .., unary_bufs_sub .., unary_bufs_sub .., unary_bufs_sub ..⟩

/-- The loop's condition. -/
abbrev condOps : List (HloOp τ sig (Elt F)) :=
  [ nullary main_while0c_c_15 (constantI S_ 32 10#32),
    binary main_v2_1 main_while0c_c_15 main_while0c_v56 (cmpi .slt : (⟨S_, .i32⟩ : BufTy).Contents (Elt F) → (⟨S_, .i32⟩ : BufTy).Contents (Elt F) → (⟨S_, .i1⟩ : BufTy).Contents (Elt F)) ]

theorem condOps_sub : (condOps : List (HloOp τ sig (Elt F))).Forall fun op => op.bufs ⊆ tcRefs τ sig :=
  ⟨nullary_bufs_sub .., binary_bufs_sub ..⟩

/-- The loop's body, to the squared distances. -/
abbrev distOps : List (HloOp τ sig (Elt F)) :=
  [ nullary main_while0b_c_15 (constantI S_ 32 1#32),
    binary main_v2_2 main_while0b_c_15 main_while0b_v56 (addi : (⟨S_, .i32⟩ : BufTy).Contents (Elt F) → (⟨S_, .i32⟩ : BufTy).Contents (Elt F) → (⟨S_, .i32⟩ : BufTy).Contents (Elt F)),
    binary main_v2_0 main_v2_0 main_while0b_v57 (mulf : (⟨S16x4096x3, .f32⟩ : BufTy).Contents (Elt F) → (⟨S16x4096x3, .f32⟩ : BufTy).Contents (Elt F) → (⟨S16x4096x3, .f32⟩ : BufTy).Contents (Elt F)),
    nullary main_while0b_cst_16 (constant S_ .f32 0x00000000#32),
    binary main_while0b_v57 main_while0b_cst_16 main_while0b_v58 ((fun x v => Host.reduceAdd x v reducesTo_S16x4096x3_S16x4096_d2 h_S_) : (⟨S16x4096x3, .f32⟩ : BufTy).Contents (Elt F) → (⟨S_, .f32⟩ : BufTy).Contents (Elt F) → (⟨S16x4096, .f32⟩ : BufTy).Contents (Elt F)),
    unary main_while0b_v58 main_while0b_v59 (broadcastInDim S16x4096x1 ![0, 1] bcast_S16x4096_S16x4096x1_0_1 : (⟨S16x4096, .f32⟩ : BufTy).Contents (Elt F) → (⟨S16x4096x1, .f32⟩ : BufTy).Contents (Elt F)),
    binary main_v2_3 main_v2_3 main_while0b_v60 (mulf : (⟨S16x256x3, .f32⟩ : BufTy).Contents (Elt F) → (⟨S16x256x3, .f32⟩ : BufTy).Contents (Elt F) → (⟨S16x256x3, .f32⟩ : BufTy).Contents (Elt F)),
    nullary main_while0b_cst_17 (constant S_ .f32 0x00000000#32),
    binary main_while0b_v60 main_while0b_cst_17 main_while0b_v61 ((fun x v => Host.reduceAdd x v reducesTo_S16x256x3_S16x256_d2 h_S_) : (⟨S16x256x3, .f32⟩ : BufTy).Contents (Elt F) → (⟨S_, .f32⟩ : BufTy).Contents (Elt F) → (⟨S16x256, .f32⟩ : BufTy).Contents (Elt F)),
    unary main_while0b_v61 main_while0b_v62 (broadcastInDim S16x1x256 ![0, 2] bcast_S16x256_S16x1x256_0_2 : (⟨S16x256, .f32⟩ : BufTy).Contents (Elt F) → (⟨S16x1x256, .f32⟩ : BufTy).Contents (Elt F)),
    binary main_v2_0 main_v2_3 main_while0b_v63 ((fun l r => Host.dotGeneral dot_S16x4096x3_S16x256x3_S16x4096x256_2_2_1_1_0_0 none l r) : (⟨S16x4096x3, .f32⟩ : BufTy).Contents (Elt F) → (⟨S16x256x3, .f32⟩ : BufTy).Contents (Elt F) → (⟨S16x4096x256, .f32⟩ : BufTy).Contents (Elt F)),
    nullary main_while0b_cst_18 (constant S_ .f32 0x40000000#32),
    unary main_while0b_cst_18 main_while0b_v64 (broadcastInDim S16x4096x256 ![] bcast_S_S16x4096x256 : (⟨S_, .f32⟩ : BufTy).Contents (Elt F) → (⟨S16x4096x256, .f32⟩ : BufTy).Contents (Elt F)),
    binary main_while0b_v64 main_while0b_v63 main_while0b_v65 (mulf : (⟨S16x4096x256, .f32⟩ : BufTy).Contents (Elt F) → (⟨S16x4096x256, .f32⟩ : BufTy).Contents (Elt F) → (⟨S16x4096x256, .f32⟩ : BufTy).Contents (Elt F)),
    unary main_while0b_v59 main_while0b_v66 (broadcastInDim S16x4096x256 ![0, 1, 2] bcast_S16x4096x1_S16x4096x256_0_1_2 : (⟨S16x4096x1, .f32⟩ : BufTy).Contents (Elt F) → (⟨S16x4096x256, .f32⟩ : BufTy).Contents (Elt F)),
    binary main_while0b_v66 main_while0b_v65 main_while0b_v67 (subf : (⟨S16x4096x256, .f32⟩ : BufTy).Contents (Elt F) → (⟨S16x4096x256, .f32⟩ : BufTy).Contents (Elt F) → (⟨S16x4096x256, .f32⟩ : BufTy).Contents (Elt F)),
    unary main_while0b_v62 main_while0b_v68 (broadcastInDim S16x4096x256 ![0, 1, 2] bcast_S16x1x256_S16x4096x256_0_1_2 : (⟨S16x1x256, .f32⟩ : BufTy).Contents (Elt F) → (⟨S16x4096x256, .f32⟩ : BufTy).Contents (Elt F)),
    binary main_while0b_v67 main_while0b_v68 main_while0b_v69 (addf : (⟨S16x4096x256, .f32⟩ : BufTy).Contents (Elt F) → (⟨S16x4096x256, .f32⟩ : BufTy).Contents (Elt F) → (⟨S16x4096x256, .f32⟩ : BufTy).Contents (Elt F)) ]

theorem distOps_sub : (distOps : List (HloOp τ sig (Elt F))).Forall fun op => op.bufs ⊆ tcRefs τ sig :=
  ⟨nullary_bufs_sub .., binary_bufs_sub .., binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., binary_bufs_sub ..⟩

/-- The loop's body: the nearest centroid of every point. -/
abbrev nearOps : List (HloOp τ sig (Elt F)) :=
  [ TRef.nullary (TRef.of (T := ⟨S16x4096x256, .i32⟩) main_while0b_call0_v0) (iotaInDim S16x4096x256 32 2),
    TRef.nullary (TRef.of (T := ⟨S_, .f32⟩) main_while0b_call0_cst) (constant S_ .f32 0x7F800000#32),
    TRef.nullary (TRef.of (T := ⟨S_, .i32⟩) main_while0b_call0_c) (constantI S_ 32 0#32),
    TRef.quaternary (TRef.of (T := ⟨S16x4096x256, .f32⟩) main_while0b_v69) (TRef.of (T := ⟨S16x4096x256, .i32⟩) main_while0b_call0_v0) (TRef.of (T := ⟨S_, .f32⟩) main_while0b_call0_cst) (TRef.of (T := ⟨S_, .i32⟩) main_while0b_call0_c) (TRef.of (T := ⟨S16x4096, .f32⟩) main_while0b_call0_v1_0) (fun x y u v j => (Host.argReduce reducer_argmin_f32_i32 x y u v reducesTo_S16x4096x256_S16x4096_d2 h_S_ j).1),
    TRef.quaternary (TRef.of (T := ⟨S16x4096x256, .f32⟩) main_while0b_v69) (TRef.of (T := ⟨S16x4096x256, .i32⟩) main_while0b_call0_v0) (TRef.of (T := ⟨S_, .f32⟩) main_while0b_call0_cst) (TRef.of (T := ⟨S_, .i32⟩) main_while0b_call0_c) (TRef.of (T := ⟨S16x4096, .i32⟩) main_while0b_v70) (fun x y u v j => (Host.argReduce reducer_argmin_f32_i32 x y u v reducesTo_S16x4096x256_S16x4096_d2 h_S_ j).2) ]

theorem nearOps_sub : (nearOps : List (HloOp τ sig (Elt F))).Forall fun op => op.bufs ⊆ tcRefs τ sig :=
  ⟨nullary_bufs_sub .., nullary_bufs_sub .., nullary_bufs_sub .., quaternary_bufs_sub .., quaternary_bufs_sub ..⟩

/-- The loop's body: the points' means, and the copies into the carried buffers. -/
abbrev moveOps : List (HloOp τ sig (Elt F)) :=
  [ unary main_while0b_v70 main_while0b_v71 (broadcastInDim S16x4096x1 ![0, 1] bcast_S16x4096_S16x4096x1_0_1 : (⟨S16x4096, .i32⟩ : BufTy).Contents (Elt F) → (⟨S16x4096x1, .i32⟩ : BufTy).Contents (Elt F)),
    nullary main_while0b_v72 (iotaInDim S256 32 0),
    unary main_while0b_v72 main_while0b_v73 (broadcastInDim S1x1x256 ![2] bcast_S256_S1x1x256_2 : (⟨S256, .i32⟩ : BufTy).Contents (Elt F) → (⟨S1x1x256, .i32⟩ : BufTy).Contents (Elt F)),
    unary main_while0b_v71 main_while0b_v74 (broadcastInDim S16x4096x256 ![0, 1, 2] bcast_S16x4096x1_S16x4096x256_0_1_2 : (⟨S16x4096x1, .i32⟩ : BufTy).Contents (Elt F) → (⟨S16x4096x256, .i32⟩ : BufTy).Contents (Elt F)),
    unary main_while0b_v73 main_while0b_v75 (broadcastInDim S16x4096x256 ![0, 1, 2] bcast_S1x1x256_S16x4096x256_0_1_2 : (⟨S1x1x256, .i32⟩ : BufTy).Contents (Elt F) → (⟨S16x4096x256, .i32⟩ : BufTy).Contents (Elt F)),
    binary main_while0b_v74 main_while0b_v75 main_while0b_v76 (cmpi .eq : (⟨S16x4096x256, .i32⟩ : BufTy).Contents (Elt F) → (⟨S16x4096x256, .i32⟩ : BufTy).Contents (Elt F) → (⟨S16x4096x256, .i1⟩ : BufTy).Contents (Elt F)),
    unary main_while0b_v76 main_while0b_v77 (uitofp .f32 : (⟨S16x4096x256, .i1⟩ : BufTy).Contents (Elt F) → (⟨S16x4096x256, .f32⟩ : BufTy).Contents (Elt F)),
    nullary main_while0b_cst_19 (constant S_ .f32 0x00000000#32),
    binary main_while0b_v77 main_while0b_cst_19 main_while0b_v78 ((fun x v => Host.reduceAdd x v reducesTo_S16x4096x256_S16x256_d1 h_S_) : (⟨S16x4096x256, .f32⟩ : BufTy).Contents (Elt F) → (⟨S_, .f32⟩ : BufTy).Contents (Elt F) → (⟨S16x256, .f32⟩ : BufTy).Contents (Elt F)),
    binary main_while0b_v77 main_v2_0 main_while0b_v79 ((fun l r => Host.dotGeneral dot_S16x4096x256_S16x4096x3_S16x256x3_1_1_2_2_0_0 none l r) : (⟨S16x4096x256, .f32⟩ : BufTy).Contents (Elt F) → (⟨S16x4096x3, .f32⟩ : BufTy).Contents (Elt F) → (⟨S16x256x3, .f32⟩ : BufTy).Contents (Elt F)),
    nullary main_while0b_cst_20 (constant S_ .f32 0x3F800000#32),
    unary main_while0b_cst_20 main_while0b_v80 (broadcastInDim S16x256 ![] bcast_S_S16x256 : (⟨S_, .f32⟩ : BufTy).Contents (Elt F) → (⟨S16x256, .f32⟩ : BufTy).Contents (Elt F)),
    binary main_while0b_v78 main_while0b_v80 main_while0b_v81 (maximumf : (⟨S16x256, .f32⟩ : BufTy).Contents (Elt F) → (⟨S16x256, .f32⟩ : BufTy).Contents (Elt F) → (⟨S16x256, .f32⟩ : BufTy).Contents (Elt F)),
    unary main_while0b_v81 main_while0b_v82 (broadcastInDim S16x256x1 ![0, 1] bcast_S16x256_S16x256x1_0_1 : (⟨S16x256, .f32⟩ : BufTy).Contents (Elt F) → (⟨S16x256x1, .f32⟩ : BufTy).Contents (Elt F)),
    unary main_while0b_v82 main_while0b_v83 (broadcastInDim S16x256x3 ![0, 1, 2] bcast_S16x256x1_S16x256x3_0_1_2 : (⟨S16x256x1, .f32⟩ : BufTy).Contents (Elt F) → (⟨S16x256x3, .f32⟩ : BufTy).Contents (Elt F)),
    binary main_while0b_v79 main_while0b_v83 main_while0b_v84 (Host.divf : (⟨S16x256x3, .f32⟩ : BufTy).Contents (Elt F) → (⟨S16x256x3, .f32⟩ : BufTy).Contents (Elt F) → (⟨S16x256x3, .f32⟩ : BufTy).Contents (Elt F)),
    nullary main_while0b_c_21 (constantI S_ 32 1#32),
    binary main_v2_1 main_while0b_c_21 main_while0b_v85 (addi : (⟨S_, .i32⟩ : BufTy).Contents (Elt F) → (⟨S_, .i32⟩ : BufTy).Contents (Elt F) → (⟨S_, .i32⟩ : BufTy).Contents (Elt F)),
    unary main_while0b_v85 main_v2_1 id,
    unary main_while0b_v56 main_v2_2 id,
    unary main_while0b_v84 main_v2_3 id,
    unary main_while0b_v70 main_v2_4 id ]

theorem moveOps_sub : (moveOps : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., nullary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., unary_bufs_sub .., unary_bufs_sub .., unary_bufs_sub ..⟩

/-- After the loop: every point's centroid. -/
abbrev pickOps : List (HloOp τ sig (Elt F)) :=
  [ nullary main_v3 (iotaInDim S16 32 0),
    unary main_v3 main_v4 (broadcastInDim S16x1 ![0] bcast_S16_S16x1_0 : (⟨S16, .i32⟩ : BufTy).Contents (Elt F) → (⟨S16x1, .i32⟩ : BufTy).Contents (Elt F)),
    nullary main_c_2 (constantI S_ 32 0#32),
    unary main_c_2 main_v5 (broadcastInDim S16x1 ![] bcast_S_S16x1 : (⟨S_, .i32⟩ : BufTy).Contents (Elt F) → (⟨S16x1, .i32⟩ : BufTy).Contents (Elt F)),
    binary main_v4 main_v5 main_v6 (cmpi .slt : (⟨S16x1, .i32⟩ : BufTy).Contents (Elt F) → (⟨S16x1, .i32⟩ : BufTy).Contents (Elt F) → (⟨S16x1, .i1⟩ : BufTy).Contents (Elt F)),
    nullary main_c_3 (constantI S_ 32 16#32),
    unary main_c_3 main_v7 (broadcastInDim S16x1 ![] bcast_S_S16x1 : (⟨S_, .i32⟩ : BufTy).Contents (Elt F) → (⟨S16x1, .i32⟩ : BufTy).Contents (Elt F)),
    binary main_v4 main_v7 main_v8 (addi : (⟨S16x1, .i32⟩ : BufTy).Contents (Elt F) → (⟨S16x1, .i32⟩ : BufTy).Contents (Elt F) → (⟨S16x1, .i32⟩ : BufTy).Contents (Elt F)),
    ternary main_v6 main_v8 main_v4 main_v9 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_4 (constantI S_ 32 0#32),
    unary main_c_4 main_v10 (broadcastInDim S16x4096 ![] bcast_S_S16x4096 : (⟨S_, .i32⟩ : BufTy).Contents (Elt F) → (⟨S16x4096, .i32⟩ : BufTy).Contents (Elt F)),
    binary main_v2_4 main_v10 main_v11 (cmpi .slt : (⟨S16x4096, .i32⟩ : BufTy).Contents (Elt F) → (⟨S16x4096, .i32⟩ : BufTy).Contents (Elt F) → (⟨S16x4096, .i1⟩ : BufTy).Contents (Elt F)),
    nullary main_c_5 (constantI S_ 32 256#32),
    unary main_c_5 main_v12 (broadcastInDim S16x4096 ![] bcast_S_S16x4096 : (⟨S_, .i32⟩ : BufTy).Contents (Elt F) → (⟨S16x4096, .i32⟩ : BufTy).Contents (Elt F)),
    binary main_v2_4 main_v12 main_v13 (addi : (⟨S16x4096, .i32⟩ : BufTy).Contents (Elt F) → (⟨S16x4096, .i32⟩ : BufTy).Contents (Elt F) → (⟨S16x4096, .i32⟩ : BufTy).Contents (Elt F)),
    ternary main_v11 main_v13 main_v2_4 main_v14 (select : (⟨S16x4096, .i1⟩ : BufTy).Contents (Elt F) → (⟨S16x4096, .i32⟩ : BufTy).Contents (Elt F) → (⟨S16x4096, .i32⟩ : BufTy).Contents (Elt F) → (⟨S16x4096, .i32⟩ : BufTy).Contents (Elt F)),
    unary main_v9 main_v15 (broadcastInDim S16x4096 ![0, 1] bcast_S16x1_S16x4096_0_1 : (⟨S16x1, .i32⟩ : BufTy).Contents (Elt F) → (⟨S16x4096, .i32⟩ : BufTy).Contents (Elt F)),
    unary main_v15 main_v16 (broadcastInDim S16x4096x1 ![0, 1] bcast_S16x4096_S16x4096x1_0_1 : (⟨S16x4096, .i32⟩ : BufTy).Contents (Elt F) → (⟨S16x4096x1, .i32⟩ : BufTy).Contents (Elt F)),
    unary main_v14 main_v17 (broadcastInDim S16x4096x1 ![0, 1] bcast_S16x4096_S16x4096x1_0_1 : (⟨S16x4096, .i32⟩ : BufTy).Contents (Elt F) → (⟨S16x4096x1, .i32⟩ : BufTy).Contents (Elt F)),
    binary main_v16 main_v17 main_v18 ((fun a b => concatenate S16x4096x2 2 [⟨S16x4096x1, a⟩, ⟨S16x4096x1, b⟩] concatenates_S16x4096x1_S16x4096x1_S16x4096x2_d2) : (⟨S16x4096x1, .i32⟩ : BufTy).Contents (Elt F) → (⟨S16x4096x1, .i32⟩ : BufTy).Contents (Elt F) → (⟨S16x4096x2, .i32⟩ : BufTy).Contents (Elt F)),
    binary main_v2_3 main_v18 main_v19 ((fun x i => Host.gather gather_S16x256x3_S16x4096x2_S16x4096x3_2_01_n_n_01_2_113 x i) : (⟨S16x256x3, .f32⟩ : BufTy).Contents (Elt F) → (⟨S16x4096x2, .i32⟩ : BufTy).Contents (Elt F) → (⟨S16x4096x3, .f32⟩ : BufTy).Contents (Elt F)) ]

theorem pickOps_sub : (pickOps : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

/-- After the loop: the first linear layer on a point's place relative to its centroid. -/
abbrev hidOps : List (HloOp τ sig (Elt F)) :=
  [ binary main_arg0 main_v19 main_v20 (subf : (⟨S16x4096x3, .f32⟩ : BufTy).Contents (Elt F) → (⟨S16x4096x3, .f32⟩ : BufTy).Contents (Elt F) → (⟨S16x4096x3, .f32⟩ : BufTy).Contents (Elt F)),
    binary main_v20 main_arg1 main_v21 ((fun l r => Host.dotGeneral dot_S16x4096x3_S3x128_S16x4096x128_2_0_01_1_n_n none l r) : (⟨S16x4096x3, .f32⟩ : BufTy).Contents (Elt F) → (⟨S3x128, .f32⟩ : BufTy).Contents (Elt F) → (⟨S16x4096x128, .f32⟩ : BufTy).Contents (Elt F)),
    unary main_arg2 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S16x4096x128 ![0, 1, 2] bcast_S1x1x128_S16x4096x128_0_1_2 : (⟨S1x1x128, .f32⟩ : BufTy).Contents (Elt F) → (⟨S16x4096x128, .f32⟩ : BufTy).Contents (Elt F)),
    binary main_v21 main_v23 main_v24 (addf : (⟨S16x4096x128, .f32⟩ : BufTy).Contents (Elt F) → (⟨S16x4096x128, .f32⟩ : BufTy).Contents (Elt F) → (⟨S16x4096x128, .f32⟩ : BufTy).Contents (Elt F)) ]

theorem hidOps_sub : (hidOps : List (HloOp τ sig (Elt F))).Forall fun op => op.bufs ⊆ tcRefs τ sig :=
  ⟨binary_bufs_sub .., binary_bufs_sub .., unary_bufs_sub .., unary_bufs_sub .., binary_bufs_sub ..⟩

/-- After the loop: a row less its mean, over its deviation. -/
abbrev normOps : List (HloOp τ sig (Elt F)) :=
  [ nullary main_cst (constant S_ .f32 0x00000000#32),
    binary main_v24 main_cst main_v25 ((fun x v => Host.reduceAdd x v reducesTo_S16x4096x128_S16x4096_d2 h_S_) : (⟨S16x4096x128, .f32⟩ : BufTy).Contents (Elt F) → (⟨S_, .f32⟩ : BufTy).Contents (Elt F) → (⟨S16x4096, .f32⟩ : BufTy).Contents (Elt F)),
    unary main_v25 main_v26 (broadcastInDim S16x4096x1 ![0, 1] bcast_S16x4096_S16x4096x1_0_1 : (⟨S16x4096, .f32⟩ : BufTy).Contents (Elt F) → (⟨S16x4096x1, .f32⟩ : BufTy).Contents (Elt F)),
    nullary main_cst_6 (constant S_ .f32 0x43000000#32),
    unary main_cst_6 main_v27 (broadcastInDim S16x4096x1 ![] bcast_S_S16x4096x1 : (⟨S_, .f32⟩ : BufTy).Contents (Elt F) → (⟨S16x4096x1, .f32⟩ : BufTy).Contents (Elt F)),
    binary main_v26 main_v27 main_v28 (Host.divf : (⟨S16x4096x1, .f32⟩ : BufTy).Contents (Elt F) → (⟨S16x4096x1, .f32⟩ : BufTy).Contents (Elt F) → (⟨S16x4096x1, .f32⟩ : BufTy).Contents (Elt F)),
    unary main_v28 main_v29 (broadcastInDim S16x4096x128 ![0, 1, 2] bcast_S16x4096x1_S16x4096x128_0_1_2 : (⟨S16x4096x1, .f32⟩ : BufTy).Contents (Elt F) → (⟨S16x4096x128, .f32⟩ : BufTy).Contents (Elt F)),
    binary main_v24 main_v29 main_v30 (subf : (⟨S16x4096x128, .f32⟩ : BufTy).Contents (Elt F) → (⟨S16x4096x128, .f32⟩ : BufTy).Contents (Elt F) → (⟨S16x4096x128, .f32⟩ : BufTy).Contents (Elt F)),
    binary main_v30 main_v30 main_v31 (mulf : (⟨S16x4096x128, .f32⟩ : BufTy).Contents (Elt F) → (⟨S16x4096x128, .f32⟩ : BufTy).Contents (Elt F) → (⟨S16x4096x128, .f32⟩ : BufTy).Contents (Elt F)),
    nullary main_cst_7 (constant S_ .f32 0x00000000#32),
    binary main_v31 main_cst_7 main_v32 ((fun x v => Host.reduceAdd x v reducesTo_S16x4096x128_S16x4096_d2 h_S_) : (⟨S16x4096x128, .f32⟩ : BufTy).Contents (Elt F) → (⟨S_, .f32⟩ : BufTy).Contents (Elt F) → (⟨S16x4096, .f32⟩ : BufTy).Contents (Elt F)),
    unary main_v32 main_v33 (broadcastInDim S16x4096x1 ![0, 1] bcast_S16x4096_S16x4096x1_0_1 : (⟨S16x4096, .f32⟩ : BufTy).Contents (Elt F) → (⟨S16x4096x1, .f32⟩ : BufTy).Contents (Elt F)),
    nullary main_cst_8 (constant S_ .f32 0x43000000#32),
    unary main_cst_8 main_v34 (broadcastInDim S16x4096x1 ![] bcast_S_S16x4096x1 : (⟨S_, .f32⟩ : BufTy).Contents (Elt F) → (⟨S16x4096x1, .f32⟩ : BufTy).Contents (Elt F)),
    binary main_v33 main_v34 main_v35 (Host.divf : (⟨S16x4096x1, .f32⟩ : BufTy).Contents (Elt F) → (⟨S16x4096x1, .f32⟩ : BufTy).Contents (Elt F) → (⟨S16x4096x1, .f32⟩ : BufTy).Contents (Elt F)),
    unary main_v28 main_v36 (broadcastInDim S16x4096x128 ![0, 1, 2] bcast_S16x4096x1_S16x4096x128_0_1_2 : (⟨S16x4096x1, .f32⟩ : BufTy).Contents (Elt F) → (⟨S16x4096x128, .f32⟩ : BufTy).Contents (Elt F)),
    binary main_v24 main_v36 main_v37 (subf : (⟨S16x4096x128, .f32⟩ : BufTy).Contents (Elt F) → (⟨S16x4096x128, .f32⟩ : BufTy).Contents (Elt F) → (⟨S16x4096x128, .f32⟩ : BufTy).Contents (Elt F)),
    nullary main_cst_9 (constant S_ .f32 0x3727C5AC#32),
    unary main_cst_9 main_v38 (broadcastInDim S16x4096x1 ![] bcast_S_S16x4096x1 : (⟨S_, .f32⟩ : BufTy).Contents (Elt F) → (⟨S16x4096x1, .f32⟩ : BufTy).Contents (Elt F)),
    binary main_v35 main_v38 main_v39 (addf : (⟨S16x4096x1, .f32⟩ : BufTy).Contents (Elt F) → (⟨S16x4096x1, .f32⟩ : BufTy).Contents (Elt F) → (⟨S16x4096x1, .f32⟩ : BufTy).Contents (Elt F)),
    unary main_v39 main_v40 (Host.sqrt : (⟨S16x4096x1, .f32⟩ : BufTy).Contents (Elt F) → (⟨S16x4096x1, .f32⟩ : BufTy).Contents (Elt F)),
    unary main_v40 main_v41 (broadcastInDim S16x4096x128 ![0, 1, 2] bcast_S16x4096x1_S16x4096x128_0_1_2 : (⟨S16x4096x1, .f32⟩ : BufTy).Contents (Elt F) → (⟨S16x4096x128, .f32⟩ : BufTy).Contents (Elt F)),
    binary main_v37 main_v41 main_v42 (Host.divf : (⟨S16x4096x128, .f32⟩ : BufTy).Contents (Elt F) → (⟨S16x4096x128, .f32⟩ : BufTy).Contents (Elt F) → (⟨S16x4096x128, .f32⟩ : BufTy).Contents (Elt F)) ]

theorem normOps_sub : (normOps : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub ..⟩

/-- After the loop: the affine part of the normalization, the second layer, and the labels in the result's shape. -/
abbrev lastOps : List (HloOp τ sig (Elt F)) :=
  [ unary main_arg3 main_v43 (broadcastInDim S1x1x128 ![2] bcast_S128_S1x1x128_2 : (⟨S128, .f32⟩ : BufTy).Contents (Elt F) → (⟨S1x1x128, .f32⟩ : BufTy).Contents (Elt F)),
    unary main_v43 main_v44 (broadcastInDim S16x4096x128 ![0, 1, 2] bcast_S1x1x128_S16x4096x128_0_1_2 : (⟨S1x1x128, .f32⟩ : BufTy).Contents (Elt F) → (⟨S16x4096x128, .f32⟩ : BufTy).Contents (Elt F)),
    binary main_v42 main_v44 main_v45 (mulf : (⟨S16x4096x128, .f32⟩ : BufTy).Contents (Elt F) → (⟨S16x4096x128, .f32⟩ : BufTy).Contents (Elt F) → (⟨S16x4096x128, .f32⟩ : BufTy).Contents (Elt F)),
    unary main_arg4 main_v46 (broadcastInDim S1x1x128 ![2] bcast_S128_S1x1x128_2 : (⟨S128, .f32⟩ : BufTy).Contents (Elt F) → (⟨S1x1x128, .f32⟩ : BufTy).Contents (Elt F)),
    unary main_v46 main_v47 (broadcastInDim S16x4096x128 ![0, 1, 2] bcast_S1x1x128_S16x4096x128_0_1_2 : (⟨S1x1x128, .f32⟩ : BufTy).Contents (Elt F) → (⟨S16x4096x128, .f32⟩ : BufTy).Contents (Elt F)),
    binary main_v45 main_v47 main_v48 (addf : (⟨S16x4096x128, .f32⟩ : BufTy).Contents (Elt F) → (⟨S16x4096x128, .f32⟩ : BufTy).Contents (Elt F) → (⟨S16x4096x128, .f32⟩ : BufTy).Contents (Elt F)),
    nullary main_cst_10 (constant S_ .f32 0x00000000#32),
    unary main_cst_10 main_v49 (broadcastInDim S16x4096x128 ![] bcast_S_S16x4096x128 : (⟨S_, .f32⟩ : BufTy).Contents (Elt F) → (⟨S16x4096x128, .f32⟩ : BufTy).Contents (Elt F)),
    binary main_v48 main_v49 main_v50 (maximumf : (⟨S16x4096x128, .f32⟩ : BufTy).Contents (Elt F) → (⟨S16x4096x128, .f32⟩ : BufTy).Contents (Elt F) → (⟨S16x4096x128, .f32⟩ : BufTy).Contents (Elt F)),
    binary main_v50 main_arg5 main_v51 ((fun l r => Host.dotGeneral dot_S16x4096x128_S128x256_S16x4096x256_2_0_01_1_n_n none l r) : (⟨S16x4096x128, .f32⟩ : BufTy).Contents (Elt F) → (⟨S128x256, .f32⟩ : BufTy).Contents (Elt F) → (⟨S16x4096x256, .f32⟩ : BufTy).Contents (Elt F)),
    unary main_arg6 main_v52 (broadcastInDim S1x1x256 ![2] bcast_S256_S1x1x256_2 : (⟨S256, .f32⟩ : BufTy).Contents (Elt F) → (⟨S1x1x256, .f32⟩ : BufTy).Contents (Elt F)),
    unary main_v52 main_v53 (broadcastInDim S16x4096x256 ![0, 1, 2] bcast_S1x1x256_S16x4096x256_0_1_2 : (⟨S1x1x256, .f32⟩ : BufTy).Contents (Elt F) → (⟨S16x4096x256, .f32⟩ : BufTy).Contents (Elt F)),
    binary main_v51 main_v53 main_v54 (addf : (⟨S16x4096x256, .f32⟩ : BufTy).Contents (Elt F) → (⟨S16x4096x256, .f32⟩ : BufTy).Contents (Elt F) → (⟨S16x4096x256, .f32⟩ : BufTy).Contents (Elt F)),
    unary main_v2_4 main_v55 (broadcastInDim S16x1x4096 ![0, 2] bcast_S16x4096_S16x1x4096_0_2 : (⟨S16x4096, .i32⟩ : BufTy).Contents (Elt F) → (⟨S16x1x4096, .i32⟩ : BufTy).Contents (Elt F)) ]

theorem lastOps_sub : (lastOps : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub ..⟩

theorem main_chain (c : Dev nD) : main (F := F) c
    = Pipeline.chain (([preOps].map fun ops => (seq ops : Prog _ PUnit))
        ++ HostLoop.enter 0 :: [pickOps, hidOps, normOps, lastOps].map fun ops => (seq ops : Prog _ PUnit)) := by
  simp only [List.map_cons, List.map_nil, List.cons_append, List.nil_append]
  chain_rfl

theorem body_chain : main_while0_body (F := F)
    = Pipeline.chain ([distOps, nearOps, moveOps].map fun ops => (seq ops : Prog _ PUnit)) := by
  simp only [List.map_cons, List.map_nil]
  chain_rfl

/-- The squared distance of every point `n` to every centroid `k`, spelt as the reference does. -/
def refDist (x : FVec F S16x4096x3 .f32) (c : FVec F S16x256x3 .f32) : FVec F S16x4096x256 .f32 :=
  addf
    (subf
      (broadcastInDim S16x4096x256 ![0, 1, 2] bcast_S16x4096x1_S16x4096x256_0_1_2
        (broadcastInDim S16x4096x1 ![0, 1] bcast_S16x4096_S16x4096x1_0_1
          (Host.reduceAdd (mulf x x) (constant S_ .f32 0x00000000#32) reducesTo_S16x4096x3_S16x4096_d2 h_S_)))
      (mulf (broadcastInDim S16x4096x256 ![] bcast_S_S16x4096x256 (constant S_ .f32 0x40000000#32))
        (Host.dotGeneral dot_S16x4096x3_S16x256x3_S16x4096x256_2_2_1_1_0_0 none x c)))
    (broadcastInDim S16x4096x256 ![0, 1, 2] bcast_S16x1x256_S16x4096x256_0_1_2
      (broadcastInDim S16x1x256 ![0, 2] bcast_S16x256_S16x1x256_0_2
        (Host.reduceAdd (mulf c c) (constant S_ .f32 0x00000000#32) reducesTo_S16x256x3_S16x256_d2 h_S_)))

/-- The place of the least entry of each row. -/
def refNear (d : FVec F S16x4096x256 .f32) : IVec S16x4096 32 := fun j =>
  (Host.argReduce reducer_argmin_f32_i32 d (iotaInDim S16x4096x256 32 2) (constant S_ .f32 0x7F800000#32) (constantI S_ 32 0#32)
    reducesTo_S16x4096x256_S16x4096_d2 h_S_ j).2

/-- Which points carry which label, as 0 and 1. -/
def refHot (l : IVec S16x4096 32) : FVec F S16x4096x256 .f32 :=
  uitofp .f32 (cmpi .eq
    (broadcastInDim S16x4096x256 ![0, 1, 2] bcast_S16x4096x1_S16x4096x256_0_1_2
      (broadcastInDim S16x4096x1 ![0, 1] bcast_S16x4096_S16x4096x1_0_1 l))
    (broadcastInDim S16x4096x256 ![0, 1, 2] bcast_S1x1x256_S16x4096x256_0_1_2
      (broadcastInDim S1x1x256 ![2] bcast_S256_S1x1x256_2 (iotaInDim S256 32 0))))

/-- The mean of the points that carry each label. -/
def refMove (x : FVec F S16x4096x3 .f32) (l : IVec S16x4096 32) : FVec F S16x256x3 .f32 :=
  Host.divf (Host.dotGeneral dot_S16x4096x256_S16x4096x3_S16x256x3_1_1_2_2_0_0 none (refHot l) x)
    (broadcastInDim S16x256x3 ![0, 1, 2] bcast_S16x256x1_S16x256x3_0_1_2
      (broadcastInDim S16x256x1 ![0, 1] bcast_S16x256_S16x256x1_0_1
        (maximumf
          (Host.reduceAdd (refHot l) (constant S_ .f32 0x00000000#32) reducesTo_S16x4096x256_S16x256_d1 h_S_)
          (broadcastInDim S16x256 ![] bcast_S_S16x256 (constant S_ .f32 0x3F800000#32)))))

/-- The rows gathered: each cloud's number beside each point's label. -/
def refRows (l : IVec S16x4096 32) : IVec S16x4096x2 32 :=
  concatenate S16x4096x2 2
    [⟨S16x4096x1, broadcastInDim S16x4096x1 ![0, 1] bcast_S16x4096_S16x4096x1_0_1
      (broadcastInDim S16x4096 ![0, 1] bcast_S16x1_S16x4096_0_1
        (select
          (cmpi .slt (broadcastInDim S16x1 ![0] bcast_S16_S16x1_0 (iotaInDim S16 32 0))
            (broadcastInDim S16x1 ![] bcast_S_S16x1 (constantI S_ 32 0#32)))
          (addi (broadcastInDim S16x1 ![0] bcast_S16_S16x1_0 (iotaInDim S16 32 0))
            (broadcastInDim S16x1 ![] bcast_S_S16x1 (constantI S_ 32 16#32)))
          (broadcastInDim S16x1 ![0] bcast_S16_S16x1_0 (iotaInDim S16 32 0))))⟩,
     ⟨S16x4096x1, broadcastInDim S16x4096x1 ![0, 1] bcast_S16x4096_S16x4096x1_0_1
      (select
        (cmpi .slt l (broadcastInDim S16x4096 ![] bcast_S_S16x4096 (constantI S_ 32 0#32)))
        (addi l (broadcastInDim S16x4096 ![] bcast_S_S16x4096 (constantI S_ 32 256#32)))
        l)⟩]
    concatenates_S16x4096x1_S16x4096x1_S16x4096x2_d2

/-- Each point's centroid. -/
def refPick (c : FVec F S16x256x3 .f32) (l : IVec S16x4096 32) : FVec F S16x4096x3 .f32 :=
  Host.gather gather_S16x256x3_S16x4096x2_S16x4096x3_2_01_n_n_01_2_113 c (refRows l)

/-- The first linear layer on the points less their centroids. -/
def refHid (x p : FVec F S16x4096x3 .f32) (w : FVec F S3x128 .f32) (b : FVec F S128 .f32) : FVec F S16x4096x128 .f32 :=
  addf (Host.dotGeneral dot_S16x4096x3_S3x128_S16x4096x128_2_0_01_1_n_n none (subf x p) w)
    (broadcastInDim S16x4096x128 ![0, 1, 2] bcast_S1x1x128_S16x4096x128_0_1_2
      (broadcastInDim S1x1x128 ![2] bcast_S128_S1x1x128_2 b))

/-- A row's mean. -/
def refMean (h : FVec F S16x4096x128 .f32) : FVec F S16x4096x1 .f32 :=
  Host.divf
    (broadcastInDim S16x4096x1 ![0, 1] bcast_S16x4096_S16x4096x1_0_1
      (Host.reduceAdd h (constant S_ .f32 0x00000000#32) reducesTo_S16x4096x128_S16x4096_d2 h_S_))
    (broadcastInDim S16x4096x1 ![] bcast_S_S16x4096x1 (constant S_ .f32 0x43000000#32))

/-- A row less its mean. -/
def refCentre (h : FVec F S16x4096x128 .f32) : FVec F S16x4096x128 .f32 :=
  subf h (broadcastInDim S16x4096x128 ![0, 1, 2] bcast_S16x4096x1_S16x4096x128_0_1_2 (refMean h))

/-- A row less its mean, over its deviation. -/
def refNorm (h : FVec F S16x4096x128 .f32) : FVec F S16x4096x128 .f32 :=
  Host.divf (refCentre h)
    (broadcastInDim S16x4096x128 ![0, 1, 2] bcast_S16x4096x1_S16x4096x128_0_1_2
      (Host.sqrt (addf (refMean (mulf (refCentre h) (refCentre h)))
        (broadcastInDim S16x4096x1 ![] bcast_S_S16x4096x1 (constant S_ .f32 0x3727C5AC#32)))))

/-- The affine part, the positive part, and the second linear layer. -/
def refOut (h : FVec F S16x4096x128 .f32) (g be : FVec F S128 .f32) (w : FVec F S128x256 .f32) (b : FVec F S256 .f32) :
    FVec F S16x4096x256 .f32 :=
  addf
    (Host.dotGeneral dot_S16x4096x128_S128x256_S16x4096x256_2_0_01_1_n_n none
      (maximumf
        (addf
          (mulf h (broadcastInDim S16x4096x128 ![0, 1, 2] bcast_S1x1x128_S16x4096x128_0_1_2
            (broadcastInDim S1x1x128 ![2] bcast_S128_S1x1x128_2 g)))
          (broadcastInDim S16x4096x128 ![0, 1, 2] bcast_S1x1x128_S16x4096x128_0_1_2
            (broadcastInDim S1x1x128 ![2] bcast_S128_S1x1x128_2 be)))
        (broadcastInDim S16x4096x128 ![] bcast_S_S16x4096x128 (constant S_ .f32 0x00000000#32)))
      w)
    (broadcastInDim S16x4096x256 ![0, 1, 2] bcast_S1x1x256_S16x4096x256_0_1_2
      (broadcastInDim S1x1x256 ![2] bcast_S256_S1x1x256_2 b))

/-- The labels in the result's shape. -/
def refLabels (l : IVec S16x4096 32) : IVec S16x1x4096 32 := broadcastInDim S16x1x4096 ![0, 2] bcast_S16x4096_S16x1x4096_0_2 l

/-- The centroids before the first step. -/
def refFirst (x : FVec F S16x4096x3 .f32) : FVec F S16x256x3 .f32 :=
  extractStridedSlice S16x256x3 ![0, 0, 0] x slices_S16x4096x3_S16x256x3_0_0_0

/-- The labels before the first step. -/
def refZero : IVec S16x4096 32 := broadcastInDim S16x4096 ![] bcast_S_S16x4096 (constantI S_ 32 0#32)

/-- The centroids and labels after `k` steps. -/
def refAt (x : FVec F S16x4096x3 .f32) : ℕ → FVec F S16x256x3 .f32 × IVec S16x4096 32
  | 0 => (refFirst x, refZero)
  | k + 1 => (refMove x (refNear (refDist x (refAt x k).1)), refNear (refDist x (refAt x k).1))

theorem refAt_succ (x : FVec F S16x4096x3 .f32) (k : ℕ) :
    refAt x (k + 1) = (refMove x (refNear (refDist x (refAt x k).1)), refNear (refDist x (refAt x k).1)) := rfl

section Values

variable (V : Valuation τ sig (Elt F))

theorem pre_x : after preOps V main_v2_0 = V main_arg0 := by after_results; rfl
theorem pre_i : after preOps V main_v2_1 = (constantI S_ 32 0#32 : IVec S_ 32) := by after_results; rfl
theorem pre_c : after preOps V main_v2_3 = refFirst (V main_arg0) := by after_results; rfl
theorem pre_l : after preOps V main_v2_4 = refZero := by after_results; rfl

theorem dist_d : after distOps V main_while0b_v69 = refDist (V main_v2_0) (V main_v2_3) := by after_results; rfl
theorem near_l : after nearOps V main_while0b_v70 = refNear (V main_while0b_v69) := by
  simp only [nearOps, TRef.nullary, TRef.quaternary, TRef.toBuf, TRef.ofBuf, cast_eq]; after_results; rfl
theorem move_c : after moveOps V main_v2_3 = refMove (V main_v2_0) (V main_while0b_v70) := by after_results; rfl
theorem move_l : after moveOps V main_v2_4 = V main_while0b_v70 := by after_results; rfl
theorem move_i : after moveOps V main_v2_1 = addi (V main_v2_1) (constantI S_ 32 1#32 : IVec S_ 32) := by after_results; rfl

theorem pick_p : after pickOps V main_v19 = refPick (V main_v2_3) (V main_v2_4) := by after_results; rfl
theorem hid_h : after hidOps V main_v24 = refHid (V main_arg0) (V main_v19) (V main_arg1) (V main_arg2) := by after_results; rfl
theorem norm_h : after normOps V main_v42 = refNorm (V main_v24) := by after_results; rfl
theorem last_h : after lastOps V main_v54 = refOut (V main_v42) (V main_arg3) (V main_arg4) (V main_arg5) (V main_arg6) := by
  after_results; rfl
theorem last_l : after lastOps V main_v55 = refLabels (V main_v2_4) := by after_results; rfl

/-- A stretch leaves a buffer that it does not write. -/
theorem dist_keeps : after distOps V main_v2_0 = V main_v2_0 ∧ after distOps V main_v2_1 = V main_v2_1 := by
  constructor <;> after_results
theorem near_keeps : after nearOps V main_v2_0 = V main_v2_0 ∧ after nearOps V main_v2_1 = V main_v2_1 := by
  simp only [nearOps, TRef.nullary, TRef.quaternary, TRef.toBuf, TRef.ofBuf, cast_eq]
  constructor <;> after_results
theorem move_keeps : after moveOps V main_v2_0 = V main_v2_0 := by after_results
theorem cond_keeps : after condOps V main_v2_0 = V main_v2_0 ∧ after condOps V main_v2_1 = V main_v2_1
    ∧ after condOps V main_v2_3 = V main_v2_3 ∧ after condOps V main_v2_4 = V main_v2_4 := by
  refine ⟨?_, ?_, ?_, ?_⟩ <;> after_results
theorem pick_keeps : after pickOps V main_v2_3 = V main_v2_3 ∧ after pickOps V main_v2_4 = V main_v2_4 := by
  constructor <;> after_results
theorem hid_keeps : after hidOps V main_v2_3 = V main_v2_3 ∧ after hidOps V main_v2_4 = V main_v2_4
    ∧ after hidOps V main_v19 = V main_v19 := by
  refine ⟨?_, ?_, ?_⟩ <;> after_results
theorem norm_keeps : after normOps V main_v2_3 = V main_v2_3 ∧ after normOps V main_v2_4 = V main_v2_4
    ∧ after normOps V main_v19 = V main_v19 := by
  refine ⟨?_, ?_, ?_⟩ <;> after_results
theorem last_keeps : after lastOps V main_v2_3 = V main_v2_3 ∧ after lastOps V main_v19 = V main_v19 := by
  constructor <;> after_results

/-- The program's arguments. -/
abbrev IsArg (r : Ref sig .tc) : Prop :=
  r = main_arg0 ∨ r = main_arg1 ∨ r = main_arg2 ∨ r = main_arg3 ∨ r = main_arg4 ∨ r = main_arg5 ∨ r = main_arg6

theorem pre_arg {r : Ref sig .tc} (h : IsArg r) : after preOps V r = V r := by
  rcases h with rfl | rfl | rfl | rfl | rfl | rfl | rfl <;> after_results
theorem cond_arg {r : Ref sig .tc} (h : IsArg r) : after condOps V r = V r := by
  rcases h with rfl | rfl | rfl | rfl | rfl | rfl | rfl <;> after_results
theorem dist_arg {r : Ref sig .tc} (h : IsArg r) : after distOps V r = V r := by
  rcases h with rfl | rfl | rfl | rfl | rfl | rfl | rfl <;> after_results
theorem near_arg {r : Ref sig .tc} (h : IsArg r) : after nearOps V r = V r := by
  simp only [nearOps, TRef.nullary, TRef.quaternary, TRef.toBuf, TRef.ofBuf, cast_eq]
  rcases h with rfl | rfl | rfl | rfl | rfl | rfl | rfl <;> after_results
theorem move_arg {r : Ref sig .tc} (h : IsArg r) : after moveOps V r = V r := by
  rcases h with rfl | rfl | rfl | rfl | rfl | rfl | rfl <;> after_results
theorem pick_arg {r : Ref sig .tc} (h : IsArg r) : after pickOps V r = V r := by
  rcases h with rfl | rfl | rfl | rfl | rfl | rfl | rfl <;> after_results
theorem hid_arg {r : Ref sig .tc} (h : IsArg r) : after hidOps V r = V r := by
  rcases h with rfl | rfl | rfl | rfl | rfl | rfl | rfl <;> after_results
theorem norm_arg {r : Ref sig .tc} (h : IsArg r) : after normOps V r = V r := by
  rcases h with rfl | rfl | rfl | rfl | rfl | rfl | rfl <;> after_results
theorem last_arg {r : Ref sig .tc} (h : IsArg r) : after lastOps V r = V r := by
  rcases h with rfl | rfl | rfl | rfl | rfl | rfl | rfl <;> after_results

/-- One trip round the loop. -/
abbrev trip : Valuation τ sig (Elt F) := afterL [distOps, nearOps, moveOps] (after condOps V)

theorem trip_x : trip V main_v2_0 = V main_v2_0 := by
  simp only [trip, afterL_cons, afterL_nil]
  rw [move_keeps, (near_keeps _).1, (dist_keeps _).1, (cond_keeps _).1]
theorem trip_i : trip V main_v2_1 = addi (V main_v2_1) (constantI S_ 32 1#32 : IVec S_ 32) := by
  simp only [trip, afterL_cons, afterL_nil]
  rw [move_i, (near_keeps _).2, (dist_keeps _).2, (cond_keeps _).2.1]
theorem trip_l : trip V main_v2_4 = refNear (refDist (V main_v2_0) (V main_v2_3)) := by
  simp only [trip, afterL_cons, afterL_nil]
  rw [move_l, near_l, dist_d, (cond_keeps _).1, (cond_keeps _).2.2.1]
theorem trip_c : trip V main_v2_3 = refMove (V main_v2_0) (refNear (refDist (V main_v2_0) (V main_v2_3))) := by
  simp only [trip, afterL_cons, afterL_nil]
  rw [move_c, near_l, dist_d, (near_keeps _).1, (dist_keeps _).1, (cond_keeps _).1, (cond_keeps _).2.2.1]
theorem trip_arg {r : Ref sig .tc} (h : IsArg r) : trip V r = V r := by
  simp only [trip, afterL_cons, afterL_nil]
  rw [move_arg _ h, near_arg _ h, dist_arg _ h, cond_arg _ h]

end Values

/-- The contents before the `k`-th run of the loop's condition. -/
abbrev before (m : (ℓ : Loc nD τ sig) → Buf (Elt F) ℓ) (k : ℕ) (c : Dev nD) : Valuation τ sig (Elt F) :=
  atTrip condOps [distOps, nearOps, moveOps] (entryContents [preOps] m) k c

/-- What the loop carries before its `k`-th condition. -/
theorem before_eq (m : (ℓ : Loc nD τ sig) → Buf (Elt F) ℓ) (c : Dev nD) : ∀ k,
    before m k c main_v2_0 = m ((c.tc : Thread nD τ).loc main_arg0)
    ∧ before m k c main_v2_1 = (fun _ => BitVec.ofNat 32 k : IVec S_ 32)
    ∧ before m k c main_v2_3 = (refAt (m ((c.tc : Thread nD τ).loc main_arg0)) k).1
    ∧ before m k c main_v2_4 = (refAt (m ((c.tc : Thread nD τ).loc main_arg0)) k).2
    ∧ ∀ r, IsArg r → before m k c r = m ((c.tc : Thread nD τ).loc r)
  | 0 => by
    have e : before m 0 c = after preOps (launchContents m c) := rfl
    rw [e, pre_x, pre_i, pre_c, pre_l]
    exact ⟨rfl, rfl, rfl, rfl, fun r h => pre_arg _ h⟩
  | k + 1 => by
    obtain ⟨hx, hi, hc, hl, ha⟩ := before_eq m c k
    have e : before m (k + 1) c = trip (before m k c) := rfl
    rw [e]
    refine ⟨(trip_x _).trans hx, (trip_i _).trans ?_, (trip_c _).trans ?_, (trip_l _).trans ?_, fun r h => (trip_arg _ h).trans (ha r h)⟩
    · rw [hi]
      funext j
      show BitVec.ofNat 32 k + 1#32 = BitVec.ofNat 32 (k + 1)
      rw [BitVec.ofNat_add]
    · rw [hx, hc, refAt_succ]
    · rw [hx, hc, refAt_succ]

/-- The loop's test, at each of the trips. -/
theorem test_iff (k : ℕ) (hk : k ≤ 10) : Iff (IntOp.cmpi .slt (BitVec.ofNat 32 k) 10#32 = 1#1) (k < 10) := by
  revert k; decide

open Idealize.SL Idealize.SL.RA Idealize.SL.BI Idealize.SL.BI.BIBase Idealize.SL.BI.Laws Idealize.SL.ProofMode in
open scoped Idealize.SL.BI in
theorem cond_spec (m : (ℓ : Loc nD τ sig) → Buf (Elt F) ℓ) :
    CondSpec (pcfgs (F := F)) defs₀ loops main_while0_cond condOps [distOps, nearOps, moveOps] (entryContents [preOps] m) 10 := by
  intro k hk c bd
  have hctr := (before_eq m c k).2.1
  simp only [main_while0_cond, bind_pure]
  rw [wp_bind]
  iintro ⟨Hb, Hh⟩
  iapply (StableHlo.wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  erw [HostLoop.elt_apply]; rw [wp_ret]; imodintro
  isplitr
  · ipureintro
    show Iff (IntOp.cmpi .slt (HloOp.result _ (before m k c) main_v2_1 HostLoop.idx0)
        (HloOp.result _ (before m k c) main_while0c_c_15 HostLoop.idx0) = 1#1) (k < 10)
    rw [nullary_result_ne _ _ _ _ (by decide), nullary_result, hctr]
    exact test_iff k hk
  isplitl [Hb]; · iexact Hb
  rw [after_cons, after_cons, after_nil]; iexact Hh

/-- The results as functions of the arguments. -/
def refH (x : FVec F S16x4096x3 .f32) (w1 : FVec F S3x128 .f32) (b1 g be : FVec F S128 .f32) (w2 : FVec F S128x256 .f32)
    (b2 : FVec F S256 .f32) : FVec F S16x4096x256 .f32 :=
  refOut (refNorm (refHid x (refPick (refAt x 10).1 (refAt x 10).2) w1 b1)) g be w2 b2

/-- THE REFERENCE'S RUN: each result at its function of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2_3) = (refAt (m ((c.tc : Thread nD τ).loc main_arg0)) 10).1
      ∧ r.2.mem ((c.tc : Thread nD τ).loc main_v55) = refLabels (refAt (m ((c.tc : Thread nD τ).loc main_arg0)) 10).2
      ∧ r.2.mem ((c.tc : Thread nD τ).loc main_v19)
        = refPick (refAt (m ((c.tc : Thread nD τ).loc main_arg0)) 10).1 (refAt (m ((c.tc : Thread nD τ).loc main_arg0)) 10).2
      ∧ r.2.mem ((c.tc : Thread nD τ).loc main_v54)
        = refH (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ ∀ b, IsArg b → r.2.mem ((c.tc : Thread nD τ).loc b) = m ((c.tc : Thread nD τ).loc b) := by
  refine (θ_run defs _ _).mono (fun r h c => ?_)
    (run_loop pcfgs defs₀ loops main 0 main_while0_cond main_while0_body rfl [preOps] [distOps, nearOps, moveOps]
      [pickOps, hidOps, normOps, lastOps] condOps (.cons preOps_sub .nil) (.cons distOps_sub (.cons nearOps_sub (.cons moveOps_sub .nil)))
      (.cons pickOps_sub (.cons hidOps_sub (.cons normOps_sub (.cons lastOps_sub .nil)))) main_chain body_chain 10 m ρ (cond_spec m))
  obtain ⟨-, -, hc, hl, ha⟩ := before_eq m c 10
  have fin : ∀ b, finalContents condOps [preOps] [distOps, nearOps, moveOps] [pickOps, hidOps, normOps, lastOps] 10 m c b
      = after lastOps (after normOps (after hidOps (after pickOps (after condOps (before m 10 c))))) b := fun _ => rfl
  have harg : ∀ b, IsArg b → after lastOps (after normOps (after hidOps (after pickOps (after condOps (before m 10 c))))) b
      = m ((c.tc : Thread nD τ).loc b) := fun b hb => by
    rw [last_arg _ hb, norm_arg _ hb, hid_arg _ hb, pick_arg _ hb, cond_arg _ hb, ha b hb]
  refine ⟨(h c main_v2_3 (by decide)).trans ?_, (h c main_v55 (by decide)).trans ?_, (h c main_v19 (by decide)).trans ?_,
    (h c main_v54 (by decide)).trans ?_, fun b hb => (h c b (by rcases hb with rfl | rfl | rfl | rfl | rfl | rfl | rfl <;> decide)).trans ?_⟩
  · rw [fin, (last_keeps _).1, (norm_keeps _).1, (hid_keeps _).1, (pick_keeps _).1, (cond_keeps _).2.2.1, hc]
  · rw [fin, last_l, (norm_keeps _).2.1, (hid_keeps _).2.1, (pick_keeps _).2, (cond_keeps _).2.2.2, hl]
  · rw [fin, (last_keeps _).2, (norm_keeps _).2.2, (hid_keeps _).2.2, pick_p, (cond_keeps _).2.2.1, (cond_keeps _).2.2.2, hc, hl]
  · have e : ∀ b, IsArg b → after normOps (after hidOps (after pickOps (after condOps (before m 10 c)))) b
        = m ((c.tc : Thread nD τ).loc b) := fun b hb => by
      rw [norm_arg _ hb, hid_arg _ hb, pick_arg _ hb, cond_arg _ hb, ha b hb]
    have e' : ∀ b, IsArg b → after pickOps (after condOps (before m 10 c)) b = m ((c.tc : Thread nD τ).loc b) := fun b hb => by
      rw [pick_arg _ hb, cond_arg _ hb, ha b hb]
    rw [fin, last_h, norm_h, hid_h, pick_p, (cond_keeps _).2.2.1, (cond_keeps _).2.2.2, hc, hl,
      e main_arg3 (by simp [IsArg]), e main_arg4 (by simp [IsArg]), e main_arg5 (by simp [IsArg]), e main_arg6 (by simp [IsArg]),
      e' main_arg0 (by simp [IsArg]), e' main_arg1 (by simp [IsArg]), e' main_arg2 (by simp [IsArg])]
    rfl
  · exact harg b hb

end Cert.Stage1ReferenceIdeal.Value

end
-- ==== Proof.Nearest.lean ====
/- The place of the first least entry of a row of 256, from two programs that find it: a minimum of the places that hold
   the least value, and a fold that keeps the better of two (value, place) pairs. And a point's label as a row of 0 and 1. -/
module

public import Idealize.ShloMosaic.Lib.Pointwise
public import Idealize.ShloMosaic.PureOps.Ideal.Laws

@[expose] public section

noncomputable section

namespace Cert.Proof.Nearest

open Idealize.ShloMosaic

/-- The word `l` is the place of the first least entry of `f`. -/
def IsNearest (f : Fin 256 → EReal) (l : BitVec 32) : Prop :=
  ∃ k : Fin 256, l = BitVec.ofNat 32 k.val ∧ (∀ k', f k ≤ f k') ∧ ∀ k' < k, f k < f k'

theorem IsNearest.unique {f : Fin 256 → EReal} {l l' : BitVec 32} (h : IsNearest f l) (h' : IsNearest f l') : l = l' := by
  obtain ⟨k, rfl, hk, hlt⟩ := h
  obtain ⟨k', rfl, hk', hlt'⟩ := h'
  rcases lt_trichotomy k k' with c | rfl | c
  · exact absurd (hlt' k c) (not_lt.2 (hk k'))
  · rfl
  · exact absurd (hlt k' c) (not_lt.2 (hk' k))

theorem exists_first (f : Fin 256 → EReal) : ∃ k, (∀ k', f k ≤ f k') ∧ ∀ k' < k, f k < f k' := by
  obtain ⟨q, hq⟩ := Finite.exists_min f
  have hne : (Finset.univ.filter fun k => ∀ k', f k ≤ f k').Nonempty := ⟨q, Finset.mem_filter.2 ⟨Finset.mem_univ _, hq⟩⟩
  have hm := (Finset.mem_filter.1 (Finset.min'_mem _ hne)).2
  refine ⟨_, hm, fun k' hlt => (hm k').lt_of_ne fun e => ?_⟩
  exact absurd (Finset.min'_le _ k' (Finset.mem_filter.2 ⟨Finset.mem_univ _, fun a => e ▸ hm a⟩)) (not_le.2 hlt)

theorem toInt_small (k : Nat) (h : k ≤ 256) : (BitVec.ofNat 32 k).toInt = k := by
  have e : (BitVec.ofNat 32 k).toNat = k := by rw [BitVec.toNat_ofNat]; omega
  rw [BitVec.toInt_eq_toNat_of_lt (by rw [e]; omega), e]

theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The signed minimum of words that are none below `w`, one of them `w`, is `w`. -/
theorem fold_minsi (g : Fin 256 → BitVec 32) (b w : BitVec 32) (hb : w.toInt ≤ b.toInt) (hg : ∀ k, w.toInt ≤ (g k).toInt)
    (he : ∃ k, g k = w) : Finset.univ.fold IntOp.minsi b g = w := by
  have e : (Finset.univ.fold IntOp.minsi b g).toInt = Finset.univ.fold min b.toInt fun k => (g k).toInt :=
    (Finset.fold_hom (s := Finset.univ) (b := b) (f := g) (op := IntOp.minsi) (op' := min) (m := BitVec.toInt) toInt_minsi).symm
  refine BitVec.eq_of_toInt_eq (e.trans (le_antisymm ?_ ?_))
  · obtain ⟨k, rfl⟩ := he
    exact (Finset.fold_min_le _).2 (.inr ⟨k, Finset.mem_univ _, le_refl _⟩)
  · exact (Finset.le_fold_min _).2 ⟨hb, fun k _ => hg k⟩

theorem ofBits_top : Ideal.ofBits .f32 0x7F800000#32 = ⊤ := by simp [Ideal.ofBits, Ideal.ieee]

theorem fold_min_eq (f : Fin 256 → EReal) (k : Fin 256) (hk : ∀ k', f k ≤ f k') :
    Finset.univ.fold min (Ideal.ofBits .f32 0x7F800000#32) f = f k := by
  rw [ofBits_top]
  exact le_antisymm ((Finset.fold_min_le _).2 (.inr ⟨k, Finset.mem_univ _, le_refl _⟩)) ((Finset.le_fold_min _).2 ⟨le_top, fun k' _ => hk k'⟩)

/-- The least of the places whose entry is the least one. -/
theorem isNearest_fold (f : Fin 256 → EReal) :
    IsNearest f (Finset.univ.fold IntOp.minsi 2147483647#32 fun k : Fin 256 =>
      if f k = Finset.univ.fold min (Ideal.ofBits .f32 0x7F800000#32) f then BitVec.ofNat 32 k.val else 256#32) := by
  obtain ⟨q, hq, hlt⟩ := exists_first f
  refine ⟨q, ?_, hq, hlt⟩
  have hqi := toInt_small q.val (by omega)
  rw [fold_min_eq f q hq]
  refine fold_minsi _ _ _ ?_ ?_ ⟨q, if_pos rfl⟩
  · rw [hqi]; have h : (2147483647#32 : BitVec 32).toInt = 2147483647 := by decide
    rw [h]; have := q.isLt; omega
  · intro k
    rw [hqi]
    by_cases h : f k = f q
    · rw [if_pos h, toInt_small k.val (by omega)]
      have : ¬ k < q := fun c => absurd (hlt k c) (by rw [h]; exact lt_irrefl _)
      exact Int.ofNat_le.2 (not_lt.1 this)
    · rw [if_neg h, show (256#32 : BitVec 32).toInt = 256 by decide]
      have := q.isLt; omega

/-- One (value, place) pair is no worse than another: a smaller value, or the same value at no later a place. -/
def Better (a b : EReal × BitVec 32) : Prop := a.1 < b.1 ∨ a.1 = b.1 ∧ a.2.toInt ≤ b.2.toInt

theorem Better.refl (a : EReal × BitVec 32) : Better a a := .inr ⟨rfl, le_refl _⟩

theorem Better.trans {a b c : EReal × BitVec 32} (h : Better a b) (h' : Better b c) : Better a c := by
  rcases h with h | ⟨h, i⟩ <;> rcases h' with h' | ⟨h', i'⟩
  · exact .inl (h.trans h')
  · exact .inl (h' ▸ h)
  · exact .inl (h ▸ h')
  · exact .inr ⟨h.trans h', i.trans i'⟩

/-- A fold that keeps the better of two pairs ends with one of the pairs, and with none better. -/
theorem foldl_better (r : EReal × BitVec 32 → EReal × BitVec 32 → EReal × BitVec 32)
    (hr : ∀ a b, (r a b = a ∨ r a b = b) ∧ Better (r a b) a ∧ Better (r a b) b) (L : List (EReal × BitVec 32)) :
    ∀ a, (L.foldl r a = a ∨ L.foldl r a ∈ L) ∧ Better (L.foldl r a) a ∧ ∀ b ∈ L, Better (L.foldl r a) b := by
  induction L with
  | nil => exact fun a => ⟨.inl rfl, Better.refl a, fun b h => absurd h List.not_mem_nil⟩
  | cons x L ih =>
    intro a
    rw [List.foldl_cons]
    obtain ⟨h1, h2, h3⟩ := ih (r a x)
    obtain ⟨e, ha, hx⟩ := hr a x
    refine ⟨?_, h2.trans ha, fun b hb => ?_⟩
    · rcases h1 with h1 | h1
      · rw [h1]
        rcases e with e | e
        · exact .inl e
        · rw [e]; exact .inr List.mem_cons_self
      · exact .inr (List.mem_cons_of_mem _ h1)
    · rcases List.mem_cons.1 hb with rfl | hb
      · exact h2.trans hx
      · exact h3 b hb

/-- So over the pairs of a row's entries and their places, from the pair of +∞ and 0, its place is that of the first
    least entry. -/
theorem isNearest_foldl (r : EReal × BitVec 32 → EReal × BitVec 32 → EReal × BitVec 32)
    (hr : ∀ a b, (r a b = a ∨ r a b = b) ∧ Better (r a b) a ∧ Better (r a b) b) (L : List (EReal × BitVec 32))
    (f : Fin 256 → EReal) (hL : ∀ p, p ∈ L ↔ ∃ k : Fin 256, p = (f k, BitVec.ofNat 32 k.val)) :
    IsNearest f (L.foldl r (⊤, 0#32)).2 := by
  obtain ⟨h1, h2, h3⟩ := foldl_better r hr L (⊤, 0#32)
  have h4 : ∀ k : Fin 256, Better (L.foldl r (⊤, 0#32)) (f k, BitVec.ofNat 32 k.val) := fun k => h3 _ ((hL _).2 ⟨k, rfl⟩)
  have h5 : ∃ q : Fin 256, L.foldl r (⊤, 0#32) = (f q, BitVec.ofNat 32 q.val) := by
    rcases h1 with h1 | h1
    · refine ⟨0, ?_⟩
      have h := h4 0
      rw [h1] at h ⊢
      rcases h with h | h
      · exact absurd h not_top_lt
      · exact Prod.ext h.1 rfl
    · exact (hL _).1 h1
  obtain ⟨q, hq⟩ := h5
  rw [hq] at h4 ⊢
  refine ⟨q, rfl, fun k' => ?_, fun k' hlt => ?_⟩
  · exact (h4 k').elim le_of_lt fun h => h.1.le
  · rcases h4 k' with h | ⟨_, h⟩
    · exact h
    · dsimp only at h
      rw [toInt_small _ (by omega), toInt_small _ (by omega)] at h
      exact absurd (Int.ofNat_le.1 h) (not_le.2 hlt)

/-! ## Labels as rows of 0 and 1 -/

/-- 1 where the label `l` is the place `k`, else 0. -/
def hot (l : BitVec 32) (k : Fin 256) : EReal := if l = BitVec.ofNat 32 k.val then 1 else 0

theorem sitofp_eq (a b : BitVec 32) :
    FloatOps.sitofp (F := Ideal) .f32 (BitVec.setWidth 32 (IntOp.cmpi .eq a b)) = if a = b then (1 : EReal) else 0 := by
  show (((BitVec.setWidth 32 (BitVec.ofBool (a == b))).toInt : ℝ) : EReal) = _
  by_cases h : a = b
  · subst h; rw [if_pos rfl, beq_self_eq_true]; simp
  · rw [if_neg h, beq_eq_false_iff_ne.2 h]; simp

theorem uitofp_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · subst h; rw [if_pos rfl, beq_self_eq_true]; simp
  · rw [if_neg h, beq_eq_false_iff_ne.2 h]; simp

theorem ofNat_inj {a b : Nat} (ha : a < 256) (hb : b < 256) (h : BitVec.ofNat 32 a = BitVec.ofNat 32 b) : a = b := by
  have h' := congrArg BitVec.toNat h
  rw [BitVec.toNat_ofNat, BitVec.toNat_ofNat] at h'
  omega

/-- The row of a label times a column picks the column's entry there. -/
theorem sum_hot (q : Fin 256) (c : Fin 256 → EReal) : ∑ k, hot (BitVec.ofNat 32 q.val) k * c k = c q := by
  rw [Finset.sum_eq_single q]
  · unfold hot; rw [if_pos rfl, one_mul]
  · intro k _ hk
    unfold hot
    rw [if_neg fun h => hk (Fin.ext (ofNat_inj q.isLt k.isLt h)).symm, zero_mul]
  · exact fun h => absurd (Finset.mem_univ q) h

/-! ## Eight lanes of which three count -/

/-- Lane `d` of the first three. -/
def lane (d : Fin 3) : Fin 8 := ⟨d.val, by omega⟩

theorem lane_lt (d : Fin 3) : (lane d).val < 3 := d.isLt

theorem sum_lanes (f : Fin 8 → EReal) (h : ∀ d : Fin 8, 3 ≤ d.val → f d = 0) : ∑ d, f d = ∑ d : Fin 3, f (lane d) := by
  rw [Fin.sum_univ_eight, Fin.sum_univ_three, h 3 (by decide), h 4 (by decide), h 5 (by decide), h 6 (by decide), h 7 (by decide)]
  simp only [add_zero]
  rfl

theorem lane_cases (d : Fin 8) : (∃ e : Fin 3, d = lane e) ∨ 3 ≤ d.val := by
  by_cases h : d.val < 3
  · exact .inl ⟨⟨d.val, h⟩, rfl⟩
  · exact .inr (not_lt.1 h)

end Cert.Proof.Nearest

end
-- ==== Proof.Layers.lean ====
/- The normalised row and the linear layer after it, over the extended reals. -/
module

public import Idealize.ShloMosaic.Lib.Pointwise

@[expose] public section

noncomputable section

namespace Cert.Proof.Layers

open Idealize.ShloMosaic

variable {N : ℕ} (z : BitVec 32)

/-- The mean of a row, `z` the word of its width. -/
def mean (u : Fin N → EReal) : EReal := Ideal.div (∑ x, u x) (Ideal.ofBits .f32 z)

/-- A row less its mean, over its deviation. -/
def norm (u : Fin N → EReal) (x : Fin N) : EReal :=
  Ideal.div (u x - mean z u) (Ideal.sqrt (Ideal.div (∑ y, (u y - mean z u) * (u y - mean z u)) (Ideal.ofBits .f32 z) + Ideal.ofBits .f32 925353388#32))

/-- The linear layer at one output, on the positive part of the scaled row. -/
def layer (u g be w : Fin N → EReal) (b : EReal) : EReal := ∑ x, max (norm z u x * g x + be x) 0 * w x + b

end Cert.Proof.Layers

end
-- ==== Proof.Payloads.lean ====
/- What the clustering step's payloads hold at an index over the extended reals, on one batch: the points in the first three
   of eight lanes, a one in the fourth. -/
module

public import proofs.«01_k».proof.Proof.Gen.Stage1Ideal.Skeleton
public import proofs.«01_k».proof.Proof.Nearest
public import proofs.«01_k».proof.Proof.Layers

@[expose] public section

noncomputable section

namespace Cert.Proof.Payloads

open Idealize.ShloMosaic Cert.Proof.Nearest Cert.Proof.Layers Cert.Stage1Ideal Cert.Stage1Ideal.Gen

/-! ## The step on one batch, over the extended reals -/

/-- The squared distance of point `n` and centroid `k`, in three terms. -/
def dist (P : Fin 4096 → Fin 3 → EReal) (C : Fin 256 → Fin 3 → EReal) (n : Fin 4096) (k : Fin 256) : EReal :=
  ∑ d, P n d * P n d - Ideal.ofBits .f32 1073741824#32 * ∑ d, P n d * C k d + ∑ d, C k d * C k d

/-- The mean of the points of label `k`, their sum where there is none. -/
def means (P : Fin 4096 → Fin 3 → EReal) (l : Fin 4096 → BitVec 32) (k : Fin 256) (d : Fin 3) : EReal :=
  Ideal.div (∑ n, hot (l n) k * P n d) (max (∑ n, hot (l n) k) 1)

/-! ## The payloads -/

/-- The blocks of a batch hold its points. -/
structure Holds (P : Fin 4096 → Fin 3 → EReal) (v0 : Vec Ideal S1x4096x8 .f32) (v2 : Vec Ideal S1x8x4096 .f32) : Prop where
  x : ∀ n d, v0 (ix3 0 n (lane d)) = P n d
  xt : ∀ n d, v2 (ix3 0 (lane d) n) = P n d
  one : ∀ n, v2 (ix3 0 3 n) = 1

/-- The centroids in the first three lanes, zero in the others. -/
structure Lanes (C : Fin 256 → Fin 3 → EReal) (c : FVec Ideal S8x256 .f32) : Prop where
  lo : ∀ k d, c (ix2 (lane d) k) = C k d
  hi : ∀ k (d : Fin 8), 3 ≤ d.val → c (ix2 d k) = 0

theorem mask_toInt : ∀ d : Fin 8, (BitVec.setWidth 32 (IntOp.cmpi .slt (BitVec.ofNat 32 d.val) 3#32)).toInt = if d.val < 3 then 1 else 0 := by
  decide

theorem mask (d : Fin 8) : FloatOps.sitofp (F := Ideal) .f32 (BitVec.setWidth 32 (IntOp.cmpi .slt (BitVec.ofNat 32 d.val) 3#32)) = if d.val < 3 then (1 : EReal) else 0 := by
  show (((BitVec.setWidth 32 (IntOp.cmpi .slt (BitVec.ofNat 32 d.val) 3#32)).toInt : ℝ) : EReal) = _
  rw [mask_toInt]
  split <;> simp

theorem at3 (x : Fin 8) : (BitVec.ofNat 32 x.val = 3#32) = (x = 3) := by
  revert x; decide

theorem pay5 (v0 : Vec Ideal S1x4096x8 .f32) (n : Fin 4096) (d : Fin 8) : k0_pay5 (F := Ideal) v0 (ix2 n d) = v0 (ix3 0 n d) := by
  pointwise [k0_pay5]

theorem pay6 (d : Fin 8) : k0_pay6 (F := Ideal) (ix2 0 d) = if d.val < 3 then (1 : EReal) else 0 := by
  refine Eq.trans ?_ (mask d)
  pointwise [k0_pay6]

section
variable {P : Fin 4096 → Fin 3 → EReal} {v0 : Vec Ideal S1x4096x8 .f32} {v2 : Vec Ideal S1x8x4096 .f32} (hv : Holds P v0 v2)
  {C : Fin 256 → Fin 3 → EReal} {c : FVec Ideal S8x256 .f32} (hc : Lanes C c)
include hv

/-- The first centroids are the first points. -/
theorem first : Lanes (fun k d => P ⟨k.val, by omega⟩ d) (k0_pay7 (F := Ideal) v0) := by
  have e : ∀ (d : Fin 8) (k : Fin 256), k0_pay7 (F := Ideal) v0 (ix2 d k) = v0 (ix3 0 ⟨k.val, by omega⟩ d) * if d.val < 3 then (1 : EReal) else 0 := by
    intro d k
    rw [← pay6, ← pay5 v0 ⟨k.val, by omega⟩ d]
    pointwise [k0_pay7]
  refine ⟨fun k d => ?_, fun k d h => ?_⟩
  · rw [e, hv.x, if_pos (lane_lt d), mul_one]
  · rw [e, if_neg (not_lt.2 h), mul_zero]

include hc

theorem dist_eq (n : Fin 4096) (k : Fin 256) :
    ∑ d : Fin 8, k0_pay5 (F := Ideal) v0 (ix2 n d) * k0_pay5 (F := Ideal) v0 (ix2 n d) * k0_pay6 (F := Ideal) (ix2 0 d)
      - Ideal.ofBits .f32 1073741824#32 * ∑ d : Fin 8, k0_pay5 (F := Ideal) v0 (ix2 n d) * c (ix2 d k) + ∑ d : Fin 8, c (ix2 d k) * c (ix2 d k) = dist P C n k := by
  rw [sum_lanes (fun d => k0_pay5 (F := Ideal) v0 (ix2 n d) * k0_pay5 (F := Ideal) v0 (ix2 n d) * k0_pay6 (F := Ideal) (ix2 0 d)) fun d h => by
      rw [pay6, if_neg (not_lt.2 h), mul_zero],
    sum_lanes (fun d => k0_pay5 (F := Ideal) v0 (ix2 n d) * c (ix2 d k)) fun d h => by rw [hc.hi k d h, mul_zero],
    sum_lanes (fun d => c (ix2 d k) * c (ix2 d k)) fun d h => by rw [hc.hi k d h, mul_zero]]
  unfold dist
  refine congrArg₂ _ (congrArg₂ _ (Finset.sum_congr rfl fun d _ => ?_) (congrArg₂ _ rfl (Finset.sum_congr rfl fun d _ => ?_))) (Finset.sum_congr rfl fun d _ => ?_)
  · rw [pay5, pay6, hv.x, if_pos (lane_lt d), mul_one]
  · rw [pay5, hv.x, hc.lo]
  · rw [hc.lo]

/-- A point's label is its nearest centroid. -/
theorem near (n : Fin 4096) : IsNearest (dist P C n) (k0_pay9 (F := Ideal) v0 c (ix1 n)) := by
  have e : k0_pay9 (F := Ideal) v0 c (ix1 n) = Finset.univ.fold IntOp.minsi 2147483647#32 fun k : Fin 256 =>
      if dist P C n k = Finset.univ.fold min (Ideal.ofBits .f32 0x7F800000#32) (dist P C n) then BitVec.ofNat 32 k.val else 256#32 := by
    simp only [← dist_eq hv hc]
    pointwise [k0_pay9]
  rw [e]
  exact isNearest_fold _

end

section
variable {P : Fin 4096 → Fin 3 → EReal} {v0 : Vec Ideal S1x4096x8 .f32} {v2 : Vec Ideal S1x8x4096 .f32} (hv : Holds P v0 v2)
  {C : Fin 256 → Fin 3 → EReal} {c : FVec Ideal S8x256 .f32} (hc : Lanes C c)

include hv in
/-- The next centroids are the means. -/
theorem move (c : FVec Ideal S8x256 .f32) : Lanes (means P fun n => k0_pay9 (F := Ideal) v0 c (ix1 n)) (k0_pay10 (F := Ideal) v0 v2 c) := by
  have e : ∀ (d : Fin 8) (k : Fin 256), k0_pay10 (F := Ideal) v0 v2 c (ix2 d k) =
      Ideal.div ((∑ n, v2 (ix3 0 d n) * hot (k0_pay9 (F := Ideal) v0 c (ix1 n)) k) * if d.val < 3 then (1 : EReal) else 0)
        (max (∑ x : Fin 8, (∑ n, v2 (ix3 0 x n) * hot (k0_pay9 (F := Ideal) v0 c (ix1 n)) k) * if x = 3 then (1 : EReal) else 0) 1) := by
    intro d k
    simp only [← mask, ← at3, ← sitofp_eq, hot]
    pointwise [k0_pay10]
  have e' : ∀ k, ∑ x : Fin 8, (∑ n, v2 (ix3 0 x n) * hot (k0_pay9 (F := Ideal) v0 c (ix1 n)) k) * (if x = 3 then (1 : EReal) else 0) =
      ∑ n, hot (k0_pay9 (F := Ideal) v0 c (ix1 n)) k := by
    intro k
    rw [Finset.sum_eq_single 3 (fun x _ h => by rw [if_neg h, mul_zero]) fun h => absurd (Finset.mem_univ _) h, if_pos rfl, mul_one]
    exact Finset.sum_congr rfl fun n _ => by rw [hv.one, one_mul]
  refine ⟨fun k d => ?_, fun k d h => ?_⟩
  · rw [e, e', if_pos (lane_lt d), mul_one]
    unfold means
    refine congrArg₂ _ (Finset.sum_congr rfl fun n _ => ?_) rfl
    rw [hv.xt, mul_comm]
  · rw [e, if_neg (not_lt.2 h), mul_zero]
    unfold Ideal.div
    rw [if_neg (ne_of_gt (lt_of_lt_of_le zero_lt_one (le_max_right _ _))), zero_mul]

theorem pay12 (c : FVec Ideal S8x256 .f32) (l : IVec S4096 32) (n : Fin 4096) (d : Fin 8) :
    k0_pay12 (F := Ideal) c l (ix2 n d) = ∑ k, hot (l (ix1 n)) k * c (ix2 d k) := by
  simp only [hot, ← sitofp_eq]
  pointwise [k0_pay12, k0_pay11]

include hc in
theorem pick_lo (l : IVec S4096 32) (n : Fin 4096) (d : Fin 3) :
    k0_pay12 (F := Ideal) c l (ix2 n (lane d)) = ∑ k, hot (l (ix1 n)) k * C k d := by
  rw [pay12]
  exact Finset.sum_congr rfl fun k _ => by rw [hc.lo]

include hc in
theorem pick_hi (l : IVec S4096 32) (n : Fin 4096) (d : Fin 8) (h : 3 ≤ d.val) : k0_pay12 (F := Ideal) c l (ix2 n d) = 0 := by
  rw [pay12]
  exact Finset.sum_eq_zero fun k _ => by rw [hc.hi k d h, mul_zero]

theorem pay13 (v0 : Vec Ideal S1x4096x8 .f32) (c : FVec Ideal S8x256 .f32) (l : IVec S4096 32) (n : Fin 4096) (d : Fin 8) :
    k0_pay13 (F := Ideal) v0 c l (ix2 n d) = v0 (ix3 0 n d) * (if d.val < 3 then (1 : EReal) else 0) - k0_pay12 (F := Ideal) c l (ix2 n d) := by
  rw [← pay6, ← pay5 v0 n d]
  pointwise [k0_pay13]

include hv hc in
/-- The first linear layer on a point's place relative to its centroid. -/
theorem linear (w : FVec Ideal S8x128 .f32) (l : IVec S4096 32) (n : Fin 4096) (j : Fin 128) :
    ∑ d : Fin 8, k0_pay13 (F := Ideal) v0 c l (ix2 n d) * w (ix2 d j) = ∑ d : Fin 3, (P n d - ∑ k, hot (l (ix1 n)) k * C k d) * w (ix2 (lane d) j) := by
  rw [sum_lanes (fun d => k0_pay13 (F := Ideal) v0 c l (ix2 n d) * w (ix2 d j)) fun d h => by
    rw [pay13, if_neg (not_lt.2 h), mul_zero, pick_hi hc l n d h, sub_zero, zero_mul]]
  exact Finset.sum_congr rfl fun d _ => by rw [pay13, if_pos (lane_lt d), mul_one, hv.x, pick_lo hc]

end

/-- The features' second half. -/
theorem pay14 (r : FVec Ideal S4096x8 .f32) (w1 : Vec Ideal S8x128 .f32) (b1 g be : Vec Ideal S1x128 .f32) (w2 : Vec Ideal S128x256 .f32) (b2 : Vec Ideal S1x256 .f32) (n : Fin 4096) (d : Fin 256) :
    k0_pay4 (F := Ideal) (k0_pay14 r w1 b1 g be w2) (k0_pay15 b2) (ix3 0 n d) =
      layer 1124073472#32 (fun j => ∑ x, r (ix2 n x) * w1 (ix2 x j) + b1 (ix2 0 j)) (fun j => g (ix2 0 j)) (fun j => be (ix2 0 j)) (fun j => w2 (ix2 j d)) (b2 (ix2 0 d)) := by
  unfold layer Layers.norm mean
  pointwise [k0_pay4, k0_pay14, k0_pay15]

theorem pay1 (c : FVec Ideal S8x256 .f32) (k : Fin 256) (d : Fin 3) : k0_pay1 (F := Ideal) (k0_pay11 c) (ix3 0 k d) = c (ix2 (lane d) k) := by
  unfold lane
  pointwise [k0_pay1, k0_pay11]

theorem pay2 (l : IVec S4096 32) (n : Fin 4096) : k0_pay2 l (ix3 0 0 n) = l (ix1 n) := by
  pointwise [k0_pay2]

theorem pay3 (p : FVec Ideal S4096x8 .f32) (n : Fin 4096) (d : Fin 3) : k0_pay3 (F := Ideal) p (ix3 0 n d) = p (ix2 n (lane d)) := by
  unfold lane
  pointwise [k0_pay3]

theorem pay8 (n : Fin 4096) : k0_pay8 (ix1 n) = 0#32 := by
  pointwise [k0_pay8]

end Cert.Proof.Payloads

end
-- ==== Proof.Rows.lean ====
/- The gather of one row per point: in each batch, the row that the point's label names. -/
module

public import Idealize.ShloMosaic.Lib.Pointwise
public import proofs.«01_k».proof.Proof.Nearest

@[expose] public section

noncomputable section

namespace Cert.Proof.Rows

open Idealize.ShloMosaic Cert.Proof.Nearest

/-- The gather's dimension numbers, for rows of width `w`. -/
def dims (w : ℕ) (wf : GatherDims.WF ⟨3, ![16, 256, w]⟩ ⟨3, ![16, 4096, 2]⟩ ⟨3, ![16, 4096, w]⟩ [2] [0, 1] [] [0, 1] [] 2 ![1, 1, w]) :
    GatherDims ⟨3, ![16, 256, w]⟩ ⟨3, ![16, 4096, 2]⟩ ⟨3, ![16, 4096, w]⟩ where
  offsetDims := [2]
  collapsedSliceDims := [0, 1]
  operandBatchingDims := []
  startIndicesBatchingDims := []
  startIndexMap := [0, 1]
  indexVectorDim := 2
  sliceSizes := ![1, 1, w]
  wf := wf

theorem axes : ∀ a : Fin 3, a = 0 ∨ a = 1 ∨ a = 2 := by decide

theorem outer : ∀ a : Fin 3, (a = 0 ∨ a = 1) → a ∉ ([2] : List (Fin 3)) := by decide

variable {w : ℕ} (wf : GatherDims.WF ⟨3, ![16, 256, w]⟩ ⟨3, ![16, 4096, 2]⟩ ⟨3, ![16, 4096, w]⟩ [2] [0, 1] [] [0, 1] [] 2 ![1, 1, w])

theorem start_at (t : Fin 16) (n : Fin 4096) (d : Fin w) (e : Fin 2) : (dims w wf).siIdx (ix3 t n d) e = ix3 t n e := by
  funext b
  refine Fin.ext ?_
  match b with
  | ⟨0, _⟩ => rfl
  | ⟨1, _⟩ => rfl
  | ⟨2, _⟩ => rfl

/-- The gathered row is the one that the pair (batch, row) names. -/
theorem pick_of {α : Type} (c : (⟨3, ![16, 256, w]⟩ : Shape).Idx → α) (r : IVec ⟨3, ![16, 4096, 2]⟩ 32) (t : Fin 16) (n : Fin 4096) (d : Fin w) (q : Fin 256)
    (h0 : r (ix3 t n 0) = BitVec.ofNat 32 t.val) (h1 : r (ix3 t n 1) = BitVec.ofNat 32 q.val) :
    Host.gather (dims w wf) c r (ix3 t n d) = c (ix3 t q d) := by
  unfold Host.gather
  refine congrArg c (funext fun a => Fin.ext ?_)
  have hb : ∀ a, (dims w wf).batchCoord (ix3 t n d) a = 0 := fun a => GatherDims.batchCoord_eq_zero _ _ _ List.not_mem_nil
  have ho : ∀ a, (a = 0 ∨ a = 1) → (dims w wf).offCoord (ix3 t n d) a = 0 := fun a h =>
    GatherDims.offCoord_eq_zero _ _ _ (outer a h)
  have hm : ∀ x : Fin 3, (x ∈ (dims w wf).startIndexMap) = (x ∈ ([0, 1] : List (Fin 3))) := fun _ => rfl
  show (dims w wf).start (ix3 t n d) r a + (dims w wf).batchCoord (ix3 t n d) a + (dims w wf).offCoord (ix3 t n d) a = _
  rw [hb, Nat.add_zero]
  rcases axes a with rfl | rfl | rfl
  · rw [ho 0 (.inl rfl)]
    unfold GatherDims.start
    rw [dif_pos ((hm 0).mpr (by decide))]
    refine (congrArg (fun w : BitVec 32 => min w.toInt.toNat 15 + 0) ((congrArg r (start_at wf t n d 0)).trans h0)).trans ?_
    show min (BitVec.ofNat 32 t.val).toInt.toNat 15 + 0 = t.val
    rw [toInt_small _ (by omega)]
    simp only [Int.toNat_natCast]; omega
  · rw [ho 1 (.inr rfl)]
    unfold GatherDims.start
    rw [dif_pos ((hm 1).mpr (by decide))]
    refine (congrArg (fun w : BitVec 32 => min w.toInt.toNat 255 + 0) ((congrArg r (start_at wf t n d 1)).trans h1)).trans ?_
    show min (BitVec.ofNat 32 q.val).toInt.toNat 255 + 0 = q.val
    rw [toInt_small _ (by omega)]
    simp only [Int.toNat_natCast]; omega
  · unfold GatherDims.start
    rw [dif_neg (mt (hm 2).mp (by decide)), Nat.zero_add]
    rfl

end Cert.Proof.Rows

end
-- ==== Proof.RefSteps.lean ====
/- What the reference's arrays hold at an index over the extended reals: its distances, its argmin, its means, its gather of
   the centroids, and its two layers. -/
module

public import proofs.«01_k».proof.Proof.RefRun
public import proofs.«01_k».proof.Proof.Payloads
public import proofs.«01_k».proof.Proof.Rows

@[expose] public section

noncomputable section

namespace Cert.Proof.RefSteps

open Idealize.ShloMosaic Cert.Proof.Nearest Cert.Proof.Layers Cert.Proof.Payloads Cert.Stage1ReferenceIdeal Cert.Stage1ReferenceIdeal.Gen Cert.Stage1ReferenceIdeal.Value

theorem dist_at (x : FVec Ideal S16x4096x3 .f32) (c : FVec Ideal S16x256x3 .f32) (t : Fin 16) (n : Fin 4096) (k : Fin 256) :
    refDist (F := Ideal) x c (ix3 t n k) = Payloads.dist (fun n d => x (ix3 t n d)) (fun k d => c (ix3 t k d)) n k := by
  unfold Payloads.dist
  pointwise [refDist]

theorem move_at (x : FVec Ideal S16x4096x3 .f32) (l : IVec S16x4096 32) (t : Fin 16) (k : Fin 256) (d : Fin 3) :
    refMove (F := Ideal) x l (ix3 t k d) = means (fun n d => x (ix3 t n d)) (fun n => l (ix2 t n)) k d := by
  unfold means
  simp only [hot, ← uitofp_eq]
  pointwise [refMove, refHot]

theorem first_at (x : FVec Ideal S16x4096x3 .f32) (t : Fin 16) (k : Fin 256) (d : Fin 3) :
    refFirst (F := Ideal) x (ix3 t k d) = x (ix3 t ⟨k.val, by omega⟩ d) := by
  pointwise [refFirst]

theorem zero_at (t : Fin 16) (n : Fin 4096) : refZero (ix2 t n) = 0#32 := by
  pointwise [refZero]

theorem labels_at (l : IVec S16x4096 32) (t : Fin 16) (n : Fin 4096) : refLabels l (ix3 t 0 n) = l (ix2 t n) := by
  pointwise [refLabels]

theorem hid_at (x p : FVec Ideal S16x4096x3 .f32) (w : FVec Ideal S3x128 .f32) (b : FVec Ideal S128 .f32) (t : Fin 16) (n : Fin 4096) (j : Fin 128) :
    refHid (F := Ideal) x p w b (ix3 t n j) = ∑ d, (x (ix3 t n d) - p (ix3 t n d)) * w (ix2 d j) + b (ix1 j) := by
  pointwise [refHid]

theorem norm_at (h : FVec Ideal S16x4096x128 .f32) (t : Fin 16) (n : Fin 4096) (j : Fin 128) :
    refNorm (F := Ideal) h (ix3 t n j) = Layers.norm 1124073472#32 (fun j => h (ix3 t n j)) j := by
  unfold Layers.norm mean
  pointwise [refNorm, refCentre, refMean]

theorem out_at (h : FVec Ideal S16x4096x128 .f32) (g be : FVec Ideal S128 .f32) (w : FVec Ideal S128x256 .f32) (b : FVec Ideal S256 .f32) (t : Fin 16) (n : Fin 4096) (k : Fin 256) :
    refOut (F := Ideal) (refNorm h) g be w b (ix3 t n k) =
      layer 1124073472#32 (fun j => h (ix3 t n j)) (fun j => g (ix1 j)) (fun j => be (ix1 j)) (fun j => w (ix2 j k)) (b (ix1 k)) := by
  unfold layer
  simp only [← norm_at]
  pointwise [refOut]

/-! ## The argmin -/

theorem reducer_better (a b : Ideal .f32 × BitVec 32) :
    (reducer_argmin_f32_i32 (F := Ideal) a b = a ∨ reducer_argmin_f32_i32 (F := Ideal) a b = b) ∧
      Better (reducer_argmin_f32_i32 (F := Ideal) a b) a ∧ Better (reducer_argmin_f32_i32 (F := Ideal) a b) b := by
  obtain ⟨a1, a2⟩ := a
  obtain ⟨b1, b2⟩ := b
  have e : reducer_argmin_f32_i32 (F := Ideal) (a1, a2) (b1, b2) =
      if a1 < b1 ∨ a1 = b1 ∧ a2.toInt < b2.toInt then (a1, a2) else (b1, b2) := by
    unfold reducer_argmin_f32_i32
    rcases lt_trichotomy (α := EReal) a1 b1 with h | h | h
    · simp [Ideal.cmpf_def, Ideal.cmp, IntOp.ori, IntOp.andi, Scalar.select, h, h.ne]
    · subst h
      by_cases i : a2.toInt < b2.toInt <;> simp [Ideal.cmpf_def, Ideal.cmp, IntOp.cmpi, IntOp.ori, IntOp.andi, Scalar.select, BitVec.slt, i]
    · simp [Ideal.cmpf_def, Ideal.cmp, IntOp.ori, IntOp.andi, Scalar.select, h.not_gt, h.ne']
  rw [e]
  by_cases c : a1 < b1 ∨ a1 = b1 ∧ a2.toInt < b2.toInt
  · rw [if_pos c]
    exact ⟨.inl rfl, Better.refl _, c.imp id fun h => ⟨h.1, h.2.le⟩⟩
  · rw [if_neg c]
    refine ⟨.inr rfl, ?_, Better.refl _⟩
    rcases lt_trichotomy (α := EReal) a1 b1 with h | h | h
    · exact absurd (.inl h) c
    · exact .inr ⟨h.symm, not_lt.1 fun i => c (.inr ⟨h, i⟩)⟩
    · exact .inl h

theorem reduces : S16x4096x256.Reduces [2] S16x4096 := by decide

theorem lift_at (t : Fin 16) (n : Fin 4096) (k : Fin 256) : reduces.lift (ix2 t n) k = ix3 t n k := by
  funext a
  match a with
  | ⟨0, _⟩ => rfl
  | ⟨1, _⟩ => rfl
  | ⟨2, _⟩ => rfl

/-- The pairs of a row of the reduced array are its entries with their places. -/
theorem mem_fiber (d : FVec Ideal S16x4096x256 .f32) (y : IVec S16x4096x256 32) (t : Fin 16) (n : Fin 4096) (p : EReal × BitVec 32) :
    p ∈ Host.argReduceFiber d y reducesTo_S16x4096x256_S16x4096_d2 (ix2 t n) ↔ ∃ k : Fin 256, p = (d (ix3 t n k), y (ix3 t n k)) := by
  unfold Host.argReduceFiber
  rw [List.mem_map]
  constructor
  · rintro ⟨q, hq, rfl⟩
    have hd : reduces.drop (S16x4096x256.rowMajor.symm q) = ix2 t n := of_decide_eq_true (List.mem_filter.1 hq).2
    generalize S16x4096x256.rowMajor.symm q = i at hd ⊢
    have hi : ix3 t n (i 2) = i := (lift_at t n (i 2)).symm.trans ((congrArg (fun j => reduces.lift j (i 2)) hd.symm).trans (reduces.lift_drop i))
    exact ⟨i 2, congrArg (fun j => (d j, y j)) hi.symm⟩
  · rintro ⟨k, rfl⟩
    refine ⟨S16x4096x256.rowMajor (ix3 t n k), List.mem_filter.2 ⟨List.mem_finRange _, decide_eq_true ?_⟩, ?_⟩
    · rw [Equiv.symm_apply_apply, ← lift_at]
      exact reduces.drop_lift (ix2 t n) k
    · rw [Equiv.symm_apply_apply]

theorem near_of (d : FVec Ideal S16x4096x256 .f32) (y : IVec S16x4096x256 32) (u : FVec Ideal S_ .f32) (v : IVec S_ 32) (t : Fin 16) (n : Fin 4096)
    (hy : ∀ k : Fin 256, y (ix3 t n k) = BitVec.ofNat 32 k.val) (hu : u (Shape.Idx.first h_S_) = (⊤ : EReal)) (hv : v (Shape.Idx.first h_S_) = 0#32) :
    IsNearest (fun k => d (ix3 t n k)) (Host.argReduce reducer_argmin_f32_i32 d y u v reducesTo_S16x4096x256_S16x4096_d2 h_S_ (ix2 t n)).2 := by
  rw [Ideal.argReduce_eq_reduce2, Host.reduce2_eq_foldl_fiber, hu, hv]
  refine isNearest_foldl _ reducer_better _ _ fun p => (mem_fiber d y t n p).trans ?_
  simp only [hy]

theorem near_eq {F : FTy → Type} [FloatOps F] (d : FVec F S16x4096x256 .f32) :
    refNear (F := F) d = fun j => (Host.argReduce reducer_argmin_f32_i32 d (iotaInDim S16x4096x256 32 2) (constant S_ .f32 0x7F800000#32) (constantI S_ 32 0#32)
      reducesTo_S16x4096x256_S16x4096_d2 h_S_ j).2 := by
  unfold refNear
  with_reducible rfl

theorem iota_at (t : Fin 16) (n : Fin 4096) (k : Fin 256) : iotaInDim S16x4096x256 32 2 (ix3 t n k) = BitVec.ofNat 32 k.val := rfl

theorem top_at : constant (F := Ideal) S_ .f32 0x7F800000#32 (Shape.Idx.first h_S_) = (⊤ : EReal) := by
  rw [constant_apply]; exact ofBits_top

theorem zero_word : constantI S_ 32 0#32 (Shape.Idx.first h_S_) = 0#32 := by
  rw [constantI_apply]

/-- A point's label is the first of its least distances. -/
theorem near_at (d : FVec Ideal S16x4096x256 .f32) (t : Fin 16) (n : Fin 4096) :
    IsNearest (fun k => d (ix3 t n k)) (refNear (F := Ideal) d (ix2 t n)) := by
  have h := near_of d (iotaInDim S16x4096x256 32 2) (constant S_ .f32 0x7F800000#32) (constantI S_ 32 0#32) t n (iota_at t n) top_at zero_word
  rw [near_eq d]
  exact h

/-! ## The gather -/

theorem rows_at (l : IVec S16x4096 32) (t : Fin 16) (n : Fin 4096) (q : Fin 256) (h : l (ix2 t n) = BitVec.ofNat 32 q.val) :
    refRows l (ix3 t n 0) = BitVec.ofNat 32 t.val ∧ refRows l (ix3 t n 1) = BitVec.ofNat 32 q.val := by
  have h0 : ∀ t : Fin 16, Scalar.select (IntOp.cmpi .slt (BitVec.ofNat 32 t.val) 0#32) (IntOp.addi (BitVec.ofNat 32 t.val) 16#32) (BitVec.ofNat 32 t.val) = BitVec.ofNat 32 t.val := by
    decide
  have h1 : ∀ q : Fin 256, Scalar.select (IntOp.cmpi .slt (BitVec.ofNat 32 q.val) 0#32) (IntOp.addi (BitVec.ofNat 32 q.val) 256#32) (BitVec.ofNat 32 q.val) = BitVec.ofNat 32 q.val := by
    decide
  constructor
  · refine Eq.trans ?_ (h0 t)
    pointwise [refRows]
  · refine Eq.trans ?_ (h1 q)
    rw [← h]
    pointwise [refRows]

/-- A point's gathered centroid is the row of its label. -/
theorem pick_at (c : FVec Ideal S16x256x3 .f32) (l : IVec S16x4096 32) (t : Fin 16) (n : Fin 4096) (d : Fin 3) (q : Fin 256)
    (h : l (ix2 t n) = BitVec.ofNat 32 q.val) : refPick (F := Ideal) c l (ix3 t n d) = c (ix3 t q d) := by
  obtain ⟨h0, h1⟩ := rows_at l t n q h
  exact Rows.pick_of _ c (refRows l) t n d q h0 h1

end Cert.Proof.RefSteps

end
-- ==== Proof.Same.lean ====
/- The clustering kernel and its reference end with the same arrays over the extended reals: by induction on the steps the
   centroids and labels agree, and from them the gathered centroids and the features. -/
module

public import proofs.«01_k».proof.Proof.Arrays
public import proofs.«01_k».proof.Proof.RefSteps

@[expose] public section

noncomputable section

namespace Cert.Proof.Same

open Idealize.ShloMosaic Cert.Proof.Nearest Cert.Proof.Payloads Cert.Proof.Layers Cert.Proof.Windows Cert.Proof.Arrays Cert.Proof.Blocks Cert.Proof.RefSteps
open Cert.Stage1ReferenceIdeal.Value Cert.Stage1Ideal.Gen

theorem carry_label (v0 : Vec Ideal Cert.Stage1Ideal.S1x4096x8 .f32) (v2 : Vec Ideal Cert.Stage1Ideal.S1x8x4096 .f32) (k : ℕ) :
    (carry v0 v2 (k + 1)).2 = k0_pay9 v0 (carry v0 v2 k).1 := by rw [carry]

theorem carry_cent (v0 : Vec Ideal Cert.Stage1Ideal.S1x4096x8 .f32) (v2 : Vec Ideal Cert.Stage1Ideal.S1x8x4096 .f32) (k : ℕ) :
    (carry v0 v2 (k + 1)).1 = k0_pay10 v0 v2 (carry v0 v2 k).1 := by rw [carry]

theorem ref_label (x : FVec Ideal ⟨3, ![16, 4096, 3]⟩ .f32) (k : ℕ) :
    (refAt (F := Ideal) x (k + 1)).2 = refNear (refDist x (refAt x k).1) := by rw [refAt_succ]

theorem ref_cent (x : FVec Ideal ⟨3, ![16, 4096, 3]⟩ .f32) (k : ℕ) :
    (refAt (F := Ideal) x (k + 1)).1 = refMove x (refNear (refDist x (refAt x k).1)) := by rw [refAt_succ]

/-- The grid's arrays hold the arguments: the points and the first weights in the first three of eight lanes, a lane of ones
    beside the points, and the vectors as rows. -/
structure Fed (R : Reads Ideal) (x : FVec Ideal ⟨3, ![16, 4096, 3]⟩ .f32) (w1 : FVec Ideal ⟨2, ![3, 128]⟩ .f32) (b1 g be : FVec Ideal ⟨1, ![128]⟩ .f32)
    (w2 : FVec Ideal ⟨2, ![128, 256]⟩ .f32) (b2 : FVec Ideal ⟨1, ![256]⟩ .f32) : Prop where
  hx : ∀ t n d, R.x (ix3 t n (lane d)) = x (ix3 t n d)
  hxt : ∀ t n d, R.xt (ix3 t (lane d) n) = x (ix3 t n d)
  hone : ∀ t n, R.xt (ix3 t 3 n) = 1
  hw1 : ∀ d j, R.w1 (ix2 (lane d) j) = w1 (ix2 d j)
  hb1 : ∀ j, R.b1 (ix2 0 j) = b1 (ix1 j)
  hg : ∀ j, R.g (ix2 0 j) = g (ix1 j)
  hbe : ∀ j, R.be (ix2 0 j) = be (ix1 j)
  hw2 : R.w2 = w2
  hb2 : ∀ j, R.b2 (ix2 0 j) = b2 (ix1 j)

variable {R : Reads Ideal} {x : FVec Ideal ⟨3, ![16, 4096, 3]⟩ .f32} {w1 : FVec Ideal ⟨2, ![3, 128]⟩ .f32} {b1 g be : FVec Ideal ⟨1, ![128]⟩ .f32}
  {w2 : FVec Ideal ⟨2, ![128, 256]⟩ .f32} {b2 : FVec Ideal ⟨1, ![256]⟩ .f32} (h : Fed R x w1 b1 g be w2 b2)

include h

theorem holds (t : Fin 16) : Holds (fun n d => x (ix3 t n d)) (part R.x t) (part R.xt t) :=
  ⟨fun n d => h.hx t n d, fun n d => h.hxt t n d, fun n => h.hone t n⟩

/-- After `k` steps batch `t` has the reference's centroids, its labels, and every label in range. -/
theorem agree (t : Fin 16) (k : ℕ) :
    Lanes (fun q d => (refAt (F := Ideal) x k).1 (ix3 t q d)) (carry (part R.x t) (part R.xt t) k).1
      ∧ (∀ n, (carry (part R.x t) (part R.xt t) k).2 (ix1 n) = (refAt (F := Ideal) x k).2 (ix2 t n))
      ∧ ∀ n, ∃ q : Fin 256, (refAt (F := Ideal) x k).2 (ix2 t n) = BitVec.ofNat 32 q.val := by
  induction k with
  | zero =>
    refine ⟨?_, fun n => ?_, fun n => ⟨0, zero_at t n⟩⟩
    · have e : (fun (q : Fin 256) (d : Fin 3) => (refAt (F := Ideal) x 0).1 (ix3 t q d)) = fun q d => x (ix3 t ⟨q.val, by omega⟩ d) :=
        funext fun q => funext fun d => first_at x t q d
      rw [e]
      exact first (holds h t)
    · exact (pay8 n).trans (zero_at t n).symm
  | succ k ih =>
    obtain ⟨hc, -, -⟩ := ih
    have e : ∀ n, (carry (part R.x t) (part R.xt t) (k + 1)).2 (ix1 n) = (refAt (F := Ideal) x (k + 1)).2 (ix2 t n) := by
      intro n
      have h' := near_at (refDist x (refAt (F := Ideal) x k).1) t n
      have ed : (fun k' => refDist x (refAt (F := Ideal) x k).1 (ix3 t n k')) = Payloads.dist (fun n d => x (ix3 t n d)) (fun q d => (refAt (F := Ideal) x k).1 (ix3 t q d)) n :=
        funext fun k' => dist_at x _ t n k'
      rw [ed] at h'
      exact (congrFun (carry_label _ _ k) (ix1 n)).trans (((near (holds h t) hc n).unique h').trans (congrFun (ref_label x k) (ix2 t n)).symm)
    refine ⟨?_, e, fun n => ?_⟩
    · have em : (fun (q : Fin 256) (d : Fin 3) => (refAt (F := Ideal) x (k + 1)).1 (ix3 t q d)) =
          means (fun n d => x (ix3 t n d)) fun n => k0_pay9 (part R.x t) (carry (part R.x t) (part R.xt t) k).1 (ix1 n) := by
        funext q d
        have el : (fun n => refNear (F := Ideal) (refDist x (refAt (F := Ideal) x k).1) (ix2 t n)) = fun n => k0_pay9 (part R.x t) (carry (part R.x t) (part R.xt t) k).1 (ix1 n) :=
          funext fun n => (congrFun (ref_label x k) (ix2 t n)).symm.trans ((e n).symm.trans (congrFun (carry_label _ _ k) (ix1 n)))
        refine (congrFun (ref_cent x k) (ix3 t q d)).trans ((move_at x _ t q d).trans (congrArg (fun l => means (fun n d => x (ix3 t n d)) l q d) el))
      rw [em, carry_cent]
      exact move (holds h t) _
    · obtain ⟨q, hq, -⟩ := near_at (refDist x (refAt (F := Ideal) x k).1) t n
      exact ⟨q, (congrFun (ref_label x k) (ix2 t n)).trans hq⟩

/-- The row of a point's label times the centroids is its gathered centroid. -/
theorem picked (t : Fin 16) (n : Fin 4096) (d : Fin 3) :
    ∑ k, hot ((R.last t).2 (ix1 n)) k * (refAt (F := Ideal) x 10).1 (ix3 t k d) = refPick (refAt (F := Ideal) x 10).1 (refAt x 10).2 (ix3 t n d) := by
  obtain ⟨-, hl, hq⟩ := agree h t 10
  obtain ⟨q, hq⟩ := hq n
  have e : (R.last t).2 (ix1 n) = BitVec.ofNat 32 q.val := (hl n).trans hq
  rw [e, pick_at _ _ t n d q hq]
  exact sum_hot q fun k => (refAt (F := Ideal) x 10).1 (ix3 t k d)

theorem same_cent : R.cent = (refAt (F := Ideal) x 10).1 := by
  funext i
  rw [eq_ix3 i]
  exact (pay1 _ _ _).trans ((agree h (i 0) 10).1.lo (i 1) (i 2))

theorem same_labels : R.labels = refLabels (refAt (F := Ideal) x 10).2 := by
  funext i
  have e : i = ix3 (i 0) (0 : Fin 1) (i 2) :=
    (eq_ix3 i).trans (congrArg (fun a : Fin 1 => ix3 (i 0) a (i 2)) (Subsingleton.elim _ _))
  rw [e]
  exact (pay2 _ _).trans (((agree h (i 0) 10).2.1 (i 2)).trans (labels_at _ (i 0) (i 2)).symm)

theorem same_near : R.near = refPick (refAt (F := Ideal) x 10).1 (refAt x 10).2 := by
  funext i
  rw [eq_ix3 i]
  exact (pay3 _ _ _).trans ((pick_lo (agree h (i 0) 10).1 _ _ _).trans (picked h (i 0) (i 1) (i 2)))

theorem hid_same (t : Fin 16) (n : Fin 4096) (j : Fin 128) :
    ∑ d, k0_pay13 (part R.x t) (R.last t).1 (R.last t).2 (ix2 n d) * R.w1 (ix2 d j) + R.b1 (ix2 0 j) =
      refHid (F := Ideal) x (refPick (refAt (F := Ideal) x 10).1 (refAt x 10).2) w1 b1 (ix3 t n j) := by
  rw [hid_at, h.hb1]
  refine congrArg (· + _) ((linear (holds h t) (agree h t 10).1 R.w1 _ n j).trans (Finset.sum_congr rfl fun d _ => ?_))
  rw [h.hw1]
  exact congrArg (fun p => (x (ix3 t n d) - p) * w1 (ix2 d j)) (picked h t n d)

theorem hidden_at (t : Fin 16) (n : Fin 4096) (k : Fin 256) : R.hidden (ix3 t n k) = refH (F := Ideal) x w1 b1 g be w2 b2 (ix3 t n k) := by
  refine (pay14 _ _ _ _ _ _ _ n k).trans (Eq.trans ?_ (out_at _ _ _ _ _ t n k).symm)
  have ew : (fun j : Fin 128 => R.w2 (ix2 j k)) = fun j => w2 (ix2 j k) := by rw [h.hw2]
  have e := congr (congr (congr (congr (congrArg (layer 1124073472#32) (funext (hid_same h t n))) (funext h.hg)) (funext h.hbe)) ew) (h.hb2 k)
  exact e

theorem same_hidden : R.hidden = refH (F := Ideal) x w1 b1 g be w2 b2 := by
  funext i
  rw [eq_ix3 i]
  exact hidden_at h (i 0) (i 1) (i 2)

end Cert.Proof.Same

end
-- ==== Proof.Feed.lean ====
/- What the clustering kernel's operations before its grid leave in the arrays that the grid reads, over the extended reals. -/
module

public import proofs.«01_k».proof.Proof.Same

@[expose] public section

noncomputable section

namespace Cert.Proof.Feed

open Cert.Stage1Ideal Cert.Stage1Ideal.Gen Cert.Proof.Nearest Cert.Proof.Arrays Cert.Proof.Same
open Idealize.ShloMosaic Idealize.ShloMosaic.TcCoe Idealize.SL.Sem Idealize.ShloMosaic.StableHlo

section
variable {F : FTy → Type} [FloatOps F]

/-- The points with a lane of ones and four of zeros beside them. -/
def padded (x : FVec F S16x4096x3 .f32) : FVec F S16x4096x8 .f32 :=
  concatenate S16x4096x8 2 [⟨S16x4096x3, x⟩, ⟨S16x4096x1, broadcastInDim S16x4096x1 ![] bcast_S_S16x4096x1 (constant S_ .f32 0x3F800000#32)⟩,
    ⟨S16x4096x4, broadcastInDim S16x4096x4 ![] bcast_S_S16x4096x4 (constant S_ .f32 0x00000000#32)⟩] concatenates_S16x4096x3_S16x4096x1_S16x4096x4_S16x4096x8_d2

/-- The first weights with five rows of zeros below them. -/
def paddedW (w : FVec F S3x128 .f32) : FVec F S8x128 .f32 :=
  concatenate S8x128 0 [⟨S3x128, w⟩, ⟨S5x128, broadcastInDim S5x128 ![] bcast_S_S5x128 (constant S_ .f32 0x00000000#32)⟩] concatenates_S3x128_S5x128_S8x128_d0

variable (V : Valuation τ sig (Elt F))

theorem after_x : after hostOps0 V main_v2 = padded (V main_arg0) := by after_results; rfl
theorem after_xt : after hostOps0 V main_v3 = transpose S16x8x4096 [0, 2, 1] (padded (V main_arg0)) transposes_S16x4096x8_S16x8x4096_0_2_1 := by after_results; rfl
theorem after_w1 : after hostOps0 V main_v5 = paddedW (V main_arg1) := by after_results; rfl
theorem after_b1 : after hostOps0 V main_v6 = shapeCast S1x128 (V main_arg2) shapeCasts_S128_S1x128 := by after_results; rfl
theorem after_g : after hostOps0 V main_v7 = shapeCast S1x128 (V main_arg3) shapeCasts_S128_S1x128 := by after_results; rfl
theorem after_be : after hostOps0 V main_v8 = shapeCast S1x128 (V main_arg4) shapeCasts_S128_S1x128 := by after_results; rfl
theorem after_w2 : after hostOps0 V main_arg5 = V main_arg5 := by after_results
theorem after_b2 : after hostOps0 V main_v9 = shapeCast S1x256 (V main_arg6) shapeCasts_S256_S1x256 := by after_results; rfl

end

theorem padded_lo (x : FVec Ideal S16x4096x3 .f32) (t : Fin 16) (n : Fin 4096) (d : Fin 3) : padded (F := Ideal) x (ix3 t n (lane d)) = x (ix3 t n d) := by
  have h := lane_lt d
  pointwise [padded]
  rw [dif_pos h]
  rfl

theorem padded_one (x : FVec Ideal S16x4096x3 .f32) (t : Fin 16) (n : Fin 4096) : padded (F := Ideal) x (ix3 t n 3) = 1 := by
  pointwise [padded]

theorem xt_at (x : FVec Ideal S16x4096x8 .f32) (t : Fin 16) (n : Fin 4096) (d : Fin 8) :
    transpose S16x8x4096 [0, 2, 1] x transposes_S16x4096x8_S16x8x4096_0_2_1 (ix3 t d n) = x (ix3 t n d) := by
  pointwise

theorem paddedW_lo (w : FVec Ideal S3x128 .f32) (d : Fin 3) (j : Fin 128) : paddedW (F := Ideal) w (ix2 (lane d) j) = w (ix2 d j) := by
  have h := lane_lt d
  pointwise [paddedW]
  rw [dif_pos h]
  rfl

theorem row_at (b : FVec Ideal S128 .f32) (j : Fin 128) : shapeCast S1x128 b shapeCasts_S128_S1x128 (ix2 0 j) = b (ix1 j) := by
  pointwise

theorem row_at' (b : FVec Ideal S256 .f32) (j : Fin 256) : shapeCast S1x256 b shapeCasts_S256_S1x256 (ix2 0 j) = b (ix1 j) := by
  pointwise

variable (m : (ℓ : Loc nD τ sig) → Buf (Elt Ideal) ℓ) (c : Dev nD)

/-- The core's buffers at the start. -/
abbrev start : Valuation τ sig (Elt Ideal) := fun b => m (c, b)

/-- The grid's arrays hold the arguments. -/
theorem fed : Fed (reads m c) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) where
  hx t n d := (congrFun (after_x (start m c)) (ix3 t n (lane d))).trans (padded_lo _ t n d)
  hxt t n d := (congrFun (after_xt (start m c)) (ix3 t (lane d) n)).trans ((xt_at _ t n (lane d)).trans (padded_lo _ t n d))
  hone t n := (congrFun (after_xt (start m c)) (ix3 t 3 n)).trans ((xt_at _ t n 3).trans (padded_one _ t n))
  hw1 d j := (congrFun (after_w1 (start m c)) (ix2 (lane d) j)).trans (paddedW_lo _ d j)
  hb1 j := (congrFun (after_b1 (start m c)) (ix2 0 j)).trans (row_at _ j)
  hg j := (congrFun (after_g (start m c)) (ix2 0 j)).trans (row_at _ j)
  hbe j := (congrFun (after_be (start m c)) (ix2 0 j)).trans (row_at _ j)
  hw2 := after_w2 (start m c)
  hb2 j := (congrFun (after_b2 (start m c)) (ix2 0 j)).trans (row_at' _ j)

end Cert.Proof.Feed

end
-- ==== Proof.Second.lean ====
/- The second network's kernel: its result array after a run as one function of the arrays that its grid reads, and what that
   function holds at an index over the extended reals. -/
module

public import proofs.«01_k».proof.Proof.Gen.Stage2Ideal.Value
public import proofs.«01_k».proof.Proof.Nearest
public import proofs.«01_k».proof.Proof.Layers
public import proofs.«01_k».proof.Proof.Windows
public import Idealize.ShloMosaic.Lib.StableHlo.Run

@[expose] public section

noncomputable section

namespace Cert.Proof.Second

open Cert.Stage2Ideal Cert.Stage2Ideal.Gen Cert.Stage2Ideal.Value Cert.Proof.Windows Cert.Proof.Nearest Cert.Proof.Layers
open Idealize.ShloMosaic Idealize.ShloMosaic.TcCoe Idealize.SL.Sem Idealize.ShloMosaic.StableHlo

section
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The first linear layer on a batch's block. -/
def hidden (h : Vec F S1x4096x256 .f32) (l : Vec F S1x1x4096 .i32) (p : Vec F S1x256x256 .f32) (wa wb : Vec F S256x512 .f32) (b : Vec F S1x512 .f32) : FVec F S4096x512 .f32 :=
  k0_pay2 l p wa h wb b

/-- The block written for a batch. -/
def block (h : Vec F S1x4096x256 .f32) (l : Vec F S1x1x4096 .i32) (p : Vec F S1x256x256 .f32) (wa wb : Vec F S256x512 .f32) (b g be : Vec F S1x512 .f32)
    (w : Vec F S512x256 .f32) (b' : Vec F S1x256 .f32) : Vec F S1x4096x256 .f32 :=
  k0_pay1 (k0_pay2 l p wa h wb b) (k0_pay3 l p wa h wb b) (k0_pay4 l p wa h wb b) (k0_pay5 (F := F)) g be w b'

theorem out_eq (x0 : Vec F S1x4096x256 .f32) (x1 : Vec F S1x1x4096 .i32) (x2 : Vec F S1x256x256 .f32) (x3 x4 : Vec F S256x512 .f32) (x5 x6 x7 : Vec F S1x512 .f32)
    (x8 : Vec F S512x256 .f32) (x9 : Vec F S1x256 .f32) : out0_10 x0 x1 x2 x3 x4 x5 x6 x7 x8 x9 = block x0 x1 x2 x3 x4 x5 x6 x7 x8 x9 := by
  unfold out0_10 block
  refine (View.canon_unit_zero hz3 _ _).trans ?_
  simp only [View.ld_unit_zero (S := S1x4096x256) hz3, View.ld_unit_zero (S := S1x1x4096) hz3, View.ld_unit_zero (S := S1x256x256) hz3,
    View.ld_unit_zero (S := S256x512) hz2, View.ld_unit_zero (S := S1x512) hz2, View.ld_unit_zero (S := S512x256) hz2, View.ld_unit_zero (S := S1x256) hz2]

/-- The arrays the grid reads: the features, the labels, the pooled features, the halves of the first weights, and the
    vectors as rows. -/
structure Reads (F : FTy → Type) where
  h : Vec F S16x4096x256 .f32
  l : Vec F S16x1x4096 .i32
  p : Vec F S16x256x256 .f32
  wa : Vec F S256x512 .f32
  wb : Vec F S256x512 .f32
  b : Vec F S1x512 .f32
  g : Vec F S1x512 .f32
  be : Vec F S1x512 .f32
  w : Vec F S512x256 .f32
  b' : Vec F S1x256 .f32

/-- The array written. -/
def Reads.result (R : Reads F) : Vec F S16x4096x256 .f32 := fun i =>
  block (part R.h (i 0)) (part R.l (i 0)) (part R.p (i 0)) R.wa R.wb R.b R.g R.be R.w R.b' (ix3 0 (i 1) (i 2))

variable (m : (ℓ : Loc nD τ sig) → Buf (Elt F) ℓ) (c : Dev nD) (t : Fin cfg0.N)

/-- What the grid of core `c` reads. -/
def reads : Reads F :=
  ⟨V m c main_arg0, V m c main_arg1, V m c main_arg2, V m c main_v0, V m c main_v1, V m c main_v2, V m c main_v3, V m c main_v4, V m c main_arg7, V m c main_v5⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

/-- The weights and the vectors are read whole at each point. -/
theorem idxs : ∀ t : Fin cfg0.N, (∀ a : Fin 2, win0_3.index t a = 0) ∧ (∀ a : Fin 2, win0_4.index t a = 0) ∧ (∀ a : Fin 2, win0_5.index t a = 0)
    ∧ (∀ a : Fin 2, win0_6.index t a = 0) ∧ (∀ a : Fin 2, win0_7.index t a = 0) ∧ (∀ a : Fin 2, win0_8.index t a = 0) ∧ ∀ a : Fin 2, win0_9.index t a = 0 :=
  (by decide +kernel : ∀ t : Fin grid0.N, _)

theorem iblk0 : iblk m c 0 t = part (reads m c).h t :=
  funext fun j => congrArg (V m c main_arg0) (batch (fun j => ((cfg0.win 0).blk t).view.emb j) (win0_0.index t) t (idx0 t) (fun _ _ => rfl) j)

theorem iblk1 : iblk m c 1 t = part (reads m c).l t :=
  funext fun j => congrArg (V m c main_arg1) (batch (fun j => ((cfg0.win 1).blk t).view.emb j) (win0_1.index t) t (idx1 t) (fun _ _ => rfl) j)

theorem iblk2 : iblk m c 2 t = part (reads m c).p t :=
  funext fun j => congrArg (V m c main_arg2) (batch (fun j => ((cfg0.win 2).blk t).view.emb j) (win0_2.index t) t (idx2 t) (fun _ _ => rfl) j)

theorem iblk3 : iblk m c 3 t = (reads m c).wa :=
  funext fun j => congrArg (V m c main_v0) (whole (fun j => ((cfg0.win 3).blk t).view.emb j) (win0_3.index t) (idxs t).1 (fun _ _ => rfl) j)

theorem iblk4 : iblk m c 4 t = (reads m c).wb :=
  funext fun j => congrArg (V m c main_v1) (whole (fun j => ((cfg0.win 4).blk t).view.emb j) (win0_4.index t) (idxs t).2.1 (fun _ _ => rfl) j)

theorem iblk5 : iblk m c 5 t = (reads m c).b :=
  funext fun j => congrArg (V m c main_v2) (whole (fun j => ((cfg0.win 5).blk t).view.emb j) (win0_5.index t) (idxs t).2.2.1 (fun _ _ => rfl) j)

theorem iblk6 : iblk m c 6 t = (reads m c).g :=
  funext fun j => congrArg (V m c main_v3) (whole (fun j => ((cfg0.win 6).blk t).view.emb j) (win0_6.index t) (idxs t).2.2.2.1 (fun _ _ => rfl) j)

theorem iblk7 : iblk m c 7 t = (reads m c).be :=
  funext fun j => congrArg (V m c main_v4) (whole (fun j => ((cfg0.win 7).blk t).view.emb j) (win0_7.index t) (idxs t).2.2.2.2.1 (fun _ _ => rfl) j)

theorem iblk8 : iblk m c 8 t = (reads m c).w :=
  funext fun j => congrArg (V m c main_arg7) (whole (fun j => ((cfg0.win 8).blk t).view.emb j) (win0_8.index t) (idxs t).2.2.2.2.2.1 (fun _ _ => rfl) j)

theorem iblk9 : iblk m c 9 t = (reads m c).b' :=
  funext fun j => congrArg (V m c main_v5) (whole (fun j => ((cfg0.win 9).blk t).view.emb j) (win0_9.index t) (idxs t).2.2.2.2.2.2 (fun _ _ => rfl) j)

theorem emb10 (j : S1x4096x256.Idx) : ((cfg0.win 10).blk t).view.emb j = ix3 (n0 := 16) t (j 1) (j 2) :=
  batch (fun j => ((cfg0.win 10).blk t).view.emb j) (win0_10.index t) t (idx10 t) (fun _ _ => rfl) j

theorem flushed10_eq : (dats m 0 c).flushed 10 t = ((cfg0.win 10).blk t).view.read (Elt F) (reads m c).result := by
  rw [flushed10, out_eq, iblk0, iblk1, iblk2, iblk3, iblk4, iblk5, iblk6, iblk7, iblk8, iblk9]
  exact funext fun j => (congrArg _ (at_first j)).trans (congrArg (reads m c).result (emb10 t j)).symm

/-- The result after the grid. -/
theorem final : (dats m 0 c).arrAt 10 cfg0.N = (reads m c).result :=
  (dats m 0 c).arrAt_eq_of_cover 10 (reads m c).result (fun t _ => flushed10_eq m c t) fun i : S16x4096x256.Idx =>
    ⟨(i 0 : Fin 16), flush0_10 _, mem_of_eq (View.emb_mem_set _ (ix3 (0 : Fin 1) (i 1) (i 2) : S1x4096x256.Idx)) ((emb10 (i 0) _).trans (eq_ix3 i).symm)⟩

/-! ## Before the grid -/

variable (V : Valuation τ sig (Elt F))

theorem after_h : after hostOps0 V main_arg0 = V main_arg0 := by after_results
theorem after_l : after hostOps0 V main_arg1 = V main_arg1 := by after_results
theorem after_p : after hostOps0 V main_arg2 = V main_arg2 := by after_results
theorem after_wa : after hostOps0 V main_v0 = extractStridedSlice S256x512 ![0, 0] (V main_arg3) slices_S512x512_S256x512_0_0 := by after_results
theorem after_wb : after hostOps0 V main_v1 = extractStridedSlice S256x512 ![256, 0] (V main_arg3) slices_S512x512_S256x512_256_0 := by after_results
theorem after_b : after hostOps0 V main_v2 = shapeCast S1x512 (V main_arg4) shapeCasts_S512_S1x512 := by after_results; rfl
theorem after_g : after hostOps0 V main_v3 = shapeCast S1x512 (V main_arg5) shapeCasts_S512_S1x512 := by after_results; rfl
theorem after_be : after hostOps0 V main_v4 = shapeCast S1x512 (V main_arg6) shapeCasts_S512_S1x512 := by after_results; rfl
theorem after_w : after hostOps0 V main_arg7 = V main_arg7 := by after_results
theorem after_b' : after hostOps0 V main_v5 = shapeCast S1x256 (V main_arg8) shapeCasts_S256_S1x256 := by after_results; rfl

end

/-! ## At an index -/

theorem hidden_at (h : Vec Ideal S1x4096x256 .f32) (l : Vec Ideal S1x1x4096 .i32) (p : Vec Ideal S1x256x256 .f32) (wa wb : Vec Ideal S256x512 .f32) (b : Vec Ideal S1x512 .f32)
    (n : Fin 4096) (j : Fin 512) : hidden (F := Ideal) h l p wa wb b (ix2 n j) =
      ∑ x : Fin 256, (∑ k : Fin 256, hot (l (ix3 0 0 n)) k * p (ix3 0 k x)) * wa (ix2 x j) + ∑ x : Fin 256, h (ix3 0 n x) * wb (ix2 x j) + b (ix2 0 j) := by
  simp only [hot, ← sitofp_eq]
  pointwise [hidden, k0_pay2]

theorem block_at (h : Vec Ideal S1x4096x256 .f32) (l : Vec Ideal S1x1x4096 .i32) (p : Vec Ideal S1x256x256 .f32) (wa wb : Vec Ideal S256x512 .f32) (b g be : Vec Ideal S1x512 .f32)
    (w : Vec Ideal S512x256 .f32) (b' : Vec Ideal S1x256 .f32) (n : Fin 4096) (d : Fin 256) : block (F := Ideal) h l p wa wb b g be w b' (ix3 0 n d) =
      layer 1140850688#32 (fun j => hidden (F := Ideal) h l p wa wb b (ix2 n j)) (fun j => g (ix2 0 j)) (fun j => be (ix2 0 j)) (fun j => w (ix2 j d)) (b' (ix2 0 d)) := by
  unfold layer Layers.norm mean hidden
  pointwise [block, k0_pay1, k0_pay3, k0_pay4, k0_pay5]

theorem wa_at (w : FVec Ideal S512x512 .f32) (x : Fin 256) (j : Fin 512) :
    extractStridedSlice S256x512 ![0, 0] w slices_S512x512_S256x512_0_0 (ix2 x j) = w (ix2 ⟨x.val, by omega⟩ j) := by
  pointwise

theorem wb_at (w : FVec Ideal S512x512 .f32) (x : Fin 256) (j : Fin 512) :
    extractStridedSlice S256x512 ![256, 0] w slices_S512x512_S256x512_256_0 (ix2 x j) = w (ix2 ⟨256 + x.val, by omega⟩ j) := by
  pointwise

theorem row_at (b : FVec Ideal S512 .f32) (j : Fin 512) : shapeCast S1x512 b shapeCasts_S512_S1x512 (ix2 0 j) = b (ix1 j) := by
  pointwise

theorem row_at' (b : FVec Ideal S256 .f32) (j : Fin 256) : shapeCast S1x256 b shapeCasts_S256_S1x256 (ix2 0 j) = b (ix1 j) := by
  pointwise

end Cert.Proof.Second

end
-- ==== Proof.SecondRef.lean ====
/- The second network's reference: the result's term in named steps, and what each step holds at an index over the
   extended reals. -/
module

public import proofs.«01_k».proof.Proof.Gen.Stage2ReferenceIdeal.Run
public import proofs.«01_k».proof.Proof.RefSteps

@[expose] public section

noncomputable section

namespace Cert.Proof.SecondRef

open Idealize.ShloMosaic Idealize.ShloMosaic.TcCoe Idealize.SL.Sem Cert.Stage2ReferenceIdeal Cert.Stage2ReferenceIdeal.Gen
open Cert.Proof.Layers
open Cert.Stage1ReferenceIdeal.Value (refRows)

variable {F : FTy → Type} [FloatOps F]

/-- The labels without the axis of size one. -/
def lab (l : IVec S16x1x4096 32) : IVec S16x4096 32 := shapeCast S16x4096 l shapeCasts_S16x1x4096_S16x4096

/-- Each point's row of the pooled features. -/
def pick (p : FVec F S16x256x256 .f32) (l : IVec S16x4096 32) : FVec F S16x4096x256 .f32 :=
  Host.gather gather_S16x256x256_S16x4096x2_S16x4096x256_2_01_n_n_01_2_11256 p (refRows l)

/-- The two feature vectors of a point, side by side. -/
def join (p h : FVec F S16x4096x256 .f32) : FVec F S16x4096x512 .f32 :=
  concatenate S16x4096x512 2 [⟨S16x4096x256, p⟩, ⟨S16x4096x256, h⟩] concatenates_S16x4096x256_S16x4096x256_S16x4096x512_d2

/-- The first linear layer. -/
def hid (f : FVec F S16x4096x512 .f32) (w : FVec F S512x512 .f32) (b : FVec F S512 .f32) : FVec F S16x4096x512 .f32 :=
  addf (Host.dotGeneral dot_S16x4096x512_S512x512_S16x4096x512_2_0_01_1_n_n none f w)
    (broadcastInDim S16x4096x512 ![0, 1, 2] bcast_S1x1x512_S16x4096x512_0_1_2
      (broadcastInDim S1x1x512 ![2] bcast_S512_S1x1x512_2 b))

/-- A row's mean. -/
def avg (h : FVec F S16x4096x512 .f32) : FVec F S16x4096x1 .f32 :=
  Host.divf
    (broadcastInDim S16x4096x1 ![0, 1] bcast_S16x4096_S16x4096x1_0_1
      (Host.reduceAdd h (constant S_ .f32 0x00000000#32) reducesTo_S16x4096x512_S16x4096_d2 h_S_))
    (broadcastInDim S16x4096x1 ![] bcast_S_S16x4096x1 (constant S_ .f32 0x44000000#32))

/-- A row less its mean. -/
def centred (h : FVec F S16x4096x512 .f32) : FVec F S16x4096x512 .f32 :=
  subf h (broadcastInDim S16x4096x512 ![0, 1, 2] bcast_S16x4096x1_S16x4096x512_0_1_2 (avg h))

/-- A row less its mean, over its deviation. -/
def scaled (h : FVec F S16x4096x512 .f32) : FVec F S16x4096x512 .f32 :=
  Host.divf (centred h)
    (broadcastInDim S16x4096x512 ![0, 1, 2] bcast_S16x4096x1_S16x4096x512_0_1_2
      (Host.sqrt (addf (avg (mulf (centred h) (centred h)))
        (broadcastInDim S16x4096x1 ![] bcast_S_S16x4096x1 (constant S_ .f32 0x3727C5AC#32)))))

/-- The affine part, the positive part, and the second linear layer. -/
def last (h : FVec F S16x4096x512 .f32) (g be : FVec F S512 .f32) (w : FVec F S512x256 .f32) (b : FVec F S256 .f32) :
    FVec F S16x4096x256 .f32 :=
  addf
    (Host.dotGeneral dot_S16x4096x512_S512x256_S16x4096x256_2_0_01_1_n_n none
      (maximumf
        (addf
          (mulf h (broadcastInDim S16x4096x512 ![0, 1, 2] bcast_S1x1x512_S16x4096x512_0_1_2
            (broadcastInDim S1x1x512 ![2] bcast_S512_S1x1x512_2 g)))
          (broadcastInDim S16x4096x512 ![0, 1, 2] bcast_S1x1x512_S16x4096x512_0_1_2
            (broadcastInDim S1x1x512 ![2] bcast_S512_S1x1x512_2 be)))
        (broadcastInDim S16x4096x512 ![] bcast_S_S16x4096x512 (constant S_ .f32 0x00000000#32)))
      w)
    (broadcastInDim S16x4096x256 ![0, 1, 2] bcast_S1x1x256_S16x4096x256_0_1_2
      (broadcastInDim S1x1x256 ![2] bcast_S256_S1x1x256_2 b))

variable (m : (ℓ : Loc nD τ sig) → Buf (Elt F) ℓ) (c : Dev nD)

/-- The result's term, step by step. -/
theorem res_eq : Value.res_main_v52 m c =
    last (scaled (hid (join (pick (m ((c.tc : Thread nD τ).loc main_arg2)) (lab (m ((c.tc : Thread nD τ).loc main_arg1)))) (m ((c.tc : Thread nD τ).loc main_arg0)))
        (m ((c.tc : Thread nD τ).loc main_arg3)) (m ((c.tc : Thread nD τ).loc main_arg4))))
      (m ((c.tc : Thread nD τ).loc main_arg5)) (m ((c.tc : Thread nD τ).loc main_arg6)) (m ((c.tc : Thread nD τ).loc main_arg7)) (m ((c.tc : Thread nD τ).loc main_arg8)) := by
  unfold Value.res_main_v52 last scaled centred avg hid join pick lab refRows
  rfl

/-! ## The steps at an index -/

theorem lab_at (l : IVec S16x1x4096 32) (t : Fin 16) (n : Fin 4096) : lab l (ix2 t n) = l (ix3 t 0 n) := by
  pointwise [lab]

theorem pick_at (p : FVec Ideal S16x256x256 .f32) (l : IVec S16x4096 32) (t : Fin 16) (n : Fin 4096) (d : Fin 256) (q : Fin 256)
    (h : l (ix2 t n) = BitVec.ofNat 32 q.val) : pick (F := Ideal) p l (ix3 t n d) = p (ix3 t q d) := by
  obtain ⟨h0, h1⟩ := RefSteps.rows_at l t n q h
  exact Rows.pick_of _ p (refRows l) t n d q h0 h1

theorem join_lo (p h : FVec Ideal S16x4096x256 .f32) (t : Fin 16) (n : Fin 4096) (x : Fin 256) :
    join (F := Ideal) p h (ix3 t n ⟨x.val, by omega⟩) = p (ix3 t n x) := by
  pointwise [join]

theorem join_hi (p h : FVec Ideal S16x4096x256 .f32) (t : Fin 16) (n : Fin 4096) (x : Fin 256) :
    join (F := Ideal) p h (ix3 t n ⟨256 + x.val, by omega⟩) = h (ix3 t n x) := by
  pointwise [join]

theorem hid_sum (f : FVec Ideal S16x4096x512 .f32) (w : FVec Ideal S512x512 .f32) (b : FVec Ideal S512 .f32) (t : Fin 16) (n : Fin 4096) (j : Fin 512) :
    hid (F := Ideal) f w b (ix3 t n j) = ∑ x : Fin 512, f (ix3 t n x) * w (ix2 x j) + b (ix1 j) := by
  pointwise [hid]

/-- The first linear layer, one half of the features at a time. -/
theorem hid_at (p h : FVec Ideal S16x4096x256 .f32) (w : FVec Ideal S512x512 .f32) (b : FVec Ideal S512 .f32) (t : Fin 16) (n : Fin 4096) (j : Fin 512) :
    hid (F := Ideal) (join p h) w b (ix3 t n j) =
      ∑ x : Fin 256, p (ix3 t n x) * w (ix2 ⟨x.val, by omega⟩ j) + ∑ x : Fin 256, h (ix3 t n x) * w (ix2 ⟨256 + x.val, by omega⟩ j) + b (ix1 j) := by
  rw [hid_sum]
  refine congrArg (· + b (ix1 j)) ((Fin.sum_univ_add (a := 256) (b := 256) fun x : Fin 512 => join (F := Ideal) p h (ix3 t n x) * w (ix2 x j)).trans ?_)
  exact congrArg₂ (· + ·) (Finset.sum_congr rfl fun x _ => congrArg (· * _) (join_lo p h t n x))
    (Finset.sum_congr rfl fun x _ => congrArg (· * _) (join_hi p h t n x))

theorem scaled_at (h : FVec Ideal S16x4096x512 .f32) (t : Fin 16) (n : Fin 4096) (j : Fin 512) :
    scaled (F := Ideal) h (ix3 t n j) = Layers.norm 1140850688#32 (fun j => h (ix3 t n j)) j := by
  unfold Layers.norm mean
  pointwise [scaled, centred, avg]

theorem last_at (h : FVec Ideal S16x4096x512 .f32) (g be : FVec Ideal S512 .f32) (w : FVec Ideal S512x256 .f32) (b : FVec Ideal S256 .f32) (t : Fin 16) (n : Fin 4096) (k : Fin 256) :
    last (F := Ideal) (scaled h) g be w b (ix3 t n k) =
      layer 1140850688#32 (fun j => h (ix3 t n j)) (fun j => g (ix1 j)) (fun j => be (ix1 j)) (fun j => w (ix2 j k)) (b (ix1 k)) := by
  unfold layer
  simp only [← scaled_at]
  pointwise [last]

end Cert.Proof.SecondRef

end
-- ==== Proof.SecondSame.lean ====
/- The second network's kernel and its reference end with the same array over the extended reals, where every label names a
   row of the pooled features. -/
module

public import proofs.«01_k».proof.Proof.Second
public import proofs.«01_k».proof.Proof.SecondRef
public import proofs.«01_k».proof.Proof.Maximum
public import proofs.«01_k».proof.Proof.Gen.Pre_labels3_in_range

@[expose] public section

noncomputable section

namespace Cert.Proof.SecondSame

open Idealize.ShloMosaic Idealize.ShloMosaic.TcCoe Idealize.SL.Sem Cert.Stage2Ideal Cert.Stage2Ideal.Gen
open Cert.Proof.Nearest Cert.Proof.Layers Cert.Proof.Windows Cert.Proof.Second

/-- The precondition on the arguments says that every label names a row. -/
theorem labels_of_pre {F : FTy → Type} [FloatOps F] {h : FVec F S16x4096x256 .f32} {l : IVec S16x1x4096 32} {p : FVec F S16x256x256 .f32} {w : FVec F S512x512 .f32}
    {b g be : FVec F S512 .f32} {w' : FVec F S512x256 .f32} {b' : FVec F S256 .f32}
    (H : Cert.Pre_labels3_in_range.fn h l p w b g be w' b' = fun _ => 1#1) (x : S16x1x4096.Idx) : (l x).toNat < 256 := by
  have h0 := congrFun H (fun a => a.elim0)
  unfold Cert.Pre_labels3_in_range.fn at h0
  beta_reduce at h0
  rw [Host.reduce_eq_foldl] at h0
  refine SegMax.label_of_check ((SegMax.foldl_andi_one _ _ _ h0).2 x (List.mem_filter.mpr ⟨List.mem_map.mpr ⟨_, List.mem_finRange _, Equiv.symm_apply_apply _ x⟩, ?_⟩))
  exact decide_eq_true (funext fun a => a.elim0)

variable (m : (ℓ : Loc nD τ sig) → Buf (Elt Ideal) ℓ) (c : Dev nD)

/-- The core's buffers at the start. -/
abbrev start : Valuation τ sig (Elt Ideal) := fun b => m (c, b)

/-- The first linear layer of the kernel is the reference's. -/
theorem same_hidden (hl : ∀ x : S16x1x4096.Idx, ((m ((c.tc : Thread nD τ).loc main_arg1) : IVec S16x1x4096 32) x).toNat < 256) (t : Fin 16) (n : Fin 4096) (j : Fin 512) :
    hidden (F := Ideal) (part (reads m c).h t) (part (reads m c).l t) (part (reads m c).p t) (reads m c).wa (reads m c).wb (reads m c).b (ix2 n j) =
      SecondRef.hid (F := Ideal) (SecondRef.join (SecondRef.pick (m ((c.tc : Thread nD τ).loc main_arg2)) (SecondRef.lab (m ((c.tc : Thread nD τ).loc main_arg1)))) (m ((c.tc : Thread nD τ).loc main_arg0)))
        (m ((c.tc : Thread nD τ).loc main_arg3)) (m ((c.tc : Thread nD τ).loc main_arg4)) (ix3 t n j) := by
  obtain ⟨q, hq⟩ : ∃ q : Fin 256, (m ((c.tc : Thread nD τ).loc main_arg1) : IVec S16x1x4096 32) (ix3 t 0 n) = BitVec.ofNat 32 q.val :=
    ⟨⟨_, hl (ix3 t 0 n)⟩, (BitVec.ofNat_toNat 32 _).symm ▸ (BitVec.setWidth_eq _).symm⟩
  have el : part (reads m c).l t (ix3 0 0 n) = BitVec.ofNat 32 q.val := (congrFun (after_l (start m c)) (ix3 t 0 n)).trans hq
  rw [hidden_at, SecondRef.hid_at, el]
  refine congrArg₂ (· + ·) (congrArg₂ (· + ·) (Finset.sum_congr rfl fun x _ => congrArg₂ (· * ·) ?_ ?_) (Finset.sum_congr rfl fun x _ => congrArg₂ (· * ·) ?_ ?_)) ?_
  · rw [sum_hot q fun k => part (reads m c).p t (ix3 0 k x), SecondRef.pick_at _ _ t n x q ((SecondRef.lab_at _ t n).trans hq)]
    exact congrFun (after_p (start m c)) (ix3 t q x)
  · exact (congrFun (after_wa (start m c)) (ix2 x j)).trans (wa_at _ x j)
  · exact congrFun (after_h (start m c)) (ix3 t n x)
  · exact (congrFun (after_wb (start m c)) (ix2 x j)).trans (wb_at _ x j)
  · exact (congrFun (after_b (start m c)) (ix2 0 j)).trans (row_at _ j)

/-- The kernel's array is the reference's. -/
theorem same (hl : ∀ x : S16x1x4096.Idx, ((m ((c.tc : Thread nD τ).loc main_arg1) : IVec S16x1x4096 32) x).toNat < 256) :
    (reads m c).result =
      SecondRef.last (F := Ideal) (SecondRef.scaled (SecondRef.hid (SecondRef.join (SecondRef.pick (m ((c.tc : Thread nD τ).loc main_arg2)) (SecondRef.lab (m ((c.tc : Thread nD τ).loc main_arg1))))
          (m ((c.tc : Thread nD τ).loc main_arg0))) (m ((c.tc : Thread nD τ).loc main_arg3)) (m ((c.tc : Thread nD τ).loc main_arg4))))
        (m ((c.tc : Thread nD τ).loc main_arg5)) (m ((c.tc : Thread nD τ).loc main_arg6)) (m ((c.tc : Thread nD τ).loc main_arg7)) (m ((c.tc : Thread nD τ).loc main_arg8)) := by
  refine funext fun i : S16x4096x256.Idx => ?_
  obtain ⟨t, n, d, rfl⟩ : ∃ (t : Fin 16) (n : Fin 4096) (d : Fin 256), i = ix3 t n d := ⟨i 0, i 1, i 2, eq_ix3 i⟩
  rw [SecondRef.last_at]
  refine (block_at (part (reads m c).h t) (part (reads m c).l t) (part (reads m c).p t) _ _ _ _ _ _ _ n d).trans ?_
  have eh : (fun j => hidden (F := Ideal) (part (reads m c).h t) (part (reads m c).l t) (part (reads m c).p t) (reads m c).wa (reads m c).wb (reads m c).b (ix2 n j)) = _ :=
    funext fun j => same_hidden m c hl t n j
  have eg : (fun j : Fin 512 => (reads m c).g (ix2 0 j)) = _ := funext fun j => (congrFun (after_g (start m c)) (ix2 0 j)).trans (row_at _ j)
  have ebe : (fun j : Fin 512 => (reads m c).be (ix2 0 j)) = _ := funext fun j => (congrFun (after_be (start m c)) (ix2 0 j)).trans (row_at _ j)
  have ew : (reads m c).w = _ := after_w (start m c)
  have eb : (reads m c).b' (ix2 0 d) = _ := (congrFun (after_b' (start m c)) (ix2 0 d)).trans (row_at' _ d)
  rw [eh, eg, ebe, ew, eb]

end Cert.Proof.SecondSame

end
-- ==== Proof.lean ====
module

public import proofs.«01_k».proof.Proof.Gen.ReferenceIdeal.Run
public import proofs.«01_k».proof.Proof.Launch
public import proofs.«01_k».proof.Proof.Maximum
public import proofs.«01_k».proof.Proof.Feed
public import proofs.«01_k».proof.Proof.SecondSame
public import proofs.«01_k».proof.Defs
public import proofs.«01_k».proof.Proof.Gen.Stage2
public import proofs.«01_k».proof.Proof.Gen.Stage2.Skeleton
public import proofs.«01_k».proof.Proof.Gen.Stage2.Launch
public import proofs.«01_k».proof.Proof.Gen.Stage2.Points
public import proofs.«01_k».proof.Proof.Gen.Stage2.Frame
public import proofs.«01_k».proof.Proof.Gen.Stage2Ideal
public import proofs.«01_k».proof.Proof.Gen.Stage2Ideal.Skeleton
public import proofs.«01_k».proof.Proof.Gen.Stage2Ideal.Launch
public import proofs.«01_k».proof.Proof.Gen.Stage2Ideal.Points
public import proofs.«01_k».proof.Proof.Gen.Stage2Ideal.Frame
public import proofs.«01_k».proof.Proof.Gen.Stage2ReferenceIdeal
public import proofs.«01_k».proof.Proof.Gen.Pre_labels3_in_range
public import proofs.«01_k».proof.Proof.Gen.Stage2Ideal.Value
public import proofs.«01_k».proof.Proof.Gen.Stage2ReferenceIdeal.Run
public import proofs.«01_k».proof.Proof.Gen.Stage1
public import proofs.«01_k».proof.Proof.Gen.Stage1.Skeleton
public import proofs.«01_k».proof.Proof.Gen.Stage1.Loops
public import proofs.«01_k».proof.Proof.Gen.Stage1.Launch
public import proofs.«01_k».proof.Proof.Gen.Stage1.Points
public import proofs.«01_k».proof.Proof.Gen.Stage1.Frame
public import proofs.«01_k».proof.Proof.Gen.Stage1Ideal
public import proofs.«01_k».proof.Proof.Gen.Stage1Ideal.Skeleton
public import proofs.«01_k».proof.Proof.Gen.Stage1Ideal.Loops
public import proofs.«01_k».proof.Proof.Gen.Stage1Ideal.Launch
public import proofs.«01_k».proof.Proof.Gen.Stage1Ideal.Points
public import proofs.«01_k».proof.Proof.Gen.Stage1Ideal.Frame
public import proofs.«01_k».proof.Proof.Gen.Stage1ReferenceIdeal
public import proofs.«01_k».proof.Proof.Gen.Stage1Ideal.Value
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_labels_in_range
public import Idealize.ShloMosaic.Adequacy
public import Idealize.ShloMosaic.Init

@[expose] public section

noncomputable section

namespace Cert.Proof

open Idealize.ShloMosaic Idealize.SL.Sem Cert.Proof.SegMax

/-- The precondition bounds every label. -/
theorem ok_of_pre {F : FTy → Type} [FloatOps F] (m : (ℓ : Loc Cert.KernelIdeal.nD Cert.KernelIdeal.τ Cert.KernelIdeal.sig) → Buf (Elt F) ℓ)
    (h : ∀ d, Cert.Pre_labels_in_range.fn (datM m d) (labM m d) = fun _ => 1#1) : PreOK m := fun d x => labels_of_pre (h d) x

set_option maxHeartbeats 0 in
set_option maxRecDepth 65536 in
theorem frame_kernel : Cert.quiescent_Kernel := fun m ρ hpre =>
  (θ_run Cert.KernelIdeal.defs _ _).mono (fun _ h => ⟨fun c => ⟨(h.1 c).1, (h.1 c).2.1⟩, h.2⟩) (run_main (F := Bits) m ρ (ok_of_pre m hpre))

theorem frame_kernelIdeal : Cert.quiescent_KernelIdeal := fun m ρ hpre =>
  (θ_run Cert.KernelIdeal.defs _ _).mono (fun _ h => ⟨fun c => ⟨(h.1 c).1, (h.1 c).2.1⟩, h.2⟩) (run_main (F := Ideal) m ρ (ok_of_pre m hpre))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Both programs end with the segments' maxima. -/
theorem same_maxima : Cert.algebraic_KernelIdeal_ReferenceIdeal := fun m ρ m' ρ' hpre hargs =>
  ⟨resM m,
    (θ_run Cert.KernelIdeal.defs _ _).mono (fun _ h c => ⟨(h.1 c).2.2, (h.1 c).1, (h.1 c).2.1⟩) (run_main (F := Ideal) m ρ (ok_of_pre m hpre)),
    (θ_run Cert.ReferenceIdeal.defs _ _).mono (fun _ h c => ⟨(h c).1.trans ((ref_value _ _).trans (congrArg₂ segMaxV (hargs c).1 (hargs c).2)), (h c).2⟩)
      (Cert.ReferenceIdeal.Value.run m' ρ')⟩

theorem frame_stage1 : Cert.quiescent_Stage1 := fun m ρ _ => Cert.Stage1.Gen.frame (F := Bits) m ρ

theorem frame_stage1Ideal : Cert.quiescent_Stage1Ideal := fun m ρ _ => Cert.Stage1Ideal.Gen.frame (F := Ideal) m ρ

/-- What the clustering reference leaves its arguments at. -/
theorem unchanged (m : (ℓ : Loc Cert.Stage1ReferenceIdeal.nD Cert.Stage1ReferenceIdeal.τ Cert.Stage1ReferenceIdeal.sig) → Buf (Elt Ideal) ℓ)
    (r : PUnit × MemSt Cert.Stage1ReferenceIdeal.nD Cert.Stage1ReferenceIdeal.τ Cert.Stage1ReferenceIdeal.sig (Elt Ideal)) (c : Dev Cert.Stage1ReferenceIdeal.nD)
    (h : ∀ b, Cert.Stage1ReferenceIdeal.Value.IsArg b → r.2.mem ((c.tc : Thread Cert.Stage1ReferenceIdeal.nD Cert.Stage1ReferenceIdeal.τ).loc b) = m ((c.tc : Thread Cert.Stage1ReferenceIdeal.nD Cert.Stage1ReferenceIdeal.τ).loc b)) :
    r.2.mem ((c.tc : Thread Cert.Stage1ReferenceIdeal.nD Cert.Stage1ReferenceIdeal.τ).loc Cert.Stage1ReferenceIdeal.main_arg0) = m ((c.tc : Thread Cert.Stage1ReferenceIdeal.nD Cert.Stage1ReferenceIdeal.τ).loc Cert.Stage1ReferenceIdeal.main_arg0)
      ∧ r.2.mem ((c.tc : Thread Cert.Stage1ReferenceIdeal.nD Cert.Stage1ReferenceIdeal.τ).loc Cert.Stage1ReferenceIdeal.main_arg1) = m ((c.tc : Thread Cert.Stage1ReferenceIdeal.nD Cert.Stage1ReferenceIdeal.τ).loc Cert.Stage1ReferenceIdeal.main_arg1)
      ∧ r.2.mem ((c.tc : Thread Cert.Stage1ReferenceIdeal.nD Cert.Stage1ReferenceIdeal.τ).loc Cert.Stage1ReferenceIdeal.main_arg2) = m ((c.tc : Thread Cert.Stage1ReferenceIdeal.nD Cert.Stage1ReferenceIdeal.τ).loc Cert.Stage1ReferenceIdeal.main_arg2)
      ∧ r.2.mem ((c.tc : Thread Cert.Stage1ReferenceIdeal.nD Cert.Stage1ReferenceIdeal.τ).loc Cert.Stage1ReferenceIdeal.main_arg3) = m ((c.tc : Thread Cert.Stage1ReferenceIdeal.nD Cert.Stage1ReferenceIdeal.τ).loc Cert.Stage1ReferenceIdeal.main_arg3)
      ∧ r.2.mem ((c.tc : Thread Cert.Stage1ReferenceIdeal.nD Cert.Stage1ReferenceIdeal.τ).loc Cert.Stage1ReferenceIdeal.main_arg4) = m ((c.tc : Thread Cert.Stage1ReferenceIdeal.nD Cert.Stage1ReferenceIdeal.τ).loc Cert.Stage1ReferenceIdeal.main_arg4)
      ∧ r.2.mem ((c.tc : Thread Cert.Stage1ReferenceIdeal.nD Cert.Stage1ReferenceIdeal.τ).loc Cert.Stage1ReferenceIdeal.main_arg5) = m ((c.tc : Thread Cert.Stage1ReferenceIdeal.nD Cert.Stage1ReferenceIdeal.τ).loc Cert.Stage1ReferenceIdeal.main_arg5)
      ∧ r.2.mem ((c.tc : Thread Cert.Stage1ReferenceIdeal.nD Cert.Stage1ReferenceIdeal.τ).loc Cert.Stage1ReferenceIdeal.main_arg6) = m ((c.tc : Thread Cert.Stage1ReferenceIdeal.nD Cert.Stage1ReferenceIdeal.τ).loc Cert.Stage1ReferenceIdeal.main_arg6) :=
  ⟨h _ (.inl rfl), h _ (.inr (.inl rfl)), h _ (.inr (.inr (.inl rfl))), h _ (.inr (.inr (.inr (.inl rfl)))), h _ (.inr (.inr (.inr (.inr (.inl rfl))))),
    h _ (.inr (.inr (.inr (.inr (.inr (.inl rfl)))))), h _ (.inr (.inr (.inr (.inr (.inr (.inr rfl))))))⟩

theorem frame_stage1ReferenceIdeal : Cert.quiescent_Stage1ReferenceIdeal := fun m ρ _ =>
  (θ_run Cert.Stage1ReferenceIdeal.defs _ _).mono (fun r h => ⟨fun c => unchanged m r c (h c).2.2.2.2, sem_eq_zero_of_no_sems (by decide) r.2⟩)
    (Cert.Stage1ReferenceIdeal.Value.run m ρ)

/-- Both programs end with the same centroids, labels, gathered centroids and features. -/
theorem same_clusters : Cert.algebraic_Stage1Ideal_Stage1ReferenceIdeal := fun m ρ m' ρ' _ hargs =>
  ⟨fun c => (Arrays.reads m c).cent, fun c => (Arrays.reads m c).labels, fun c => (Arrays.reads m c).near, fun c => (Arrays.reads m c).hidden,
    (θ_run Cert.Stage1Ideal.defs _ _).mono (fun _ h c => ⟨(h c).1.trans (Arrays.final8 m c), (h c).2.1.trans (Arrays.final9 m c),
      (h c).2.2.1.trans (Arrays.final10 m c), (h c).2.2.2.1.trans (Arrays.final11 m c), (h c).2.2.2.2⟩) (Cert.Stage1Ideal.Value.run_blocks m ρ),
    (θ_run Cert.Stage1ReferenceIdeal.defs _ _).mono (fun r h c => by
      obtain ⟨h0, h1, h2, h3, ha⟩ := h c
      obtain ⟨a0, a1, a2, a3, a4, a5, a6⟩ := hargs c
      rw [a0] at h0 h1 h2
      rw [a0, a1, a2, a3, a4, a5, a6] at h3
      exact ⟨h0.trans (Same.same_cent (Feed.fed m c)).symm, h1.trans (Same.same_labels (Feed.fed m c)).symm,
        h2.trans (Same.same_near (Feed.fed m c)).symm, h3.trans (Same.same_hidden (Feed.fed m c)).symm, unchanged m' r c ha⟩)
      (Cert.Stage1ReferenceIdeal.Value.run m' ρ')⟩

theorem frame_stage2 : Cert.quiescent_Stage2 := fun m ρ _ => Cert.Stage2.Gen.frame (F := Bits) m ρ

theorem frame_stage2Ideal : Cert.quiescent_Stage2Ideal := fun m ρ _ => Cert.Stage2Ideal.Gen.frame (F := Ideal) m ρ

theorem frame_stage2ReferenceIdeal : Cert.quiescent_Stage2ReferenceIdeal := fun m ρ _ =>
  (θ_run Cert.Stage2ReferenceIdeal.defs _ _).mono (fun r h => ⟨fun c => (h c).2, sem_eq_zero_of_no_sems (by decide) r.2⟩)
    (Cert.Stage2ReferenceIdeal.Value.run m ρ)

/-- Both programs end with the same second features. -/
theorem same_second : Cert.algebraic_Stage2Ideal_Stage2ReferenceIdeal_pre_labels3_in_range := fun m ρ m' ρ' hpre hargs =>
  ⟨fun c => (Second.reads m c).result,
    (θ_run Cert.Stage2Ideal.defs _ _).mono (fun _ h c => ⟨(h c).1.trans (Second.final m c), (h c).2⟩) (Cert.Stage2Ideal.Value.run_blocks m ρ),
    (θ_run Cert.Stage2ReferenceIdeal.defs _ _).mono (fun _ h c => by
      obtain ⟨a0, a1, a2, a3, a4, a5, a6, a7, a8⟩ := hargs c
      refine ⟨(h c).1.trans ((SecondRef.res_eq m' c).trans ?_), (h c).2⟩
      rw [a0, a1, a2, a3, a4, a5, a6, a7, a8]
      exact (SecondSame.same m c (SecondSame.labels_of_pre (hpre c))).symm)
      (Cert.Stage2ReferenceIdeal.Value.run m' ρ')⟩

theorem claim : Cert.Claim := ⟨Cert.Kernel.Gen.facts, Cert.KernelIdeal.Gen.facts, Cert.ReferenceIdeal.Gen.facts, Cert.Stage1.Gen.facts, Cert.Stage1Ideal.Gen.facts,
  Cert.Stage1ReferenceIdeal.Gen.facts, Cert.Stage2.Gen.facts, Cert.Stage2Ideal.Gen.facts, Cert.Stage2ReferenceIdeal.Gen.facts, Cert.Pre_labels_in_range.Gen.facts,
  Cert.Pre_labels3_in_range.Gen.facts, frame_kernel, frame_kernelIdeal, frame_referenceIdeal, frame_stage1, frame_stage1Ideal, frame_stage1ReferenceIdeal,
  frame_stage2, frame_stage2Ideal, fun m ρ _ => frame_stage2Ideal m ρ trivial, frame_stage2ReferenceIdeal, fun m ρ _ => frame_stage2ReferenceIdeal m ρ trivial,
  trivial, same_maxima, trivial, same_clusters, trivial, same_second⟩

end Cert.Proof

end
